-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v18) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v20) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v18) = v0 c
          ∧ r.2.mem ((c.tc : Thread Cert.Reference17Ideal.nD Cert.Reference17Ideal.τ).loc Cert.Reference17Ideal.main_v13) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v12) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4x2064x5632 : Shape := ⟨3, ![4, 2064, 5632]⟩
abbrev S3x5632 : Shape := ⟨2, ![3, 5632]⟩
abbrev S4x2064x2816 : Shape := ⟨3, ![4, 2064, 2816]⟩
abbrev S_ : Shape := ⟨0, ![]⟩

class Facts : Prop where
  bcast_S_S4x2064x5632 : S_.BroadcastsInDim S4x2064x5632 (![] : Fin 0 → Fin S4x2064x5632.rank)
  bcast_S_S3x5632 : S_.BroadcastsInDim S3x5632 (![] : Fin 0 → Fin S3x5632.rank)
  bcast_S_S4x2064x2816 : S_.BroadcastsInDim S4x2064x2816 (![] : Fin 0 → Fin S4x2064x2816.rank)

variable [Facts]

def fn {F : FTy → Type} [FloatOps F] (main_arg0 : FVec F S4x2064x5632 .f32) (main_arg1 : FVec F S3x5632 .f32) (main_arg2 : FVec F S4x2064x2816 .f32) : IVec S4x2064x5632 1 × IVec S3x5632 1 × IVec S4x2064x2816 1 :=
  let main_v0 : FVec F S4x2064x5632 .f32 := Host.absf main_arg0
  let main_cst : FVec F S_ .f32 := constant S_ .f32 0x7F800000#32
  let main_v1 : FVec F S4x2064x5632 .f32 := broadcastInDim S4x2064x5632 ![] bcast_S_S4x2064x5632 main_cst
  let main_v2 : IVec S4x2064x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S4x2064x2816 .f32 := Host.absf main_arg2
  let main_cst_1 : FVec F S_ .f32 := constant S_ .f32 0x7F800000#32
  let main_v7 : FVec F S4x2064x2816 .f32 := broadcastInDim S4x2064x2816 ![] bcast_S_S4x2064x2816 main_cst_1
  let main_v8 : IVec S4x2064x2816 1 := cmpf .olt main_v6 main_v7
  (main_v2, main_v5, main_v8)
-- ==== Pre_finite17.lean ====
abbrev S9216x5376 : Shape := ⟨2, ![9216, 5376]⟩
abbrev S1x128 : Shape := ⟨2, ![1, 128]⟩
abbrev S9216x128 : Shape := ⟨2, ![9216, 128]⟩
abbrev S_ : Shape := ⟨0, ![]⟩

class Facts : Prop where
  bcast_S_S9216x128 : S_.BroadcastsInDim S9216x128 (![] : Fin 0 → Fin S9216x128.rank)

variable [Facts]

def fn {F : FTy → Type} [FloatOps F] (main_arg0 : FVec F S9216x5376 .f32) (main_arg1 : FVec F S1x128 .f32) (main_arg2 : FVec F S9216x128 .f32) (main_arg3 : FVec F S9216x5376 .bf16) : IVec S9216x128 1 :=
  let main_v0 : FVec F S9216x128 .f32 := Host.absf main_arg2
  let main_cst : FVec F S_ .f32 := constant S_ .f32 0x7F800000#32
  let main_v1 : FVec F S9216x128 .f32 := broadcastInDim S9216x128 ![] bcast_S_S9216x128 main_cst
  let main_v2 : IVec S9216x128 1 := cmpf .olt main_v0 main_v1
  main_v2
-- ==== Pre_finite2.lean ====
abbrev S9216x5632 : Shape := ⟨2, ![9216, 5632]⟩
abbrev S1024x5632 : Shape := ⟨2, ![1024, 5632]⟩
abbrev S9216x1024 : Shape := ⟨2, ![9216, 1024]⟩
abbrev S1x1024 : Shape := ⟨2, ![1, 1024]⟩
abbrev S_ : Shape := ⟨0, ![]⟩

class Facts : Prop where
  bitsLt_bf16_f32 : FTy.bits .bf16 < FTy.bits .f32
  bcast_S_S9216x5632 : S_.BroadcastsInDim S9216x5632 (![] : Fin 0 → Fin S9216x5632.rank)
  bcast_S_S1024x5632 : S_.BroadcastsInDim S1024x5632 (![] : Fin 0 → Fin S1024x5632.rank)
  bcast_S_S9216x1024 : S_.BroadcastsInDim S9216x1024 (![] : Fin 0 → Fin S9216x1024.rank)
  bcast_S_S1x1024 : S_.BroadcastsInDim S1x1024 (![] : Fin 0 → Fin S1x1024.rank)

variable [Facts]

def fn {F : FTy → Type} [FloatOps F] (main_arg0 : FVec F S9216x5632 .bf16) (main_arg1 : FVec F S1024x5632 .bf16) (main_arg2 : FVec F S9216x1024 .f32) (main_arg3 : FVec F S9216x1024 .f32) (main_arg4 : FVec F S1x1024 .f32) : IVec S9216x5632 1 × IVec S1024x5632 1 × IVec S9216x1024 1 × IVec S1x1024 1 :=
  let main_v0 : FVec F S9216x5632 .f32 := (extf .f32 · bitsLt_bf16_f32) main_arg0
  let main_v1 : FVec F S9216x5632 .f32 := Host.absf main_v0
  let main_cst : FVec F S_ .f32 := constant S_ .f32 0x7F800000#32
  let main_v2 : FVec F S9216x5632 .f32 := broadcastInDim S9216x5632 ![] bcast_S_S9216x5632 main_cst
  let main_v3 : IVec S9216x5632 1 := cmpf .olt main_v1 main_v2
  let main_v4 : FVec F S1024x5632 .f32 := (extf .f32 · bitsLt_bf16_f32) main_arg1
  let main_v5 : FVec F S1024x5632 .f32 := Host.absf main_v4
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_v8 : FVec F S9216x1024 .f32 := Host.absf main_arg2
  let main_cst_1 : FVec F S_ .f32 := constant S_ .f32 0x7F800000#32
  let main_v9 : FVec F S9216x1024 .f32 := broadcastInDim S9216x1024 ![] bcast_S_S9216x1024 main_cst_1
  let main_v10 : IVec S9216x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S4x2064x5632 : Shape := ⟨3, ![4, 2064, 5632]⟩
abbrev S3x5632 : Shape := ⟨2, ![3, 5632]⟩
abbrev S4x2064x2816 : Shape := ⟨3, ![4, 2064, 2816]⟩
abbrev S3x2x11x256 : Shape := ⟨4, ![3, 2, 11, 256]⟩
abbrev S3x11x2x256 : Shape := ⟨4, ![3, 11, 2, 256]⟩
abbrev S4x2064x2x11x256 : Shape := ⟨5, ![4, 2064, 2, 11, 256]⟩
abbrev S4x2064x11x2x256 : Shape := ⟨5, ![4, 2064, 11, 2, 256]⟩
abbrev S_ : Shape := ⟨0, ![]⟩
abbrev S4x2304x5632 : Shape := ⟨3, ![4, 2304, 5632]⟩
abbrev S9216x5632 : Shape := ⟨2, ![9216, 5632]⟩
abbrev S4x2304x2816 : Shape := ⟨3, ![4, 2304, 2816]⟩
abbrev S9216x2816 : Shape := ⟨2, ![9216, 2816]⟩
abbrev S2304x512 : Shape := ⟨2, ![2304, 512]⟩
abbrev S3x512 : Shape := ⟨2, ![3, 512]⟩
abbrev S2304x256 : Shape := ⟨2, ![2304, 256]⟩
abbrev S1x512 : Shape := ⟨2, ![1, 512]⟩
abbrev S8x512 : Shape := ⟨2, ![8, 512]⟩
abbrev S288x512 : Shape := ⟨2, ![288, 512]⟩
abbrev S296x512 : Shape := ⟨2, ![296, 512]⟩
abbrev S288x256 : Shape := ⟨2, ![288, 256]⟩
abbrev S512 : Shape := ⟨1, ![512]⟩

abbrev nBuf : Space → Nat
  | .hbm => 19
  | .vmem => 10
  | .smem => 0
  | _ => 0

abbrev bufTy : (tb : Table) → Fin (tcTables nBuf tb) → BufTy
  | .hbm, ⟨0, _⟩ => ⟨S4x2064x5632, .f32⟩
  | .hbm, ⟨1, _⟩ => ⟨S3x5632, .f32⟩
  | .hbm, ⟨2, _⟩ => ⟨S4x2064x2816, .f32⟩
  | .hbm, ⟨3, _⟩ => ⟨S3x2x11x256, .f32⟩
  | .hbm, ⟨4, _⟩ => ⟨S3x11x2x256, .f32⟩
  | .hbm, ⟨5, _⟩ => ⟨S3x5632, .f32⟩
  | .hbm, ⟨6, _⟩ => ⟨S4x2064x2x11x256, .f32⟩
  | .hbm, ⟨7, _⟩ => ⟨S4x2064x11x2x256, .f32⟩
  | .hbm, ⟨8, _⟩ => ⟨S4x2064x5632, .f32⟩
  | .hbm, ⟨9, _⟩ => ⟨S_, .i32⟩
  | .hbm, ⟨10, _⟩ => ⟨S_, .f32⟩
  | .hbm, ⟨11, _⟩ => ⟨S4x2304x5632, .f32⟩
  | .hbm, ⟨12, _⟩ => ⟨S9216x5632, .f32⟩
  | .hbm, ⟨13, _⟩ => ⟨S_, .i32⟩
  | .hbm, ⟨14, _⟩ => ⟨S_, .f32⟩
  | .hbm, ⟨15, _⟩ => ⟨S4x2304x2816, .f32⟩
  | .hbm, ⟨16, _⟩ => ⟨S9216x2816, .f32⟩
  | .hbm, ⟨17, _⟩ => ⟨S9216x5632, .bf16⟩
  | .hbm, ⟨18, _⟩ => ⟨S3x5632, .f32⟩
  | .local _ .vmem, ⟨0, _⟩ => ⟨S2304x512, .f32⟩
  | .local _ .vmem, ⟨1, _⟩ => ⟨S2304x512, .f32⟩
  | .local _ .vmem, ⟨2, _⟩ => ⟨S3x512, .f32⟩
  | .local _ .vmem, ⟨3, _⟩ => ⟨S3x512, .f32⟩
  | .local _ .vmem, ⟨4, _⟩ => ⟨S2304x256, .f32⟩
  | .local _ .vmem, ⟨5, _⟩ => ⟨S2304x256, .f32⟩
  | .local _ .vmem, ⟨6, _⟩ => ⟨S2304x512, .bf16⟩
  | .local _ .vmem, ⟨7, _⟩ => ⟨S2304x512, .bf16⟩
  | .local _ .vmem, ⟨8, _⟩ => ⟨S3x512, .f32⟩
  | .local _ .vmem, ⟨9, _⟩ => ⟨S3x512, .f32⟩
  | _, _ => ⟨S4x2064x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 4], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32 : BitVec 32 := 288#32
  let v15 : BitVec 32 := Scalar.muli v14 c288_i32
  v15
def k0_off1 (k0_t1 : Fin k0_t1_loop.trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32 : BitVec 32 := 288#32
  let v15 : BitVec 32 := Scalar.muli v14 c288_i32
  let v16 : BitVec 32 := v15
  let v17 : Index := Scalar.indexCast v16
  let c0_9 : Index := 0#32
  ![v17.toNat, 0]
def k0_mult2 (k0_t1 : Fin k0_t1_loop.trips) : BitVec 32 :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32_10 : BitVec 32 := 288#32
  let v20 : BitVec 32 := Scalar.muli v14 c288_i32_10
  let c8_i32_11 : BitVec 32 := 8#32
  let v21 : BitVec 32 := Scalar.subi v20 c8_i32_11
  let c0_i32_12 : BitVec 32 := 0#32
  let v22 : BitVec 32 := Scalar.maxsi v21 c0_i32_12
  v22
def k0_off2 (k0_t1 : Fin k0_t1_loop.trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32_10 : BitVec 32 := 288#32
  let v20 : BitVec 32 := Scalar.muli v14 c288_i32_10
  let c8_i32_11 : BitVec 32 := 8#32
  let v21 : BitVec 32 := Scalar.subi v20 c8_i32_11
  let c0_i32_12 : BitVec 32 := 0#32
  let v22 : BitVec 32 := Scalar.maxsi v21 c0_i32_12
  let v23 : BitVec 32 := v22
  let v24 : Index := Scalar.indexCast v23
  let c0_13 : Index := 0#32
  ![v24.toNat, 0]
def k0_mult3 (k0_t1 : Fin k0_t1_loop.trips) : BitVec 32 :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32_20 : BitVec 32 := 288#32
  let v55 : BitVec 32 := Scalar.muli v14 c288_i32_20
  v55
def k0_off3 (k0_t1 : Fin k0_t1_loop.trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32_20 : BitVec 32 := 288#32
  let v55 : BitVec 32 := Scalar.muli v14 c288_i32_20
  let v56 : BitVec 32 := v55
  let v57 : Index := Scalar.indexCast v56
  let c0_21 : Index := 0#32
  ![v57.toNat, 0]
def k0_mult4 (k0_t1 : Fin k0_t1_loop.trips) : BitVec 32 :=
  let c7_i32 : BitVec 32 := 7#32
  let c0_i32 : BitVec 32 := 0#32
  let c1_i32 : BitVec 32 := 1#32
  let arg7 : BitVec 32 := Scf.iv c0_i32 c1_i32 k0_t1
  let v14 : BitVec 32 := Scalar.subi c7_i32 arg7
  let c288_i32_24 : BitVec 32 := 288#32
  let v88 : BitVec 32 := Scalar.muli v14 c288_i32_24
  v88
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x2064x5632 : Shape := ⟨3, ![4, 2064, 5632]⟩
abbrev S3x5632 : Shape := ⟨2, ![3, 5632]⟩
abbrev S4x2064x2816 : Shape := ⟨3, ![4, 2064, 2816]⟩
abbrev S_ : Shape := ⟨0, ![]⟩
abbrev S4x2x5632 : Shape := ⟨3, ![4, 2, 5632]⟩
abbrev S4x2066x5632 : Shape := ⟨3, ![4, 2066, 5632]⟩
abbrev S1x5632 : Shape := ⟨2, ![1, 5632]⟩
abbrev S5632 : Shape := ⟨1, ![5632]⟩
abbrev S1x1x5632 : Shape := ⟨3, ![1, 1, 5632]⟩
abbrev S4x2064x11x256 : Shape := ⟨4, ![4, 2064, 11, 256]⟩
abbrev S4x2064x11x1x256 : Shape := ⟨5, ![4, 2064, 11, 1, 256]⟩
abbrev S4x2064x11x2x256 : Shape := ⟨5, ![4, 2064, 11, 2, 256]⟩
abbrev S4x2304x5632 : Shape := ⟨3, ![4, 2304, 5632]⟩
abbrev S9216x5632 : Shape := ⟨2, ![9216, 5632]⟩
abbrev S3x2816 : Shape := ⟨2, ![3, 2816]⟩
abbrev S3x11x256 : Shape := ⟨3, ![3, 11, 256]⟩
abbrev S3x11x1x256 : Shape := ⟨4, ![3, 11, 1, 256]⟩
abbrev S3x11x2x256 : Shape := ⟨4, ![3, 11, 2, 256]⟩

abbrev nBuf : Space → Nat
  | .hbm => 120
  | .vmem => 0
  | .smem => 0
  | _ => 0

abbrev bufTy : (tb : Table) → Fin (tcTables nBuf tb) → BufTy
  | .hbm, ⟨0, _⟩ => ⟨S4x2064x5632, .f32⟩
  | .hbm, ⟨1, _⟩ => ⟨S3x5632, .f32⟩
  | .hbm, ⟨2, _⟩ => ⟨S4x2064x2816, .f32⟩
  | .hbm, ⟨3, _⟩ => ⟨S_, .f32⟩
  | .hbm, ⟨4, _⟩ => ⟨S4x2x5632, .f32⟩
  | .hbm, ⟨5, _⟩ => ⟨S4x2066x5632, .f32⟩
  | .hbm, ⟨6, _⟩ => ⟨S_, .f32⟩
  | .hbm, ⟨7, _⟩ => ⟨S4x2x5632, .f32⟩
  | .hbm, ⟨8, _⟩ => ⟨S1x5632, .f32⟩
  | .hbm, ⟨9, _⟩ => ⟨S5632, .f32⟩
  | .hbm, ⟨10, _⟩ => ⟨S4x2064x5632, .f32⟩
  | .hbm, ⟨11, _⟩ => ⟨S1x1x5632, .f32⟩
  | .hbm, ⟨12, _⟩ => ⟨S4x2064x5632, .f32⟩
  | .hbm, ⟨13, _⟩ => ⟨S4x2064x5632, .f32⟩
  | .hbm, ⟨14, _⟩ => ⟨S_, .f32⟩
  | .hbm, ⟨15, _⟩ => ⟨S4x2064x5632, .f32⟩
  | .hbm, ⟨16, _⟩ => ⟨S4x2064x5632, .f32⟩
  | .hbm, ⟨17, _⟩ => ⟨S1x5632, .f32⟩
  | .hbm, ⟨18, _⟩ => ⟨S5632, .f32⟩
  | .hbm, ⟨19, _⟩ => ⟨S4x2064x5632, .f32⟩
  | .hbm, ⟨20, _⟩ => ⟨S1x1x5632, .f32⟩
  | .hbm, ⟨21, _⟩ => ⟨S4x2064x5632, .f32⟩
  | .hbm, ⟨22, _⟩ => ⟨S4x2064x5632, .f32⟩
  | .hbm, ⟨23, _⟩ => ⟨S4x2064x5632, .f32⟩
  | .hbm, ⟨24, _⟩ => ⟨S1x5632, .f32⟩
  | .hbm, ⟨25, _⟩ => ⟨S5632, .f32⟩
  | .hbm, ⟨26, _⟩ => ⟨S4x2064x5632, .f32⟩
  | .hbm, ⟨27, _⟩ => ⟨S1x1x5632, .f32⟩
  | .hbm, ⟨28, _⟩ => ⟨S4x2064x5632, .f32⟩
  | .hbm, ⟨29, _⟩ => ⟨S4x2064x5632, .f32⟩
  | .hbm, ⟨30, _⟩ => ⟨S4x2064x5632, .f32⟩
  | .hbm, ⟨31, _⟩ => ⟨S4x2064x2816, .f32⟩
  | .hbm, ⟨32, _⟩ => ⟨S4x2064x2816, .f32⟩
  | .hbm, ⟨33, _⟩ => ⟨S4x2064x2816, .f32⟩
  | .hbm, ⟨34, _⟩ => ⟨S4x2064x2816, .f32⟩
  | .hbm, ⟨35, _⟩ => ⟨S_, .f32⟩
  | .hbm, ⟨36, _⟩ => ⟨S4x2064x2816, .f32⟩
  | .hbm, ⟨37, _⟩ => ⟨S4x2064x2816, .f32⟩
  | .hbm, ⟨38, _⟩ => ⟨S_, .f32⟩
  | .hbm, ⟨39, _⟩ => ⟨S4x2064x2816, .f32⟩
  | .hbm, ⟨40, _⟩ => ⟨S4x2064x2816, .f32⟩
  | .hbm, ⟨41, _⟩ => ⟨S_, .f32⟩
  | .hbm, ⟨42, _⟩ => ⟨S4x2064x2816, .f32⟩
  | .hbm, ⟨43, _⟩ => ⟨S4x2064x2816, .f32⟩
  | .hbm, ⟨44, _⟩ => ⟨S4x2064x2816, .f32⟩
  | .hbm, ⟨45, _⟩ => ⟨S4x2064x2816, .f32⟩
  | .hbm, ⟨46, _⟩ => ⟨S4x2064x2816, .f32⟩
  | .hbm, ⟨47, _⟩ => ⟨S4x2064x2816, .f32⟩
  | .hbm, ⟨48, _⟩ => ⟨S4x2064x2816, .f32⟩
  | .hbm, ⟨49, _⟩ => ⟨S4x2064x2816, .f32⟩
  | .hbm, ⟨50, _⟩ => ⟨S4x2064x2816, .f32⟩
  | .hbm, ⟨51, _⟩ => ⟨S4x2064x2816, .f32⟩
  | .hbm, ⟨52, _⟩ => ⟨S4x2064x2816, .f32⟩
  | .hbm, ⟨53, _⟩ => ⟨S4x2064x5632, .f32⟩
  | .hbm, ⟨54, _⟩ => ⟨S4x2064x5632, .f32⟩
  | .hbm, ⟨55, _⟩ => ⟨S4x2064x5632, .f32⟩
  | .hbm, ⟨56, _⟩ => ⟨S4x2064x5632, .f32⟩
  | .hbm, ⟨57, _⟩ => ⟨S_, .f32⟩
  | .hbm, ⟨58, _⟩ => ⟨S5632, .f32⟩
  | .hbm, ⟨59, _⟩ => ⟨S1x1x5632, .f32⟩
  | .hbm, ⟨60, _⟩ => ⟨S_, .f32⟩
  | .hbm, ⟨61, _⟩ => ⟨S5632, .f32⟩
  | .hbm, ⟨62, _⟩ => ⟨S_, .f32⟩
  | .hbm, ⟨63, _⟩ => ⟨S4x2066x5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S4x2064x5632, .f32⟩
  | .hbm, ⟨68, _⟩ => ⟨S4x2064x5632, .f32⟩
  | .hbm, ⟨69, _⟩ => ⟨S4x2064x5632, .f32⟩
  | .hbm, ⟨70, _⟩ => ⟨S_, .f32⟩
  | .hbm, ⟨71, _⟩ => ⟨S5632, .f32⟩
  | .hbm, ⟨72, _⟩ => ⟨S1x1x5632, .f32⟩
  | .hbm, ⟨73, _⟩ => ⟨S_, .f32⟩
  | .hbm, ⟨74, _⟩ => ⟨S5632, .f32⟩
  | .hbm, ⟨75, _⟩ => ⟨S_, .f32⟩
  | .hbm, ⟨76, _⟩ => ⟨S4x2066x5632, .f32⟩
  | .hbm, ⟨77, _⟩ => ⟨S4x2066x5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S3x5632, .f32⟩
  | .hbm, ⟨82, _⟩ => ⟨S4x2064x5632, .f32⟩
  | .hbm, ⟨83, _⟩ => ⟨S4x2064x5632, .f32⟩
  | .hbm, ⟨84, _⟩ => ⟨S4x2064x5632, .f32⟩
  | .hbm, ⟨85, _⟩ => ⟨S_, .f32⟩
  | .hbm, ⟨86, _⟩ => ⟨S5632, .f32⟩
  | .hbm, ⟨87, _⟩ => ⟨S1x1x5632, .f32⟩
  | .hbm, ⟨88, _⟩ => ⟨S_, .f32⟩
  | .hbm, ⟨89, _⟩ => ⟨S5632, .f32⟩
  | .hbm, ⟨90, _⟩ => ⟨S_, .f32⟩
  | .hbm, ⟨91, _⟩ => ⟨S4x2066x5632, .f32⟩
  | .hbm, ⟨92, _⟩ => ⟨S4x2066x5632, .f32⟩
  | .hbm, ⟨93, _⟩ => ⟨S1x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S4x2x5632, .f32⟩
  | .hbm, ⟨98, _⟩ => ⟨S4x2064x5632, .f32⟩
  | .hbm, ⟨99, _⟩ => ⟨S4x2064x2816, .f32⟩
  | .hbm, ⟨100, _⟩ => ⟨S4x2064x11x256, .f32⟩
  | .hbm, ⟨101, _⟩ => ⟨S4x2064x2816, .f32⟩
  | .hbm, ⟨102, _⟩ => ⟨S4x2064x11x256, .f32⟩
  | .hbm, ⟨103, _⟩ => ⟨S4x2064x11x1x256, .f32⟩
  | .hbm, ⟨104, _⟩ => ⟨S4x2064x11x1x256, .f32⟩
  | .hbm, ⟨105, _⟩ => ⟨S4x2064x11x2x256, .f32⟩
  | .hbm, ⟨106, _⟩ => ⟨S4x2064x5632, .f32⟩
  | .hbm, ⟨107, _⟩ => ⟨S_, .i32⟩
  | .hbm, ⟨108, _⟩ => ⟨S_, .f32⟩
  | .hbm, ⟨109, _⟩ => ⟨S4x2304x5632, .f32⟩
  | .hbm, ⟨110, _⟩ => ⟨S9216x5632, .f32⟩
  | .hbm, ⟨111, _⟩ => ⟨S9216x5632, .bf16⟩
  | .hbm, ⟨112, _⟩ => ⟨S3x2816, .f32⟩
  | .hbm, ⟨113, _⟩ => ⟨S3x11x256, .f32⟩
  | .hbm, ⟨114, _⟩ => ⟨S3x2816, .f32⟩
  | .hbm, ⟨115, _⟩ => ⟨S3x11x256, .f32⟩
  | .hbm, ⟨116, _⟩ => ⟨S3x11x1x256, .f32⟩
  | .hbm, ⟨117, _⟩ => ⟨S3x11x1x256, .f32⟩
  | .hbm, ⟨118, _⟩ => ⟨S3x11x2x256, .f32⟩
  | .hbm, ⟨119, _⟩ => ⟨S3x5632, .f32⟩
  | _, _ => ⟨S4x2064x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_cst_4 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c : Ref sig .tc := ⟨.hbm, 107, rfl⟩
abbrev main_call2_v0 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Kernel2.lean ====
abbrev S9216x5632 : Shape := ⟨2, ![9216, 5632]⟩
abbrev S1024x5632 : Shape := ⟨2, ![1024, 5632]⟩
abbrev S9216x1024 : Shape := ⟨2, ![9216, 1024]⟩
abbrev S1x1024 : Shape := ⟨2, ![1, 1024]⟩
abbrev S576x2816 : Shape := ⟨2, ![576, 2816]⟩
abbrev S1024x2816 : Shape := ⟨2, ![1024, 2816]⟩
abbrev S576x1024 : Shape := ⟨2, ![576, 1024]⟩
abbrev S288x1024 : Shape := ⟨2, ![288, 1024]⟩
abbrev S288 : Shape := ⟨1, ![288]⟩
abbrev S288x1 : Shape := ⟨2, ![288, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S9216x1024, .f32⟩
  | .hbm, ⟨3, _⟩ => ⟨S9216x1024, .f32⟩
  | .hbm, ⟨4, _⟩ => ⟨S1x1024, .f32⟩
  | .hbm, ⟨5, _⟩ => ⟨S9216x1024, .f32⟩
  | .hbm, ⟨6, _⟩ => ⟨S9216x1024, .bf16⟩
  | .hbm, ⟨7, _⟩ => ⟨S1x1024, .f32⟩
  | .local _ .vmem, ⟨0, _⟩ => ⟨S576x2816, .bf16⟩
  | .local _ .vmem, ⟨1, _⟩ => ⟨S576x2816, .bf16⟩
  | .local _ .vmem, ⟨2, _⟩ => ⟨S1024x2816, .bf16⟩
  | .local _ .vmem, ⟨3, _⟩ => ⟨S1024x2816, .bf16⟩
  | .local _ .vmem, ⟨4, _⟩ => ⟨S576x1024, .f32⟩
  | .local _ .vmem, ⟨5, _⟩ => ⟨S576x1024, .f32⟩
  | .local _ .vmem, ⟨6, _⟩ => ⟨S576x1024, .f32⟩
  | .local _ .vmem, ⟨7, _⟩ => ⟨S576x1024, .f32⟩
  | .local _ .vmem, ⟨8, _⟩ => ⟨S1x1024, .f32⟩
  | .local _ .vmem, ⟨9, _⟩ => ⟨S576x1024, .f32⟩
  | .local _ .vmem, ⟨10, _⟩ => ⟨S576x1024, .f32⟩
  | .local _ .vmem, ⟨11, _⟩ => ⟨S576x1024, .bf16⟩
  | .local _ .vmem, ⟨12, _⟩ => ⟨S576x1024, .bf16⟩
  | .local _ .vmem, ⟨13, _⟩ => ⟨S1x1024, .f32⟩
  | .local _ .vmem, ⟨14, _⟩ => ⟨S576x1024, .f32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

@[reducible] def k0_t1_loop : Scf.Loop 32 :=
  let c0_i32_10 : BitVec 32 := 0#32
  let c2_i32 : BitVec 32 := 2#32
  let v14 : BitVec 32 := Scalar.addi c0_i32_10 c2_i32
  let c1_i32_11 : BitVec 32 := 1#32
  ⟨c0_i32_10, v14, c1_i32_11⟩
def k0_mult1 (k0_t1 : Fin k0_t1_loop.trips) : BitVec 32 :=
  let c0_i32_10 : BitVec 32 := 0#32
  let c1_i32_11 : BitVec 32 := 1#32
  let arg11 : BitVec 32 := Scf.iv c0_i32_10 c1_i32_11 k0_t1
  let c288_i32 : BitVec 32 := 288#32
  let v23 : BitVec 32 := Scalar.muli arg11 c288_i32
  v23
def k0_off1 (k0_t1 : Fin k0_t1_loop.trips) : Fin 2 → Nat :=
  let c0_i32_10 : BitVec 32 := 0#32
  let c1_i32_11 : BitVec 32 := 1#32
  let arg11 : BitVec 32 := Scf.iv c0_i32_10 c1_i32_11 k0_t1
  let c288_i32 : BitVec 32 := 288#32
  let v23 : BitVec 32 := Scalar.muli arg11 c288_i32
  let v24 : BitVec 32 := v23
  let v25 : Index := Scalar.indexCast v24
  let c0_19 : Index := 0#32
  ![v25.toNat, 0]
def k0_cond4 (i : grid0.Coords) : BitVec 1 :=
  let arg0 : BitVec 32 := BitVec.ofNat 32 (i 0).val
  let c0_i32_13 : BitVec 32 := 0#32
  let v16 : BitVec 1 := Scalar.cmpi .eq arg0 c0_i32_13
  let v17 : BitVec 32 := Scalar.extui v16
  let c0_i32_14 : BitVec 32 := 0#32
  let v18 : BitVec 1 := Scalar.cmpi .ne v17 c0_i32_14
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S576x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S576x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S576x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S576x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S576x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S9216x5632 : Shape := ⟨2, ![9216, 5632]⟩
abbrev S1024x5632 : Shape := ⟨2, ![1024, 5632]⟩
abbrev S9216x1024 : Shape := ⟨2, ![9216, 1024]⟩
abbrev S1x1024 : Shape := ⟨2, ![1, 1024]⟩
abbrev S_ : Shape := ⟨0, ![]⟩
abbrev S9216 : Shape := ⟨1, ![9216]⟩
abbrev S9216x1 : Shape := ⟨2, ![9216, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S1024x5632, .bf16⟩
  | .hbm, ⟨2, _⟩ => ⟨S9216x1024, .f32⟩
  | .hbm, ⟨3, _⟩ => ⟨S9216x1024, .f32⟩
  | .hbm, ⟨4, _⟩ => ⟨S1x1024, .f32⟩
  | .hbm, ⟨5, _⟩ => ⟨S1024x5632, .f32⟩
  | .hbm, ⟨6, _⟩ => ⟨S9216x1024, .f32⟩
  | .hbm, ⟨7, _⟩ => ⟨S_, .f32⟩
  | .hbm, ⟨8, _⟩ => ⟨S9216, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S_, .f32⟩
  | .hbm, ⟨14, _⟩ => ⟨S9216x1, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S_, .f32⟩
  | .hbm, ⟨19, _⟩ => ⟨S9216x1, .f32⟩
  | .hbm, ⟨20, _⟩ => ⟨S9216x1, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S9216x5632, .f32⟩
  | .hbm, ⟨26, _⟩ => ⟨S9216x5632, .f32⟩
  | .hbm, ⟨27, _⟩ => ⟨S9216x1024, .f32⟩
  | .hbm, ⟨28, _⟩ => ⟨S9216x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S9216x1024, .f32⟩
  | .hbm, ⟨33, _⟩ => ⟨S9216x1024, .f32⟩
  | .hbm, ⟨34, _⟩ => ⟨S9216x1024, .f32⟩
  | .hbm, ⟨35, _⟩ => ⟨S_, .f32⟩
  | .hbm, ⟨36, _⟩ => ⟨S9216, .f32⟩
  | .hbm, ⟨37, _⟩ => ⟨S9216x1, .f32⟩
  | .hbm, ⟨38, _⟩ => ⟨S9216x1024, .f32⟩
  | .hbm, ⟨39, _⟩ => ⟨S9216x1024, .f32⟩
  | .hbm, ⟨40, _⟩ => ⟨S9216x1, .f32⟩
  | .hbm, ⟨41, _⟩ => ⟨S_, .f32⟩
  | .hbm, ⟨42, _⟩ => ⟨S9216x1, .f32⟩
  | .hbm, ⟨43, _⟩ => ⟨S9216x1, .f32⟩
  | .hbm, ⟨44, _⟩ => ⟨S_, .f32⟩
  | .hbm, ⟨45, _⟩ => ⟨S9216, .f32⟩
  | .hbm, ⟨46, _⟩ => ⟨S9216x1024, .f32⟩
  | .hbm, ⟨47, _⟩ => ⟨S9216x1024, .f32⟩
  | .hbm, ⟨48, _⟩ => ⟨S9216x1024, .f32⟩
  | .hbm, ⟨49, _⟩ => ⟨S9216x1024, .f32⟩
  | .hbm, ⟨50, _⟩ => ⟨S9216x1024, .f32⟩
  | .hbm, ⟨51, _⟩ => ⟨S9216x1024, .f32⟩
  | .hbm, ⟨52, _⟩ => ⟨S9216x1024, .bf16⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S9216x1024 : Shape := ⟨2, ![9216, 1024]⟩
abbrev S9216x5632 : Shape := ⟨2, ![9216, 5632]⟩
abbrev S1024x5632 : Shape := ⟨2, ![1024, 5632]⟩
abbrev S2304x1024 : Shape := ⟨2, ![2304, 1024]⟩
abbrev S2304x1408 : Shape := ⟨2, ![2304, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S1024x5632, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1408, .bf16⟩
  | .local _ .vmem, ⟨3, _⟩ => ⟨S2304x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S9216x1024 : Shape := ⟨2, ![9216, 1024]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5632, .bf16⟩
  | .hbm, ⟨2, _⟩ => ⟨S9216x1024, .f32⟩
  | .hbm, ⟨3, _⟩ => ⟨S_, .f32⟩
  | .hbm, ⟨4, _⟩ => ⟨S1024x5632, .f32⟩
  | .hbm, ⟨5, _⟩ => ⟨S9216x5632, .f32⟩
  | .hbm, ⟨6, _⟩ => ⟨S9216x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S9216x1024 : Shape := ⟨2, ![9216, 1024]⟩
abbrev S9216x5376 : Shape := ⟨2, ![9216, 5376]⟩
abbrev S1024x5376 : Shape := ⟨2, ![1024, 5376]⟩
abbrev S2304x1024 : Shape := ⟨2, ![2304, 1024]⟩
abbrev S2304x1792 : Shape := ⟨2, ![2304, 1792]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5376, .bf16⟩
  | .hbm, ⟨2, _⟩ => ⟨S1024x5376, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1792, .bf16⟩
  | .local _ .vmem, ⟨3, _⟩ => ⟨S2304x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x1024 : Shape := ⟨2, ![9216, 1024]⟩
abbrev S9216x5376 : Shape := ⟨2, ![9216, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5376, .bf16⟩
  | .hbm, ⟨2, _⟩ => ⟨S9216x1024, .f32⟩
  | .hbm, ⟨3, _⟩ => ⟨S_, .f32⟩
  | .hbm, ⟨4, _⟩ => ⟨S1024x5376, .f32⟩
  | .hbm, ⟨5, _⟩ => ⟨S9216x5376, .f32⟩
  | .hbm, ⟨6, _⟩ => ⟨S9216x5376, .f32⟩
  | .hbm, ⟨7, _⟩ => ⟨S5376x1024, .f32⟩
  | .hbm, ⟨8, _⟩ => ⟨S1024x5376, .f32⟩
  | .hbm, ⟨9, _⟩ => ⟨S1024x5376, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S9216x2816 : Shape := ⟨2, ![9216, 2816]⟩
abbrev S9216x1024 : Shape := ⟨2, ![9216, 1024]⟩
abbrev S2816x1024 : Shape := ⟨2, ![2816, 1024]⟩
abbrev S2304x1408 : Shape := ⟨2, ![2304, 1408]⟩
abbrev S2304x1024 : Shape := ⟨2, ![2304, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .bf16⟩
  | .local _ .vmem, ⟨0, _⟩ => ⟨S2304x1408, .bf16⟩
  | .local _ .vmem, ⟨1, _⟩ => ⟨S2304x1408, .bf16⟩
  | .local _ .vmem, ⟨2, _⟩ => ⟨S2304x1024, .bf16⟩
  | .local _ .vmem, ⟨3, _⟩ => ⟨S2304x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S9216x2816, .f32⟩
  | .hbm, ⟨3, _⟩ => ⟨S_, .f32⟩
  | .hbm, ⟨4, _⟩ => ⟨S2816x1024, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S9216x1024 : Shape := ⟨2, ![9216, 1024]⟩
abbrev S2816x1024 : Shape := ⟨2, ![2816, 1024]⟩
abbrev S9216x2816 : Shape := ⟨2, ![9216, 2816]⟩
abbrev S1152x1024 : Shape := ⟨2, ![1152, 1024]⟩
abbrev S1408x1024 : Shape := ⟨2, ![1408, 1024]⟩
abbrev S1152x1408 : Shape := ⟨2, ![1152, 1408]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .f32⟩
  | .local _ .vmem, ⟨0, _⟩ => ⟨S1152x1024, .bf16⟩
  | .local _ .vmem, ⟨1, _⟩ => ⟨S1152x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1408, .f32⟩
  | .local _ .vmem, ⟨5, _⟩ => ⟨S1152x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x1024 : Shape := ⟨2, ![9216, 1024]⟩
abbrev S2816x1024 : Shape := ⟨2, ![2816, 1024]⟩
abbrev S_ : Shape := ⟨0, ![]⟩
abbrev S9216x2816 : Shape := ⟨2, ![9216, 2816]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S9216x2816, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S9216x1024 : Shape := ⟨2, ![9216, 1024]⟩
abbrev S9216x5376 : Shape := ⟨2, ![9216, 5376]⟩
abbrev S576x1024 : Shape := ⟨2, ![576, 1024]⟩

abbrev nBuf : Space → Nat
  | .hbm => 6
  | .vmem => 10
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x5376, .f32⟩
  | .hbm, ⟨3, _⟩ => ⟨S9216x5376, .bf16⟩
  | .hbm, ⟨4, _⟩ => ⟨S9216x1024, .bf16⟩
  | .hbm, ⟨5, _⟩ => ⟨S9216x5376, .bf16⟩
  | .local _ .vmem, ⟨0, _⟩ => ⟨S576x1024, .f32⟩
  | .local _ .vmem, ⟨1, _⟩ => ⟨S576x1024, .f32⟩
  | .local _ .vmem, ⟨2, _⟩ => ⟨S576x1024, .f32⟩
  | .local _ .vmem, ⟨3, _⟩ => ⟨S576x1024, .f32⟩
  | .local _ .vmem, ⟨4, _⟩ => ⟨S576x1024, .f32⟩
  | .local _ .vmem, ⟨5, _⟩ => ⟨S576x1024, .f32⟩
  | .local _ .vmem, ⟨6, _⟩ => ⟨S576x1024, .bf16⟩
  | .local _ .vmem, ⟨7, _⟩ => ⟨S576x1024, .bf16⟩
  | .local _ .vmem, ⟨8, _⟩ => ⟨S576x1024, .bf16⟩
  | .local _ .vmem, ⟨9, _⟩ => ⟨S576x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

abbrev stage0_0 : Fin 2 → Memref sig .tc .vmem S576x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S576x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S576x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S576x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S576x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S9216x1024 : Shape := ⟨2, ![9216, 1024]⟩
abbrev S9216x5376 : Shape := ⟨2, ![9216, 5376]⟩
abbrev S_ : Shape := ⟨0, ![]⟩
abbrev S9216x4096 : Shape := ⟨2, ![9216, 4096]⟩
abbrev S9216x256 : Shape := ⟨2, ![9216, 256]⟩

abbrev nBuf : Space → Nat
  | .hbm => 26
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x5376, .f32⟩
  | .hbm, ⟨3, _⟩ => ⟨S9216x5376, .bf16⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S_, .f32⟩
  | .hbm, ⟨8, _⟩ => ⟨S9216x1024, .f32⟩
  | .hbm, ⟨9, _⟩ => ⟨S9216x1024, .f32⟩
  | .hbm, ⟨10, _⟩ => ⟨S_, .f32⟩
  | .hbm, ⟨11, _⟩ => ⟨S9216x1024, .f32⟩
  | .hbm, ⟨12, _⟩ => ⟨S9216x1024, .f32⟩
  | .hbm, ⟨13, _⟩ => ⟨S_, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1024, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .bf16⟩
  | .hbm, ⟨22, _⟩ => ⟨S9216x4096, .bf16⟩
  | .hbm, ⟨23, _⟩ => ⟨S9216x1024, .bf16⟩
  | .hbm, ⟨24, _⟩ => ⟨S9216x256, .bf16⟩
  | .hbm, ⟨25, _⟩ => ⟨S9216x5376, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel8.lean ====
abbrev S9216x1024 : Shape := ⟨2, ![9216, 1024]⟩
abbrev S1024x5632 : Shape := ⟨2, ![1024, 5632]⟩
abbrev S9216x5632 : Shape := ⟨2, ![9216, 5632]⟩
abbrev S1152x1024 : Shape := ⟨2, ![1152, 1024]⟩
abbrev S1024x1408 : Shape := ⟨2, ![1024, 1408]⟩
abbrev S1152x1408 : Shape := ⟨2, ![1152, 1408]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x5632, .f32⟩
  | .local _ .vmem, ⟨0, _⟩ => ⟨S1152x1024, .bf16⟩
  | .local _ .vmem, ⟨1, _⟩ => ⟨S1152x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1408, .f32⟩
  | .local _ .vmem, ⟨5, _⟩ => ⟨S1152x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S9216x1024 : Shape := ⟨2, ![9216, 1024]⟩
abbrev S1024x5632 : Shape := ⟨2, ![1024, 5632]⟩
abbrev S9216x5632 : Shape := ⟨2, ![9216, 5632]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x5632, .bf16⟩
  | .hbm, ⟨2, _⟩ => ⟨S9216x1024, .f32⟩
  | .hbm, ⟨3, _⟩ => ⟨S1024x5632, .f32⟩
  | .hbm, ⟨4, _⟩ => ⟨S9216x5632, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S9216x1024 : Shape := ⟨2, ![9216, 1024]⟩
abbrev S1024x5376 : Shape := ⟨2, ![1024, 5376]⟩
abbrev S8x128 : Shape := ⟨2, ![8, 128]⟩
abbrev S9216x5376 : Shape := ⟨2, ![9216, 5376]⟩
abbrev S1152x1024 : Shape := ⟨2, ![1152, 1024]⟩
abbrev S1024x1792 : Shape := ⟨2, ![1024, 1792]⟩
abbrev S1152x1792 : Shape := ⟨2, ![1152, 1792]⟩

abbrev nBuf : Space → Nat
  | .hbm => 4
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x5376, .bf16⟩
  | .hbm, ⟨2, _⟩ => ⟨S8x128, .f32⟩
  | .hbm, ⟨3, _⟩ => ⟨S9216x5376, .f32⟩
  | .local _ .vmem, ⟨0, _⟩ => ⟨S1152x1024, .bf16⟩
  | .local _ .vmem, ⟨1, _⟩ => ⟨S1152x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1152x1792, .f32⟩
  | .local _ .vmem, ⟨5, _⟩ => ⟨S1152x1792, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S9216x1024 : Shape := ⟨2, ![9216, 1024]⟩
abbrev S1024x5376 : Shape := ⟨2, ![1024, 5376]⟩
abbrev S8x128 : Shape := ⟨2, ![8, 128]⟩
abbrev S9216x5376 : Shape := ⟨2, ![9216, 5376]⟩

abbrev nBuf : Space → Nat
  | .hbm => 6
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x5376, .bf16⟩
  | .hbm, ⟨2, _⟩ => ⟨S8x128, .f32⟩
  | .hbm, ⟨3, _⟩ => ⟨S9216x1024, .f32⟩
  | .hbm, ⟨4, _⟩ => ⟨S1024x5376, .f32⟩
  | .hbm, ⟨5, _⟩ => ⟨S9216x5376, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S9216x1024 : Shape := ⟨2, ![9216, 1024]⟩
abbrev S1024x1024 : Shape := ⟨2, ![1024, 1024]⟩
abbrev S2304x1024 : Shape := ⟨2, ![2304, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .f32⟩
  | .hbm, ⟨3, _⟩ => ⟨S_, .f32⟩
  | .hbm, ⟨4, _⟩ => ⟨S1024x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S9216x1024 : Shape := ⟨2, ![9216, 1024]⟩
abbrev S1024x1024 : Shape := ⟨2, ![1024, 1024]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1152x1024, .bf16⟩
  | .local _ .vmem, ⟨1, _⟩ => ⟨S1152x1024, .bf16⟩
  | .local _ .vmem, ⟨2, _⟩ => ⟨S1024x1024, .bf16⟩
  | .local _ .vmem, ⟨3, _⟩ => ⟨S1152x1024, .f32⟩
  | .local _ .vmem, ⟨4, _⟩ => ⟨S1152x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S9216x512 : Shape := ⟨2, ![9216, 512]⟩
abbrev S9216x1024 : Shape := ⟨2, ![9216, 1024]⟩
abbrev S512x1024 : Shape := ⟨2, ![512, 1024]⟩
abbrev S2304x512 : Shape := ⟨2, ![2304, 512]⟩
abbrev S2304x1024 : Shape := ⟨2, ![2304, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S512x1024, .bf16⟩
  | .local _ .vmem, ⟨0, _⟩ => ⟨S2304x512, .bf16⟩
  | .local _ .vmem, ⟨1, _⟩ => ⟨S2304x512, .bf16⟩
  | .local _ .vmem, ⟨2, _⟩ => ⟨S2304x1024, .bf16⟩
  | .local _ .vmem, ⟨3, _⟩ => ⟨S2304x1024, .bf16⟩
  | .local _ .vmem, ⟨4, _⟩ => ⟨S512x1024, .bf16⟩
  | .local _ .vmem, ⟨5, _⟩ => ⟨S512x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S9216x512 : Shape := ⟨2, ![9216, 512]⟩
abbrev S9216x1024 : Shape := ⟨2, ![9216, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S9216x512, .f32⟩
  | .hbm, ⟨3, _⟩ => ⟨S_, .f32⟩
  | .hbm, ⟨4, _⟩ => ⟨S512x1024, .f32⟩
  | .hbm, ⟨5, _⟩ => ⟨S9216x1024, .f32⟩
  | .hbm, ⟨6, _⟩ => ⟨S9216x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S9216x1024 : Shape := ⟨2, ![9216, 1024]⟩
abbrev S512x1024 : Shape := ⟨2, ![512, 1024]⟩
abbrev S9216x512 : Shape := ⟨2, ![9216, 512]⟩
abbrev S1152x1024 : Shape := ⟨2, ![1152, 1024]⟩
abbrev S1152x512 : Shape := ⟨2, ![1152, 512]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S512x1024, .bf16⟩
  | .hbm, ⟨2, _⟩ => ⟨S9216x512, .bf16⟩
  | .local _ .vmem, ⟨0, _⟩ => ⟨S1152x1024, .bf16⟩
  | .local _ .vmem, ⟨1, _⟩ => ⟨S1152x1024, .bf16⟩
  | .local _ .vmem, ⟨2, _⟩ => ⟨S512x1024, .bf16⟩
  | .local _ .vmem, ⟨3, _⟩ => ⟨S1152x512, .bf16⟩
  | .local _ .vmem, ⟨4, _⟩ => ⟨S1152x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S9216x1024 : Shape := ⟨2, ![9216, 1024]⟩
abbrev S512x1024 : Shape := ⟨2, ![512, 1024]⟩
abbrev S_ : Shape := ⟨0, ![]⟩
abbrev S9216x512 : Shape := ⟨2, ![9216, 512]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S9216x512, .f32⟩
  | .hbm, ⟨5, _⟩ => ⟨S9216x1024, .f32⟩
  | .hbm, ⟨6, _⟩ => ⟨S9216x1024, .f32⟩
  | .hbm, ⟨7, _⟩ => ⟨S9216x512, .f32⟩
  | .hbm, ⟨8, _⟩ => ⟨S9216x512, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S9216x512 : Shape := ⟨2, ![9216, 512]⟩
abbrev S512x1024 : Shape := ⟨2, ![512, 1024]⟩
abbrev S9216x1024 : Shape := ⟨2, ![9216, 1024]⟩
abbrev S1152x512 : Shape := ⟨2, ![1152, 512]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x512, .bf16⟩
  | .hbm, ⟨1, _⟩ => ⟨S512x1024, .bf16⟩
  | .hbm, ⟨2, _⟩ => ⟨S9216x1024, .f32⟩
  | .local _ .vmem, ⟨0, _⟩ => ⟨S1152x512, .bf16⟩
  | .local _ .vmem, ⟨1, _⟩ => ⟨S1152x512, .bf16⟩
  | .local _ .vmem, ⟨2, _⟩ => ⟨S512x1024, .bf16⟩
  | .local _ .vmem, ⟨3, _⟩ => ⟨S1152x1024, .f32⟩
  | .local _ .vmem, ⟨4, _⟩ => ⟨S1152x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S9216x512 : Shape := ⟨2, ![9216, 512]⟩
abbrev S512x1024 : Shape := ⟨2, ![512, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S512x1024, .bf16⟩
  | .hbm, ⟨2, _⟩ => ⟨S9216x512, .f32⟩
  | .hbm, ⟨3, _⟩ => ⟨S512x1024, .f32⟩
  | .hbm, ⟨4, _⟩ => ⟨S9216x1024, .f32⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S9216x1024 : Shape := ⟨2, ![9216, 1024]⟩
abbrev S1024x1024 : Shape := ⟨2, ![1024, 1024]⟩
abbrev S1x1024 : Shape := ⟨2, ![1, 1024]⟩
abbrev S576x1024 : Shape := ⟨2, ![576, 1024]⟩
abbrev S288x1024 : Shape := ⟨2, ![288, 1024]⟩
abbrev S288 : Shape := ⟨1, ![288]⟩
abbrev S288x1 : Shape := ⟨2, ![288, 1]⟩

abbrev nBuf : Space → Nat
  | .hbm => 6
  | .vmem => 11
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1x1024, .f32⟩
  | .hbm, ⟨4, _⟩ => ⟨S9216x1024, .f32⟩
  | .hbm, ⟨5, _⟩ => ⟨S9216x1024, .bf16⟩
  | .local _ .vmem, ⟨0, _⟩ => ⟨S576x1024, .bf16⟩
  | .local _ .vmem, ⟨1, _⟩ => ⟨S576x1024, .bf16⟩
  | .local _ .vmem, ⟨2, _⟩ => ⟨S1024x1024, .bf16⟩
  | .local _ .vmem, ⟨3, _⟩ => ⟨S576x1024, .f32⟩
  | .local _ .vmem, ⟨4, _⟩ => ⟨S576x1024, .f32⟩
  | .local _ .vmem, ⟨5, _⟩ => ⟨S1x1024, .f32⟩
  | .local _ .vmem, ⟨6, _⟩ => ⟨S576x1024, .f32⟩
  | .local _ .vmem, ⟨7, _⟩ => ⟨S576x1024, .f32⟩
  | .local _ .vmem, ⟨8, _⟩ => ⟨S576x1024, .bf16⟩
  | .local _ .vmem, ⟨9, _⟩ => ⟨S576x1024, .bf16⟩
  | .local _ .vmem, ⟨10, _⟩ => ⟨S576x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

@[reducible] def k0_t1_loop : Scf.Loop 32 :=
  let c0_i32_10 : BitVec 32 := 0#32
  let c2_i32 : BitVec 32 := 2#32
  let v13 : BitVec 32 := Scalar.addi c0_i32_10 c2_i32
  let c1_i32 : BitVec 32 := 1#32
  ⟨c0_i32_10, v13, c1_i32⟩
def k0_mult1 (k0_t1 : Fin k0_t1_loop.trips) : BitVec 32 :=
  let c0_i32_10 : BitVec 32 := 0#32
  let c1_i32 : BitVec 32 := 1#32
  let arg9 : BitVec 32 := Scf.iv c0_i32_10 c1_i32 k0_t1
  let c288_i32 : BitVec 32 := 288#32
  let v14 : BitVec 32 := Scalar.muli arg9 c288_i32
  v14
def k0_off1 (k0_t1 : Fin k0_t1_loop.trips) : Fin 2 → Nat :=
  let c0_i32_10 : BitVec 32 := 0#32
  let c1_i32 : BitVec 32 := 1#32
  let arg9 : BitVec 32 := Scf.iv c0_i32_10 c1_i32 k0_t1
  let c288_i32 : BitVec 32 := 288#32
  let v14 : BitVec 32 := Scalar.muli arg9 c288_i32
  let v15 : BitVec 32 := v14
  let v16 : Index := Scalar.indexCast v15
  let c0_12 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S576x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S576x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S576x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S576x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference15Ideal.lean ====
abbrev S9216x1024 : Shape := ⟨2, ![9216, 1024]⟩
abbrev S1024x1024 : Shape := ⟨2, ![1024, 1024]⟩
abbrev S1x1024 : Shape := ⟨2, ![1, 1024]⟩
abbrev S_ : Shape := ⟨0, ![]⟩
abbrev S9216 : Shape := ⟨1, ![9216]⟩
abbrev S9216x1 : Shape := ⟨2, ![9216, 1]⟩

abbrev nBuf : Space → Nat
  | .hbm => 24
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1x1024, .f32⟩
  | .hbm, ⟨4, _⟩ => ⟨S9216x1024, .f32⟩
  | .hbm, ⟨5, _⟩ => ⟨S1024x1024, .f32⟩
  | .hbm, ⟨6, _⟩ => ⟨S9216x1024, .f32⟩
  | .hbm, ⟨7, _⟩ => ⟨S9216x1024, .f32⟩
  | .hbm, ⟨8, _⟩ => ⟨S9216x1024, .f32⟩
  | .hbm, ⟨9, _⟩ => ⟨S_, .f32⟩
  | .hbm, ⟨10, _⟩ => ⟨S9216, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S9216x1, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S9216x1024, .f32⟩
  | .hbm, ⟨23, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S9216x512 : Shape := ⟨2, ![9216, 512]⟩
abbrev S512x1024 : Shape := ⟨2, ![512, 1024]⟩
abbrev S9216x1024 : Shape := ⟨2, ![9216, 1024]⟩
abbrev S9216x5376 : Shape := ⟨2, ![9216, 5376]⟩
abbrev S576x512 : Shape := ⟨2, ![576, 512]⟩
abbrev S576x1024 : Shape := ⟨2, ![576, 1024]⟩
abbrev S288x1024 : Shape := ⟨2, ![288, 1024]⟩

abbrev nBuf : Space → Nat
  | .hbm => 6
  | .vmem => 14
  | .smem => 0
  | _ => 0

abbrev bufTy : (tb : Table) → Fin (tcTables nBuf tb) → BufTy
  | .hbm, ⟨0, _⟩ => ⟨S9216x512, .bf16⟩
  | .hbm, ⟨1, _⟩ => ⟨S512x1024, .bf16⟩
  | .hbm, ⟨2, _⟩ => ⟨S9216x1024, .f32⟩
  | .hbm, ⟨3, _⟩ => ⟨S9216x5376, .f32⟩
  | .hbm, ⟨4, _⟩ => ⟨S9216x1024, .f32⟩
  | .hbm, ⟨5, _⟩ => ⟨S9216x1024, .bf16⟩
  | .local _ .vmem, ⟨0, _⟩ => ⟨S576x512, .bf16⟩
  | .local _ .vmem, ⟨1, _⟩ => ⟨S576x512, .bf16⟩
  | .local _ .vmem, ⟨2, _⟩ => ⟨S512x1024, .bf16⟩
  | .local _ .vmem, ⟨3, _⟩ => ⟨S576x1024, .f32⟩
  | .local _ .vmem, ⟨4, _⟩ => ⟨S576x1024, .f32⟩
  | .local _ .vmem, ⟨5, _⟩ => ⟨S576x1024, .f32⟩
  | .local _ .vmem, ⟨6, _⟩ => ⟨S576x1024, .f32⟩
  | .local _ .vmem, ⟨7, _⟩ => ⟨S576x1024, .f32⟩
  | .local _ .vmem, ⟨8, _⟩ => ⟨S576x1024, .f32⟩
  | .local _ .vmem, ⟨9, _⟩ => ⟨S576x1024, .f32⟩
  | .local _ .vmem, ⟨10, _⟩ => ⟨S576x1024, .f32⟩
  | .local _ .vmem, ⟨11, _⟩ => ⟨S576x1024, .bf16⟩
  | .local _ .vmem, ⟨12, _⟩ => ⟨S576x1024, .bf16⟩
  | .local _ .vmem, ⟨13, _⟩ => ⟨S576x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

@[reducible] def k0_t1_loop : Scf.Loop 32 :=
  let c0_i32_8 : BitVec 32 := 0#32
  let c2_i32 : BitVec 32 := 2#32
  let v12 : BitVec 32 := Scalar.addi c0_i32_8 c2_i32
  let c1_i32 : BitVec 32 := 1#32
  ⟨c0_i32_8, v12, c1_i32⟩
def k0_mult1 (k0_t1 : Fin k0_t1_loop.trips) : BitVec 32 :=
  let c0_i32_8 : BitVec 32 := 0#32
  let c1_i32 : BitVec 32 := 1#32
  let arg10 : BitVec 32 := Scf.iv c0_i32_8 c1_i32 k0_t1
  let c288_i32 : BitVec 32 := 288#32
  let v13 : BitVec 32 := Scalar.muli arg10 c288_i32
  v13
def k0_off1 (k0_t1 : Fin k0_t1_loop.trips) : Fin 2 → Nat :=
  let c0_i32_8 : BitVec 32 := 0#32
  let c1_i32 : BitVec 32 := 1#32
  let arg10 : BitVec 32 := Scf.iv c0_i32_8 c1_i32 k0_t1
  let c288_i32 : BitVec 32 := 288#32
  let v13 : BitVec 32 := Scalar.muli arg10 c288_i32
  let v14 : BitVec 32 := v13
  let v15 : Index := Scalar.indexCast v14
  let c0_10 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S576x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S576x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S576x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S576x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S576x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S576x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference16Ideal.lean ====
abbrev S9216x512 : Shape := ⟨2, ![9216, 512]⟩
abbrev S512x1024 : Shape := ⟨2, ![512, 1024]⟩
abbrev S9216x1024 : Shape := ⟨2, ![9216, 1024]⟩
abbrev S9216x5376 : Shape := ⟨2, ![9216, 5376]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S512x1024, .bf16⟩
  | .hbm, ⟨2, _⟩ => ⟨S9216x1024, .f32⟩
  | .hbm, ⟨3, _⟩ => ⟨S9216x5376, .f32⟩
  | .hbm, ⟨4, _⟩ => ⟨S9216x512, .f32⟩
  | .hbm, ⟨5, _⟩ => ⟨S512x1024, .f32⟩
  | .hbm, ⟨6, _⟩ => ⟨S9216x1024, .f32⟩
  | .hbm, ⟨7, _⟩ => ⟨S9216x1024, .f32⟩
  | .hbm, ⟨8, _⟩ => ⟨S9216x1024, .f32⟩
  | .hbm, ⟨9, _⟩ => ⟨S9216x1024, .f32⟩
  | .hbm, ⟨10, _⟩ => ⟨S_, .f32⟩
  | .hbm, ⟨11, _⟩ => ⟨S9216x1024, .f32⟩
  | .hbm, ⟨12, _⟩ => ⟨S9216x1024, .f32⟩
  | .hbm, ⟨13, _⟩ => ⟨S_, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1024, .f32⟩
  | .hbm, ⟨18, _⟩ => ⟨S9216x1024, .f32⟩
  | .hbm, ⟨19, _⟩ => ⟨S9216x1024, .f32⟩
  | .hbm, ⟨20, _⟩ => ⟨S_, .f32⟩
  | .hbm, ⟨21, _⟩ => ⟨S9216x1024, .f32⟩
  | .hbm, ⟨22, _⟩ => ⟨S9216x1024, .f32⟩
  | .hbm, ⟨23, _⟩ => ⟨S_, .f32⟩
  | .hbm, ⟨24, _⟩ => ⟨S9216x1024, .f32⟩
  | .hbm, ⟨25, _⟩ => ⟨S9216x1024, .f32⟩
  | .hbm, ⟨26, _⟩ => ⟨S9216x1024, .f32⟩
  | .hbm, ⟨27, _⟩ => ⟨S9216x1024, .f32⟩
  | .hbm, ⟨28, _⟩ => ⟨S9216x1024, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel17.lean ====
abbrev S9216x5376 : Shape := ⟨2, ![9216, 5376]⟩
abbrev S1x128 : Shape := ⟨2, ![1, 128]⟩
abbrev S9216x128 : Shape := ⟨2, ![9216, 128]⟩
abbrev S2304x128 : Shape := ⟨2, ![2304, 128]⟩
abbrev S2304x256 : Shape := ⟨2, ![2304, 256]⟩
abbrev S128x128 : Shape := ⟨2, ![128, 128]⟩
abbrev S128x256 : Shape := ⟨2, ![128, 256]⟩
abbrev S128 : Shape := ⟨1, ![128]⟩

abbrev nBuf : Space → Nat
  | .hbm => 6
  | .vmem => 8
  | .smem => 0
  | _ => 0

abbrev bufTy : (tb : Table) → Fin (tcTables nBuf tb) → BufTy
  | .hbm, ⟨0, _⟩ => ⟨S9216x5376, .f32⟩
  | .hbm, ⟨1, _⟩ => ⟨S1x128, .f32⟩
  | .hbm, ⟨2, _⟩ => ⟨S9216x128, .f32⟩
  | .hbm, ⟨3, _⟩ => ⟨S9216x5376, .bf16⟩
  | .hbm, ⟨4, _⟩ => ⟨S9216x5376, .bf16⟩
  | .hbm, ⟨5, _⟩ => ⟨S1x128, .f32⟩
  | .local _ .vmem, ⟨0, _⟩ => ⟨S2304x128, .f32⟩
  | .local _ .vmem, ⟨1, _⟩ => ⟨S2304x128, .f32⟩
  | .local _ .vmem, ⟨2, _⟩ => ⟨S1x128, .f32⟩
  | .local _ .vmem, ⟨3, _⟩ => ⟨S2304x128, .f32⟩
  | .local _ .vmem, ⟨4, _⟩ => ⟨S2304x128, .f32⟩
  | .local _ .vmem, ⟨5, _⟩ => ⟨S2304x256, .bf16⟩
  | .local _ .vmem, ⟨6, _⟩ => ⟨S2304x256, .bf16⟩
  | .local _ .vmem, ⟨7, _⟩ => ⟨S1x128, .f32⟩
  | _, _ => ⟨S9216x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c18_i32 : BitVec 32 := 18#32
  let v8 : BitVec 32 := Scalar.addi c0_i32 c18_i32
  let c1_i32 : BitVec 32 := 1#32
  ⟨c0_i32, v8, c1_i32⟩
def k0_mult1 (k0_t1 : Fin k0_t1_loop.trips) : BitVec 32 :=
  let c17_i32 : BitVec 32 := 17#32
  let c0_i32 : BitVec 32 := 0#32
  let c1_i32 : BitVec 32 := 1#32
  let arg7 : BitVec 32 := Scf.iv c0_i32 c1_i32 k0_t1
  let v17 : BitVec 32 := Scalar.subi c17_i32 arg7
  let c128_i32 : BitVec 32 := 128#32
  let v18 : BitVec 32 := Scalar.muli v17 c128_i32
  v18
def k0_off1 (k0_t1 : Fin k0_t1_loop.trips) : Fin 2 → Nat :=
  let c17_i32 : BitVec 32 := 17#32
  let c0_i32 : BitVec 32 := 0#32
  let c1_i32 : BitVec 32 := 1#32
  let arg7 : BitVec 32 := Scf.iv c0_i32 c1_i32 k0_t1
  let v17 : BitVec 32 := Scalar.subi c17_i32 arg7
  let c128_i32 : BitVec 32 := 128#32
  let v18 : BitVec 32 := Scalar.muli v17 c128_i32
  let v19 : BitVec 32 := v18
  let v20 : Index := Scalar.indexCast v19
  let c0_8 : Index := 0#32
  ![v20.toNat, 0]
def k0_off2 (k0_t1 : Fin k0_t1_loop.trips) : Fin 2 → Nat :=
  let c17_i32 : BitVec 32 := 17#32
  let c0_i32 : BitVec 32 := 0#32
  let c1_i32 : BitVec 32 := 1#32
  let arg7 : BitVec 32 := Scf.iv c0_i32 c1_i32 k0_t1
  let v17 : BitVec 32 := Scalar.subi c17_i32 arg7
  let c128_i32 : BitVec 32 := 128#32
  let v18 : BitVec 32 := Scalar.muli v17 c128_i32
  let v19 : BitVec 32 := v18
  let v53 : Index := Scalar.indexCast v19
  let c0_18 : Index := 0#32
  ![v53.toNat, 0]
def cc0_transform_0 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S9216x5376 : Shape := ⟨2, ![9216, 5376]⟩
abbrev S1x128 : Shape := ⟨2, ![1, 128]⟩
abbrev S9216x128 : Shape := ⟨2, ![9216, 128]⟩
abbrev S4x2304x128 : Shape := ⟨3, ![4, 2304, 128]⟩
abbrev S1x1x128 : Shape := ⟨3, ![1, 1, 128]⟩
abbrev S_ : Shape := ⟨0, ![]⟩
abbrev S128 : Shape := ⟨1, ![128]⟩
abbrev S9216x5120 : Shape := ⟨2, ![9216, 5120]⟩

abbrev nBuf : Space → Nat
  | .hbm => 79
  | .vmem => 0
  | .smem => 0
  | _ => 0

abbrev bufTy : (tb : Table) → Fin (tcTables nBuf tb) → BufTy
  | .hbm, ⟨0, _⟩ => ⟨S9216x5376, .f32⟩
  | .hbm, ⟨1, _⟩ => ⟨S1x128, .f32⟩
  | .hbm, ⟨2, _⟩ => ⟨S9216x128, .f32⟩
  | .hbm, ⟨3, _⟩ => ⟨S9216x5376, .bf16⟩
  | .hbm, ⟨4, _⟩ => ⟨S9216x128, .f32⟩
  | .hbm, ⟨5, _⟩ => ⟨S4x2304x128, .f32⟩
  | .hbm, ⟨6, _⟩ => ⟨S1x1x128, .f32⟩
  | .hbm, ⟨7, _⟩ => ⟨S4x2304x128, .f32⟩
  | .hbm, ⟨8, _⟩ => ⟨S4x2304x128, .f32⟩
  | .hbm, ⟨9, _⟩ => ⟨S4x2304x128, .f32⟩
  | .hbm, ⟨10, _⟩ => ⟨S_, .f32⟩
  | .hbm, ⟨11, _⟩ => ⟨S4x2304x128, .f32⟩
  | .hbm, ⟨12, _⟩ => ⟨S4x2304x128, .f32⟩
  | .hbm, ⟨13, _⟩ => ⟨S4x2304x128, .f32⟩
  | .hbm, ⟨14, _⟩ => ⟨S4x2304x128, .f32⟩
  | .hbm, ⟨15, _⟩ => ⟨S4x2304x128, .i1⟩
  | .hbm, ⟨16, _⟩ => ⟨S4x2304x128, .f32⟩
  | .hbm, ⟨17, _⟩ => ⟨S4x2304x128, .f32⟩
  | .hbm, ⟨18, _⟩ => ⟨S4x2304x128, .f32⟩
  | .hbm, ⟨19, _⟩ => ⟨S4x2304x128, .f32⟩
  | .hbm, ⟨20, _⟩ => ⟨S4x2304x128, .f32⟩
  | .hbm, ⟨21, _⟩ => ⟨S4x2304x128, .f32⟩
  | .hbm, ⟨22, _⟩ => ⟨S4x2304x128, .f32⟩
  | .hbm, ⟨23, _⟩ => ⟨S4x2304x128, .f32⟩
  | .hbm, ⟨24, _⟩ => ⟨S_, .f32⟩
  | .hbm, ⟨25, _⟩ => ⟨S4x2304x128, .f32⟩
  | .hbm, ⟨26, _⟩ => ⟨S4x2304x128, .i1⟩
  | .hbm, ⟨27, _⟩ => ⟨S_, .f32⟩
  | .hbm, ⟨28, _⟩ => ⟨S4x2304x128, .f32⟩
  | .hbm, ⟨29, _⟩ => ⟨S4x2304x128, .f32⟩
  | .hbm, ⟨30, _⟩ => ⟨S_, .f32⟩
  | .hbm, ⟨31, _⟩ => ⟨S4x2304x128, .f32⟩
  | .hbm, ⟨32, _⟩ => ⟨S4x2304x128, .i1⟩
  | .hbm, ⟨33, _⟩ => ⟨S_, .f32⟩
  | .hbm, ⟨34, _⟩ => ⟨S4x2304x128, .f32⟩
  | .hbm, ⟨35, _⟩ => ⟨S4x2304x128, .f32⟩
  | .hbm, ⟨36, _⟩ => ⟨S4x2304x128, .f32⟩
  | .hbm, ⟨37, _⟩ => ⟨S4x2304x128, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x2304x128, .f32⟩
  | .hbm, ⟨46, _⟩ => ⟨S4x2304x128, .i1⟩
  | .hbm, ⟨47, _⟩ => ⟨S_, .f32⟩
  | .hbm, ⟨48, _⟩ => ⟨S4x2304x128, .f32⟩
  | .hbm, ⟨49, _⟩ => ⟨S4x2304x128, .f32⟩
  | .hbm, ⟨50, _⟩ => ⟨S4x2304x128, .f32⟩
  | .hbm, ⟨51, _⟩ => ⟨S4x2304x128, .f32⟩
  | .hbm, ⟨52, _⟩ => ⟨S4x2304x128, .f32⟩
  | .hbm, ⟨53, _⟩ => ⟨S_, .f32⟩
  | .hbm, ⟨54, _⟩ => ⟨S4x2304x128, .f32⟩
  | .hbm, ⟨55, _⟩ => ⟨S4x2304x128, .f32⟩
  | .hbm, ⟨56, _⟩ => ⟨S4x2304x128, .f32⟩
  | .hbm, ⟨57, _⟩ => ⟨S_, .f32⟩
  | .hbm, ⟨58, _⟩ => ⟨S_, .f32⟩
  | .hbm, ⟨59, _⟩ => ⟨S4x2304x128, .f32⟩
  | .hbm, ⟨60, _⟩ => ⟨S4x2304x128, .f32⟩
  | .hbm, ⟨61, _⟩ => ⟨S_, .f32⟩
  | .hbm, ⟨62, _⟩ => ⟨S_, .f32⟩
  | .hbm, ⟨63, _⟩ => ⟨S4x2304x128, .f32⟩
  | .hbm, ⟨64, _⟩ => ⟨S4x2304x128, .f32⟩
  | .hbm, ⟨65, _⟩ => ⟨S4x2304x128, .f32⟩
  | .hbm, ⟨66, _⟩ => ⟨S4x2304x128, .f32⟩
  | .hbm, ⟨67, _⟩ => ⟨S_, .f32⟩
  | .hbm, ⟨68, _⟩ => ⟨S128, .f32⟩
  | .hbm, ⟨69, _⟩ => ⟨S1x1x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S9216x5120, .bf16⟩
  | .hbm, ⟨74, _⟩ => ⟨S9216x128, .f32⟩
  | .hbm, ⟨75, _⟩ => ⟨S9216x128, .bf16⟩
  | .hbm, ⟨76, _⟩ => ⟨S_, .bf16⟩
  | .hbm, ⟨77, _⟩ => ⟨S9216x128, .bf16⟩
  | .hbm, ⟨78, _⟩ => ⟨S9216x5376, .bf16⟩
  | _, _ => ⟨S9216x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v5_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v5_2 : Ref sig .tc := ⟨.hbm, 55, rfl⟩
abbrev main_v5_0 : Ref sig .tc := ⟨.hbm, 56, rfl⟩
abbrev main_call1_call0_cst : Ref sig .tc := ⟨.hbm, 57, rfl⟩
abbrev main_call1_call0_v0 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_cst_1 : Ref sig .tc := ⟨.hbm, 76, rfl⟩
abbrev main_v17 : Ref sig .tc := ⟨.hbm, 77, rfl⟩
abbrev main_v18 : Ref sig .tc := ⟨.hbm, 78, rfl⟩

abbrev nD : Nat := 1
abbrev τ : Topo := Topo.v7x

variable {F : FTy → Type} [FloatOps F]
-- ==== Kernel18.lean ====
abbrev S9216x1024 : Shape := ⟨2, ![9216, 1024]⟩
abbrev S1x1024 : Shape := ⟨2, ![1, 1024]⟩
abbrev S576x1024 : Shape := ⟨2, ![576, 1024]⟩
abbrev S576 : Shape := ⟨1, ![576]⟩
abbrev S576x1 : Shape := ⟨2, ![576, 1]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .f32⟩
  | .hbm, ⟨1, _⟩ => ⟨S1x1024, .f32⟩
  | .hbm, ⟨2, _⟩ => ⟨S9216x1024, .bf16⟩
  | .local _ .vmem, ⟨0, _⟩ => ⟨S576x1024, .f32⟩
  | .local _ .vmem, ⟨1, _⟩ => ⟨S576x1024, .f32⟩
  | .local _ .vmem, ⟨2, _⟩ => ⟨S1x1024, .f32⟩
  | .local _ .vmem, ⟨3, _⟩ => ⟨S576x1024, .bf16⟩
  | .local _ .vmem, ⟨4, _⟩ => ⟨S576x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S576x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S9216x1024 : Shape := ⟨2, ![9216, 1024]⟩
abbrev S1x1024 : Shape := ⟨2, ![1, 1024]⟩
abbrev S_ : Shape := ⟨0, ![]⟩
abbrev S9216 : Shape := ⟨1, ![9216]⟩
abbrev S9216x1 : Shape := ⟨2, ![9216, 1]⟩

abbrev nBuf : Space → Nat
  | .hbm => 18
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1x1024, .f32⟩
  | .hbm, ⟨2, _⟩ => ⟨S9216x1024, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S9216x1, .f32⟩
  | .hbm, ⟨13, _⟩ => ⟨S9216x1024, .f32⟩
  | .hbm, ⟨14, _⟩ => ⟨S9216x1024, .f32⟩
  | .hbm, ⟨15, _⟩ => ⟨S9216x1024, .f32⟩
  | .hbm, ⟨16, _⟩ => ⟨S9216x1024, .f32⟩
  | .hbm, ⟨17, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel19.lean ====
abbrev S9216x5376 : Shape := ⟨2, ![9216, 5376]⟩
abbrev S1x128 : Shape := ⟨2, ![1, 128]⟩
abbrev S9216x128 : Shape := ⟨2, ![9216, 128]⟩
abbrev S2304x128 : Shape := ⟨2, ![2304, 128]⟩
abbrev S128x128 : Shape := ⟨2, ![128, 128]⟩
abbrev S128 : Shape := ⟨1, ![128]⟩

abbrev nBuf : Space → Nat
  | .hbm => 3
  | .vmem => 5
  | .smem => 0
  | _ => 0

abbrev bufTy : (tb : Table) → Fin (tcTables nBuf tb) → BufTy
  | .hbm, ⟨0, _⟩ => ⟨S9216x5376, .f32⟩
  | .hbm, ⟨1, _⟩ => ⟨S1x128, .f32⟩
  | .hbm, ⟨2, _⟩ => ⟨S9216x128, .f32⟩
  | .local _ .vmem, ⟨0, _⟩ => ⟨S2304x128, .f32⟩
  | .local _ .vmem, ⟨1, _⟩ => ⟨S2304x128, .f32⟩
  | .local _ .vmem, ⟨2, _⟩ => ⟨S1x128, .f32⟩
  | .local _ .vmem, ⟨3, _⟩ => ⟨S2304x128, .f32⟩
  | .local _ .vmem, ⟨4, _⟩ => ⟨S2304x128, .f32⟩
  | _, _ => ⟨S9216x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c18_i32 : BitVec 32 := 18#32
  let v8 : BitVec 32 := Scalar.addi c0_i32 c18_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v10 : BitVec 32 := Scalar.muli arg4 c128_i32
  v10
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v10 : BitVec 32 := Scalar.muli arg4 c128_i32
  let v11 : BitVec 32 := v10
  let v12 : Index := Scalar.indexCast v11
  let c0_2 : Index := 0#32
  ![v12.toNat, 0]
def cc0_transform_0 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S9216x5376 : Shape := ⟨2, ![9216, 5376]⟩
abbrev S1x128 : Shape := ⟨2, ![1, 128]⟩
abbrev S9216x128 : Shape := ⟨2, ![9216, 128]⟩
abbrev S4x2304x128 : Shape := ⟨3, ![4, 2304, 128]⟩
abbrev S1x1x128 : Shape := ⟨3, ![1, 1, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S9216x5376, .f32⟩
  | .hbm, ⟨1, _⟩ => ⟨S1x128, .f32⟩
  | .hbm, ⟨2, _⟩ => ⟨S9216x128, .f32⟩
  | .hbm, ⟨3, _⟩ => ⟨S4x2304x128, .f32⟩
  | .hbm, ⟨4, _⟩ => ⟨S1x1x128, .f32⟩
  | .hbm, ⟨5, _⟩ => ⟨S4x2304x128, .f32⟩
  | .hbm, ⟨6, _⟩ => ⟨S4x2304x128, .f32⟩
  | .hbm, ⟨7, _⟩ => ⟨S4x2304x128, .f32⟩
  | .hbm, ⟨8, _⟩ => ⟨S_, .f32⟩
  | .hbm, ⟨9, _⟩ => ⟨S4x2304x128, .f32⟩
  | .hbm, ⟨10, _⟩ => ⟨S4x2304x128, .f32⟩
  | .hbm, ⟨11, _⟩ => ⟨S4x2304x128, .f32⟩
  | .hbm, ⟨12, _⟩ => ⟨S4x2304x128, .f32⟩
  | .hbm, ⟨13, _⟩ => ⟨S4x2304x128, .i1⟩
  | .hbm, ⟨14, _⟩ => ⟨S4x2304x128, .f32⟩
  | .hbm, ⟨15, _⟩ => ⟨S4x2304x128, .f32⟩
  | .hbm, ⟨16, _⟩ => ⟨S4x2304x128, .f32⟩
  | .hbm, ⟨17, _⟩ => ⟨S4x2304x128, .f32⟩
  | .hbm, ⟨18, _⟩ => ⟨S4x2304x128, .f32⟩
  | .hbm, ⟨19, _⟩ => ⟨S4x2304x128, .f32⟩
  | .hbm, ⟨20, _⟩ => ⟨S4x2304x128, .f32⟩
  | .hbm, ⟨21, _⟩ => ⟨S4x2304x128, .f32⟩
  | .hbm, ⟨22, _⟩ => ⟨S4x2304x128, .f32⟩
  | .hbm, ⟨23, _⟩ => ⟨S_, .f32⟩
  | .hbm, ⟨24, _⟩ => ⟨S_, .f32⟩
  | .hbm, ⟨25, _⟩ => ⟨S4x2304x128, .f32⟩
  | .hbm, ⟨26, _⟩ => ⟨S9216x128, .f32⟩
  | _, _ => ⟨S9216x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Proof.ConvMath.lean ====
/- The gradient of the gated convolution as plain functions of real numbers: a row index, a column index. -/
module

public import Idealize.ShloMosaic.Lib.Pointwise

@[expose] public section

noncomputable section

namespace Cert.ConvGlu

/-- The array `n` rows earlier, zero above the first row. -/
def back (x : ℕ → ℕ → ℝ) (n t q : ℕ) : ℝ := if t < n then 0 else x (t - n) q

/-- The convolution of three taps: tap 2 meets the row itself. -/
def conv (w x : ℕ → ℕ → ℝ) (t q : ℕ) : ℝ := w 0 q * back x 2 t q + w 1 q * back x 1 t q + w 2 q * x t q

/-- The logistic function. -/
def sg (a : ℝ) : ℝ := 1 / (1 + Real.exp (-a))

/-- The gradient with respect to the convolution's result: the first `h` columns are the gate's half. -/
def dconv (h : ℕ) (w x ct : ℕ → ℕ → ℝ) (t q : ℕ) : ℝ :=
  if q < h then ct t q * conv w x t (q + h) * (sg (conv w x t q) * (1 + conv w x t q * (1 - sg (conv w x t q))))
  else ct t (q - h) * (conv w x t (q - h) * sg (conv w x t (q - h)))

/-- The gradient with respect to the convolution's input. -/
def dinp (h : ℕ) (w x ct : ℕ → ℕ → ℝ) (t q : ℕ) : ℝ :=
  w 2 q * dconv h w x ct t q + w 1 q * dconv h w x ct (t + 1) q + w 0 q * dconv h w x ct (t + 2) q

/-- The gradient of the tap that meets the row `n` earlier, over the rows from `a` up to `b`. -/
def dtap (h : ℕ) (w x ct : ℕ → ℕ → ℝ) (n a b q : ℕ) : ℝ :=
  ∑ t ∈ Finset.Ico a b, dconv h w x ct t q * back x n t q

theorem dconv_zero (h : ℕ) (w x ct : ℕ → ℕ → ℝ) (t q : ℕ) (h0 : ∀ q, ct t q = 0) : dconv h w x ct t q = 0 := by
  unfold dconv; split_ifs <;> simp [h0]

theorem dtap_split (h : ℕ) (w x ct : ℕ → ℕ → ℝ) (n a m b q : ℕ) (h1 : a ≤ m) (h2 : m ≤ b) :
    dtap h w x ct n m b q + dtap h w x ct n a m q = dtap h w x ct n a b q := by
  unfold dtap; rw [add_comm]; exact Finset.sum_Ico_consecutive _ h1 h2

/-- Column `q` of column block `j` of the blocked layout, as a column of the plain one. -/
def col (h j q : ℕ) : ℕ := if q < 256 then 256 * j + q else h + 256 * j + (q - 256)

theorem conv_cols (w x : ℕ → ℕ → ℝ) (e : ℕ → ℕ) (t q : ℕ) :
    conv (fun k q => w k (e q)) (fun t q => x t (e q)) t q = conv w x t (e q) := rfl

theorem dconv_cols (h j : ℕ) (hj : 256 * j + 256 ≤ h) (w x ct : ℕ → ℕ → ℝ) (t q : ℕ) (hq : q < 512) :
    dconv 256 (fun k q => w k (col h j q)) (fun t q => x t (col h j q)) (fun t q => ct t (256 * j + q)) t q
      = dconv h w x ct t (col h j q) := by
  unfold dconv
  simp only [conv_cols]
  by_cases h0 : q < 256
  · have e1 : col h j q = 256 * j + q := if_pos h0
    have e2 : col h j (q + 256) = 256 * j + q + h := by unfold col; rw [if_neg (by omega)]; omega
    rw [if_pos h0, e1, e2, if_pos (by omega)]
  · have e1 : col h j q = h + 256 * j + (q - 256) := if_neg h0
    have e2 : col h j (q - 256) = 256 * j + (q - 256) := if_pos (by omega)
    rw [if_neg h0, e1, e2, if_neg (by omega), show h + 256 * j + (q - 256) - h = 256 * j + (q - 256) by omega]

theorem dinp_cols (h j : ℕ) (hj : 256 * j + 256 ≤ h) (w x ct : ℕ → ℕ → ℝ) (t q : ℕ) (hq : q < 512) :
    dinp 256 (fun k q => w k (col h j q)) (fun t q => x t (col h j q)) (fun t q => ct t (256 * j + q)) t q
      = dinp h w x ct t (col h j q) := by
  unfold dinp; simp only [dconv_cols h j hj w x ct _ q hq]

theorem dtap_cols (h j : ℕ) (hj : 256 * j + 256 ≤ h) (w x ct : ℕ → ℕ → ℝ) (n a b q : ℕ) (hq : q < 512) :
    dtap 256 (fun k q => w k (col h j q)) (fun t q => x t (col h j q)) (fun t q => ct t (256 * j + q)) n a b q
      = dtap h w x ct n a b (col h j q) := by
  unfold dtap; simp only [dconv_cols h j hj w x ct _ q hq]; rfl

end Cert.ConvGlu

end
-- ==== Proof.ConvTrip.lean ====
/- One chunk of rows of the kernel's loop, read as real numbers. -/
module

public import proofs.«01_k».proof.Proof.ConvMath
public import proofs.«01_k».proof.Proof.Gen.KernelIdeal.Value
public import Idealize.ShloMosaic.Lib.Pointwise

@[expose] public section

set_option maxRecDepth 16384

noncomputable section

namespace Cert.ConvGlu

open Cert.KernelIdeal Cert.KernelIdeal.Gen Idealize.ShloMosaic Idealize.ShloMosaic.TcCoe Idealize.SL.Sem

theorem trips_eq : k0_t1_loop.trips = 8 := by decide

/-- The first chunk is the one of the last trip. -/
theorem first_word : ∀ k : Fin 8, Scalar.cmpi CmpIPredicate.eq (Scalar.subi (7#32) (Scf.iv 0#32 1#32 k.val)) 0#32
    = BitVec.ofBool (k.val = 7) := by decide

/-- The eight rows before a chunk laid above the chunk. -/
theorem pay13_apply (x : ℕ → ℕ → ℝ) (k : Fin k0_t1_loop.trips) (v18 : Vec Ideal S288x512 .f32) (v25 : Vec Ideal S8x512 .f32)
    (h18 : ∀ (a : Fin 288) (b : Fin 512), v18 (ix2 a b) = ((x (288 * (7 - k.val) + a.val) b.val : ℝ) : EReal))
    (h25 : k.val < 7 → ∀ (a : Fin 8) (b : Fin 512), v25 (ix2 a b) = ((x (288 * (7 - k.val) - 8 + a.val) b.val : ℝ) : EReal))
    (a : Fin 296) (b : Fin 512) :
    k0_pay13 0#32 1#32 k v18 v25 (ix2 a b) = ((back x 8 (288 * (7 - k.val) + a.val) b.val : ℝ) : EReal) := by
  have hk : k.val < 8 := trips_eq ▸ k.isLt
  have hw := first_word ⟨k.val, hk⟩
  dsimp only at hw
  by_cases h1 : a.val < 8
  · by_cases h2 : k.val = 7
    · have hb : back x 8 (288 * (7 - k.val) + a.val) b.val = 0 := by unfold back; rw [if_pos (by omega)]
      rw [hb]
      pointwise [k0_pay13, k0_pay12]
      rw [hw, dif_pos h1, decide_eq_true h2]; simp [Scalar.select]
    · have hb : back x 8 (288 * (7 - k.val) + a.val) b.val = x (288 * (7 - k.val) - 8 + a.val) b.val := by
        unfold back; rw [if_neg (by omega)]; congr 1; omega
      rw [hb]
      pointwise [k0_pay13, k0_pay12]
      rw [hw, dif_pos h1, decide_eq_false h2, h25 (by omega)]; simp [Scalar.select]
  · have hb : back x 8 (288 * (7 - k.val) + a.val) b.val = x (288 * (7 - k.val) + (a.val - 8)) b.val := by
      unfold back; rw [if_neg (by omega)]; congr 1; omega
    rw [hb]
    pointwise [k0_pay13, k0_pay12]
    rw [dif_neg h1, h18]

/-- The chunk one row up. -/
theorem pay14_apply (x : ℕ → ℕ → ℝ) (k : Fin k0_t1_loop.trips) (v18 : Vec Ideal S288x512 .f32) (v25 : Vec Ideal S8x512 .f32)
    (h : ∀ (a : Fin 296) (b : Fin 512), k0_pay13 0#32 1#32 k v18 v25 (ix2 a b) = ((back x 8 (288 * (7 - k.val) + a.val) b.val : ℝ) : EReal))
    (a : Fin 288) (b : Fin 512) :
    k0_pay14 0#32 1#32 k v18 v25 (ix2 a b) = ((back x 1 (288 * (7 - k.val) + a.val) b.val : ℝ) : EReal) := by
  unfold k0_pay14
  generalize k0_pay13 0#32 1#32 k v18 v25 = y at *
  pointwise
  rw [h]; dsimp only
  unfold back; congr 1
  split_ifs with h1 h2 h2 <;> first | rfl | omega | skip
  congr 1; omega

/-- The chunk two rows up. -/
theorem pay15_apply (x : ℕ → ℕ → ℝ) (k : Fin k0_t1_loop.trips) (v18 : Vec Ideal S288x512 .f32) (v25 : Vec Ideal S8x512 .f32)
    (h : ∀ (a : Fin 296) (b : Fin 512), k0_pay13 0#32 1#32 k v18 v25 (ix2 a b) = ((back x 8 (288 * (7 - k.val) + a.val) b.val : ℝ) : EReal))
    (a : Fin 288) (b : Fin 512) :
    k0_pay15 0#32 1#32 k v18 v25 (ix2 a b) = ((back x 2 (288 * (7 - k.val) + a.val) b.val : ℝ) : EReal) := by
  unfold k0_pay15
  generalize k0_pay13 0#32 1#32 k v18 v25 = y at *
  pointwise
  rw [h]; dsimp only
  unfold back; congr 1
  split_ifs with h1 h2 h2 <;> first | rfl | omega | skip
  congr 1; omega

/-- The convolution over the chunk. -/
theorem pay16_apply (w x : ℕ → ℕ → ℝ) (B : ℕ) (k : Fin k0_t1_loop.trips) (v0 : Vec Ideal S3x512 .f32) (v18 : Vec Ideal S288x512 .f32) (v25 : Vec Ideal S8x512 .f32)
    (hw : ∀ (a : Fin 3) (b : Fin 512), v0 (ix2 a b) = ((w a.val b.val : ℝ) : EReal))
    (h18 : ∀ (a : Fin 288) (b : Fin 512), v18 (ix2 a b) = ((x (B + a.val) b.val : ℝ) : EReal))
    (h14 : ∀ (a : Fin 288) (b : Fin 512), k0_pay14 0#32 1#32 k v18 v25 (ix2 a b) = ((back x 1 (B + a.val) b.val : ℝ) : EReal))
    (h15 : ∀ (a : Fin 288) (b : Fin 512), k0_pay15 0#32 1#32 k v18 v25 (ix2 a b) = ((back x 2 (B + a.val) b.val : ℝ) : EReal))
    (a : Fin 288) (b : Fin 512) :
    k0_pay16 (k0_pay1 v0) 0#32 1#32 k v18 v25 (ix2 a b) = ((conv w x (B + a.val) b.val : ℝ) : EReal) := by
  unfold k0_pay16
  generalize k0_pay14 0#32 1#32 k v18 v25 = y at *
  generalize k0_pay15 0#32 1#32 k v18 v25 = z at *
  pointwise [k0_pay1, k0_pay12]
  rw [h14, h15, h18, hw, hw, hw]
  unfold conv
  norm_cast

/-- The gate's half of the convolution. -/
theorem pay17_apply (f : ℕ → ℕ → ℝ) (B : ℕ) (k : Fin k0_t1_loop.trips) (v1 : Vec Ideal S3x512 .f32) (v18 : Vec Ideal S288x512 .f32) (v25 : Vec Ideal S8x512 .f32)
    (h : ∀ (a : Fin 288) (b : Fin 512), k0_pay16 v1 0#32 1#32 k v18 v25 (ix2 a b) = ((f (B + a.val) b.val : ℝ) : EReal))
    (a : Fin 288) (b : Fin 256) :
    k0_pay17 v1 0#32 1#32 k v18 v25 (ix2 a b) = ((f (B + a.val) b.val : ℝ) : EReal) := by
  unfold k0_pay17
  generalize k0_pay16 v1 0#32 1#32 k v18 v25 = y at *
  pointwise
  exact h _ _

/-- The other half. -/
theorem pay18_apply (f : ℕ → ℕ → ℝ) (B : ℕ) (k : Fin k0_t1_loop.trips) (v1 : Vec Ideal S3x512 .f32) (v18 : Vec Ideal S288x512 .f32) (v25 : Vec Ideal S8x512 .f32)
    (h : ∀ (a : Fin 288) (b : Fin 512), k0_pay16 v1 0#32 1#32 k v18 v25 (ix2 a b) = ((f (B + a.val) b.val : ℝ) : EReal))
    (a : Fin 288) (b : Fin 256) :
    k0_pay18 v1 0#32 1#32 k v18 v25 (ix2 a b) = ((f (B + a.val) (b.val + 256) : ℝ) : EReal) := by
  unfold k0_pay18
  generalize k0_pay16 v1 0#32 1#32 k v18 v25 = y at *
  pointwise
  rw [h]
  exact congrArg (fun q => ((f (B + a.val) q : ℝ) : EReal)) (by simp; try omega)

/-- The gate's logistic. -/
theorem pay19_apply (f : ℕ → ℕ → ℝ) (B : ℕ) (k : Fin k0_t1_loop.trips) (v1 : Vec Ideal S3x512 .f32) (v18 : Vec Ideal S288x512 .f32) (v25 : Vec Ideal S8x512 .f32)
    (h : ∀ (a : Fin 288) (b : Fin 512), k0_pay16 v1 0#32 1#32 k v18 v25 (ix2 a b) = ((f (B + a.val) b.val : ℝ) : EReal))
    (a : Fin 288) (b : Fin 256) :
    k0_pay19 v1 0#32 1#32 k v18 v25 (ix2 a b) = ((sg (f (B + a.val) b.val) : ℝ) : EReal) := by
  unfold k0_pay19 k0_pay17
  generalize k0_pay16 v1 0#32 1#32 k v18 v25 = y at *
  pointwise
  rw [h]
  unfold sg
  rw [zero_sub, ← EReal.coe_neg, Ideal.exp_coe, ← EReal.coe_one, ← EReal.coe_add, Ideal.div_coe (by positivity)]
  rw [← EReal.coe_mul, one_mul]

/-- The gradient at the convolution's result, over the chunk. -/
theorem pay4_apply (w x ct : ℕ → ℕ → ℝ) (B : ℕ) (v46 v47 v54 v58 : FVec Ideal S288x256 .f32)
    (h46 : ∀ (a : Fin 288) (b : Fin 256), v46 (ix2 a b) = ((conv w x (B + a.val) b.val : ℝ) : EReal))
    (h47 : ∀ (a : Fin 288) (b : Fin 256), v47 (ix2 a b) = ((conv w x (B + a.val) (b.val + 256) : ℝ) : EReal))
    (h54 : ∀ (a : Fin 288) (b : Fin 256), v54 (ix2 a b) = ((sg (conv w x (B + a.val) b.val) : ℝ) : EReal))
    (h58 : ∀ (a : Fin 288) (b : Fin 256), v58 (ix2 a b) = ((ct (B + a.val) b.val : ℝ) : EReal))
    (a : Fin 288) (b : Fin 512) :
    k0_pay4 v46 v47 v54 v58 (ix2 a b) = ((dconv 256 w x ct (B + a.val) b.val : ℝ) : EReal) := by
  pointwise [k0_pay4]
  simp only [h46, h47, h54, h58]
  unfold dconv
  split_ifs
  · norm_cast
  · norm_cast

/-- The chunk of the gradient at the input. -/
theorem pay5_apply (w x ct : ℕ → ℕ → ℝ) (B : ℕ) (v0 : Vec Ideal S3x512 .f32) (a8 : FVec Ideal S8x512 .f32) (v46 v47 v54 v58 : FVec Ideal S288x256 .f32)
    (hw : ∀ (a : Fin 3) (b : Fin 512), v0 (ix2 a b) = ((w a.val b.val : ℝ) : EReal))
    (h8 : ∀ (a : Fin 8) (b : Fin 512), a8 (ix2 a b) = ((dconv 256 w x ct (B + 288 + a.val) b.val : ℝ) : EReal))
    (h4 : ∀ (a : Fin 288) (b : Fin 512), k0_pay4 v46 v47 v54 v58 (ix2 a b) = ((dconv 256 w x ct (B + a.val) b.val : ℝ) : EReal))
    (a : Fin 288) (b : Fin 512) :
    k0_pay5 v0 a8 v46 v47 v54 v58 (ix2 a b) = ((dinp 256 w x ct (B + a.val) b.val : ℝ) : EReal) := by
  unfold k0_pay5
  generalize k0_pay4 v46 v47 v54 v58 = y at *
  pointwise [k0_pay1]
  simp only [h4, h8, hw]
  unfold dinp
  have e1 : (if h : (a.val + 296 - 295) % 296 < 288 then ((dconv 256 w x ct (B + (a.val + 296 - 295) % 296) b.val : ℝ) : EReal)
      else ((dconv 256 w x ct (B + 288 + ((a.val + 296 - 295) % 296 - 288)) b.val : ℝ) : EReal)) = ((dconv 256 w x ct (B + a.val + 1) b.val : ℝ) : EReal) := by
    split_ifs <;> congr 2 <;> omega
  have e2 : (if h : (a.val + 296 - 294) % 296 < 288 then ((dconv 256 w x ct (B + (a.val + 296 - 294) % 296) b.val : ℝ) : EReal)
      else ((dconv 256 w x ct (B + 288 + ((a.val + 296 - 294) % 296 - 288)) b.val : ℝ) : EReal)) = ((dconv 256 w x ct (B + a.val + 2) b.val : ℝ) : EReal) := by
    split_ifs <;> congr 2 <;> omega
  refine (congrArg₂ (· + ·) (congrArg₂ (· + ·) rfl (congrArg _ e1)) (congrArg _ e2)).trans ?_
  norm_cast

/-- The first eight rows of the chunk, handed to the chunk above. -/
theorem pay6_apply (f : ℕ → ℕ → ℝ) (B : ℕ) (v46 v47 v54 v58 : FVec Ideal S288x256 .f32)
    (h4 : ∀ (a : Fin 288) (b : Fin 512), k0_pay4 v46 v47 v54 v58 (ix2 a b) = ((f (B + a.val) b.val : ℝ) : EReal))
    (a : Fin 8) (b : Fin 512) :
    k0_pay6 v46 v47 v54 v58 (ix2 a b) = ((f (B + a.val) b.val : ℝ) : EReal) := by
  unfold k0_pay6
  generalize k0_pay4 v46 v47 v54 v58 = y at *
  pointwise
  exact h4 _ _

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The sum over a chunk's rows added to the sum of the later rows. -/
theorem tap_sum (w x ct : ℕ → ℕ → ℝ) (n B E q : ℕ) (h : B + 288 ≤ E) (y z : ℕ → EReal)
    (hy : ∀ a < 288, y a = ((dconv 256 w x ct (B + a) q : ℝ) : EReal)) (hz : ∀ a < 288, z a = ((back x n (B + a) q : ℝ) : EReal)) :
    ((dtap 256 w x ct n (B + 288) E q : ℝ) : EReal) + ∑ a : Fin 288, y a.val * z a.val = ((dtap 256 w x ct n B E q : ℝ) : EReal) := by
  have e : ∑ a : Fin 288, y a.val * z a.val = ((dtap 256 w x ct n B (B + 288) q : ℝ) : EReal) := by
    unfold dtap
    rw [Finset.sum_Ico_eq_sum_range, show B + 288 - B = 288 by omega, Finset.sum_range, coe_sum]
    exact Finset.sum_congr rfl fun a _ => by rw [hy _ a.isLt, hz _ a.isLt]; norm_cast
  rw [e, ← dtap_split 256 w x ct n B (B + 288) E q (by omega) h]
  norm_cast

/-- The sum of the tap 2 rows up, the chunk's rows added. -/
theorem pay7_apply (w x ct : ℕ → ℕ → ℝ) (B : ℕ) (p : FVec Ideal S1x512 .f32) (z : FVec Ideal S288x512 .f32) (v46 v47 v54 v58 : FVec Ideal S288x256 .f32) (hB : B + 288 ≤ 2304)
    (hp : ∀ (a : Fin 1) (b : Fin 512), p (ix2 a b) = ((dtap 256 w x ct 2 (B + 288) 2304 b.val : ℝ) : EReal))
    (hz : ∀ (a : Fin 288) (b : Fin 512), z (ix2 a b) = ((back x 2 (B + a.val) b.val : ℝ) : EReal))
    (h4 : ∀ (a : Fin 288) (b : Fin 512), k0_pay4 v46 v47 v54 v58 (ix2 a b) = ((dconv 256 w x ct (B + a.val) b.val : ℝ) : EReal))
    (a : Fin 1) (b : Fin 512) :
    k0_pay7 p z v46 v47 v54 v58 (ix2 a b) = ((dtap 256 w x ct 2 B 2304 b.val : ℝ) : EReal) := by
  unfold k0_pay7
  generalize k0_pay4 v46 v47 v54 v58 = y at *
  pointwise
  simp only [hp, hz, h4]
  exact tap_sum w x ct 2 B 2304 b.val hB (fun t => ((dconv 256 w x ct (B + t) b.val : ℝ) : EReal)) (fun t => ((back x 2 (B + t) b.val : ℝ) : EReal))
    (fun _ _ => rfl) (fun _ _ => rfl)

/-- The sum of the tap 1 rows up, the chunk's rows added. -/
theorem pay8_apply (w x ct : ℕ → ℕ → ℝ) (B : ℕ) (p : FVec Ideal S1x512 .f32) (z : FVec Ideal S288x512 .f32) (v46 v47 v54 v58 : FVec Ideal S288x256 .f32) (hB : B + 288 ≤ 2304)
    (hp : ∀ (a : Fin 1) (b : Fin 512), p (ix2 a b) = ((dtap 256 w x ct 1 (B + 288) 2304 b.val : ℝ) : EReal))
    (hz : ∀ (a : Fin 288) (b : Fin 512), z (ix2 a b) = ((back x 1 (B + a.val) b.val : ℝ) : EReal))
    (h4 : ∀ (a : Fin 288) (b : Fin 512), k0_pay4 v46 v47 v54 v58 (ix2 a b) = ((dconv 256 w x ct (B + a.val) b.val : ℝ) : EReal))
    (a : Fin 1) (b : Fin 512) :
    k0_pay8 p z v46 v47 v54 v58 (ix2 a b) = ((dtap 256 w x ct 1 B 2304 b.val : ℝ) : EReal) := by
  unfold k0_pay8
  generalize k0_pay4 v46 v47 v54 v58 = y at *
  pointwise
  simp only [hp, hz, h4]
  exact tap_sum w x ct 1 B 2304 b.val hB (fun t => ((dconv 256 w x ct (B + t) b.val : ℝ) : EReal)) (fun t => ((back x 1 (B + t) b.val : ℝ) : EReal))
    (fun _ _ => rfl) (fun _ _ => rfl)

/-- The sum of the tap 0 rows up, the chunk's rows added. -/
theorem pay9_apply (w x ct : ℕ → ℕ → ℝ) (B : ℕ) (p : FVec Ideal S1x512 .f32) (z : FVec Ideal S288x512 .f32) (v46 v47 v54 v58 : FVec Ideal S288x256 .f32) (hB : B + 288 ≤ 2304)
    (hp : ∀ (a : Fin 1) (b : Fin 512), p (ix2 a b) = ((dtap 256 w x ct 0 (B + 288) 2304 b.val : ℝ) : EReal))
    (hz : ∀ (a : Fin 288) (b : Fin 512), z (ix2 a b) = ((x (B + a.val) b.val : ℝ) : EReal))
    (h4 : ∀ (a : Fin 288) (b : Fin 512), k0_pay4 v46 v47 v54 v58 (ix2 a b) = ((dconv 256 w x ct (B + a.val) b.val : ℝ) : EReal))
    (a : Fin 1) (b : Fin 512) :
    k0_pay9 p z v46 v47 v54 v58 (ix2 a b) = ((dtap 256 w x ct 0 B 2304 b.val : ℝ) : EReal) := by
  unfold k0_pay9
  generalize k0_pay4 v46 v47 v54 v58 = y at *
  pointwise
  simp only [hp, hz, h4]
  exact tap_sum w x ct 0 B 2304 b.val hB (fun t => ((dconv 256 w x ct (B + t) b.val : ℝ) : EReal)) (fun t => ((back x 0 (B + t) b.val : ℝ) : EReal))
    (fun _ _ => rfl) (fun _ _ => rfl)

end Cert.ConvGlu

end
-- ==== Proof.ConvLoop.lean ====
/- The kernel's loop over the chunks, last chunk first. -/
module

public import proofs.«01_k».proof.Proof.ConvTrip
public import proofs.«01_k».proof.Proof.Gen.KernelIdeal.Value
public import Idealize.ShloMosaic.Lib.Pointwise

@[expose] public section

set_option maxRecDepth 16384

noncomputable section

namespace Cert.ConvGlu

open Cert.KernelIdeal Cert.KernelIdeal.Gen Idealize.ShloMosaic Idealize.ShloMosaic.TcCoe Idealize.SL.Sem

theorem off1_eq : ∀ k : Fin k0_t1_loop.trips, k0_off1 k = ![288 * (7 - k.val), 0] := by decide +kernel
theorem off2_eq : ∀ k : Fin k0_t1_loop.trips, k0_off2 k = ![288 * (7 - k.val) - 8, 0] := by decide +kernel
theorem off3_eq : ∀ k : Fin k0_t1_loop.trips, k0_off3 k = ![288 * (7 - k.val), 0] := by decide +kernel

/-- A load of a rectangle of rows reads the rows from its offset on. -/
theorem readAt_rows {n m q : ℕ} {e : EltTy} (v : Memref sig .tc .vmem (.mk 2 ![n, q]) e) (X : BufTy.Contents (Elt Ideal) v.view.ty)
    (off : Fin 2 → ℕ) (h : ∀ a, off a + (![m, q] : Fin 2 → ℕ) a ≤ (![n, q] : Fin 2 → ℕ) a) (t0 : ℕ) (h0 : off = ![t0, 0]) (a : Fin m) (b : Fin q) (hn : t0 + a.val < n) :
    View.readAt (Elt Ideal) v.view (Rect.unit (s := .mk 2 ![n, q]) off ![m, q] h).toLoadRect X (ix2 a b) = v.view.read (Elt Ideal) X (ix2 ⟨t0 + a.val, hn⟩ b) := by
  subst h0
  rw [View.readAt_apply]
  congr 1
  funext d
  fin_cases d
  · exact Fin.ext (by show t0 + 1 * a.val = t0 + a.val; omega)
  · exact Fin.ext (by show 0 + 1 * b.val = b.val; omega)

section Trip

variable (𝒱 : Variants) (c : Dev nD) (bd : Option 𝒱.V) (i : grid0.Coords)
  (arg2 : Memref sig .tc .vmem S2304x512 .f32) (harg2 : arg2.IsWhole) (arg3 : Memref sig .tc .vmem S3x512 .f32) (harg3 : arg3.IsWhole)
  (arg4 : Memref sig .tc .vmem S2304x256 .f32) (harg4 : arg4.IsWhole) (arg5 : Memref sig .tc .vmem S2304x512 .bf16) (harg5 : arg5.IsWhole)
  (arg6 : Memref sig .tc .vmem S3x512 .f32) (harg6 : arg6.IsWhole) (v0 : Vec Ideal S3x512 .f32)
  (X2 : BufTy.Contents (Elt Ideal) arg2.view.ty) (X4 : BufTy.Contents (Elt Ideal) arg4.view.ty)

/-- A chunk of the input. -/
abbrev chunk (k : Fin k0_t1_loop.trips) : Vec Ideal S288x512 .f32 :=
  View.readAt (Elt Ideal) arg2.view (Rect.unit (s := S2304x512) (k0_off1 k) S288x512.size (k0_off1_inb k)).toLoadRect X2
/-- The eight rows before a chunk. -/
abbrev above (k : Fin k0_t1_loop.trips) : Vec Ideal S8x512 .f32 :=
  View.readAt (Elt Ideal) arg2.view (Rect.unit (s := S2304x512) (k0_off2 k) S8x512.size (k0_off2_inb k)).toLoadRect X2
/-- A chunk of the incoming gradient. -/
abbrev grads (k : Fin k0_t1_loop.trips) : Vec Ideal S288x256 .f32 :=
  View.readAt (Elt Ideal) arg4.view (Rect.unit (s := S2304x256) (k0_off3 k) S288x256.size (k0_off3_inb k)).toLoadRect X4
abbrev gateA (k : Fin k0_t1_loop.trips) : FVec Ideal S288x256 .f32 := k0_pay17 (k0_pay1 v0) 0#32 1#32 k (chunk arg2 X2 k) (above arg2 X2 k)
abbrev gateB (k : Fin k0_t1_loop.trips) : FVec Ideal S288x256 .f32 := k0_pay18 (k0_pay1 v0) 0#32 1#32 k (chunk arg2 X2 k) (above arg2 X2 k)
abbrev gateS (k : Fin k0_t1_loop.trips) : FVec Ideal S288x256 .f32 := k0_pay19 (k0_pay1 v0) 0#32 1#32 k (chunk arg2 X2 k) (above arg2 X2 k)

theorem tripR_eq (k : Fin k0_t1_loop.trips)
    (acc : FVec Ideal S8x512 .f32 × FVec Ideal S1x512 .f32 × FVec Ideal S1x512 .f32 × FVec Ideal S1x512 .f32) :
    tripR_k0_t1 (F := Ideal) 𝒱 c bd i arg2 harg2 arg3 harg3 arg4 harg4 arg5 harg5 arg6 harg6 v0 X2 X4 k acc
      = (k0_pay6 (gateA arg2 v0 X2 k) (gateB arg2 v0 X2 k) (gateS arg2 v0 X2 k) (grads arg4 X4 k),
         k0_pay7 acc.2.1 (k0_pay15 0#32 1#32 k (chunk arg2 X2 k) (above arg2 X2 k)) (gateA arg2 v0 X2 k) (gateB arg2 v0 X2 k) (gateS arg2 v0 X2 k) (grads arg4 X4 k),
         k0_pay8 acc.2.2.1 (k0_pay14 0#32 1#32 k (chunk arg2 X2 k) (above arg2 X2 k)) (gateA arg2 v0 X2 k) (gateB arg2 v0 X2 k) (gateS arg2 v0 X2 k) (grads arg4 X4 k),
         k0_pay9 acc.2.2.2 (k0_pay12 (chunk arg2 X2 k)) (gateA arg2 v0 X2 k) (gateB arg2 v0 X2 k) (gateS arg2 v0 X2 k) (grads arg4 X4 k)) := by
  unfold tripR_k0_t1 trip_k0_t1
  dsimp only
  sl_unfold_words
  rfl

theorem tripL_eq (k : Fin k0_t1_loop.trips)
    (acc : FVec Ideal S8x512 .f32 × FVec Ideal S1x512 .f32 × FVec Ideal S1x512 .f32 × FVec Ideal S1x512 .f32) :
    tripL_k0_t1 (F := Ideal) 𝒱 c bd i arg2 harg2 arg3 harg3 arg4 harg4 arg5 harg5 arg6 harg6 v0 X2 X4 k acc
      = [⟨Rect.unit (s := S2304x512) (k0_off1 k) S288x512.size (k0_off1_inb k),
          k0_pay5 v0 acc.1 (gateA arg2 v0 X2 k) (gateB arg2 v0 X2 k) (gateS arg2 v0 X2 k) (grads arg4 X4 k)⟩] := by
  unfold tripL_k0_t1 trip_k0_t1
  dsimp only
  sl_unfold_words
  rfl

variable (w x ct : ℕ → ℕ → ℝ)
  (hw : ∀ (a : Fin 3) (b : Fin 512), v0 (ix2 a b) = ((w a.val b.val : ℝ) : EReal))
  (hx : ∀ (a : Fin 2304) (b : Fin 512), arg2.view.read (Elt Ideal) X2 (ix2 a b) = ((x a.val b.val : ℝ) : EReal))
  (hc : ∀ (a : Fin 2304) (b : Fin 256), arg4.view.read (Elt Ideal) X4 (ix2 a b) = ((ct a.val b.val : ℝ) : EReal))

/-- What the trips carry: the gradient at the convolution's result in the eight rows from `r` on, and the taps' sums over the rows from `r` on. -/
def Carried (r : ℕ) (acc : FVec Ideal S8x512 .f32 × FVec Ideal S1x512 .f32 × FVec Ideal S1x512 .f32 × FVec Ideal S1x512 .f32) : Prop :=
  (∀ (a : Fin 8) (b : Fin 512), acc.1 (ix2 a b) = ((dconv 256 w x ct (r + a.val) b.val : ℝ) : EReal)) ∧
  (∀ (a : Fin 1) (b : Fin 512), acc.2.1 (ix2 a b) = ((dtap 256 w x ct 2 r 2304 b.val : ℝ) : EReal)) ∧
  (∀ (a : Fin 1) (b : Fin 512), acc.2.2.1 (ix2 a b) = ((dtap 256 w x ct 1 r 2304 b.val : ℝ) : EReal)) ∧
  (∀ (a : Fin 1) (b : Fin 512), acc.2.2.2 (ix2 a b) = ((dtap 256 w x ct 0 r 2304 b.val : ℝ) : EReal))

/-- The gradient at the input, at an index. -/
def atInput (y : S2304x512.Idx) : EReal := ((dinp 256 w x ct (y 0).val (y 1).val : ℝ) : EReal)

include hx in
theorem chunk_apply (k : Fin k0_t1_loop.trips) (a : Fin 288) (b : Fin 512) :
    chunk arg2 X2 k (ix2 a b) = ((x (288 * (7 - k.val) + a.val) b.val : ℝ) : EReal) := by
  have hk : k.val < 8 := trips_eq ▸ k.isLt
  exact (readAt_rows arg2 X2 (k0_off1 k) (k0_off1_inb k) _ (off1_eq k) a b (by omega)).trans (hx _ _)

include hx in
theorem above_apply (k : Fin k0_t1_loop.trips) (h7 : k.val < 7) (a : Fin 8) (b : Fin 512) :
    above arg2 X2 k (ix2 a b) = ((x (288 * (7 - k.val) - 8 + a.val) b.val : ℝ) : EReal) :=
  (readAt_rows arg2 X2 (k0_off2 k) (k0_off2_inb k) _ (off2_eq k) a b (by omega)).trans (hx _ _)

include hc in
theorem grads_apply (k : Fin k0_t1_loop.trips) (a : Fin 288) (b : Fin 256) :
    grads arg4 X4 k (ix2 a b) = ((ct (288 * (7 - k.val) + a.val) b.val : ℝ) : EReal) := by
  have hk : k.val < 8 := trips_eq ▸ k.isLt
  exact (readAt_rows arg4 X4 (k0_off3 k) (k0_off3_inb k) _ (off3_eq k) a b (by omega)).trans (hc _ _)

include hx in
theorem up1_apply (k : Fin k0_t1_loop.trips) (a : Fin 288) (b : Fin 512) :
    k0_pay14 0#32 1#32 k (chunk arg2 X2 k) (above arg2 X2 k) (ix2 a b) = ((back x 1 (288 * (7 - k.val) + a.val) b.val : ℝ) : EReal) :=
  pay14_apply x k _ _ (pay13_apply x k _ _ (chunk_apply arg2 X2 x hx k) (above_apply arg2 X2 x hx k)) a b

include hx in
theorem up2_apply (k : Fin k0_t1_loop.trips) (a : Fin 288) (b : Fin 512) :
    k0_pay15 0#32 1#32 k (chunk arg2 X2 k) (above arg2 X2 k) (ix2 a b) = ((back x 2 (288 * (7 - k.val) + a.val) b.val : ℝ) : EReal) :=
  pay15_apply x k _ _ (pay13_apply x k _ _ (chunk_apply arg2 X2 x hx k) (above_apply arg2 X2 x hx k)) a b

include hw hx in
theorem conv_apply (k : Fin k0_t1_loop.trips) (a : Fin 288) (b : Fin 512) :
    k0_pay16 (k0_pay1 v0) 0#32 1#32 k (chunk arg2 X2 k) (above arg2 X2 k) (ix2 a b) = ((conv w x (288 * (7 - k.val) + a.val) b.val : ℝ) : EReal) :=
  pay16_apply w x _ k v0 _ _ hw (chunk_apply arg2 X2 x hx k) (up1_apply arg2 X2 x hx k) (up2_apply arg2 X2 x hx k) a b

include hw hx hc in
theorem dconv_apply (k : Fin k0_t1_loop.trips) (a : Fin 288) (b : Fin 512) :
    k0_pay4 (gateA arg2 v0 X2 k) (gateB arg2 v0 X2 k) (gateS arg2 v0 X2 k) (grads arg4 X4 k) (ix2 a b)
      = ((dconv 256 w x ct (288 * (7 - k.val) + a.val) b.val : ℝ) : EReal) :=
  pay4_apply w x ct _ _ _ _ _
    (pay17_apply (conv w x) _ k _ _ _ (conv_apply arg2 v0 X2 w x hw hx k))
    (pay18_apply (conv w x) _ k _ _ _ (conv_apply arg2 v0 X2 w x hw hx k))
    (pay19_apply (conv w x) _ k _ _ _ (conv_apply arg2 v0 X2 w x hw hx k))
    (grads_apply arg4 X4 ct hc k) a b

include hw hx hc in
theorem trip_carried (k : Fin k0_t1_loop.trips)
    (acc : FVec Ideal S8x512 .f32 × FVec Ideal S1x512 .f32 × FVec Ideal S1x512 .f32 × FVec Ideal S1x512 .f32)
    (h : Carried w x ct (288 * (7 - k.val) + 288) acc) :
    Carried w x ct (288 * (7 - k.val)) (tripR_k0_t1 (F := Ideal) 𝒱 c bd i arg2 harg2 arg3 harg3 arg4 harg4 arg5 harg5 arg6 harg6 v0 X2 X4 k acc) := by
  have hk : k.val < 8 := trips_eq ▸ k.isLt
  have hd := dconv_apply arg2 arg4 v0 X2 X4 w x ct hw hx hc k
  obtain ⟨h1, h2, h3, h4⟩ := h
  rw [tripR_eq]
  refine ⟨fun a b => pay6_apply (dconv 256 w x ct) _ _ _ _ _ hd a b, fun a b => ?_, fun a b => ?_, fun a b => ?_⟩
  · exact pay7_apply w x ct _ _ _ _ _ _ _ (by omega) h2 (up2_apply arg2 X2 x hx k) hd a b
  · exact pay8_apply w x ct _ _ _ _ _ _ _ (by omega) h3 (up1_apply arg2 X2 x hx k) hd a b
  · refine pay9_apply w x ct _ _ _ _ _ _ _ (by omega) h4 (fun a b => ?_) hd a b
    unfold k0_pay12; rw [shapeCast_self]
    exact chunk_apply arg2 X2 x hx k a b

include hw hx hc in
theorem trip_pieces (k : Fin k0_t1_loop.trips)
    (acc : FVec Ideal S8x512 .f32 × FVec Ideal S1x512 .f32 × FVec Ideal S1x512 .f32 × FVec Ideal S1x512 .f32)
    (h : Carried w x ct (288 * (7 - k.val) + 288) acc) :
    ∀ p ∈ tripL_k0_t1 (F := Ideal) 𝒱 c bd i arg2 harg2 arg3 harg3 arg4 harg4 arg5 harg5 arg6 harg6 v0 X2 X4 k acc, ∀ y, p.2 y = atInput w x ct (p.1.emb y) := by
  rw [tripL_eq]
  intro p hp
  obtain rfl := List.mem_singleton.mp hp
  intro y
  idx_vars y
  refine (pay5_apply w x ct _ v0 acc.1 _ _ _ _ hw h.1 (dconv_apply arg2 arg4 v0 X2 X4 w x ct hw hx hc k) _ _).trans ?_
  unfold atInput
  have e0 : ((Rect.unit (s := S2304x512) (k0_off1 k) S288x512.size (k0_off1_inb k)).emb (ix2 y0 y1) 0).val = 288 * (7 - k.val) + y0.val := by
    show k0_off1 k 0 + 1 * y0.val = _
    rw [off1_eq]; show 288 * (7 - k.val) + 1 * y0.val = _; omega
  have e1 : ((Rect.unit (s := S2304x512) (k0_off1 k) S288x512.size (k0_off1_inb k)).emb (ix2 y0 y1) 1).val = y1.val := by
    show k0_off1 k 1 + 1 * y1.val = _
    rw [off1_eq]; show 0 + 1 * y1.val = _; omega
  rw [e0, e1]

include hw hx hc in
/-- The loop's state before trip `k`. -/
theorem state (h0 : ∀ t q, 2304 ≤ t → ct t q = 0) (k : ℕ) (hk : k ≤ 8) :
    Carried w x ct (288 * (8 - k)) (st_k0_t1 (F := Ideal) 𝒱 c bd i arg2 harg2 arg3 harg3 arg4 harg4 arg5 harg5 arg6 harg6 v0 X2 X4 (k0_pay3, k0_pay2, k0_pay2, k0_pay2) k).1 ∧
    ∀ p ∈ (st_k0_t1 (F := Ideal) 𝒱 c bd i arg2 harg2 arg3 harg3 arg4 harg4 arg5 harg5 arg6 harg6 v0 X2 X4 (k0_pay3, k0_pay2, k0_pay2, k0_pay2) k).2, ∀ y, p.2 y = atInput w x ct (p.1.emb y) := by
  induction k with
  | zero =>
    refine ⟨?_, fun p hp => by simp [st_k0_t1] at hp⟩
    rw [st_k0_t1_zero]
    refine ⟨fun a b => ?_, fun a b => ?_, fun a b => ?_, fun a b => ?_⟩
    · rw [dconv_zero 256 w x ct _ _ (fun q => h0 _ q (by omega))]; pointwise [k0_pay3]; rfl
    all_goals rw [dtap]; pointwise [k0_pay2]; simp
  | succ k ih =>
    obtain ⟨i1, i2⟩ := ih (by omega)
    have hs := st_k0_t1_succ (F := Ideal) 𝒱 c bd i arg2 harg2 arg3 harg3 arg4 harg4 arg5 harg5 arg6 harg6 v0 X2 X4 (k0_pay3, k0_pay2, k0_pay2, k0_pay2) ⟨k, trips_eq ▸ (by omega)⟩
    dsimp only at hs
    rw [hs]
    have i3 : Carried w x ct (288 * (7 - k) + 288) (st_k0_t1 (F := Ideal) 𝒱 c bd i arg2 harg2 arg3 harg3 arg4 harg4 arg5 harg5 arg6 harg6 v0 X2 X4 (k0_pay3, k0_pay2, k0_pay2, k0_pay2) k).1 := by
      rw [show 288 * (7 - k) + 288 = 288 * (8 - k) by omega]; exact i1
    refine ⟨?_, fun p hp => ?_⟩
    · rw [show 288 * (8 - (k + 1)) = 288 * (7 - k) by omega]
      exact trip_carried 𝒱 c bd i arg2 harg2 arg3 harg3 arg4 harg4 arg5 harg5 arg6 harg6 v0 X2 X4 w x ct hw hx hc ⟨k, trips_eq ▸ (by omega)⟩ _ i3
    · rcases List.mem_append.mp hp with hp | hp
      · exact trip_pieces 𝒱 c bd i arg2 harg2 arg3 harg3 arg4 harg4 arg5 harg5 arg6 harg6 v0 X2 X4 w x ct hw hx hc ⟨k, trips_eq ▸ (by omega)⟩ _ i3 p hp
      · exact i2 p hp

end Trip

end Cert.ConvGlu

end
-- ==== Proof.ConvCase.lean ====
/- What one point of the grid leaves in the two output blocks. -/
module

public import proofs.«01_k».proof.Proof.ConvLoop

@[expose] public section

set_option maxRecDepth 16384

noncomputable section

namespace Cert.ConvGlu

open Cert.KernelIdeal Cert.KernelIdeal.Gen Idealize.ShloMosaic Idealize.ShloMosaic.TcCoe Idealize.SL.Sem

section Case

variable (c : Dev nD) (i : grid0.Coords)
  (arg2 : Memref sig .tc .vmem S2304x512 .f32) (harg2 : arg2.IsWhole) (arg3 : Memref sig .tc .vmem S3x512 .f32) (harg3 : arg3.IsWhole)
  (arg4 : Memref sig .tc .vmem S2304x256 .f32) (harg4 : arg4.IsWhole) (arg5 : Memref sig .tc .vmem S2304x512 .bf16) (harg5 : arg5.IsWhole)
  (arg6 : Memref sig .tc .vmem S3x512 .f32) (harg6 : arg6.IsWhole)
  (x0 : Vec Ideal S2304x512 .f32) (x1 : Vec Ideal S3x512 .f32) (x2 : Vec Ideal S2304x256 .f32)
  (w x ct : ℕ → ℕ → ℝ)
  (hx : ∀ (a : Fin 2304) (b : Fin 512), x0 (ix2 a b) = ((x a.val b.val : ℝ) : EReal))
  (hw : ∀ (a : Fin 3) (b : Fin 512), x1 (ix2 a b) = ((w a.val b.val : ℝ) : EReal))
  (hc : ∀ (a : Fin 2304) (b : Fin 256), x2 (ix2 a b) = ((ct a.val b.val : ℝ) : EReal))
  (h0 : ∀ t q, 2304 ≤ t → ct t q = 0)

theorem hz : (![0, 0] : Fin 2 → Nat) = fun _ => 0 := funext fun a => by fin_cases a <;> rfl

theorem pay11_apply (p2 p1 p0 : FVec Ideal S1x512 .f32) (old : Vec Ideal S3x512 .f32) (o : ℝ) (a : Fin 3) (b : Fin 512)
    (h2 : ∀ (a : Fin 1) (b : Fin 512), p2 (ix2 a b) = ((dtap 256 w x ct 2 0 2304 b.val : ℝ) : EReal))
    (h1 : ∀ (a : Fin 1) (b : Fin 512), p1 (ix2 a b) = ((dtap 256 w x ct 1 0 2304 b.val : ℝ) : EReal))
    (h0 : ∀ (a : Fin 1) (b : Fin 512), p0 (ix2 a b) = ((dtap 256 w x ct 0 0 2304 b.val : ℝ) : EReal))
    (ho : old (ix2 a b) = (o : EReal)) :
    k0_pay11 p2 p1 p0 old (ix2 a b) = ((o + dtap 256 w x ct (2 - a.val) 0 2304 b.val : ℝ) : EReal) := by
  pointwise [k0_pay11]
  rw [ho, EReal.coe_add]
  congr 1
  fin_cases a
  · exact h2 _ _
  · exact h1 _ _
  · exact h0 _ _

include hw in
theorem weights_apply (a : Fin 3) (b : Fin 512) :
    View.readAt (Elt Ideal) arg3.view (Rect.unit (s := S3x512) ![0, 0] ![3, 512] inb_S3x512_S3x512_0_0).toLoadRect (harg3.unread x1) (ix2 a b)
      = ((w a.val b.val : ℝ) : EReal) := by
  refine (readAt_rows arg3 (harg3.unread x1) ![0, 0] inb_S3x512_S3x512_0_0 0 rfl a b (by omega)).trans ?_
  rw [harg3.read_unread]
  refine (hw _ _).trans ?_
  simp

include hx hw hc h0 in
/-- The loop's result over the blocks. -/
theorem loop_result :
    Carried w x ct 0 (st_k0_t1 (F := Ideal) Variants.none c none i arg2 harg2 arg3 harg3 arg4 harg4 arg5 harg5 arg6 harg6 (View.readAt (Elt Ideal) arg3.view (Rect.unit (s := S3x512) ![0, 0] ![3, 512] inb_S3x512_S3x512_0_0).toLoadRect (harg3.unread x1))
      (harg2.unread x0) (harg4.unread x2) (k0_pay3, k0_pay2, k0_pay2, k0_pay2) (Scf.trips 0#32 (Scalar.addi 0#32 8#32) 1#32)).1 ∧
    ∀ p ∈ (st_k0_t1 (F := Ideal) Variants.none c none i arg2 harg2 arg3 harg3 arg4 harg4 arg5 harg5 arg6 harg6 (View.readAt (Elt Ideal) arg3.view (Rect.unit (s := S3x512) ![0, 0] ![3, 512] inb_S3x512_S3x512_0_0).toLoadRect (harg3.unread x1))
      (harg2.unread x0) (harg4.unread x2) (k0_pay3, k0_pay2, k0_pay2, k0_pay2) (Scf.trips 0#32 (Scalar.addi 0#32 8#32) 1#32)).2, ∀ y, p.2 y = atInput w x ct (p.1.emb y) :=
  state Variants.none c none i arg2 harg2 arg3 harg3 arg4 harg4 arg5 harg5 arg6 harg6 _ _ _ w x ct (weights_apply arg3 harg3 x1 w hw)
    (fun a b => by rw [harg2.read_unread]; exact hx a b) (fun a b => by rw [harg4.read_unread]; exact hc a b) h0 8 (le_refl 8)

include hx hw hc h0 in
theorem out_A_3 (hc0 : cond0_0 i) (y : S2304x512.Idx) :
    out0_A_3 (F := Ideal) c i arg2 harg2 arg3 harg3 arg4 harg4 arg5 harg5 arg6 harg6 hc0 x0 x1 x2 y = atInput w x ct y := by
  unfold out0_A_3
  have hcov := cover0_A_3 (F := Ideal) c i arg2 harg2 arg3 harg3 arg4 harg4 arg5 harg5 arg6 harg6 hc0 x0 x1 x2
  rw [View.read_writes_eq_canon _ _ _ hcov]
  refine View.canon_apply_of_pieces (atInput w x ct) _ ?_ y (hcov y)
  unfold kernelRun0_A
  dsimp only
  sl_unfold_words
  exact (loop_result c i arg2 harg2 arg3 harg3 arg4 harg4 arg5 harg5 arg6 harg6 x0 x1 x2 w x ct hx hw hc h0).2

include hx hw hc h0 in
theorem out_A_4 (hc0 : cond0_0 i) (a : Fin 3) (b : Fin 512) :
    out0_A_4 (F := Ideal) c i arg2 harg2 arg3 harg3 arg4 harg4 arg5 harg5 arg6 harg6 hc0 x0 x1 x2 (ix2 a b) = ((dtap 256 w x ct (2 - a.val) 0 2304 b.val : ℝ) : EReal) := by
  unfold out0_A_4
  have hcov := cover0_A_4 (F := Ideal) c i arg2 harg2 arg3 harg3 arg4 harg4 arg5 harg5 arg6 harg6 hc0 x0 x1 x2
  rw [View.read_writes_eq_canon _ _ _ hcov]
  unfold kernelRun0_A
  dsimp only
  sl_unfold_words
  refine (congrFun (View.canon_cons_unit_zero hz _ _ _) (ix2 a b)).trans ?_
  have hl := (loop_result c i arg2 harg2 arg3 harg3 arg4 harg4 arg5 harg5 arg6 harg6 x0 x1 x2 w x ct hx hw hc h0).1
  rw [View.readCov_unit_zero _ hz]
  refine (pay11_apply w x ct _ _ _ _ 0 a b hl.2.1 hl.2.2.1 hl.2.2.2 ?_).trans ?_
  · pointwise [k0_pay10]; rfl
  · rw [zero_add]

include hx hw hc h0 in
theorem out_B_3 (hc0 : ¬cond0_0 i) (xo : Vec Ideal S3x512 .f32) (y : S2304x512.Idx) :
    out0_B_3 (F := Ideal) c i arg2 harg2 arg3 harg3 arg4 harg4 arg5 harg5 arg6 harg6 hc0 x0 x1 x2 xo y = atInput w x ct y := by
  unfold out0_B_3
  have hcov := cover0_B_3 (F := Ideal) c i arg2 harg2 arg3 harg3 arg4 harg4 arg5 harg5 arg6 harg6 hc0 x0 x1 x2 xo
  rw [View.read_writes_eq_canon _ _ _ hcov]
  refine View.canon_apply_of_pieces (atInput w x ct) _ ?_ y (hcov y)
  unfold kernelRun0_B
  dsimp only
  sl_unfold_words
  exact (loop_result c i arg2 harg2 arg3 harg3 arg4 harg4 arg5 harg5 arg6 harg6 x0 x1 x2 w x ct hx hw hc h0).2

include hx hw hc h0 in
theorem out_B_4 (hc0 : ¬cond0_0 i) (xo : Vec Ideal S3x512 .f32) (a : Fin 3) (b : Fin 512) (o : ℝ) (ho : xo (ix2 a b) = (o : EReal)) :
    out0_B_4 (F := Ideal) c i arg2 harg2 arg3 harg3 arg4 harg4 arg5 harg5 arg6 harg6 hc0 x0 x1 x2 xo (ix2 a b) = ((o + dtap 256 w x ct (2 - a.val) 0 2304 b.val : ℝ) : EReal) := by
  unfold out0_B_4
  have hcov := cover0_B_4 (F := Ideal) c i arg2 harg2 arg3 harg3 arg4 harg4 arg5 harg5 arg6 harg6 hc0 x0 x1 x2 xo
  rw [View.read_writes_eq_canon _ _ _ hcov]
  unfold kernelRun0_B
  dsimp only
  sl_unfold_words
  refine (congrFun (View.canon_cons_unit_zero hz _ _ _) (ix2 a b)).trans ?_
  have hl := (loop_result c i arg2 harg2 arg3 harg3 arg4 harg4 arg5 harg5 arg6 harg6 x0 x1 x2 w x ct hx hw hc h0).1
  refine pay11_apply w x ct _ _ _ _ o a b hl.2.1 hl.2.2.1 hl.2.2.2 ?_
  refine (readAt_rows arg6 (harg6.unread xo) ![0, 0] inb_S3x512_S3x512_0_0 0 rfl a b (by omega)).trans ?_
  rw [harg6.read_unread, ← ho]
  congr 1; simp

end Case

end Cert.ConvGlu

end
-- ==== Proof.ConvHost.lean ====
/- What the region finds in its input arrays: the arguments padded and their columns interleaved. -/
module

public import proofs.«01_k».proof.Proof.ConvCase

@[expose] public section

set_option maxRecDepth 16384

noncomputable section

namespace Cert.ConvGlu

open Cert.KernelIdeal Cert.KernelIdeal.Gen Idealize.ShloMosaic Idealize.ShloMosaic.TcCoe Idealize.SL.Sem

variable (m : (ℓ : Loc nD τ sig) → Buf (Elt Ideal) ℓ)

/-- The padding value. -/
abbrev padValue : FVec Ideal S_ .f32 := sitofp (F := Ideal) .f32 (constantI S_ 32 0#32)

theorem V_w (c : Dev nD) : V m c main_v2
    = shapeCast S3x5632 (transpose S3x11x2x256 [0, 2, 1, 3] (shapeCast S3x2x11x256 (m ((c : Thread nD τ).loc main_arg1) : Vec Ideal S3x5632 .f32) shapeCasts_S3x5632_S3x2x11x256)
        transposes_S3x2x11x256_S3x11x2x256_0_2_1_3) shapeCasts_S3x11x2x256_S3x5632 := by
  unfold_abbrev_sides
  after_results
  rfl

theorem V_x (c : Dev nD) : V m c main_v7
    = shapeCast S9216x5632 (pad (s := S4x2064x5632) (α := EReal) S4x2304x5632 ![0, 0, 0] ![0, 240, 0] ![0, 0, 0]
        (shapeCast S4x2064x5632 (transpose S4x2064x11x2x256 [0, 1, 3, 2, 4] (shapeCast S4x2064x2x11x256 (m ((c : Thread nD τ).loc main_arg0) : Vec Ideal S4x2064x5632 .f32) shapeCasts_S4x2064x5632_S4x2064x2x11x256)
          transposes_S4x2064x2x11x256_S4x2064x11x2x256_0_1_3_2_4) shapeCasts_S4x2064x11x2x256_S4x2064x5632)
        padValue pads_S4x2064x5632_S4x2304x5632_000_02400_000) shapeCasts_S4x2304x5632_S9216x5632 := by
  unfold_abbrev_sides
  after_results
  rfl

theorem V_c (c : Dev nD) : (V m c main_v9 : Vec Ideal S9216x2816 .f32)
    = shapeCast S9216x2816 (pad (s := S4x2064x2816) (α := EReal) S4x2304x2816 ![0, 0, 0] ![0, 240, 0] ![0, 0, 0]
        (m ((c : Thread nD τ).loc main_arg2) : Vec Ideal S4x2064x2816 .f32)
        padValue pads_S4x2064x2816_S4x2304x2816_000_02400_000) shapeCasts_S4x2304x2816_S9216x2816 := by
  unfold_abbrev_sides
  simp only [hostOps0, hostOps0_1, hostOps0_2, hostOps0_3, hostOps0_4, List.flatten_cons, List.flatten_nil, List.append_nil, List.cons_append,
    List.nil_append, StableHlo.after_cons, StableHlo.after_nil]
  rfl

theorem padValue_eq : FloatOps.sitofp (F := Ideal) FTy.f32 (0#32) = (0 : EReal) := by
  show (((0#32 : BitVec 32).toInt : ℝ) : EReal) = 0
  simp

theorem col_eq (q : ℕ) (hq : q < 5632) : q / 256 % 2 * 2816 + q / 512 * 256 + q % 256 = col 2816 (q / 512) (q % 512) := by
  unfold col; split_ifs <;> omega

theorem padded_x (a0 : Vec Ideal S4x2064x5632 .f32) (r : Fin 9216) (q : Fin 5632) :
    shapeCast S9216x5632 (pad (s := S4x2064x5632) (α := EReal) S4x2304x5632 ![0, 0, 0] ![0, 240, 0] ![0, 0, 0]
        (shapeCast S4x2064x5632 (transpose S4x2064x11x2x256 [0, 1, 3, 2, 4] (shapeCast S4x2064x2x11x256 a0 shapeCasts_S4x2064x5632_S4x2064x2x11x256)
          transposes_S4x2064x2x11x256_S4x2064x11x2x256_0_1_3_2_4) shapeCasts_S4x2064x11x2x256_S4x2064x5632)
        padValue pads_S4x2064x5632_S4x2304x5632_000_02400_000) shapeCasts_S4x2304x5632_S9216x5632 (ix2 r q)
      = if h : r.val / 2304 < 4 ∧ r.val % 2304 < 2064 then
          a0 (ix3 ⟨r.val / 2304, h.1⟩ ⟨r.val % 2304, h.2⟩ ⟨q.val / 256 % 2 * 2816 + q.val / 512 * 256 + q.val % 256, by omega⟩)
        else FloatOps.sitofp (F := Ideal) FTy.f32 (0#32) := by
  pointwise

variable (c : Dev nD) (X : ℕ → ℕ → ℕ → ℝ) (W : ℕ → ℕ → ℝ) (C : ℕ → ℕ → ℕ → ℝ)
  (hX : ∀ (s : Fin 4) (t : Fin 2064) (q : Fin 5632), (m ((c : Thread nD τ).loc main_arg0) : Vec Ideal S4x2064x5632 .f32) (ix3 s t q) = ((X s.val t.val q.val : ℝ) : EReal))
  (hW : ∀ (a : Fin 3) (q : Fin 5632), (m ((c : Thread nD τ).loc main_arg1) : Vec Ideal S3x5632 .f32) (ix2 a q) = ((W a.val q.val : ℝ) : EReal))
  (hC : ∀ (s : Fin 4) (t : Fin 2064) (q : Fin 2816), (m ((c : Thread nD τ).loc main_arg2) : Vec Ideal S4x2064x2816 .f32) (ix3 s t q) = ((C s.val t.val q.val : ℝ) : EReal))
  (hX0 : ∀ s t q, 2064 ≤ t → X s t q = 0) (hC0 : ∀ s t q, 2064 ≤ t → C s t q = 0)

include hW in
theorem host_w (a : Fin 3) (q : Fin 5632) :
    (V m c main_v2 : Vec Ideal S3x5632 .f32) (ix2 a q) = ((W a.val (col 2816 (q.val / 512) (q.val % 512)) : ℝ) : EReal) := by
  rw [V_w, ← col_eq _ q.isLt]
  pointwise
  exact hW _ _

include hX hX0 in
theorem host_x (r : Fin 9216) (q : Fin 5632) :
    (V m c main_v7 : Vec Ideal S9216x5632 .f32) (ix2 r q) = ((X (r.val / 2304) (r.val % 2304) (col 2816 (q.val / 512) (q.val % 512)) : ℝ) : EReal) := by
  rw [V_x, ← col_eq _ q.isLt]
  refine (padded_x _ r q).trans ?_
  by_cases h : r.val / 2304 < 4 ∧ r.val % 2304 < 2064
  · rw [dif_pos h]; exact hX ⟨_, h.1⟩ ⟨_, h.2⟩ _
  · rw [dif_neg h, hX0 _ _ _ (by omega)]; exact padValue_eq

include hC hC0 in
theorem host_c (r : Fin 9216) (q : Fin 2816) :
    (V m c main_v9 : Vec Ideal S9216x2816 .f32) (ix2 r q) = ((C (r.val / 2304) (r.val % 2304) q.val : ℝ) : EReal) := by
  rw [V_c]
  by_cases h : r.val / 2304 < 4 ∧ r.val % 2304 < 2064
  · pointwise
    rw [dif_pos h]
    exact hC _ _ _
  · rw [hC0 _ _ _ (by omega)]
    pointwise
    rw [dif_neg h]
    exact padValue_eq

end Cert.ConvGlu

end
-- ==== Proof.ConvArray.lean ====
/- The kernel's two result arrays, entry by entry. -/
module

public import proofs.«01_k».proof.Proof.ConvHost

@[expose] public section

set_option maxRecDepth 16384

noncomputable section

namespace Cert.ConvGlu

open Cert.KernelIdeal Cert.KernelIdeal.Gen Idealize.ShloMosaic Idealize.ShloMosaic.TcCoe Idealize.SL.Sem

/-! The grid: point `t` is column block `t / 4` of sequence `t % 4`. -/

theorem index_x : ∀ t : Fin grid0.N, win0_0.index t 0 = t.val % 4 ∧ win0_0.index t 1 = t.val / 4 := by decide +kernel
theorem index_w : ∀ t : Fin grid0.N, win0_1.index t 0 = 0 ∧ win0_1.index t 1 = t.val / 4 := by decide +kernel
theorem index_c : ∀ t : Fin grid0.N, win0_2.index t 0 = t.val % 4 ∧ win0_2.index t 1 = t.val / 4 := by decide +kernel
theorem index_du : ∀ t : Fin grid0.N, win0_3.index t 0 = t.val % 4 ∧ win0_3.index t 1 = t.val / 4 := by decide +kernel
theorem index_dw : ∀ t : Fin grid0.N, win0_4.index t 0 = 0 ∧ win0_4.index t 1 = t.val / 4 := by decide +kernel

variable (m : (ℓ : Loc nD τ sig) → Buf (Elt Ideal) ℓ)

theorem block_x (c : Dev nD) (t : Fin cfg0.N) (a : Fin 2304) (b : Fin 512) :
    (iblk m c 0 t : Vec Ideal S2304x512 .f32) (ix2 a b)
      = (V m c main_v7 : Vec Ideal S9216x5632 .f32) (ix2 ⟨2304 * (t.val % 4) + a.val, by omega⟩
          ⟨512 * (t.val / 4) + b.val, by have h : t.val < 44 := lt_of_lt_of_eq t.isLt N_0; omega⟩) := by
  have hi := index_x t
  unfold iblk
  rw [View.read_apply]
  show V m c main_v7 _ = V m c main_v7 _
  congr 1
  funext d
  apply Fin.ext
  match d with
  | ⟨0, _⟩ => show win0_0.index t 0 * 2304 + 1 * a.val = 2304 * (t.val % 4) + a.val; rw [hi.1]; omega
  | ⟨1, _⟩ => show win0_0.index t 1 * 512 + 1 * b.val = 512 * (t.val / 4) + b.val; rw [hi.2]; omega

theorem block_w (c : Dev nD) (t : Fin cfg0.N) (a : Fin 3) (b : Fin 512) :
    (iblk m c 1 t : Vec Ideal S3x512 .f32) (ix2 a b)
      = (V m c main_v2 : Vec Ideal S3x5632 .f32) (ix2 a
          ⟨512 * (t.val / 4) + b.val, by have h : t.val < 44 := lt_of_lt_of_eq t.isLt N_0; omega⟩) := by
  have hi := index_w t
  unfold iblk
  rw [View.read_apply]
  show V m c main_v2 _ = V m c main_v2 _
  congr 1
  funext d
  apply Fin.ext
  match d with
  | ⟨0, _⟩ => show win0_1.index t 0 * 3 + 1 * a.val = a.val; rw [hi.1]; omega
  | ⟨1, _⟩ => show win0_1.index t 1 * 512 + 1 * b.val = 512 * (t.val / 4) + b.val; rw [hi.2]; omega

theorem block_c (c : Dev nD) (t : Fin cfg0.N) (a : Fin 2304) (b : Fin 256) :
    (iblk m c 2 t : Vec Ideal S2304x256 .f32) (ix2 a b)
      = (V m c main_v9 : Vec Ideal S9216x2816 .f32) (ix2 ⟨2304 * (t.val % 4) + a.val, by omega⟩
          ⟨256 * (t.val / 4) + b.val, by have h : t.val < 44 := lt_of_lt_of_eq t.isLt N_0; omega⟩) := by
  have hi := index_c t
  unfold iblk
  rw [View.read_apply]
  show V m c main_v9 _ = V m c main_v9 _
  congr 1
  funext d
  apply Fin.ext
  match d with
  | ⟨0, _⟩ => show win0_2.index t 0 * 2304 + 1 * a.val = 2304 * (t.val % 4) + a.val; rw [hi.1]; omega
  | ⟨1, _⟩ => show win0_2.index t 1 * 256 + 1 * b.val = 256 * (t.val / 4) + b.val; rw [hi.2]; omega

variable (c : Dev nD) (X : ℕ → ℕ → ℕ → ℝ) (W : ℕ → ℕ → ℝ) (C : ℕ → ℕ → ℕ → ℝ)
  (hX : ∀ (s : Fin 4) (t : Fin 2064) (q : Fin 5632), (m ((c : Thread nD τ).loc main_arg0) : Vec Ideal S4x2064x5632 .f32) (ix3 s t q) = ((X s.val t.val q.val : ℝ) : EReal))
  (hW : ∀ (a : Fin 3) (q : Fin 5632), (m ((c : Thread nD τ).loc main_arg1) : Vec Ideal S3x5632 .f32) (ix2 a q) = ((W a.val q.val : ℝ) : EReal))
  (hC : ∀ (s : Fin 4) (t : Fin 2064) (q : Fin 2816), (m ((c : Thread nD τ).loc main_arg2) : Vec Ideal S4x2064x2816 .f32) (ix3 s t q) = ((C s.val t.val q.val : ℝ) : EReal))
  (hX0 : ∀ s t q, 2064 ≤ t → X s t q = 0) (hC0 : ∀ s t q, 2064 ≤ t → C s t q = 0)

/-- A point's input, weights and incoming gradient. -/
def ptX (t t' q : ℕ) : ℝ := X (t % 4) t' (col 2816 (t / 4) q)
def ptW (t k q : ℕ) : ℝ := W k (col 2816 (t / 4) q)
def ptC (t t' q : ℕ) : ℝ := C (t % 4) t' (256 * (t / 4) + q)

include hX hX0 in
theorem pt_x (t : Fin cfg0.N) (a : Fin 2304) (b : Fin 512) :
    (iblk m c 0 t : Vec Ideal S2304x512 .f32) (ix2 a b) = ((ptX X t.val a.val b.val : ℝ) : EReal) := by
  rw [block_x, host_x m c X hX hX0]
  unfold ptX
  dsimp only
  rw [show (2304 * (t.val % 4) + a.val) / 2304 = t.val % 4 by omega, show (2304 * (t.val % 4) + a.val) % 2304 = a.val by omega,
    show (512 * (t.val / 4) + b.val) / 512 = t.val / 4 by omega, show (512 * (t.val / 4) + b.val) % 512 = b.val by omega]

include hW in
theorem pt_w (t : Fin cfg0.N) (a : Fin 3) (b : Fin 512) :
    (iblk m c 1 t : Vec Ideal S3x512 .f32) (ix2 a b) = ((ptW W t.val a.val b.val : ℝ) : EReal) := by
  rw [block_w, host_w m c W hW]
  unfold ptW
  dsimp only
  rw [show (512 * (t.val / 4) + b.val) / 512 = t.val / 4 by omega, show (512 * (t.val / 4) + b.val) % 512 = b.val by omega]

include hC hC0 in
theorem pt_c (t : Fin cfg0.N) (a : Fin 2304) (b : Fin 256) :
    (iblk m c 2 t : Vec Ideal S2304x256 .f32) (ix2 a b) = ((ptC C t.val a.val b.val : ℝ) : EReal) := by
  rw [block_c, host_c m c C hC hC0]
  unfold ptC
  dsimp only
  rw [show (2304 * (t.val % 4) + a.val) / 2304 = t.val % 4 by omega, show (2304 * (t.val % 4) + a.val) % 2304 = a.val by omega]

include hC0 in
theorem ptC_zero (t t' q : ℕ) (h : 2304 ≤ t') : ptC C t t' q = 0 := hC0 _ _ _ (by omega)

theorem pt_dinp (t : Fin cfg0.N) (t' q : ℕ) (hq : q < 512) :
    dinp 256 (ptW W t.val) (ptX X t.val) (ptC C t.val) t' q = dinp 2816 W (X (t.val % 4)) (C (t.val % 4)) t' (col 2816 (t.val / 4) q) := by
  have h : t.val < 44 := lt_of_lt_of_eq t.isLt N_0
  exact dinp_cols 2816 (t.val / 4) (by omega) W (X (t.val % 4)) (C (t.val % 4)) t' q hq

theorem pt_dtap (t : Fin cfg0.N) (n q : ℕ) (hq : q < 512) :
    dtap 256 (ptW W t.val) (ptX X t.val) (ptC C t.val) n 0 2304 q = dtap 2816 W (X (t.val % 4)) (C (t.val % 4)) n 0 2304 (col 2816 (t.val / 4) q) := by
  have h : t.val < 44 := lt_of_lt_of_eq t.isLt N_0
  exact dtap_cols 2816 (t.val / 4) (by omega) W (X (t.val % 4)) (C (t.val % 4)) n 0 2304 q hq

include hX hW hC hX0 hC0 in
/-- What a point leaves in the block of the input's gradient. -/
theorem after_du (t : Fin cfg0.N) (y : S2304x512.Idx) :
    (outsAt0 m c t.val t.isLt).1 y
      = ((dinp 2816 W (X (t.val % 4)) (C (t.val % 4)) (y 0).val (col 2816 (t.val / 4) (y 1).val) : ℝ) : EReal) := by
  have e : (outsAt0 m c t.val t.isLt).1 y = atInput (ptW W t.val) (ptX X t.val) (ptC C t.val) y := by
    by_cases h0 : t.val % 4 = 0
    · rw [outsAt0_A m c t h0]
      exact out_A_3 _ _ _ _ _ _ _ _ _ _ _ _ _ _ _ _ _ _ (pt_x m c X hX hX0 t) (pt_w m c W hW t) (pt_c m c C hC hC0 t)
        (fun t' q h => ptC_zero C hC0 t.val t' q h) _ y
    · rw [outsAt0_B m c t h0]
      exact out_B_3 _ _ _ _ _ _ _ _ _ _ _ _ _ _ _ _ _ _ (pt_x m c X hX hX0 t) (pt_w m c W hW t) (pt_c m c C hC hC0 t)
        (fun t' q h => ptC_zero C hC0 t.val t' q h) _ _ y
  rw [e]
  unfold atInput
  rw [pt_dinp X W C t _ _ (y 1).isLt]

include hX hW hC hX0 hC0 in
theorem after_dw_first (t : Fin cfg0.N) (h0 : t.val % 4 = 0) (a : Fin 3) (b : Fin 512) :
    (outsAt0 m c t.val t.isLt).2 (ix2 a b) = ((dtap 2816 W (X (t.val % 4)) (C (t.val % 4)) (2 - a.val) 0 2304 (col 2816 (t.val / 4) b.val) : ℝ) : EReal) := by
  rw [outsAt0_A m c t h0, ← pt_dtap X W C t _ _ b.isLt]
  dsimp only
  exact out_A_4 _ _ _ _ _ _ _ _ _ _ _ _ _ _ _ (ptW W t.val) (ptX X t.val) (ptC C t.val) (pt_x m c X hX hX0 t) (pt_w m c W hW t) (pt_c m c C hC hC0 t)
    (fun t' q h => ptC_zero C hC0 t.val t' q h) _ a b

include hX hW hC hX0 hC0 in
theorem after_dw_next (t : Fin cfg0.N) (h0 : ¬t.val % 4 = 0) (a : Fin 3) (b : Fin 512) (o : ℝ)
    (ho : (outsAt0 m c (t.val - 1) (Nat.lt_of_le_of_lt (Nat.sub_le _ _) t.isLt)).2 (ix2 a b) = (o : EReal)) :
    (outsAt0 m c t.val t.isLt).2 (ix2 a b) = ((o + dtap 2816 W (X (t.val % 4)) (C (t.val % 4)) (2 - a.val) 0 2304 (col 2816 (t.val / 4) b.val) : ℝ) : EReal) := by
  rw [outsAt0_B m c t h0, ← pt_dtap X W C t _ _ b.isLt]
  dsimp only
  exact out_B_4 _ _ _ _ _ _ _ _ _ _ _ _ _ _ _ (ptW W t.val) (ptX X t.val) (ptC C t.val) (pt_x m c X hX hX0 t) (pt_w m c W hW t) (pt_c m c C hC hC0 t)
    (fun t' q h => ptC_zero C hC0 t.val t' q h) _ _ a b o ho

/-- A tap's gradient over the first sequences. -/
def taps (n N q : ℕ) : ℝ := ∑ s ∈ Finset.range N, dtap 2816 W (X s) (C s) n 0 2304 q

include hX hW hC hX0 hC0 in
/-- What a point leaves in the block of the weights' gradient: the sum over the sequences so far. -/
theorem after_dw (n : ℕ) : ∀ (h : n < cfg0.N) (a : Fin 3) (b : Fin 512),
    (outsAt0 m c n h).2 (ix2 a b) = ((taps X W C (2 - a.val) (n % 4 + 1) (col 2816 (n / 4) b.val) : ℝ) : EReal) := by
  induction n with
  | zero =>
    intro h a b
    refine (after_dw_first m c X W C hX hW hC hX0 hC0 ⟨0, h⟩ rfl a b).trans ?_
    dsimp only
    unfold taps
    rw [show 0 % 4 + 1 = 1 from rfl, Finset.sum_range_one]
  | succ n ih =>
    intro h a b
    by_cases h0 : (n + 1) % 4 = 0
    · refine (after_dw_first m c X W C hX hW hC hX0 hC0 ⟨n + 1, h⟩ h0 a b).trans ?_
      dsimp only
      unfold taps
      rw [h0, Finset.sum_range_one]
    · refine (after_dw_next m c X W C hX hW hC hX0 hC0 ⟨n + 1, h⟩ h0 a b _ (ih _ a b)).trans ?_
      dsimp only
      rw [show (n + 1) / 4 = n / 4 by omega, show (n + 1) % 4 = n % 4 + 1 by omega]
      unfold taps
      rw [Finset.sum_range_succ _ (n % 4 + 1)]

/-- The input's gradient in the blocked layout. -/
def arrDu : Vec Ideal S9216x5632 .bf16 := fun i =>
  ((dinp 2816 W (X ((i 0).val / 2304)) (C ((i 0).val / 2304)) ((i 0).val % 2304) (col 2816 ((i 1).val / 512) ((i 1).val % 512)) : ℝ) : EReal)

/-- The weights' gradient in the blocked layout. -/
def arrDw : Vec Ideal S3x5632 .f32 := fun i =>
  ((taps X W C (2 - (i 0).val) 4 (col 2816 ((i 1).val / 512) ((i 1).val % 512)) : ℝ) : EReal)

theorem arrDu_at (i : S9216x5632.Idx) (s j a b : ℕ) (h0 : (i 0).val = 2304 * s + a) (h1 : (i 1).val = 512 * j + b) (ha : a < 2304) (hb : b < 512) :
    arrDu X W C i = ((dinp 2816 W (X s) (C s) a (col 2816 j b) : ℝ) : EReal) := by
  unfold arrDu
  rw [h0, h1, show (2304 * s + a) / 2304 = s by omega, show (2304 * s + a) % 2304 = a by omega,
    show (512 * j + b) / 512 = j by omega, show (512 * j + b) % 512 = b by omega]

theorem arrDw_at (i : S3x5632.Idx) (j a b : ℕ) (h0 : (i 0).val = a) (h1 : (i 1).val = 512 * j + b) (hb : b < 512) :
    arrDw X W C i = ((taps X W C (2 - a) 4 (col 2816 j b) : ℝ) : EReal) := by
  unfold arrDw
  rw [h0, h1, show (512 * j + b) / 512 = j by omega, show (512 * j + b) % 512 = b by omega]

include hX hW hC hX0 hC0 in
theorem final_du : (dats m 0 c).arrAt 3 cfg0.N = arrDu X W C := by
  refine (dats m 0 c).arrAt_eq_of_cover 3 (arrDu X W C : Vec Ideal S9216x5632 .bf16) (fun t hf => ?_) fun i => ?_
  · show (cfg0.win 3).cut (grid0.coords t) ((dats m 0 c).after 3 t) = _
    rw [after0_3]
    have hi := index_du t
    funext y
    rw [View.read_apply]
    refine (after_du m c X W C hX hW hC hX0 hC0 t y).trans (arrDu_at X W C _ _ _ _ _ ?_ ?_ (y 0).isLt (y 1).isLt).symm
    · show win0_3.index t 0 * 2304 + 1 * (y 0).val = _; rw [hi.1]; omega
    · show win0_3.index t 1 * 512 + 1 * (y 1).val = _; rw [hi.2]; omega
  · have h0 : (i 0).val < 9216 := (i 0).isLt
    have h1 : (i 1).val < 5632 := (i 1).isLt
    have hN : 4 * ((i 1).val / 512) + (i 0).val / 2304 < cfg0.N := lt_of_lt_of_eq (by omega) N_0.symm
    have hi := index_du ⟨_, hN⟩
    dsimp only at hi
    refine ⟨⟨_, hN⟩, flush0_3 _, ?_⟩
    show i ∈ ((View.whole main_v10_0).slice (win0_3.rect ⟨_, hN⟩)).set
    rw [View.set_slice_whole, Rect.mem_set_unit]
    intro d
    match d with
    | ⟨0, _⟩ => show win0_3.index ⟨_, hN⟩ 0 * 2304 ≤ (i 0).val ∧ (i 0).val < win0_3.index ⟨_, hN⟩ 0 * 2304 + 2304
                rw [hi.1]; omega
    | ⟨1, _⟩ => show win0_3.index ⟨_, hN⟩ 1 * 512 ≤ (i 1).val ∧ (i 1).val < win0_3.index ⟨_, hN⟩ 1 * 512 + 512
                rw [hi.2]; omega

include hX hW hC hX0 hC0 in
theorem final_dw : (dats m 0 c).arrAt 4 cfg0.N = arrDw X W C := by
  refine (dats m 0 c).arrAt_eq_of_cover 4 (arrDw X W C : Vec Ideal S3x5632 .f32) (fun t hf => ?_) fun i => ?_
  · show (cfg0.win 4).cut (grid0.coords t) ((dats m 0 c).after 4 t) = _
    rw [after0_4]
    have hi := index_dw t
    have h3 := (flush0_4 t).mp hf
    funext y
    rw [View.read_apply]
    obtain ⟨a, b, rfl⟩ : ∃ (a : Fin 3) (b : Fin 512), y = ix2 a b := ⟨y 0, y 1, by funext d; fin_cases d <;> rfl⟩
    refine (after_dw m c X W C hX hW hC hX0 hC0 t.val t.isLt a b).trans ?_
    rw [h3]
    refine (arrDw_at X W C _ (t.val / 4) a.val b.val ?_ ?_ b.isLt).symm
    · show win0_4.index t 0 * 3 + 1 * a.val = _; rw [hi.1]; omega
    · show win0_4.index t 1 * 512 + 1 * b.val = _; rw [hi.2]; omega
  · have h0 : (i 0).val < 3 := (i 0).isLt
    have h1 : (i 1).val < 5632 := (i 1).isLt
    have hN : 4 * ((i 1).val / 512) + 3 < cfg0.N := lt_of_lt_of_eq (by omega) N_0.symm
    have hi := index_dw ⟨_, hN⟩
    dsimp only at hi
    refine ⟨⟨_, hN⟩, (flush0_4 _).mpr (by dsimp only; omega), ?_⟩
    show i ∈ ((View.whole main_v10_1).slice (win0_4.rect ⟨_, hN⟩)).set
    rw [View.set_slice_whole, Rect.mem_set_unit]
    intro d
    match d with
    | ⟨0, _⟩ => show win0_4.index ⟨_, hN⟩ 0 * 3 ≤ (i 0).val ∧ (i 0).val < win0_4.index ⟨_, hN⟩ 0 * 3 + 3
                rw [hi.1]; omega
    | ⟨1, _⟩ => show win0_4.index ⟨_, hN⟩ 1 * 512 ≤ (i 1).val ∧ (i 1).val < win0_4.index ⟨_, hN⟩ 1 * 512 + 512
                rw [hi.2]; omega

end Cert.ConvGlu

end
-- ==== Proof.ConvRef.lean ====
/- The reference's two results, entry by entry. -/
module

public import proofs.«01_k».proof.Proof.Gen.ReferenceIdeal.Read
public import proofs.«01_k».proof.Proof.ConvMath
public import proofs.«01_k».proof.Proof.ConvTrip

@[expose] public section

set_option maxRecDepth 16384

noncomputable section

namespace Cert.ConvGlu.Ref

open Cert.ReferenceIdeal Cert.ReferenceIdeal.Gen Cert.ReferenceIdeal.Read Idealize.ShloMosaic Idealize.ShloMosaic.TcCoe Idealize.SL.Sem Idealize.ShloMosaic.StableHlo

variable (x0 : (⟨S4x2064x5632, .f32⟩ : BufTy).Contents (Elt Ideal)) (x1 : (⟨S3x5632, .f32⟩ : BufTy).Contents (Elt Ideal)) (x2 : (⟨S4x2064x2816, .f32⟩ : BufTy).Contents (Elt Ideal))
  (X : ℕ → ℕ → ℕ → ℝ) (W : ℕ → ℕ → ℝ) (C : ℕ → ℕ → ℕ → ℝ)
  (hX : ∀ (s : Fin 4) (t : Fin 2064) (q : Fin 5632), (x0 : Vec Ideal S4x2064x5632 .f32) (ix3 s t q) = ((X s.val t.val q.val : ℝ) : EReal))
  (hW : ∀ (a : Fin 3) (q : Fin 5632), (x1 : Vec Ideal S3x5632 .f32) (ix2 a q) = ((W a.val q.val : ℝ) : EReal))
  (hC : ∀ (s : Fin 4) (t : Fin 2064) (q : Fin 2816), (x2 : Vec Ideal S4x2064x2816 .f32) (ix3 s t q) = ((C s.val t.val q.val : ℝ) : EReal))

theorem back_shift (x : ℕ → ℕ → ℝ) (n t q : ℕ) (hn : n ≤ 2) : back x 2 (n + t) q = back x (2 - n) t q := by
  unfold back
  by_cases h : n + t < 2
  · rw [if_pos h, if_pos (by omega)]
  · rw [if_neg h, if_neg (by omega), show n + t - 2 = t - (2 - n) by omega]

include hX in
theorem ext_at (s : Fin 4) (t : Fin 2066) (q : Fin 5632) :
    (val_main_v1 (F := Ideal) x0 : Vec Ideal S4x2066x5632 .f32) (ix3 s t q) = ((back (X s.val) 2 t.val q.val : ℝ) : EReal) := by
  unfold val_main_v1 val_main_v0 val_main_cst
  by_cases h : t.val < 2
  · have e : back (X s.val) 2 t.val q.val = 0 := if_pos h
    rw [e]
    pointwise
    rw [dif_pos h]
    rfl
  · have e : back (X s.val) 2 t.val q.val = X s.val (t.val - 2) q.val := if_neg h
    rw [e]
    pointwise
    rw [dif_neg h, hX]

include hX hW in
theorem conv_at (s : Fin 4) (t : Fin 2064) (q : Fin 5632) :
    (val_main_v24 (F := Ideal) x0 x1 : Vec Ideal S4x2064x5632 .f32) (ix3 s t q) = ((conv W (X s.val) t.val q.val : ℝ) : EReal) := by
  have hy := ext_at x0 X hX
  have hb : ∀ n ≤ 2, back (X s.val) 2 (n + t.val) q.val = back (X s.val) (2 - n) t.val q.val := fun n hn => back_shift _ n _ _ hn
  have h2 : back (X s.val) 2 (2 + t.val) q.val = X s.val t.val q.val := by
    rw [hb 2 le_rfl]; rfl
  have h1 := hb 1 (by omega)
  have e : conv W (X s.val) t.val q.val = W 0 q.val * back (X s.val) 2 t.val q.val + W 1 q.val * back (X s.val) 2 (1 + t.val) q.val + W 2 q.val * back (X s.val) 2 (2 + t.val) q.val := by
    rw [h2, h1]; rfl
  rw [e]
  unfold val_main_v24 val_main_v23 val_main_v22 val_main_v21 val_main_v20 val_main_v19 val_main_v18 val_main_v17 val_main_v16 val_main_v15 val_main_v14 val_main_v13
    val_main_v12 val_main_v11 val_main_v10 val_main_v9 val_main_cst_1 val_main_v8 val_main_v7 val_main_v6 val_main_v5 val_main_v4 val_main_v3
  generalize val_main_v1 (F := Ideal) x0 = y at *
  pointwise
  simp only [hy, hW]
  norm_cast

include hX hW in
theorem sig_at (s : Fin 4) (t : Fin 2064) (q : Fin 2816) :
    (val_main_v27_2 (F := Ideal) x0 x1 : Vec Ideal S4x2064x2816 .f32) (ix3 s t q) = ((sg (conv W (X s.val) t.val q.val) : ℝ) : EReal) := by
  have hu := conv_at x0 x1 X W hX hW
  unfold val_main_v27_2 val_main_call0_v4 val_main_call0_cst_0 val_main_call0_v3 val_main_call0_v2 val_main_call0_cst val_main_call0_v1 val_main_call0_v0 val_main_v25
  generalize val_main_v24 (F := Ideal) x0 x1 = u at *
  pointwise
  rw [hu]
  unfold sg
  rw [← EReal.coe_neg, Ideal.exp_coe, ← EReal.coe_one, ← EReal.coe_add, Ideal.div_coe (by positivity), EReal.coe_one, one_mul]

include hX hW hC in
theorem gate_at (s : Fin 4) (t : Fin 2064) (q : Fin 2816) :
    (val_main_v31 (F := Ideal) x0 x1 x2 : Vec Ideal S4x2064x2816 .f32) (ix3 s t q) = ((dconv 2816 W (X s.val) (C s.val) t.val q.val : ℝ) : EReal) := by
  have hu := conv_at x0 x1 X W hX hW
  have hg := sig_at x0 x1 X W hX hW
  have hq := q.isLt
  have e : dconv 2816 W (X s.val) (C s.val) t.val q.val
      = C s.val t.val q.val * conv W (X s.val) t.val (2816 + q.val) * sg (conv W (X s.val) t.val q.val)
        + conv W (X s.val) t.val q.val * (C s.val t.val q.val * conv W (X s.val) t.val (2816 + q.val)) * (sg (conv W (X s.val) t.val q.val) * (1 - sg (conv W (X s.val) t.val q.val))) := by
    unfold dconv
    rw [if_pos hq, add_comm q.val 2816]
    ring
  rw [e]
  unfold val_main_v31 val_main_call1_v2 val_main_call1_v1 val_main_call1_v0 val_main_v30 val_main_v27_1 val_main_call0_v7 val_main_call0_v6 val_main_call0_cst_1 val_main_v26 val_main_v25
  generalize val_main_v24 (F := Ideal) x0 x1 = u at *
  generalize val_main_v27_2 (F := Ideal) x0 x1 = g at *
  pointwise
  simp only [hu, hg, hC]
  norm_cast

include hX hW hC in
theorem value_at (s : Fin 4) (t : Fin 2064) (q : Fin 2816) :
    (val_main_v29 (F := Ideal) x0 x1 x2 : Vec Ideal S4x2064x2816 .f32) (ix3 s t q) = ((dconv 2816 W (X s.val) (C s.val) t.val (q.val + 2816) : ℝ) : EReal) := by
  have hu := conv_at x0 x1 X W hX hW
  have hg := sig_at x0 x1 X W hX hW
  have e : dconv 2816 W (X s.val) (C s.val) t.val (q.val + 2816)
      = conv W (X s.val) t.val q.val * sg (conv W (X s.val) t.val q.val) * C s.val t.val q.val := by
    unfold dconv
    rw [if_neg (by omega), Nat.add_sub_cancel]
    ring
  rw [e]
  unfold val_main_v29 val_main_v27_0 val_main_v25
  generalize val_main_v24 (F := Ideal) x0 x1 = u at *
  generalize val_main_v27_2 (F := Ideal) x0 x1 = g at *
  pointwise
  simp only [hu, hg, hC]
  norm_cast

include hX hW hC in
/-- The gradient with respect to the convolution's result. -/
theorem dconv_at (s : Fin 4) (t : Fin 2064) (q : Fin 5632) :
    (val_main_v32 (F := Ideal) x0 x1 x2 : Vec Ideal S4x2064x5632 .f32) (ix3 s t q) = ((dconv 2816 W (X s.val) (C s.val) t.val q.val : ℝ) : EReal) := by
  have ha := gate_at x0 x1 x2 X W C hX hW hC
  have hb := value_at x0 x1 x2 X W C hX hW hC
  have hq := q.isLt
  unfold val_main_v32
  generalize val_main_v31 (F := Ideal) x0 x1 x2 = a at *
  generalize val_main_v29 (F := Ideal) x0 x1 x2 = b at *
  by_cases h : q.val < 2816
  · pointwise
    rw [dif_pos h, ha]
  · have e : q.val = q.val - 2816 + 2816 := by omega
    rw [e]
    pointwise
    rw [dif_neg h, hb]

variable (hC0 : ∀ s t q, 2064 ≤ t → C s t q = 0)

include hX hW hC hC0 in
/-- The gradient with respect to the convolution's input. -/
theorem dinp_at (s : Fin 4) (t : Fin 2064) (q : Fin 5632) :
    (val_main_v65 (F := Ideal) x0 x1 x2 : Vec Ideal S4x2064x5632 .f32) (ix3 s t q) = ((dinp 2816 W (X s.val) (C s.val) t.val q.val : ℝ) : EReal) := by
  have hd := dconv_at x0 x1 x2 X W C hX hW hC
  have hz : ∀ t', 2064 ≤ t' → dconv 2816 W (X s.val) (C s.val) t' q.val = 0 := fun t' h => dconv_zero _ _ _ _ _ _ (fun _ => hC0 _ _ _ h)
  unfold val_main_v65 val_main_v60 val_main_v59 val_main_cst_12 val_main_v49 val_main_v48 val_main_cst_8 val_main_v39 val_main_cst_4 val_main_v54 val_main_v53 val_main_v43 val_main_v42 val_main_v34 val_main_v33
    val_main_v21 val_main_v19 val_main_v18 val_main_v14 val_main_v12 val_main_v11 val_main_v6 val_main_v4 val_main_v3
  generalize val_main_v32 (F := Ideal) x0 x1 x2 = d at *
  have e1 : (if h : 1 ≤ 2 + t.val ∧ 2 + t.val - 1 < 2064 then x1 (ix2 1 q) * d (ix3 s ⟨2 + t.val - 1, h.2⟩ q) else (0 : EReal))
      = ((W 1 q.val * dconv 2816 W (X s.val) (C s.val) (t.val + 1) q.val : ℝ) : EReal) := by
    by_cases h : 1 ≤ 2 + t.val ∧ 2 + t.val - 1 < 2064
    · rw [dif_pos h, hd, hW]
      dsimp only
      rw [show 2 + t.val - 1 = t.val + 1 by omega]
      norm_cast
    · rw [dif_neg h, hz _ (by omega), mul_zero]; rfl
  have e0 : (if h : 2 + t.val < 2064 then x1 (ix2 0 q) * d (ix3 s ⟨2 + t.val, h⟩ q) else (0 : EReal))
      = ((W 0 q.val * dconv 2816 W (X s.val) (C s.val) (t.val + 2) q.val : ℝ) : EReal) := by
    by_cases h : 2 + t.val < 2064
    · rw [dif_pos h, hd, hW]
      dsimp only
      rw [show 2 + t.val = t.val + 2 by omega]
      norm_cast
    · rw [dif_neg h, hz _ (by omega), mul_zero]; rfl
  have e2 : x1 (ix2 2 q) * d (ix3 s t q) = ((W 2 q.val * dconv 2816 W (X s.val) (C s.val) t.val q.val : ℝ) : EReal) := by
    rw [hd, hW]; norm_cast
  pointwise
  rw [e0, e1, e2]
  unfold dinp
  norm_cast

/-- The host's sum over the first two of three axes. -/
theorem sum_two {n0 n1 n2 : ℕ} (h : (⟨3, ![n0, n1, n2]⟩ : Shape).ReducesTo [0, 1] ⟨1, ![n2]⟩) (y : (⟨3, ![n0, n1, n2]⟩ : Shape).Idx → EReal) (o : EReal) (q : Fin n2) :
    Ideal.hostReduceAdd h y o (ix1 q) = o + ∑ s : Fin n0, ∑ t : Fin n1, y (ix3 s t q) := by
  unfold Ideal.hostReduceAdd
  congr 1
  rw [← Fintype.sum_prod_type' (f := fun s t => y (ix3 s t q))]
  refine Finset.sum_filter_eq_sum_of_fiber _ (fun k : Fin n0 × Fin n1 => ix3 k.1 k.2 q) (fun k k' e => ?_) (fun i => ?_) y
  · exact Prod.ext (congrFun e 0) (congrFun e 1)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl

/-- The host's two sums over the batch and the rows. -/
theorem sum_rows (y : FVec Ideal S4x2064x5632 .f32) (q : Fin 5632) :
    (Host.reduceAdd (F := Ideal) (shapeCast S1x1x5632 (Host.reduceAdd (F := Ideal) y (constant S_ .f32 0x00000000#32) reducesTo_S4x2064x5632_S5632_d0_1 h_S_) shapeCasts_S5632_S1x1x5632)
      (constant S_ .f32 0x00000000#32) reducesTo_S1x1x5632_S5632_d0_1 h_S_ : FVec Ideal S5632 .f32) (ix1 q)
      = ∑ s : Fin 4, ∑ t : Fin 2064, y (ix3 s t q) := by
  refine (sum_two reducesTo_S1x1x5632_S5632_d0_1 _ _ q).trans ?_
  have e : ∀ z : FVec Ideal S5632 .f32, ∀ a b : Fin 1, (shapeCast S1x1x5632 z shapeCasts_S5632_S1x1x5632 : FVec Ideal S1x1x5632 .f32) (ix3 a b q) = z (ix1 q) := by
    intro z a b
    pointwise
  simp only [e, Finset.univ_unique, Finset.sum_singleton]
  rw [show ∀ z : EReal, ((constant S_ .f32 0x00000000#32 : FVec Ideal S_ .f32) (Shape.Idx.first h_S_)) + z = z by intro z; pointwise]
  refine (sum_two reducesTo_S4x2064x5632_S5632_d0_1 _ _ q).trans ?_
  pointwise

include hX hW hC hC0 in
/-- One tap's sum of products. -/
theorem tap_sum_at (n : ℕ) (y : FVec Ideal S4x2064x5632 .f32) (q : Fin 5632)
    (hy : ∀ (s : Fin 4) (t : Fin 2064), y (ix3 s t q) = ((dconv 2816 W (X s.val) (C s.val) t.val q.val * back (X s.val) n t.val q.val : ℝ) : EReal)) :
    ∑ s : Fin 4, ∑ t : Fin 2064, y (ix3 s t q) = ((∑ s ∈ Finset.range 4, dtap 2816 W (X s) (C s) n 0 2304 q.val : ℝ) : EReal) := by
  have hz : ∀ s t', 2064 ≤ t' → dconv 2816 W (X s) (C s) t' q.val = 0 := fun s t' h => dconv_zero _ _ _ _ _ _ (fun _ => hC0 _ _ _ h)
  have e : ∀ s, dtap 2816 W (X s) (C s) n 0 2304 q.val = ∑ t : Fin 2064, dconv 2816 W (X s) (C s) t.val q.val * back (X s) n t.val q.val := by
    intro s
    rw [← dtap_split 2816 W (X s) (C s) n 0 2064 2304 q.val (by omega) (by omega)]
    have e0 : dtap 2816 W (X s) (C s) n 2064 2304 q.val = 0 :=
      Finset.sum_eq_zero fun t ht => by rw [hz s t (Finset.mem_Ico.mp ht).1, zero_mul]
    rw [e0, zero_add]
    unfold dtap
    rw [← Finset.range_eq_Ico, Finset.sum_range]
  rw [Finset.sum_range, coe_sum]
  refine Finset.sum_congr rfl fun s _ => ?_
  rw [e, coe_sum]
  exact Finset.sum_congr rfl fun t _ => hy s t

include hX hW hC hC0 in
theorem tap_at (a : Fin 3) (q : Fin 5632) :
    (val_main_v63 (F := Ideal) x0 x1 x2 : Vec Ideal S3x5632 .f32) (ix2 a q) = ((∑ s ∈ Finset.range 4, dtap 2816 W (X s) (C s) (2 - a.val) 0 2304 q.val : ℝ) : EReal) := by
  have hd := dconv_at x0 x1 x2 X W C hX hW hC
  have hb := ext_at x0 X hX
  have hp : ∀ (s : Fin 4) (t n : ℕ), n ≤ 2 → back (X s.val) 2 (n + t) q.val = back (X s.val) (2 - n) t q.val := fun s t n hn => back_shift _ n _ _ hn
  have t2 : (val_main_v38 (F := Ideal) x0 x1 x2 : Vec Ideal S5632 .f32) (ix1 q) = ((∑ s ∈ Finset.range 4, dtap 2816 W (X s) (C s) 0 0 2304 q.val : ℝ) : EReal) := by
    unfold val_main_v38 val_main_v37 val_main_v36 val_main_cst_2 val_main_cst_3
    refine (sum_rows _ q).trans (tap_sum_at x0 x1 x2 X W C hX hW hC hC0 0 _ q fun s t => ?_)
    have hp := hp s t.val 2 le_rfl
    unfold val_main_v35 val_main_v20
    generalize val_main_v32 (F := Ideal) x0 x1 x2 = d at *
    generalize val_main_v1 (F := Ideal) x0 = y at *
    pointwise
    rw [hd, hb, hp]
    norm_cast
  have t1 : (val_main_v47 (F := Ideal) x0 x1 x2 : Vec Ideal S5632 .f32) (ix1 q) = ((∑ s ∈ Finset.range 4, dtap 2816 W (X s) (C s) 1 0 2304 q.val : ℝ) : EReal) := by
    unfold val_main_v47 val_main_v46 val_main_v45 val_main_cst_6 val_main_cst_7
    refine (sum_rows _ q).trans (tap_sum_at x0 x1 x2 X W C hX hW hC hC0 1 _ q fun s t => ?_)
    have hp := hp s t.val 1 (by omega)
    unfold val_main_v44 val_main_v13
    generalize val_main_v32 (F := Ideal) x0 x1 x2 = d at *
    generalize val_main_v1 (F := Ideal) x0 = y at *
    pointwise
    rw [hd, hb, hp]
    norm_cast
  have t0 : (val_main_v58 (F := Ideal) x0 x1 x2 : Vec Ideal S5632 .f32) (ix1 q) = ((∑ s ∈ Finset.range 4, dtap 2816 W (X s) (C s) 2 0 2304 q.val : ℝ) : EReal) := by
    unfold val_main_v58 val_main_v57 val_main_v56 val_main_cst_10 val_main_cst_11
    refine (sum_rows _ q).trans (tap_sum_at x0 x1 x2 X W C hX hW hC hC0 2 _ q fun s t => ?_)
    unfold val_main_v55 val_main_v5
    generalize val_main_v32 (F := Ideal) x0 x1 x2 = d at *
    generalize val_main_v1 (F := Ideal) x0 = y at *
    pointwise
    rw [hd, hb]
    norm_cast
  unfold val_main_v63 val_main_v62 val_main_cst_13 val_main_v61 val_main_v52 val_main_v51 val_main_v50 val_main_v41 val_main_v40 val_main_cst_5 val_main_cst_9
  generalize val_main_v38 (F := Ideal) x0 x1 x2 = u2 at *
  generalize val_main_v47 (F := Ideal) x0 x1 x2 = u1 at *
  generalize val_main_v58 (F := Ideal) x0 x1 x2 = u0 at *
  match a with
  | ⟨0, _⟩ => refine Eq.trans ?_ t0; pointwise
  | ⟨1, _⟩ => refine Eq.trans ?_ t1; pointwise
  | ⟨2, _⟩ => refine Eq.trans ?_ t2; pointwise

theorem first_result (r : Fin 9216) (q : Fin 5632) (o : EReal)
    (h1 : ∀ (hr : r.val % 2304 < 2064) (q' : Fin 5632), q'.val = col 2816 (q.val / 512) (q.val % 512) → (val_main_v65 (F := Ideal) x0 x1 x2 : Vec Ideal S4x2064x5632 .f32) (ix3 ⟨r.val / 2304, by omega⟩ ⟨r.val % 2304, hr⟩ q') = o)
    (h0 : ¬ r.val % 2304 < 2064 → o = 0) :
    (val_main_v76 (F := Ideal) x0 x1 x2 : Vec Ideal S9216x5632 .bf16) (ix2 r q) = o := by
  have hz : (FloatOps.sitofp (F := Ideal) FTy.f32 (0#32) : EReal) = 0 := by
    show (((0#32 : BitVec 32).toInt : ℝ) : EReal) = 0
    simp
  have hr := r.isLt
  have hq := q.isLt
  unfold val_main_v76 val_main_v75 val_main_v74 val_main_call2_v0 val_main_c val_main_v73 val_main_v72 val_main_v71 val_main_v70 val_main_v69 val_main_v68 val_main_v67 val_main_v66
  generalize val_main_v65 (F := Ideal) x0 x1 x2 = d at *
  by_cases h : r.val / 2304 < 4 ∧ r.val % 2304 < 2064
  · by_cases h' : q.val / 256 % 2 < 1
    · have e : q.val / 512 * 256 + q.val % 256 = col 2816 (q.val / 512) (q.val % 512) := by
        unfold col; rw [if_pos (by omega)]; omega
      refine Eq.trans ?_ (h1 h.2 ⟨q.val / 512 * 256 + q.val % 256, by omega⟩ e)
      pointwise
      rw [dif_pos h, dif_pos h']
    · have e : 2816 + (q.val / 512 * 256 + q.val % 256) = col 2816 (q.val / 512) (q.val % 512) := by
        unfold col; rw [if_neg (by omega)]; omega
      refine Eq.trans ?_ (h1 h.2 ⟨2816 + (q.val / 512 * 256 + q.val % 256), by omega⟩ e)
      pointwise
      rw [dif_pos h, dif_neg h']
  · rw [h0 (by omega)]
    pointwise
    rw [dif_neg h, hz]

theorem second_result (a : Fin 3) (q : Fin 5632) (o : EReal)
    (h1 : ∀ (q' : Fin 5632), q'.val = col 2816 (q.val / 512) (q.val % 512) → (val_main_v63 (F := Ideal) x0 x1 x2 : Vec Ideal S3x5632 .f32) (ix2 a q') = o) :
    (val_main_v84 (F := Ideal) x0 x1 x2 : Vec Ideal S3x5632 .f32) (ix2 a q) = o := by
  have hq := q.isLt
  unfold val_main_v84 val_main_v83 val_main_v82 val_main_v81 val_main_v80 val_main_v79 val_main_v78 val_main_v77
  generalize val_main_v63 (F := Ideal) x0 x1 x2 = d at *
  by_cases h' : q.val / 256 % 2 < 1
  · have e : q.val / 512 * 256 + q.val % 256 = col 2816 (q.val / 512) (q.val % 512) := by
      unfold col; rw [if_pos (by omega)]; omega
    refine Eq.trans ?_ (h1 ⟨q.val / 512 * 256 + q.val % 256, by omega⟩ e)
    pointwise
    rw [dif_pos h']
  · have e : 2816 + (q.val / 512 * 256 + q.val % 256) = col 2816 (q.val / 512) (q.val % 512) := by
      unfold col; rw [if_neg (by omega)]; omega
    refine Eq.trans ?_ (h1 ⟨2816 + (q.val / 512 * 256 + q.val % 256), by omega⟩ e)
    pointwise
    rw [dif_neg h']

end Cert.ConvGlu.Ref

end
-- ==== Proof.ConvClaim.lean ====
/- The kernel's two results and the reference's two results agree on arrays of real numbers. -/
module

public import proofs.«01_k».proof.Defs
public import proofs.«01_k».proof.Proof.Gen.Pre_finite
public import proofs.«01_k».proof.Proof.ConvArray
public import proofs.«01_k».proof.Proof.ConvRef

@[expose] public section

set_option maxRecDepth 16384

noncomputable section

namespace Cert.ConvGlu

open Idealize.ShloMosaic Idealize.ShloMosaic.TcCoe Idealize.SL.Sem Idealize.ShloMosaic.StableHlo

/-- An extended real whose absolute value is below something is a real number. -/
theorem real_of_abs_lt {x z : EReal} (h : BitVec.ofBool (decide (FloatOps.absf (F := Ideal) (φ := .f32) x < z)) = 1#1) :
    x = ((x.toReal : ℝ) : EReal) := by
  have h1 : max x (-x) < z := by
    by_contra hn
    rw [show decide (FloatOps.absf (F := Ideal) (φ := .f32) x < z) = false from decide_eq_false hn] at h
    exact absurd h (by decide)
  refine (EReal.coe_toReal ?_ ?_).symm
  · rintro rfl
    exact absurd (lt_of_le_of_lt (le_max_left _ _) h1) not_top_lt
  · rintro rfl
    exact absurd (lt_of_le_of_lt (le_max_right _ _) h1) (by rw [EReal.neg_bot]; exact not_top_lt)

section Pre

variable (x0 : FVec Ideal Cert.Pre_finite.S4x2064x5632 .f32) (x1 : FVec Ideal Cert.Pre_finite.S3x5632 .f32) (x2 : FVec Ideal Cert.Pre_finite.S4x2064x2816 .f32)

theorem real_0 (h : (Cert.Pre_finite.fn (F := Ideal) x0 x1 x2).1 = fun _ => 1#1) (i : Cert.Pre_finite.S4x2064x5632.Idx) :
    x0 i = (((x0 i).toReal : ℝ) : EReal) := by
  have e := congrFun h i
  unfold Cert.Pre_finite.fn at e
  dsimp only at e
  have e' : FloatOps.cmpf (F := Ideal) (φ := .f32) .olt (FloatOps.hostAbsf (F := Ideal) (φ := .f32) (x0 i))
      (broadcastInDim Cert.Pre_finite.S4x2064x5632 ![] Cert.Pre_finite.Facts.bcast_S_S4x2064x5632 (constant (F := Ideal) Cert.Pre_finite.S_ .f32 0x7F800000#32) i) = 1#1 := e
  pointwise at e'
  exact real_of_abs_lt e'

theorem real_1 (h : (Cert.Pre_finite.fn (F := Ideal) x0 x1 x2).2.1 = fun _ => 1#1) (i : Cert.Pre_finite.S3x5632.Idx) :
    x1 i = (((x1 i).toReal : ℝ) : EReal) := by
  have e := congrFun h i
  unfold Cert.Pre_finite.fn at e
  dsimp only at e
  have e' : FloatOps.cmpf (F := Ideal) (φ := .f32) .olt (FloatOps.hostAbsf (F := Ideal) (φ := .f32) (x1 i))
      (broadcastInDim Cert.Pre_finite.S3x5632 ![] Cert.Pre_finite.Facts.bcast_S_S3x5632 (constant (F := Ideal) Cert.Pre_finite.S_ .f32 0x7F800000#32) i) = 1#1 := e
  pointwise at e'
  exact real_of_abs_lt e'

theorem real_2 (h : (Cert.Pre_finite.fn (F := Ideal) x0 x1 x2).2.2 = fun _ => 1#1) (i : Cert.Pre_finite.S4x2064x2816.Idx) :
    x2 i = (((x2 i).toReal : ℝ) : EReal) := by
  have e := congrFun h i
  unfold Cert.Pre_finite.fn at e
  dsimp only at e
  have e' : FloatOps.cmpf (F := Ideal) (φ := .f32) .olt (FloatOps.hostAbsf (F := Ideal) (φ := .f32) (x2 i))
      (broadcastInDim Cert.Pre_finite.S4x2064x2816 ![] Cert.Pre_finite.Facts.bcast_S_S4x2064x2816 (constant (F := Ideal) Cert.Pre_finite.S_ .f32 0x7F800000#32) i) = 1#1 := e
  pointwise at e'
  exact real_of_abs_lt e'

end Pre

/-- A three-axis array as a function of numbers, zero outside. -/
def fun3 {n0 n1 n2 : ℕ} (x : (⟨3, ![n0, n1, n2]⟩ : Shape).Idx → EReal) (s t q : ℕ) : ℝ :=
  if h : s < n0 ∧ t < n1 ∧ q < n2 then (x (ix3 ⟨s, h.1⟩ ⟨t, h.2.1⟩ ⟨q, h.2.2⟩)).toReal else 0

/-- A two-axis array as a function of numbers, zero outside. -/
def fun2 {n0 n1 : ℕ} (x : (⟨2, ![n0, n1]⟩ : Shape).Idx → EReal) (a q : ℕ) : ℝ :=
  if h : a < n0 ∧ q < n1 then (x (ix2 ⟨a, h.1⟩ ⟨q, h.2⟩)).toReal else 0

theorem fun3_at {n0 n1 n2 : ℕ} (x : (⟨3, ![n0, n1, n2]⟩ : Shape).Idx → EReal) (hx : ∀ i, x i = (((x i).toReal : ℝ) : EReal))
    (s : Fin n0) (t : Fin n1) (q : Fin n2) : x (ix3 s t q) = ((fun3 x s.val t.val q.val : ℝ) : EReal) := by
  unfold fun3
  rw [dif_pos ⟨s.isLt, t.isLt, q.isLt⟩]
  exact hx _

theorem fun2_at {n0 n1 : ℕ} (x : (⟨2, ![n0, n1]⟩ : Shape).Idx → EReal) (hx : ∀ i, x i = (((x i).toReal : ℝ) : EReal))
    (a : Fin n0) (q : Fin n1) : x (ix2 a q) = ((fun2 x a.val q.val : ℝ) : EReal) := by
  unfold fun2
  rw [dif_pos ⟨a.isLt, q.isLt⟩]
  exact hx _

theorem fun3_zero {n0 n1 n2 : ℕ} (x : (⟨3, ![n0, n1, n2]⟩ : Shape).Idx → EReal) (s t q : ℕ) (h : n1 ≤ t) : fun3 x s t q = 0 :=
  dif_neg (by omega)

section Values

open Cert.ReferenceIdeal Cert.ReferenceIdeal.Gen Cert.ReferenceIdeal.Read

variable (x0 : (⟨S4x2064x5632, .f32⟩ : BufTy).Contents (Elt Ideal)) (x1 : (⟨S3x5632, .f32⟩ : BufTy).Contents (Elt Ideal)) (x2 : (⟨S4x2064x2816, .f32⟩ : BufTy).Contents (Elt Ideal))
  (X : ℕ → ℕ → ℕ → ℝ) (W : ℕ → ℕ → ℝ) (C : ℕ → ℕ → ℕ → ℝ)
  (hX : ∀ (s : Fin 4) (t : Fin 2064) (q : Fin 5632), (x0 : Vec Ideal S4x2064x5632 .f32) (ix3 s t q) = ((X s.val t.val q.val : ℝ) : EReal))
  (hW : ∀ (a : Fin 3) (q : Fin 5632), (x1 : Vec Ideal S3x5632 .f32) (ix2 a q) = ((W a.val q.val : ℝ) : EReal))
  (hC : ∀ (s : Fin 4) (t : Fin 2064) (q : Fin 2816), (x2 : Vec Ideal S4x2064x2816 .f32) (ix3 s t q) = ((C s.val t.val q.val : ℝ) : EReal))
  (hC0 : ∀ s t q, 2064 ≤ t → C s t q = 0)

include hX hW hC hC0 in
theorem ref_du : val_main_v76 (F := Ideal) x0 x1 x2 = arrDu X W C := by
  funext i
  obtain ⟨r, q, rfl⟩ : ∃ (r : Fin 9216) (q : Fin 5632), i = ix2 r q := ⟨i 0, i 1, by funext d; fin_cases d <;> rfl⟩
  have hr := r.isLt
  refine Ref.first_result x0 x1 x2 r q _ (fun hr' q' e => ?_) fun hn => ?_
  · refine (Ref.dinp_at x0 x1 x2 X W C hX hW hC hC0 _ _ _).trans ?_
    rw [e]; rfl
  · have hz : ∀ t', 2064 ≤ t' → ∀ q, dconv 2816 W (X (r.val / 2304)) (C (r.val / 2304)) t' q = 0 := fun t' h q => dconv_zero _ _ _ _ _ _ (fun _ => hC0 _ _ _ h)
    show ((dinp 2816 W (X (r.val / 2304)) (C (r.val / 2304)) (r.val % 2304) (col 2816 (q.val / 512) (q.val % 512)) : ℝ) : EReal) = 0
    unfold dinp
    rw [hz _ (by omega), hz _ (by omega), hz _ (by omega)]
    simp

include hX hW hC hC0 in
theorem ref_dw : val_main_v84 (F := Ideal) x0 x1 x2 = arrDw X W C := by
  funext i
  obtain ⟨a, q, rfl⟩ : ∃ (a : Fin 3) (q : Fin 5632), i = ix2 a q := ⟨i 0, i 1, by funext d; fin_cases d <;> rfl⟩
  refine Ref.second_result x0 x1 x2 a q _ fun q' e => ?_
  refine (Ref.tap_at x0 x1 x2 X W C hX hW hC hC0 a q').trans ?_
  rw [e]; rfl

end Values

theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2, Idealize.ShloMosaic.sem_eq_zero_of_no_sems (by decide) r.2⟩)
    (Cert.ReferenceIdeal.Value.run m ρ)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  let X := fun c : Dev Cert.KernelIdeal.nD => fun3 (m ((c.tc : Thread Cert.KernelIdeal.nD Cert.KernelIdeal.τ).loc Cert.KernelIdeal.main_arg0) : Vec Ideal Cert.KernelIdeal.S4x2064x5632 .f32)
  let W := fun c : Dev Cert.KernelIdeal.nD => fun2 (m ((c.tc : Thread Cert.KernelIdeal.nD Cert.KernelIdeal.τ).loc Cert.KernelIdeal.main_arg1) : Vec Ideal Cert.KernelIdeal.S3x5632 .f32)
  let C := fun c : Dev Cert.KernelIdeal.nD => fun3 (m ((c.tc : Thread Cert.KernelIdeal.nD Cert.KernelIdeal.τ).loc Cert.KernelIdeal.main_arg2) : Vec Ideal Cert.KernelIdeal.S4x2064x2816 .f32)
  have hX := fun c : Dev Cert.KernelIdeal.nD => fun3_at (m ((c.tc : Thread Cert.KernelIdeal.nD Cert.KernelIdeal.τ).loc Cert.KernelIdeal.main_arg0) : Vec Ideal Cert.KernelIdeal.S4x2064x5632 .f32)
    (real_0 _ _ _ (hpre c).1)
  have hW := fun c : Dev Cert.KernelIdeal.nD => fun2_at (m ((c.tc : Thread Cert.KernelIdeal.nD Cert.KernelIdeal.τ).loc Cert.KernelIdeal.main_arg1) : Vec Ideal Cert.KernelIdeal.S3x5632 .f32)
    (real_1 _ _ _ (hpre c).2.1)
  have hC := fun c : Dev Cert.KernelIdeal.nD => fun3_at (m ((c.tc : Thread Cert.KernelIdeal.nD Cert.KernelIdeal.τ).loc Cert.KernelIdeal.main_arg2) : Vec Ideal Cert.KernelIdeal.S4x2064x2816 .f32)
    (real_2 _ _ _ (hpre c).2.2)
  have hX0 : ∀ c s t q, 2064 ≤ t → X c s t q = 0 := fun c s t q h => fun3_zero _ _ _ _ h
  have hC0 : ∀ c s t q, 2064 ≤ t → C c s t q = 0 := fun c s t q h => fun3_zero _ _ _ _ h
  refine ⟨fun c => arrDu (X c) (W c) (C c), fun c => arrDw (X c) (W c) (C c), ?_, ?_⟩
  · refine (θ_run Cert.KernelIdeal.defs _ _).mono (fun r h c => ?_) (Cert.KernelIdeal.Value.run_blocks m g)
    obtain ⟨h0, h1, h2⟩ := h c
    exact ⟨h0.trans (final_du m c (X c) (W c) (C c) (hX c) (hW c) (hC c) (hX0 c) (hC0 c)),
      h1.trans (final_dw m c (X c) (W c) (C c) (hX c) (hW c) (hC c) (hX0 c) (hC0 c)), h2⟩
  · refine (θ_run Cert.ReferenceIdeal.defs _ _).mono (fun r h c => ?_) (Cert.ReferenceIdeal.Value.run m' g')
    obtain ⟨h0, h1, h2⟩ := h c
    obtain ⟨a0, a1, a2⟩ := hagree c
    refine ⟨(h0.trans (Cert.ReferenceIdeal.Read.val_main_v76_eq _)).trans ?_, (h1.trans (Cert.ReferenceIdeal.Read.val_main_v84_eq _)).trans ?_, h2⟩
    · exact ref_du _ _ _ (X c) (W c) (C c) (fun s t q => (congrFun a0 _).trans (hX c s t q)) (fun a q => (congrFun a1 _).trans (hW c a q))
        (fun s t q => (congrFun a2 _).trans (hC c s t q)) (hC0 c)
    · exact ref_dw _ _ _ (X c) (W c) (C c) (fun s t q => (congrFun a0 _).trans (hX c s t q)) (fun a q => (congrFun a1 _).trans (hW c a q))
        (fun s t q => (congrFun a2 _).trans (hC c s t q)) (hC0 c)

end Cert.ConvGlu

end
-- ==== Proof.Product.lean ====
/- Sums of products taken block by block: what the blocked products of the backward pass add up. -/
module

public import Idealize.ShloMosaic.Lib.Pointwise
public import Idealize.ShloMosaic.Lib.ValueIdx
public import Idealize.ShloMosaic.PureOps.Ideal.Laws

@[expose] public section

noncomputable section

namespace Cert.Product

open Idealize.ShloMosaic

/-- A two-axis array as a function of numbers, zero outside. -/
def num {p q : ℕ} (x : (⟨2, ![p, q]⟩ : Shape).Idx → EReal) (a b : ℕ) : EReal :=
  if h : a < p ∧ b < q then x (ix2 ⟨a, h.1⟩ ⟨b, h.2⟩) else 0

theorem num_at {p q : ℕ} (x : (⟨2, ![p, q]⟩ : Shape).Idx → EReal) (i : (⟨2, ![p, q]⟩ : Shape).Idx) (a b : ℕ)
    (h0 : (i 0).val = a) (h1 : (i 1).val = b) : x i = num x a b := by
  subst h0 h1
  unfold num
  rw [dif_pos ⟨(i 0).isLt, (i 1).isLt⟩]
  exact congrArg x (funext fun d => by fin_cases d <;> rfl)

/-- The sum of the first `n` numbers. -/
def upto (f : ℕ → EReal) (n : ℕ) : EReal := ∑ k ∈ Finset.range n, f k

theorem upto_fin (f : ℕ → EReal) (n : ℕ) : upto f n = ∑ k : Fin n, f k.val := (Fin.sum_univ_eq_sum_range f n).symm

theorem upto_add (f : ℕ → EReal) (n k : ℕ) : upto f (n + k) = upto f n + ∑ i : Fin k, f (n + i.val) := by
  unfold upto
  rw [Finset.sum_range_add, Fin.sum_univ_eq_sum_range (fun i => f (n + i))]

/-- A quantity set at every point divisible by `q` to a block's sum, and increased by a block's sum at the points between, is the sum over the
    blocks so far. -/
theorem blocks (q B N : ℕ) (hq : 0 < q) (acc : ∀ n, n < N → EReal) (f : ℕ → ℕ → EReal)
    (first : ∀ n (h : n < N), n % q = 0 → acc n h = ∑ i : Fin B, f (n / q) (B * (n % q) + i.val))
    (next : ∀ n (h : n < N) (_ : ¬n % q = 0), acc n h = acc (n - 1) (by omega) + ∑ i : Fin B, f (n / q) (B * (n % q) + i.val)) :
    ∀ n (h : n < N), acc n h = upto (f (n / q)) (B * (n % q + 1)) := by
  intro n
  induction n with
  | zero =>
    intro h
    rw [first 0 h (Nat.zero_mod q), Nat.zero_mod, show B * (0 + 1) = B by ring, upto_fin]
    simp
  | succ n ih =>
    intro h
    by_cases h0 : (n + 1) % q = 0
    · rw [first _ h h0, h0, show B * (0 + 1) = B by ring, upto_fin]
      simp
    · rw [next _ h h0]
      have hd : (n + 1) / q = n / q := by
        rw [Nat.succ_div, if_neg (fun hd => h0 (Nat.mod_eq_zero_of_dvd hd)), Nat.add_zero]
      have hm : (n + 1) % q = n % q + 1 := by
        have h1 := Nat.div_add_mod n q
        have h2 := Nat.div_add_mod (n + 1) q
        rw [hd] at h2
        omega
      have e := ih (by omega)
      rw [show acc (n + 1 - 1) (by omega) = acc n (by omega) from rfl, e, hd, hm, show B * (n % q + 1 + 1) = B * (n % q + 1) + B by ring, upto_add]

/-- Column `a` of one array times column `b` of another, at row `k`. -/
def colTerm {p q r : ℕ} (x : (⟨2, ![p, q]⟩ : Shape).Idx → EReal) (y : (⟨2, ![p, r]⟩ : Shape).Idx → EReal) (a b k : ℕ) : EReal := num x k a * num y k b

/-- The products of the columns of two arrays, summed over all rows. -/
def cols {p q r : ℕ} (x : (⟨2, ![p, q]⟩ : Shape).Idx → EReal) (y : (⟨2, ![p, r]⟩ : Shape).Idx → EReal) : (⟨2, ![q, r]⟩ : Shape).Idx → EReal :=
  fun i => upto (colTerm x y (i 0).val (i 1).val) p

/-- Row `a` of one array times row `b` of another, at column `k`. -/
def rowTerm {p q r : ℕ} (x : (⟨2, ![p, q]⟩ : Shape).Idx → EReal) (y : (⟨2, ![r, q]⟩ : Shape).Idx → EReal) (a b k : ℕ) : EReal := num x a k * num y b k

/-- The products of the rows of two arrays, summed over all columns. -/
def rows {p q r : ℕ} (x : (⟨2, ![p, q]⟩ : Shape).Idx → EReal) (y : (⟨2, ![r, q]⟩ : Shape).Idx → EReal) : (⟨2, ![p, r]⟩ : Shape).Idx → EReal :=
  fun i => upto (rowTerm x y (i 0).val (i 1).val) q

/-- Row `a` of one array times column `b` of another, at place `k`. -/
def prodTerm {p q r : ℕ} (x : (⟨2, ![p, q]⟩ : Shape).Idx → EReal) (y : (⟨2, ![q, r]⟩ : Shape).Idx → EReal) (a b k : ℕ) : EReal := num x a k * num y k b

/-- The product of two arrays. -/
def prods {p q r : ℕ} (x : (⟨2, ![p, q]⟩ : Shape).Idx → EReal) (y : (⟨2, ![q, r]⟩ : Shape).Idx → EReal) : (⟨2, ![p, r]⟩ : Shape).Idx → EReal :=
  fun i => upto (prodTerm x y (i 0).val (i 1).val) q

/-- An accumulator that a run's first point sets to the product of two blocks, and that its other points increase by the product of theirs, holds the
    product of the rows so far. The blocks of point `n` begin at row `B (n % q)`, and at columns that its run alone decides. -/
theorem col_blocks {p q r B u v : ℕ} (s N : ℕ) (hs : 0 < s) (x : (⟨2, ![p, q]⟩ : Shape).Idx → EReal) (y : (⟨2, ![p, r]⟩ : Shape).Idx → EReal) (ca cb : ℕ → ℕ)
    (l : ∀ n, n < N → (⟨2, ![B, u]⟩ : Shape).Idx → EReal) (k : ∀ n, n < N → (⟨2, ![B, v]⟩ : Shape).Idx → EReal)
    (acc : ∀ n, n < N → (⟨2, ![u, v]⟩ : Shape).Idx → EReal)
    (hl : ∀ n (h : n < N) (i : Fin B) (a : Fin u), l n h (ix2 i a) = num x (B * (n % s) + i.val) (ca (n / s) + a.val))
    (hk : ∀ n (h : n < N) (i : Fin B) (b : Fin v), k n h (ix2 i b) = num y (B * (n % s) + i.val) (cb (n / s) + b.val))
    (first : ∀ n (h : n < N), n % s = 0 → ∀ (a : Fin u) (b : Fin v), acc n h (ix2 a b) = ∑ i : Fin B, l n h (ix2 i a) * k n h (ix2 i b))
    (next : ∀ n (h : n < N), ¬n % s = 0 → ∀ (a : Fin u) (b : Fin v),
      acc n h (ix2 a b) = acc (n - 1) (Nat.lt_of_le_of_lt (Nat.sub_le _ _) h) (ix2 a b) + ∑ i : Fin B, l n h (ix2 i a) * k n h (ix2 i b))
    (n : ℕ) (h : n < N) (a : Fin u) (b : Fin v) : acc n h (ix2 a b) = upto (colTerm x y (ca (n / s) + a.val) (cb (n / s) + b.val)) (B * (n % s + 1)) := by
  have e : ∀ n (h : n < N), ∑ i : Fin B, l n h (ix2 i a) * k n h (ix2 i b)
      = ∑ i : Fin B, colTerm x y (ca (n / s) + a.val) (cb (n / s) + b.val) (B * (n % s) + i.val) := fun n h =>
    Finset.sum_congr rfl fun i _ => by rw [hl, hk]; rfl
  exact blocks s B N hs (fun n h => acc n h (ix2 a b)) (fun j => colTerm x y (ca j + a.val) (cb j + b.val))
    (fun n h h0 => (first n h h0 a b).trans (e n h)) (fun n h h0 => (next n h h0 a b).trans (congrArg (_ + ·) (e n h))) n h

theorem hz : (![0, 0] : Fin 2 → Nat) = fun _ => 0 := funext fun a => by fin_cases a <;> rfl

/-- A load of a rectangle of rows reads the rows from its offset on. -/
theorem readAt_rows {sig : RefSig} {n m q : ℕ} {e : EltTy} (v : Memref sig .tc .vmem (.mk 2 ![n, q]) e) (X : BufTy.Contents (Elt Ideal) v.view.ty)
    (off : Fin 2 → ℕ) (h : ∀ a, off a + (![m, q] : Fin 2 → ℕ) a ≤ (![n, q] : Fin 2 → ℕ) a) (t0 : ℕ) (h0 : off = ![t0, 0]) (a : Fin m) (b : Fin q) (hn : t0 + a.val < n) :
    View.readAt (Elt Ideal) v.view (Rect.unit (s := .mk 2 ![n, q]) off ![m, q] h).toLoadRect X (ix2 a b) = v.view.read (Elt Ideal) X (ix2 ⟨t0 + a.val, hn⟩ b) := by
  subst h0
  rw [View.readAt_apply]
  congr 1
  funext d
  fin_cases d
  · exact Fin.ext (by show t0 + 1 * a.val = t0 + a.val; omega)
  · exact Fin.ext (by show 0 + 1 * b.val = b.val; omega)

end Cert.Product

end
-- ==== Proof.NormMath.lean ====
/- The gradient of a row's root-mean-square normalisation, over the real numbers. -/
module

public import proofs.«01_k».proof.Proof.Product

@[expose] public section

noncomputable section

namespace Cert.NormGrad

open Idealize.ShloMosaic

theorem coe_sum {n : ℕ} (f : Fin n → ℝ) : ∑ x, ((f x : ℝ) : EReal) = ((∑ x, f x : ℝ) : EReal) := by
  induction n with
  | zero => simp
  | succ n ih => rw [Fin.sum_univ_castSucc, Fin.sum_univ_castSucc, ih, EReal.coe_add]

/-- The number added to the mean of squares. -/
def eps : ℝ := 8796093 / 8796093022208

theorem eps_pos : 0 < eps := by unfold eps; norm_num

theorem word_eps : Ideal.ofBits .f32 897988541#32 = ((eps : ℝ) : EReal) := by
  unfold eps; simp [Ideal.ofBits, Ideal.ieee, -EReal.coe_mul]; norm_num
theorem word_1024 : Ideal.ofBits .f32 1149239296#32 = ((1024 : ℝ) : EReal) := by
  simp [Ideal.ofBits, Ideal.ieee, -EReal.coe_mul]; norm_num
theorem word_half : Ideal.ofBits .f32 3204448256#32 = ((-(1 / 2) : ℝ) : EReal) := by
  simp [Ideal.ofBits, Ideal.ieee, -EReal.coe_mul]; norm_num

variable (d g h : ℕ → ℝ)

/-- The mean of a row's squares, with `eps` added. -/
def msq : ℝ := (∑ x : Fin 1024, h x * h x) * (1 / 1024) + eps

theorem msq_pos : 0 < msq h := by
  unfold msq
  have : 0 ≤ ∑ x : Fin 1024, h x * h x := Finset.sum_nonneg fun x _ => mul_self_nonneg _
  have := eps_pos
  positivity

/-- The row's scale. -/
def scale : ℝ := (√(msq h))⁻¹

theorem rsqrt_msq : Ideal.rsqrt ((msq h : ℝ) : EReal) = ((scale h : ℝ) : EReal) := by
  have := msq_pos h
  rw [Ideal.rsqrt_coe, if_neg (not_lt.mpr this.le), if_neg this.ne']
  rfl

theorem scale_sq : scale h * scale h = 1 / msq h := by
  unfold scale
  rw [← mul_inv, Real.mul_self_sqrt (msq_pos h).le, one_div]

/-- The gradient at the row's input, from the gradient `d` at the scaled normal form and the weights `g`. -/
def dnorm (b : ℕ) : ℝ := scale h * (d b * g b - h b * scale h * ((∑ x : Fin 1024, d x * g x * (h x * scale h)) * (1 / 1024)))

/-- The same, summed up as differentiation of the scale gives it. -/
theorem dnorm_eq (b : ℕ) :
    d b * g b * scale h + h b * ((∑ x : Fin 1024, h x * (d x * g x)) * (-(1 / 2) * (scale h * (1 / msq h))) * (1 / 1024))
      + (∑ x : Fin 1024, h x * (d x * g x)) * (-(1 / 2) * (scale h * (1 / msq h))) * (1 / 1024) * h b = dnorm d g h b := by
  unfold dnorm
  have e : ∑ x : Fin 1024, d x * g x * (h x * scale h) = (∑ x : Fin 1024, h x * (d x * g x)) * scale h := by
    rw [Finset.sum_mul]; exact Finset.sum_congr rfl fun x _ => by ring
  rw [e, ← scale_sq]
  ring

end Cert.NormGrad

end
-- ==== Proof.NormTrip.lean ====
/- One chunk of rows in the kernel's epilogue, over the real numbers. -/
module

public import proofs.«01_k».proof.Proof.NormMath
public import proofs.«01_k».proof.Proof.Gen.Kernel2Ideal.Value

@[expose] public section

set_option maxRecDepth 16384

noncomputable section

namespace Cert.NormGrad

open Cert.Kernel2Ideal Cert.Kernel2Ideal.Gen Idealize.ShloMosaic Idealize.ShloMosaic.TcCoe Idealize.SL.Sem Cert.Product

section Chunk

variable (v12 : Vec Ideal S1x1024 .f32) (v26 : Vec Ideal S288x1024 .f32) (v28 : Vec Ideal S288x1024 .f32) (v30 : Vec Ideal S288x1024 .f32)
  (d h : ℕ → ℕ → ℝ) (g : ℕ → ℝ)
  (hg : ∀ (a : Fin 1) (b : Fin 1024), v12 (ix2 a b) = ((g b.val : ℝ) : EReal))
  (hd : ∀ (a : Fin 288) (b : Fin 1024), v26 (ix2 a b) = ((d a.val b.val : ℝ) : EReal))
  (hh : ∀ (a : Fin 288) (b : Fin 1024), v28 (ix2 a b) = ((h a.val b.val : ℝ) : EReal))

include hh in
theorem pay5_apply (a : Fin 288) (b : Fin 1) : k0_pay5 (F := Ideal) v28 (ix2 a b) = ((scale (h a.val) : ℝ) : EReal) := by
  have e : ∑ x : Fin 1024, v28 (ix2 a x) * v28 (ix2 a x) = ((∑ x : Fin 1024, h a.val x * h a.val x : ℝ) : EReal) := by
    rw [← coe_sum]
    exact Finset.sum_congr rfl fun x _ => by rw [hh, EReal.coe_mul]
  pointwise [k0_pay5]
  rw [e, word_1024, word_eps, Ideal.div_coe (by norm_num), ← EReal.coe_mul, ← EReal.coe_add]
  exact rsqrt_msq (h a.val)

include hh in
theorem pay6_apply (a : Fin 288) (b : Fin 1024) : k0_pay6 (F := Ideal) v28 (ix2 a b) = ((h a.val b.val * scale (h a.val) : ℝ) : EReal) := by
  have e := pay5_apply v28 h hh a 0
  unfold k0_pay6
  generalize k0_pay5 v28 = y at *
  pointwise
  rw [hh, e, EReal.coe_mul]

include hg hd hh in
theorem pay7_apply (a : Fin 288) (b : Fin 1024) :
    k0_pay7 (F := Ideal) v12 v26 v28 v30 (ix2 a b) = ((dnorm (d a.val) g (h a.val) b.val : ℝ) : EReal) + v30 (ix2 a b) := by
  have e := pay5_apply v28 h hh a 0
  have e6 := pay6_apply v28 h hh
  unfold k0_pay7
  generalize k0_pay6 v28 = y at *
  generalize k0_pay5 v28 = z at *
  have es : ∑ x : Fin 1024, v26 (ix2 a x) * v12 (ix2 0 x) * y (ix2 a x)
      = ((∑ x : Fin 1024, d a.val x * g x * (h a.val x * scale (h a.val)) : ℝ) : EReal) := by
    rw [← coe_sum]
    exact Finset.sum_congr rfl fun x _ => by rw [hd, hg, e6, ← EReal.coe_mul, ← EReal.coe_mul]
  pointwise
  rw [es, word_1024, Ideal.div_coe (by norm_num), e, hd, hg, e6]
  congr 1

include hd hh in
theorem pay9_apply (w : FVec Ideal S1x1024 .f32) (a : Fin 1) (b : Fin 1024) (s : ℝ) (hw : w (ix2 a b) = (s : EReal)) :
    k0_pay9 (F := Ideal) w v26 v28 (ix2 a b) = ((s + ∑ x : Fin 288, d x b.val * (h x b.val * scale (h x)) : ℝ) : EReal) := by
  have e6 := pay6_apply v28 h hh
  unfold k0_pay9
  generalize k0_pay6 v28 = y at *
  have es : ∑ x : Fin 288, v26 (ix2 x b) * y (ix2 x b) = ((∑ x : Fin 288, d x b.val * (h x b.val * scale (h x)) : ℝ) : EReal) := by
    rw [← coe_sum]
    exact Finset.sum_congr rfl fun x _ => by rw [hd, e6, ← EReal.coe_mul]
  pointwise
  rw [es, hw, EReal.coe_add]

end Chunk

theorem trips_eq : k0_t1_loop.trips = 2 := by decide +kernel
theorem off1_eq : ∀ k : Fin k0_t1_loop.trips, k0_off1 k = ![288 * k.val, 0] := by decide +kernel

end Cert.NormGrad
end
-- ==== Proof.NormLoop.lean ====
/- The loop over the two halves of a row block: what its trips carry and store. -/
module

public import proofs.«01_k».proof.Proof.NormTrip

@[expose] public section

set_option maxRecDepth 16384

noncomputable section

namespace Cert.NormGrad

open Cert.Kernel2Ideal Cert.Kernel2Ideal.Gen Idealize.ShloMosaic Idealize.ShloMosaic.TcCoe Idealize.SL.Sem Cert.Product

theorem inb : ∀ (k : Fin k0_t1_loop.trips), ∀ a, (k0_off1 k) a + S288x1024.size a ≤ S576x1024.size a := by decide +kernel

section Trip

variable (𝒱 : Variants) (c : Dev nD) (bd : Option 𝒱.V) (i : grid0.Coords)
  (arg2 : Memref sig .tc .vmem S576x2816 .bf16) (harg2 : arg2.IsWhole) (arg3 : Memref sig .tc .vmem S1024x2816 .bf16) (harg3 : arg3.IsWhole)
  (arg4 : Memref sig .tc .vmem S576x1024 .f32) (harg4 : arg4.IsWhole) (arg5 : Memref sig .tc .vmem S576x1024 .f32) (harg5 : arg5.IsWhole)
  (arg6 : Memref sig .tc .vmem S1x1024 .f32) (harg6 : arg6.IsWhole) (arg7 : Memref sig .tc .vmem S576x1024 .f32) (harg7 : arg7.IsWhole)
  (arg8 : Memref sig .tc .vmem S576x1024 .bf16) (harg8 : arg8.IsWhole) (arg9 : Memref sig .tc .vmem S1x1024 .f32) (harg9 : arg9.IsWhole)
  (arg10 : Memref sig .tc .vmem S576x1024 .f32) (harg10 : arg10.IsWhole)
  (h3 : k0_cond3 i = 1#1) (v12 : Vec Ideal S1x1024 .f32)
  (X4 : BufTy.Contents (Elt Ideal) arg4.view.ty) (X5 : BufTy.Contents (Elt Ideal) arg5.view.ty) (X10 : BufTy.Contents (Elt Ideal) arg10.view.ty)

/-- The rows of a trip, of one of the three blocks it loads. -/
abbrev rows (v : Memref sig .tc .vmem S576x1024 .f32) (X : BufTy.Contents (Elt Ideal) v.view.ty) (k : Fin k0_t1_loop.trips) : Vec Ideal S288x1024 .f32 :=
  View.readAt (Elt Ideal) v.view (Rect.unit (s := S576x1024) (k0_off1 k) S288x1024.size (inb k)).toLoadRect X

theorem tripR_eq (k : Fin k0_t1_loop.trips) (acc : FVec Ideal S1x1024 .f32) :
    tripR_k0_t1 (F := Ideal) 𝒱 c bd i arg2 harg2 arg3 harg3 arg4 harg4 arg5 harg5 arg6 harg6 arg7 harg7 arg8 harg8 arg9 harg9 arg10 harg10 h3 v12 X4 X5 X10 k acc = k0_pay9 acc (rows arg10 X10 k) (rows arg4 X4 k) := by
  unfold tripR_k0_t1 trip_k0_t1
  dsimp only

theorem tripL_eq (k : Fin k0_t1_loop.trips) (acc : FVec Ideal S1x1024 .f32) :
    tripL_k0_t1 (F := Ideal) 𝒱 c bd i arg2 harg2 arg3 harg3 arg4 harg4 arg5 harg5 arg6 harg6 arg7 harg7 arg8 harg8 arg9 harg9 arg10 harg10 h3 v12 X4 X5 X10 k acc
      = ([⟨Rect.unit (s := S576x1024) (k0_off1 k) S288x1024.size (inb k), k0_pay7 v12 (rows arg10 X10 k) (rows arg4 X4 k) (rows arg5 X5 k)⟩],
         [⟨Rect.unit (s := S576x1024) (k0_off1 k) S288x1024.size (inb k), k0_pay8 v12 (rows arg10 X10 k) (rows arg4 X4 k) (rows arg5 X5 k)⟩]) := by
  unfold tripL_k0_t1 trip_k0_t1
  dsimp only

variable (d h : ℕ → ℕ → ℝ) (g : ℕ → ℝ)
  (hg : ∀ (a : Fin 1) (b : Fin 1024), v12 (ix2 a b) = ((g b.val : ℝ) : EReal))
  (hd : ∀ (a : Fin 576) (b : Fin 1024), arg10.view.read (Elt Ideal) X10 (ix2 a b) = ((d a.val b.val : ℝ) : EReal))
  (hh : ∀ (a : Fin 576) (b : Fin 1024), arg4.view.read (Elt Ideal) X4 (ix2 a b) = ((h a.val b.val : ℝ) : EReal))

theorem rows_apply (v : Memref sig .tc .vmem S576x1024 .f32) (X : BufTy.Contents (Elt Ideal) v.view.ty) (f : ℕ → ℕ → EReal)
    (hf : ∀ (a : Fin 576) (b : Fin 1024), v.view.read (Elt Ideal) X (ix2 a b) = f a.val b.val) (k : Fin k0_t1_loop.trips) (a : Fin 288) (b : Fin 1024) :
    rows v X k (ix2 a b) = f (288 * k.val + a.val) b.val := by
  have hk : k.val < 2 := trips_eq ▸ k.isLt
  exact (readAt_rows v X (k0_off1 k) (inb k) _ (off1_eq k) a b (by omega)).trans (hf _ _)

/-- The two gradients' entries in the row block: through the norm, and with the residual gradient. -/
def entry (e : Vec Ideal S576x1024 .f32) (y : S576x1024.Idx) : EReal := ((dnorm (d (y 0).val) g (h (y 0).val) (y 1).val : ℝ) : EReal) + e y

/-- The weight's gradient over `q` rows from row `r` on. -/
def sums (r q b : ℕ) : ℝ := ∑ x ∈ Finset.range q, d (r + x) b * (h (r + x) b * scale (h (r + x)))

include hg hd hh in
theorem trip_pieces (k : Fin k0_t1_loop.trips) (acc : FVec Ideal S1x1024 .f32) :
    (∀ p ∈ (tripL_k0_t1 (F := Ideal) 𝒱 c bd i arg2 harg2 arg3 harg3 arg4 harg4 arg5 harg5 arg6 harg6 arg7 harg7 arg8 harg8 arg9 harg9 arg10 harg10 h3 v12 X4 X5 X10 k acc).1, ∀ y, p.2 y = entry d h g (arg5.view.read (Elt Ideal) X5) (p.1.emb y)) ∧
    (∀ p ∈ (tripL_k0_t1 (F := Ideal) 𝒱 c bd i arg2 harg2 arg3 harg3 arg4 harg4 arg5 harg5 arg6 harg6 arg7 harg7 arg8 harg8 arg9 harg9 arg10 harg10 h3 v12 X4 X5 X10 k acc).2, ∀ y, p.2 y = entry d h g (arg5.view.read (Elt Ideal) X5) (p.1.emb y)) := by
  rw [tripL_eq]
  have hk : k.val < 2 := trips_eq ▸ k.isLt
  have main : ∀ y : S288x1024.Idx, k0_pay7 v12 (rows arg10 X10 k) (rows arg4 X4 k) (rows arg5 X5 k) y
      = entry d h g (arg5.view.read (Elt Ideal) X5) ((Rect.unit (s := S576x1024) (k0_off1 k) S288x1024.size (inb k)).emb y) := by
    intro y
    obtain ⟨a, b, rfl⟩ : ∃ (a : Fin 288) (b : Fin 1024), y = ix2 a b := ⟨y 0, y 1, by funext d; fin_cases d <;> rfl⟩
    refine (pay7_apply v12 _ _ _ (fun a => d (288 * k.val + a)) (fun a => h (288 * k.val + a)) g hg
      (rows_apply arg10 X10 (fun a b => (d a b : EReal)) hd k) (rows_apply arg4 X4 (fun a b => (h a b : EReal)) hh k) a b).trans ?_
    have e : (Rect.unit (s := S576x1024) (k0_off1 k) S288x1024.size (inb k)).emb (ix2 a b) = ix2 ⟨288 * k.val + a.val, by omega⟩ b := by
      funext x
      fin_cases x
      · exact Fin.ext (by show k0_off1 k 0 + 1 * a.val = _; rw [off1_eq]; show 288 * k.val + 1 * a.val = 288 * k.val + a.val; omega)
      · exact Fin.ext (by show k0_off1 k 1 + 1 * b.val = _; rw [off1_eq]; show 0 + 1 * b.val = b.val; omega)
    rw [e]
    unfold entry
    congr 1
    exact readAt_rows arg5 X5 (k0_off1 k) (inb k) _ (off1_eq k) a b (by omega)
  refine ⟨fun p hp => ?_, fun p hp => ?_⟩
  · obtain rfl := List.mem_singleton.mp hp
    exact main
  · obtain rfl := List.mem_singleton.mp hp
    exact main

include hd hh in
theorem trip_sums (k : Fin k0_t1_loop.trips) (acc : FVec Ideal S1x1024 .f32) (b : Fin 1024)
    (ha : acc (ix2 0 b) = ((sums d h 0 (288 * k.val) b.val : ℝ) : EReal)) :
    tripR_k0_t1 (F := Ideal) 𝒱 c bd i arg2 harg2 arg3 harg3 arg4 harg4 arg5 harg5 arg6 harg6 arg7 harg7 arg8 harg8 arg9 harg9 arg10 harg10 h3 v12 X4 X5 X10 k acc (ix2 0 b) = ((sums d h 0 (288 * (k.val + 1)) b.val : ℝ) : EReal) := by
  rw [tripR_eq]
  refine (pay9_apply _ _ (fun a => d (288 * k.val + a)) (fun a => h (288 * k.val + a))
    (rows_apply arg10 X10 (fun a b => (d a b : EReal)) hd k) (rows_apply arg4 X4 (fun a b => (h a b : EReal)) hh k) acc 0 b _ ha).trans ?_
  unfold sums
  rw [Finset.sum_fin_eq_sum_range, show 288 * (k.val + 1) = 288 * k.val + 288 by ring, Finset.sum_range_add]
  congr 2
  refine Finset.sum_congr rfl fun x hx => ?_
  rw [dif_pos (Finset.mem_range.mp hx), zero_add]

include hg hd hh in
/-- The loop's state before trip `k`. -/
theorem state (init : FVec Ideal S1x1024 .f32) (hi : ∀ b : Fin 1024, init (ix2 0 b) = 0) (k : ℕ) (hk : k ≤ 2) :
    (∀ b : Fin 1024, (st_k0_t1 (F := Ideal) 𝒱 c bd i arg2 harg2 arg3 harg3 arg4 harg4 arg5 harg5 arg6 harg6 arg7 harg7 arg8 harg8 arg9 harg9 arg10 harg10 h3 v12 X4 X5 X10 init k).1 (ix2 0 b) = ((sums d h 0 (288 * k) b.val : ℝ) : EReal)) ∧
    (∀ p ∈ (st_k0_t1 (F := Ideal) 𝒱 c bd i arg2 harg2 arg3 harg3 arg4 harg4 arg5 harg5 arg6 harg6 arg7 harg7 arg8 harg8 arg9 harg9 arg10 harg10 h3 v12 X4 X5 X10 init k).2.1, ∀ y, p.2 y = entry d h g (arg5.view.read (Elt Ideal) X5) (p.1.emb y)) ∧
    (∀ p ∈ (st_k0_t1 (F := Ideal) 𝒱 c bd i arg2 harg2 arg3 harg3 arg4 harg4 arg5 harg5 arg6 harg6 arg7 harg7 arg8 harg8 arg9 harg9 arg10 harg10 h3 v12 X4 X5 X10 init k).2.2, ∀ y, p.2 y = entry d h g (arg5.view.read (Elt Ideal) X5) (p.1.emb y)) := by
  induction k with
  | zero =>
    refine ⟨fun b => (hi b).trans ?_, fun p hp => by simp [st_k0_t1] at hp, fun p hp => by simp [st_k0_t1] at hp⟩
    simp [sums]
  | succ k ih =>
    obtain ⟨i1, i2, i3⟩ := ih (by omega)
    have hs := st_k0_t1_succ (F := Ideal) 𝒱 c bd i arg2 harg2 arg3 harg3 arg4 harg4 arg5 harg5 arg6 harg6 arg7 harg7 arg8 harg8 arg9 harg9 arg10 harg10 h3 v12 X4 X5 X10 init ⟨k, trips_eq ▸ (by omega)⟩
    dsimp only at hs
    rw [hs]
    have hp := trip_pieces 𝒱 c bd i arg2 harg2 arg3 harg3 arg4 harg4 arg5 harg5 arg6 harg6 arg7 harg7 arg8 harg8 arg9 harg9 arg10 harg10 h3 v12 X4 X5 X10 d h g hg hd hh ⟨k, trips_eq ▸ (by omega)⟩
      (st_k0_t1 (F := Ideal) 𝒱 c bd i arg2 harg2 arg3 harg3 arg4 harg4 arg5 harg5 arg6 harg6 arg7 harg7 arg8 harg8 arg9 harg9 arg10 harg10 h3 v12 X4 X5 X10 init k).1
    refine ⟨fun b => trip_sums 𝒱 c bd i arg2 harg2 arg3 harg3 arg4 harg4 arg5 harg5 arg6 harg6 arg7 harg7 arg8 harg8 arg9 harg9 arg10 harg10 h3 v12 X4 X5 X10 d h hd hh ⟨k, trips_eq ▸ (by omega)⟩ _ b (i1 b), fun p hp' => ?_, fun p hp' => ?_⟩
    · rcases List.mem_append.mp hp' with hp' | hp'
      · exact hp.1 p hp'
      · exact i2 p hp'
    · rcases List.mem_append.mp hp' with hp' | hp'
      · exact hp.2 p hp'
      · exact i3 p hp'

end Trip

end Cert.NormGrad

end
-- ==== Proof.NormCase.lean ====
/- What one point of the grid leaves in the accumulator and in the three output blocks. -/
module

public import proofs.«01_k».proof.Proof.NormLoop

@[expose] public section

set_option maxRecDepth 16384

noncomputable section

namespace Cert.NormGrad

open Cert.Kernel2Ideal Cert.Kernel2Ideal.Gen Idealize.ShloMosaic Idealize.ShloMosaic.TcCoe Idealize.SL.Sem Cert.Product

section Case

variable (c : Dev nD) (i : grid0.Coords)
  (arg2 : Memref sig .tc .vmem S576x2816 .bf16) (harg2 : arg2.IsWhole) (arg3 : Memref sig .tc .vmem S1024x2816 .bf16) (harg3 : arg3.IsWhole)
  (arg4 : Memref sig .tc .vmem S576x1024 .f32) (harg4 : arg4.IsWhole) (arg5 : Memref sig .tc .vmem S576x1024 .f32) (harg5 : arg5.IsWhole)
  (arg6 : Memref sig .tc .vmem S1x1024 .f32) (harg6 : arg6.IsWhole) (arg7 : Memref sig .tc .vmem S576x1024 .f32) (harg7 : arg7.IsWhole)
  (arg8 : Memref sig .tc .vmem S576x1024 .bf16) (harg8 : arg8.IsWhole) (arg9 : Memref sig .tc .vmem S1x1024 .f32) (harg9 : arg9.IsWhole)
  (arg10 : Memref sig .tc .vmem S576x1024 .f32) (harg10 : arg10.IsWhole)
  (x0 : Vec Ideal S576x2816 .bf16) (x1 : Vec Ideal S1024x2816 .bf16) (x2 x3 : Vec Ideal S576x1024 .f32) (x4 : Vec Ideal S1x1024 .f32)

theorem block_product (a : Fin 576) (b : Fin 1024) :
    k0_pay1 (F := Ideal) x0 x1 (ix2 a b) = ∑ k : Fin 2816, x0 (ix2 a k) * x1 (ix2 b k) := by
  pointwise [k0_pay1]

theorem sout_A (hc0 : cond0_0 i) (hc1 : ¬cond0_1 i) (hc2 : ¬cond0_2 i) :
    sout0_A_0 (F := Ideal) c i arg2 harg2 arg3 harg3 arg4 harg4 arg5 harg5 arg6 harg6 arg7 harg7 arg8 harg8 arg9 harg9 arg10 harg10 hc0 hc1 hc2 x0 x1 x2 x3 x4 = k0_pay1 x0 x1 := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 hc0 hc1 hc2 x0 x1 x2 x3 x4)]
  unfold kernelRun0_A
  dsimp only
  sl_unfold_words
  rw [View.canon_cons_unit_zero hz]
  unfold k0_pay2
  simp only [View.readAt_eq_ld, harg2.read_unread, harg3.read_unread, View.ld_unit_zero (S := S576x2816) hz, View.ld_unit_zero (S := S1024x2816) hz, View.ld_unit_zero (S := S576x1024) hz, shapeCast_self]

/-- The accumulator's contents when the loop starts. -/
abbrev total (xs : Vec Ideal S576x1024 .f32) : BufTy.Contents (Elt Ideal) arg10.view.ty :=
  arg10.view.writes (Elt Ideal) arg10.view.junk
    [⟨Rect.unit (s := S576x1024) ![0, 0] S576x1024.size inb_S576x1024_S576x1024_0_0,
      k0_pay3 (View.readAt (Elt Ideal) arg2.view (Rect.unit (s := S576x2816) ![0, 0] S576x2816.size inb_S576x2816_S576x2816_0_0).toLoadRect (harg2.unread x0))
        (View.readAt (Elt Ideal) arg3.view (Rect.unit (s := S1024x2816) ![0, 0] S1024x2816.size inb_S1024x2816_S1024x2816_0_0).toLoadRect (harg3.unread x1))
        (View.readAt (Elt Ideal) arg10.view (Rect.unit (s := S576x1024) ![0, 0] S576x1024.size inb_S576x1024_S576x1024_0_0).toLoadRect (harg10.unread xs))⟩]

theorem total_apply (xs : Vec Ideal S576x1024 .f32) :
    arg10.view.read (Elt Ideal) (total arg2 harg2 arg3 harg3 arg10 harg10 x0 x1 xs) = addf xs (k0_pay1 x0 x1) := by
  unfold total
  rw [View.read_writes_eq_canon _ _ _ (fun y => ⟨_, List.mem_singleton.mpr rfl, by rw [Rect.mem_set_unit]; intro d; fin_cases d; exacts [⟨Nat.zero_le _, by simpa using (y 0).isLt⟩, ⟨Nat.zero_le _, by simpa using (y 1).isLt⟩]⟩)]
  rw [View.canon_cons_unit_zero hz]
  unfold k0_pay3
  simp only [harg10.read_unread, View.readAt_eq_ld, harg2.read_unread, harg3.read_unread, View.ld_unit_zero (S := S576x2816) hz, View.ld_unit_zero (S := S1024x2816) hz, View.ld_unit_zero (S := S576x1024) hz, shapeCast_self]

variable (xs : Vec Ideal S576x1024 .f32) (d h : ℕ → ℕ → ℝ) (g : ℕ → ℝ)
  (hg : ∀ (a : Fin 1) (b : Fin 1024), x4 (ix2 a b) = ((g b.val : ℝ) : EReal))
  (hd : ∀ (a : Fin 576) (b : Fin 1024), addf xs (k0_pay1 (F := Ideal) x0 x1) (ix2 a b) = ((d a.val b.val : ℝ) : EReal))
  (hh : ∀ (a : Fin 576) (b : Fin 1024), x2 (ix2 a b) = ((h a.val b.val : ℝ) : EReal))

/-- The loop's state at its end. -/
abbrev finish (hc2 : cond0_2 i) (init : FVec Ideal S1x1024 .f32) :=
  st_k0_t1 (F := Ideal) Variants.none c none i arg2 harg2 arg3 harg3 arg4 harg4 arg5 harg5 arg6 harg6 arg7 harg7 arg8 harg8 arg9 harg9 arg10 harg10 hc2
    (View.readAt (Elt Ideal) arg6.view (Rect.unit (s := S1x1024) ![0, 0] ![1, 1024] inb_S1x1024_S1x1024_0_0).toLoadRect (harg6.unread x4))
    (harg4.unread x2) (harg5.unread x3) (total arg2 harg2 arg3 harg3 arg10 harg10 x0 x1 xs) init (Scf.trips 0#32 (Scalar.addi 0#32 2#32) 1#32)

include hg hd hh in
theorem finish_apply (hc2 : cond0_2 i) :
    (∀ b : Fin 1024, (finish c i arg2 harg2 arg3 harg3 arg4 harg4 arg5 harg5 arg6 harg6 arg7 harg7 arg8 harg8 arg9 harg9 arg10 harg10 x0 x1 x2 x3 x4 xs hc2 k0_pay4).1 (ix2 0 b) = ((sums d h 0 576 b.val : ℝ) : EReal)) ∧
    (∀ p ∈ (finish c i arg2 harg2 arg3 harg3 arg4 harg4 arg5 harg5 arg6 harg6 arg7 harg7 arg8 harg8 arg9 harg9 arg10 harg10 x0 x1 x2 x3 x4 xs hc2 k0_pay4).2.1, ∀ y, p.2 y = entry d h g x3 (p.1.emb y)) ∧
    (∀ p ∈ (finish c i arg2 harg2 arg3 harg3 arg4 harg4 arg5 harg5 arg6 harg6 arg7 harg7 arg8 harg8 arg9 harg9 arg10 harg10 x0 x1 x2 x3 x4 xs hc2 k0_pay4).2.2, ∀ y, p.2 y = entry d h g x3 (p.1.emb y)) := by
  have e := state Variants.none c none i arg2 harg2 arg3 harg3 arg4 harg4 arg5 harg5 arg6 harg6 arg7 harg7 arg8 harg8 arg9 harg9 arg10 harg10 hc2
    (View.readAt (Elt Ideal) arg6.view (Rect.unit (s := S1x1024) ![0, 0] ![1, 1024] inb_S1x1024_S1x1024_0_0).toLoadRect (harg6.unread x4))
    (harg4.unread x2) (harg5.unread x3) (total arg2 harg2 arg3 harg3 arg10 harg10 x0 x1 xs) d h g
    (fun a b => by
      refine (readAt_rows arg6 (harg6.unread x4) ![0, 0] inb_S1x1024_S1x1024_0_0 0 rfl a b (by omega)).trans ?_
      rw [harg6.read_unread]; exact hg _ _)
    (fun a b => by rw [total_apply]; exact hd a b) (fun a b => by rw [harg4.read_unread]; exact hh a b)
    k0_pay4 (fun b => by pointwise [k0_pay4]) 2 (le_refl 2)
  rw [harg5.read_unread] at e
  exact e

include hg hd hh in
theorem out_B_5 (hc0 : ¬cond0_0 i) (hc1 : cond0_1 i) (hc2 : cond0_2 i) (hc3 : cond0_3 i) (y : S576x1024.Idx) :
    out0_B_5 (F := Ideal) c i arg2 harg2 arg3 harg3 arg4 harg4 arg5 harg5 arg6 harg6 arg7 harg7 arg8 harg8 arg9 harg9 arg10 harg10 hc0 hc1 hc2 hc3 x0 x1 x2 x3 x4 xs y = entry d h g x3 y := by
  unfold out0_B_5
  have hcov := cover0_B_5 (F := Ideal) c i arg2 harg2 arg3 harg3 arg4 harg4 arg5 harg5 arg6 harg6 arg7 harg7 arg8 harg8 arg9 harg9 arg10 harg10 hc0 hc1 hc2 hc3 x0 x1 x2 x3 x4 xs
  rw [View.read_writes_eq_canon _ _ _ hcov]
  refine View.canon_apply_of_pieces (entry d h g x3) _ ?_ y (hcov y)
  unfold kernelRun0_B
  dsimp only
  sl_unfold_words
  exact (finish_apply c i arg2 harg2 arg3 harg3 arg4 harg4 arg5 harg5 arg6 harg6 arg7 harg7 arg8 harg8 arg9 harg9 arg10 harg10 x0 x1 x2 x3 x4 xs d h g hg hd hh hc2).2.1

include hg hd hh in
theorem out_B_6 (hc0 : ¬cond0_0 i) (hc1 : cond0_1 i) (hc2 : cond0_2 i) (hc3 : cond0_3 i) (y : S576x1024.Idx) :
    out0_B_6 (F := Ideal) c i arg2 harg2 arg3 harg3 arg4 harg4 arg5 harg5 arg6 harg6 arg7 harg7 arg8 harg8 arg9 harg9 arg10 harg10 hc0 hc1 hc2 hc3 x0 x1 x2 x3 x4 xs y = entry d h g x3 y := by
  unfold out0_B_6
  have hcov := cover0_B_6 (F := Ideal) c i arg2 harg2 arg3 harg3 arg4 harg4 arg5 harg5 arg6 harg6 arg7 harg7 arg8 harg8 arg9 harg9 arg10 harg10 hc0 hc1 hc2 hc3 x0 x1 x2 x3 x4 xs
  rw [View.read_writes_eq_canon _ _ _ hcov]
  refine View.canon_apply_of_pieces (entry d h g x3) _ ?_ y (hcov y)
  unfold kernelRun0_B
  dsimp only
  sl_unfold_words
  exact (finish_apply c i arg2 harg2 arg3 harg3 arg4 harg4 arg5 harg5 arg6 harg6 arg7 harg7 arg8 harg8 arg9 harg9 arg10 harg10 x0 x1 x2 x3 x4 xs d h g hg hd hh hc2).2.2

include hg hd hh in
theorem out_B_7 (hc0 : ¬cond0_0 i) (hc1 : cond0_1 i) (hc2 : cond0_2 i) (hc3 : cond0_3 i) (b : Fin 1024) :
    out0_B_7 (F := Ideal) c i arg2 harg2 arg3 harg3 arg4 harg4 arg5 harg5 arg6 harg6 arg7 harg7 arg8 harg8 arg9 harg9 arg10 harg10 hc0 hc1 hc2 hc3 x0 x1 x2 x3 x4 xs (ix2 0 b) = ((sums d h 0 576 b.val : ℝ) : EReal) := by
  unfold out0_B_7
  have hcov := cover0_B_7 (F := Ideal) c i arg2 harg2 arg3 harg3 arg4 harg4 arg5 harg5 arg6 harg6 arg7 harg7 arg8 harg8 arg9 harg9 arg10 harg10 hc0 hc1 hc2 hc3 x0 x1 x2 x3 x4 xs
  rw [View.read_writes_eq_canon _ _ _ hcov]
  unfold kernelRun0_B
  dsimp only
  sl_unfold_words
  refine (congrFun (View.canon_cons_unit_zero hz _ _ _) (ix2 0 b)).trans ?_
  have hl := (finish_apply c i arg2 harg2 arg3 harg3 arg4 harg4 arg5 harg5 arg6 harg6 arg7 harg7 arg8 harg8 arg9 harg9 arg10 harg10 x0 x1 x2 x3 x4 xs d h g hg hd hh hc2).1 b
  rw [View.readCov_unit_zero _ hz]
  generalize (finish c i arg2 harg2 arg3 harg3 arg4 harg4 arg5 harg5 arg6 harg6 arg7 harg7 arg8 harg8 arg9 harg9 arg10 harg10 x0 x1 x2 x3 x4 xs hc2 k0_pay4).1 = z at *
  unfold k0_pay11
  pointwise [k0_pay10]
  rw [hl]

include hg hd hh in
theorem out_C_5 (hc0 : ¬cond0_0 i) (hc1 : cond0_1 i) (hc2 : cond0_2 i) (hc3 : ¬cond0_3 i) (xo : Vec Ideal S1x1024 .f32) (y : S576x1024.Idx) :
    out0_C_5 (F := Ideal) c i arg2 harg2 arg3 harg3 arg4 harg4 arg5 harg5 arg6 harg6 arg7 harg7 arg8 harg8 arg9 harg9 arg10 harg10 hc0 hc1 hc2 hc3 x0 x1 x2 x3 x4 xo xs y = entry d h g x3 y := by
  unfold out0_C_5
  have hcov := cover0_C_5 (F := Ideal) c i arg2 harg2 arg3 harg3 arg4 harg4 arg5 harg5 arg6 harg6 arg7 harg7 arg8 harg8 arg9 harg9 arg10 harg10 hc0 hc1 hc2 hc3 x0 x1 x2 x3 x4 xo xs
  rw [View.read_writes_eq_canon _ _ _ hcov]
  refine View.canon_apply_of_pieces (entry d h g x3) _ ?_ y (hcov y)
  unfold kernelRun0_C
  dsimp only
  sl_unfold_words
  exact (finish_apply c i arg2 harg2 arg3 harg3 arg4 harg4 arg5 harg5 arg6 harg6 arg7 harg7 arg8 harg8 arg9 harg9 arg10 harg10 x0 x1 x2 x3 x4 xs d h g hg hd hh hc2).2.1

include hg hd hh in
theorem out_C_6 (hc0 : ¬cond0_0 i) (hc1 : cond0_1 i) (hc2 : cond0_2 i) (hc3 : ¬cond0_3 i) (xo : Vec Ideal S1x1024 .f32) (y : S576x1024.Idx) :
    out0_C_6 (F := Ideal) c i arg2 harg2 arg3 harg3 arg4 harg4 arg5 harg5 arg6 harg6 arg7 harg7 arg8 harg8 arg9 harg9 arg10 harg10 hc0 hc1 hc2 hc3 x0 x1 x2 x3 x4 xo xs y = entry d h g x3 y := by
  unfold out0_C_6
  have hcov := cover0_C_6 (F := Ideal) c i arg2 harg2 arg3 harg3 arg4 harg4 arg5 harg5 arg6 harg6 arg7 harg7 arg8 harg8 arg9 harg9 arg10 harg10 hc0 hc1 hc2 hc3 x0 x1 x2 x3 x4 xo xs
  rw [View.read_writes_eq_canon _ _ _ hcov]
  refine View.canon_apply_of_pieces (entry d h g x3) _ ?_ y (hcov y)
  unfold kernelRun0_C
  dsimp only
  sl_unfold_words
  exact (finish_apply c i arg2 harg2 arg3 harg3 arg4 harg4 arg5 harg5 arg6 harg6 arg7 harg7 arg8 harg8 arg9 harg9 arg10 harg10 x0 x1 x2 x3 x4 xs d h g hg hd hh hc2).2.2

include hg hd hh in
theorem out_C_7 (hc0 : ¬cond0_0 i) (hc1 : cond0_1 i) (hc2 : cond0_2 i) (hc3 : ¬cond0_3 i) (xo : Vec Ideal S1x1024 .f32) (b : Fin 1024) (o : ℝ) (ho : xo (ix2 0 b) = (o : EReal)) :
    out0_C_7 (F := Ideal) c i arg2 harg2 arg3 harg3 arg4 harg4 arg5 harg5 arg6 harg6 arg7 harg7 arg8 harg8 arg9 harg9 arg10 harg10 hc0 hc1 hc2 hc3 x0 x1 x2 x3 x4 xo xs (ix2 0 b) = ((o + sums d h 0 576 b.val : ℝ) : EReal) := by
  unfold out0_C_7
  have hcov := cover0_C_7 (F := Ideal) c i arg2 harg2 arg3 harg3 arg4 harg4 arg5 harg5 arg6 harg6 arg7 harg7 arg8 harg8 arg9 harg9 arg10 harg10 hc0 hc1 hc2 hc3 x0 x1 x2 x3 x4 xo xs
  rw [View.read_writes_eq_canon _ _ _ hcov]
  unfold kernelRun0_C
  dsimp only
  sl_unfold_words
  refine (congrFun (View.canon_cons_unit_zero hz _ _ _) (ix2 0 b)).trans ?_
  have hl := (finish_apply c i arg2 harg2 arg3 harg3 arg4 harg4 arg5 harg5 arg6 harg6 arg7 harg7 arg8 harg8 arg9 harg9 arg10 harg10 x0 x1 x2 x3 x4 xs d h g hg hd hh hc2).1 b
  have hr : View.readAt (Elt Ideal) arg9.view (Rect.unit (s := S1x1024) ![0, 0] ![1, 1024] inb_S1x1024_S1x1024_0_0).toLoadRect (harg9.unread xo) (ix2 0 b) = (o : EReal) := by
    refine (readAt_rows arg9 (harg9.unread xo) ![0, 0] inb_S1x1024_S1x1024_0_0 0 rfl 0 b (by omega)).trans ?_
    rw [harg9.read_unread]; exact ho
  generalize (finish c i arg2 harg2 arg3 harg3 arg4 harg4 arg5 harg5 arg6 harg6 arg7 harg7 arg8 harg8 arg9 harg9 arg10 harg10 x0 x1 x2 x3 x4 xs hc2 k0_pay4).1 = z at *
  generalize View.readAt (Elt Ideal) arg9.view (Rect.unit (s := S1x1024) ![0, 0] ![1, 1024] inb_S1x1024_S1x1024_0_0).toLoadRect (harg9.unread xo) = w at *
  unfold k0_pay11
  pointwise
  rw [hl, hr, EReal.coe_add]

end Case

end Cert.NormGrad

end
-- ==== Proof.NormArray.lean ====
/- The three result arrays of the norm's gradient, entry by entry. -/
module

public import proofs.«01_k».proof.Proof.NormCase

@[expose] public section

set_option maxRecDepth 16384

noncomputable section

namespace Cert.NormGrad

open Cert.Kernel2Ideal Cert.Kernel2Ideal.Gen Idealize.ShloMosaic Idealize.ShloMosaic.TcCoe Idealize.SL.Sem Cert.Product

/-! The grid: point `t` is column block `t % 2` of row block `t / 2`. -/

theorem index_0 : ∀ t : Fin grid0.N, win0_0.index t 0 = t.val / 2 ∧ win0_0.index t 1 = t.val % 2 := by decide +kernel
theorem index_1 : ∀ t : Fin grid0.N, win0_1.index t 0 = 0 ∧ win0_1.index t 1 = t.val % 2 := by decide +kernel
theorem index_2 : ∀ t : Fin grid0.N, win0_2.index t 0 = t.val / 2 ∧ win0_2.index t 1 = 0 := by decide +kernel
theorem index_3 : ∀ t : Fin grid0.N, win0_3.index t 0 = t.val / 2 ∧ win0_3.index t 1 = 0 := by decide +kernel
theorem index_4 : ∀ t : Fin grid0.N, win0_4.index t 0 = 0 ∧ win0_4.index t 1 = 0 := by decide +kernel

variable (m : (ℓ : Loc nD τ sig) → Buf (Elt Ideal) ℓ) (c : Dev nD)

abbrev argU : Vec Ideal S9216x5632 .bf16 := m ((c : Thread nD τ).loc main_arg0)
abbrev argW : Vec Ideal S1024x5632 .bf16 := m ((c : Thread nD τ).loc main_arg1)
abbrev argH : Vec Ideal S9216x1024 .f32 := m ((c : Thread nD τ).loc main_arg2)
abbrev argE : Vec Ideal S9216x1024 .f32 := m ((c : Thread nD τ).loc main_arg3)
abbrev argG : Vec Ideal S1x1024 .f32 := m ((c : Thread nD τ).loc main_arg4)

theorem block_0 (t : Fin cfg0.N) (a : Fin 576) (k : Fin 2816) :
    (iblk m c 0 t : Vec Ideal S576x2816 .bf16) (ix2 a k) = num (argU m c) (576 * (t.val / 2) + a.val) (2816 * (t.val % 2) + k.val) := by
  have hi := index_0 t
  unfold iblk
  rw [View.read_apply]
  refine num_at (argU m c) _ _ _ ?_ ?_
  · show win0_0.index t 0 * 576 + 1 * a.val = _; rw [hi.1]; omega
  · show win0_0.index t 1 * 2816 + 1 * k.val = _; rw [hi.2]; omega

theorem block_1 (t : Fin cfg0.N) (b : Fin 1024) (k : Fin 2816) :
    (iblk m c 1 t : Vec Ideal S1024x2816 .bf16) (ix2 b k) = num (argW m c) b.val (2816 * (t.val % 2) + k.val) := by
  have hi := index_1 t
  unfold iblk
  rw [View.read_apply]
  refine num_at (argW m c) _ _ _ ?_ ?_
  · show win0_1.index t 0 * 1024 + 1 * b.val = _; rw [hi.1]; omega
  · show win0_1.index t 1 * 2816 + 1 * k.val = _; rw [hi.2]; omega

theorem block_2 (t : Fin cfg0.N) (a : Fin 576) (b : Fin 1024) :
    (iblk m c 2 t : Vec Ideal S576x1024 .f32) (ix2 a b) = num (argH m c) (576 * (t.val / 2) + a.val) b.val := by
  have hi := index_2 t
  unfold iblk
  rw [View.read_apply]
  refine num_at (argH m c) _ _ _ ?_ ?_
  · show win0_2.index t 0 * 576 + 1 * a.val = _; rw [hi.1]; omega
  · show win0_2.index t 1 * 1024 + 1 * b.val = _; rw [hi.2]; omega

theorem block_3 (t : Fin cfg0.N) (y : S576x1024.Idx) :
    (iblk m c 3 t : Vec Ideal S576x1024 .f32) y = num (argE m c) (576 * (t.val / 2) + (y 0).val) (y 1).val := by
  have hi := index_3 t
  unfold iblk
  rw [View.read_apply]
  refine num_at (argE m c) _ _ _ ?_ ?_
  · show win0_3.index t 0 * 576 + 1 * (y 0).val = _; rw [hi.1]; omega
  · show win0_3.index t 1 * 1024 + 1 * (y 1).val = _; rw [hi.2]; omega

theorem block_4 (t : Fin cfg0.N) (a : Fin 1) (b : Fin 1024) :
    (iblk m c 4 t : Vec Ideal S1x1024 .f32) (ix2 a b) = num (argG m c) 0 b.val := by
  have hi := index_4 t
  unfold iblk
  rw [View.read_apply]
  refine num_at (argG m c) _ _ _ ?_ ?_
  · show win0_4.index t 0 * 1 + 1 * a.val = _; rw [hi.1]; omega
  · show win0_4.index t 1 * 1024 + 1 * b.val = _; rw [hi.2]; omega

variable (U W H : ℕ → ℕ → ℝ) (G : ℕ → ℝ)
  (hU : ∀ a b : ℕ, a < 9216 → b < 5632 → num (argU m c) a b = ((U a b : ℝ) : EReal))
  (hW : ∀ a b : ℕ, a < 1024 → b < 5632 → num (argW m c) a b = ((W a b : ℝ) : EReal))
  (hH : ∀ a b : ℕ, a < 9216 → b < 1024 → num (argH m c) a b = ((H a b : ℝ) : EReal))
  (hG : ∀ b : ℕ, b < 1024 → num (argG m c) 0 b = ((G b : ℝ) : EReal))

/-- The gradient at the norm's result. -/
def dn (a b : ℕ) : ℝ := ∑ k ∈ Finset.range 5632, U a k * W b k

include hU hW in
theorem half_product (t : Fin cfg0.N) (a : Fin 576) (b : Fin 1024) :
    k0_pay1 (F := Ideal) (iblk m c 0 t) (iblk m c 1 t) (ix2 a b)
      = ((∑ k ∈ Finset.range 2816, U (576 * (t.val / 2) + a.val) (2816 * (t.val % 2) + k) * W b.val (2816 * (t.val % 2) + k) : ℝ) : EReal) := by
  have ht : t.val < 32 := lt_of_lt_of_eq t.isLt N_0
  refine (block_product (iblk m c 0 t) (iblk m c 1 t) a b).trans ?_
  rw [← Fin.sum_univ_eq_sum_range (fun k => U (576 * (t.val / 2) + a.val) (2816 * (t.val % 2) + k) * W b.val (2816 * (t.val % 2) + k)), ← coe_sum]
  refine Finset.sum_congr rfl fun k _ => ?_
  rw [block_0, block_1, hU _ _ (by omega) (by omega), hW _ _ (by omega) (by omega), EReal.coe_mul]

include hU hW in
/-- A row block's second point completes the product. -/
theorem product (t : Fin cfg0.N) (h : t.val % 2 = 1) (a : Fin 576) (b : Fin 1024) :
    addf (outsAt0 m c (t.val - 1) (Nat.lt_of_le_of_lt (Nat.sub_le _ _) t.isLt)).2.2.2 (k0_pay1 (F := Ideal) (iblk m c 0 t) (iblk m c 1 t)) (ix2 a b)
      = ((dn U W (576 * (t.val / 2) + a.val) b.val : ℝ) : EReal) := by
  have e : (outsAt0 m c (t.val - 1) (Nat.lt_of_le_of_lt (Nat.sub_le _ _) t.isLt)).2.2.2
      = k0_pay1 (F := Ideal) (iblk m c 0 ⟨t.val - 1, Nat.lt_of_le_of_lt (Nat.sub_le _ _) t.isLt⟩) (iblk m c 1 ⟨t.val - 1, Nat.lt_of_le_of_lt (Nat.sub_le _ _) t.isLt⟩) := by
    rw [outsAt0_A m c ⟨t.val - 1, Nat.lt_of_le_of_lt (Nat.sub_le _ _) t.isLt⟩ (by dsimp only; omega) (by dsimp only; omega) (by dsimp only; omega)]
    dsimp only
    exact sout_A _ _ _ _ _ _ _ _ _ _ _ _ _ _ _ _ _ _ _ _ _ _ _ _ _ _ _ _
  show (outsAt0 m c (t.val - 1) (Nat.lt_of_le_of_lt (Nat.sub_le _ _) t.isLt)).2.2.2 (ix2 a b) + k0_pay1 (F := Ideal) (iblk m c 0 t) (iblk m c 1 t) (ix2 a b) = _
  rw [e, half_product m c U W hU hW, half_product m c U W hU hW, ← EReal.coe_add]
  dsimp only
  rw [h, show (t.val - 1) % 2 = 0 by omega, show (t.val - 1) / 2 = t.val / 2 by omega]
  unfold dn
  rw [show 5632 = 2816 + 2816 from rfl, Finset.sum_range_add]
  simp

/-- The input's gradient: through the norm, and the residual gradient. -/
def wholeH : Vec Ideal S9216x1024 .f32 := fun i =>
  ((dnorm (dn U W (i 0).val) G (H (i 0).val) (i 1).val : ℝ) : EReal) + argE m c i

/-- The norm's weight's gradient. -/
def wholeG : Vec Ideal S1x1024 .f32 := fun i => ((sums (dn U W) H 0 9216 (i 1).val : ℝ) : EReal)

/-- A row block's rows of an array. -/
abbrev at_ (f : ℕ → ℕ → ℝ) (t a b : ℕ) : ℝ := f (576 * (t / 2) + a) b

theorem entry_at (t : Fin cfg0.N) (y : S576x1024.Idx) (i : S9216x1024.Idx) (h0 : (i 0).val = 576 * (t.val / 2) + (y 0).val) (h1 : (i 1).val = (y 1).val) :
    entry (at_ (dn U W) t.val) (at_ H t.val) G (iblk m c 3 t) y = wholeH m c U W H G i := by
  unfold entry wholeH
  rw [block_3, num_at (argE m c) i _ _ h0 h1, h0, h1]

include hH in
theorem hH_at (t : Fin cfg0.N) (a : Fin 576) (b : Fin 1024) : (iblk m c 2 t : Vec Ideal S576x1024 .f32) (ix2 a b) = ((at_ H t.val a.val b.val : ℝ) : EReal) := by
  have ht : t.val < 32 := lt_of_lt_of_eq t.isLt N_0
  rw [block_2]; exact hH _ _ (by omega) (by omega)

include hG in
theorem hG_at (t : Fin cfg0.N) (a : Fin 1) (b : Fin 1024) : (iblk m c 4 t : Vec Ideal S1x1024 .f32) (ix2 a b) = ((G b.val : ℝ) : EReal) := by
  rw [block_4]; exact hG _ (by omega)

include hU hW hH hG in
/-- What a row block's second point leaves in the three output blocks. -/
theorem after (t : Fin cfg0.N) (h : t.val % 2 = 1) :
    (∀ y, (outsAt0 m c t.val t.isLt).1 y = entry (at_ (dn U W) t.val) (at_ H t.val) G (iblk m c 3 t) y) ∧
    (∀ y, (outsAt0 m c t.val t.isLt).2.1 y = entry (at_ (dn U W) t.val) (at_ H t.val) G (iblk m c 3 t) y) ∧
    (∀ (b : Fin 1024) (o : ℝ), (t.val < 2 → o = 0) → (¬t.val < 2 → (outsAt0 m c (t.val - 1) (Nat.lt_of_le_of_lt (Nat.sub_le _ _) t.isLt)).2.2.1 (ix2 0 b) = (o : EReal)) →
      (outsAt0 m c t.val t.isLt).2.2.1 (ix2 0 b) = ((o + sums (at_ (dn U W) t.val) (at_ H t.val) 0 576 b.val : ℝ) : EReal)) := by
  have hg := hG_at m c G hG t
  have hd := product m c U W hU hW t h
  have hh := hH_at m c H hH t
  by_cases h3 : t.val < 2
  · rw [outsAt0_B m c t (by omega) h h h3]
    dsimp only
    refine ⟨fun y => out_B_5 _ _ _ _ _ _ _ _ _ _ _ _ _ _ _ _ _ _ _ _ _ _ _ _ _ _ _ _ _ hg hd hh _ _ _ _ y,
      fun y => out_B_6 _ _ _ _ _ _ _ _ _ _ _ _ _ _ _ _ _ _ _ _ _ _ _ _ _ _ _ _ _ hg hd hh _ _ _ _ y, fun b o ho _ => ?_⟩
    rw [ho h3, zero_add]
    exact out_B_7 _ _ _ _ _ _ _ _ _ _ _ _ _ _ _ _ _ _ _ _ _ _ _ _ _ _ _ _ _ hg hd hh _ _ _ _ b
  · rw [outsAt0_C m c t (by omega) h h h3]
    dsimp only
    refine ⟨fun y => out_C_5 _ _ _ _ _ _ _ _ _ _ _ _ _ _ _ _ _ _ _ _ _ _ _ _ _ _ _ _ _ hg hd hh _ _ _ _ _ y,
      fun y => out_C_6 _ _ _ _ _ _ _ _ _ _ _ _ _ _ _ _ _ _ _ _ _ _ _ _ _ _ _ _ _ hg hd hh _ _ _ _ _ y, fun b o _ ho => ?_⟩
    exact out_C_7 _ _ _ _ _ _ _ _ _ _ _ _ _ _ _ _ _ _ _ _ _ _ _ _ _ _ _ _ _ hg hd hh _ _ _ _ _ b o (ho h3)

theorem sums_block (d h : ℕ → ℕ → ℝ) (n b : ℕ) :
    sums d h 0 (576 * n) b + sums (fun a => d (576 * n + a)) (fun a => h (576 * n + a)) 0 576 b = sums d h 0 (576 * (n + 1)) b := by
  unfold sums
  rw [show 576 * (n + 1) = 576 * n + 576 by ring, Finset.sum_range_add]
  congr 1
  exact Finset.sum_congr rfl fun x _ => by rw [zero_add, zero_add]

theorem kept (t : Fin cfg0.N) (h : t.val % 2 = 0) :
    (outsAt0 m c t.val t.isLt).2.2.1 = (outsAt0 m c (t.val - 1) (Nat.lt_of_le_of_lt (Nat.sub_le _ _) t.isLt)).2.2.1 := by
  rw [outsAt0_A m c t h (by omega) (by omega)]
  dsimp only
  unfold out0_A_7
  rfl

include hU hW hH hG in
/-- The weight's gradient after a point: the sum over the row blocks completed so far. -/
theorem after_sums (n : ℕ) : ∀ (h : n < cfg0.N) (_ : 0 < n) (b : Fin 1024),
    (outsAt0 m c n h).2.2.1 (ix2 0 b) = ((sums (dn U W) H 0 (576 * ((n + 1) / 2)) b.val : ℝ) : EReal) := by
  induction n with
  | zero => intro _ h; exact absurd h (lt_irrefl 0)
  | succ n ih =>
    intro h _ b
    by_cases h0 : (n + 1) % 2 = 0
    · refine (congrFun (kept m c ⟨n + 1, h⟩ h0) (ix2 0 b)).trans ((ih (by omega) (by omega) b).trans ?_)
      rw [show (n + 1 + 1) / 2 = (n + 1) / 2 by omega]
    · refine ((after m c U W H G hU hW hH hG ⟨n + 1, h⟩ (by dsimp only; omega)).2.2 b (sums (dn U W) H 0 (576 * ((n + 1) / 2)) b.val)
        (fun h => ?_) (fun h => ih (by omega) (by dsimp only at h; omega) b)).trans ?_
      · dsimp only at h
        rw [show (n + 1) / 2 = 0 by omega]
        simp [sums]
      · rw [show (n + 1 + 1) / 2 = (n + 1) / 2 + 1 by omega, ← sums_block (dn U W) H ((n + 1) / 2) b.val]

include hU hW hH hG in
theorem final_5 : (dats m 0 c).arrAt 5 cfg0.N = wholeH m c U W H G := by
  rw [Value.final5]
  funext i
  have h0 : (i 0).val < 9216 := (i 0).isLt
  have h1 : (i 1).val < 1024 := (i 1).isLt
  have hN : Value.pt5Of i < cfg0.N := lt_of_lt_of_eq (by show 2 * (1 * ((i 0).val / 576 - 0) + 1 * ((i 1).val / 1024 - 0)) + 1 < 32; omega) N_0.symm
  have hd : Value.pt5Of i / 2 = (i 0).val / 576 := by show (2 * (1 * ((i 0).val / 576 - 0) + 1 * ((i 1).val / 1024 - 0)) + 1) / 2 = _; omega
  have hm : Value.pt5Of i % 2 = 1 := by show (2 * (1 * ((i 0).val / 576 - 0) + 1 * ((i 1).val / 1024 - 0)) + 1) % 2 = _; omega
  unfold Value.G5
  rw [dif_pos hN, ← Value.outsAt0_sweep m c _ hN]
  refine ((after m c U W H G hU hW hH hG ⟨_, hN⟩ hm).1 _).trans (entry_at m c U W H G ⟨_, hN⟩ _ i ?_ ?_)
  · dsimp only
    rw [hd]; show _ = 576 * ((i 0).val / 576) + (i 0).val % 576; omega
  · show (i 1).val = (i 1).val % 1024; omega

include hU hW hH hG in
theorem final_6 : (dats m 0 c).arrAt 6 cfg0.N = wholeH m c U W H G := by
  rw [Value.final6]
  funext i
  have h0 : (i 0).val < 9216 := (i 0).isLt
  have h1 : (i 1).val < 1024 := (i 1).isLt
  have hN : Value.pt6Of i < cfg0.N := lt_of_lt_of_eq (by show 2 * (1 * ((i 0).val / 576 - 0) + 1 * ((i 1).val / 1024 - 0)) + 1 < 32; omega) N_0.symm
  have hd : Value.pt6Of i / 2 = (i 0).val / 576 := by show (2 * (1 * ((i 0).val / 576 - 0) + 1 * ((i 1).val / 1024 - 0)) + 1) / 2 = _; omega
  have hm : Value.pt6Of i % 2 = 1 := by show (2 * (1 * ((i 0).val / 576 - 0) + 1 * ((i 1).val / 1024 - 0)) + 1) % 2 = _; omega
  unfold Value.G6
  rw [dif_pos hN, ← Value.outsAt0_sweep m c _ hN]
  refine ((after m c U W H G hU hW hH hG ⟨_, hN⟩ hm).2.1 _).trans (entry_at m c U W H G ⟨_, hN⟩ _ i ?_ ?_)
  · dsimp only
    rw [hd]; show _ = 576 * ((i 0).val / 576) + (i 0).val % 576; omega
  · show (i 1).val = (i 1).val % 1024; omega

include hU hW hH hG in
theorem final_7 : (dats m 0 c).arrAt 7 cfg0.N = wholeG U W H := by
  rw [Value.final7, Value.G7_last, ← Value.outsAt0_sweep m c 31 (lt_of_lt_of_eq (by decide) N_0.symm)]
  funext i
  obtain ⟨a, b, rfl⟩ : ∃ (a : Fin 1) (b : Fin 1024), i = ix2 a b := ⟨i 0, i 1, by funext d; fin_cases d <;> rfl⟩
  obtain rfl : a = 0 := Subsingleton.elim _ _
  exact after_sums m c U W H G hU hW hH hG 31 _ (by decide) b

end Cert.NormGrad

end
-- ==== Proof.NormRef.lean ====
/- The reference's results over arrays of real numbers. -/
module

public import proofs.«01_k».proof.Proof.NormArray
public import proofs.«01_k».proof.Proof.Gen.Reference2Ideal.Read

@[expose] public section

set_option maxRecDepth 16384

noncomputable section

namespace Cert.NormGrad.Ref

open Cert.Reference2Ideal Cert.Reference2Ideal.Gen Cert.Reference2Ideal.Read Idealize.ShloMosaic Idealize.ShloMosaic.TcCoe Idealize.SL.Sem Cert.Product Cert.NormGrad

variable (x0 : (⟨S9216x5632, .bf16⟩ : BufTy).Contents (Elt Ideal)) (x1 : (⟨S1024x5632, .bf16⟩ : BufTy).Contents (Elt Ideal))
  (x2 x3 : (⟨S9216x1024, .f32⟩ : BufTy).Contents (Elt Ideal)) (x4 : (⟨S1x1024, .f32⟩ : BufTy).Contents (Elt Ideal))
  (U W H : ℕ → ℕ → ℝ) (G : ℕ → ℝ)
  (hU : ∀ (a : Fin 9216) (b : Fin 5632), (x0 : Vec Ideal S9216x5632 .bf16) (ix2 a b) = ((U a.val b.val : ℝ) : EReal))
  (hW : ∀ (a : Fin 1024) (b : Fin 5632), (x1 : Vec Ideal S1024x5632 .bf16) (ix2 a b) = ((W a.val b.val : ℝ) : EReal))
  (hH : ∀ (a : Fin 9216) (b : Fin 1024), (x2 : Vec Ideal S9216x1024 .f32) (ix2 a b) = ((H a.val b.val : ℝ) : EReal))
  (hG : ∀ b : Fin 1024, (x4 : Vec Ideal S1x1024 .f32) (ix2 0 b) = ((G b.val : ℝ) : EReal))

include hH in
theorem at_7 (r : Fin 9216) (z : Fin 1) : (val_main_v7 (F := Ideal) x2 : Vec Ideal S9216x1 .f32) (ix2 r z) = ((msq (H r.val) : ℝ) : EReal) := by
  have e : ∑ k : Fin 1024, (x2 : Vec Ideal S9216x1024 .f32) (ix2 r k) * (x2 : Vec Ideal S9216x1024 .f32) (ix2 r k) = ((∑ k : Fin 1024, H r.val k * H r.val k : ℝ) : EReal) := by
    rw [← coe_sum]
    exact Finset.sum_congr rfl fun k _ => by rw [hH, EReal.coe_mul]
  unfold val_main_v7 val_main_v6 val_main_cst_1 val_main_v5 val_main_v4 val_main_cst_0 val_main_v3 val_main_v2 val_main_cst val_main_v1
  pointwise
  rw [e, word_1024, word_eps, Ideal.div_coe (by norm_num), ← EReal.coe_mul, ← EReal.coe_add]
  rfl

include hH in
theorem at_8 (r : Fin 9216) (z : Fin 1) : (val_main_v8 (F := Ideal) x2 : Vec Ideal S9216x1 .f32) (ix2 r z) = ((scale (H r.val) : ℝ) : EReal) := by
  have e := at_7 x2 H hH r z
  unfold val_main_v8
  generalize val_main_v7 (F := Ideal) x2 = y at *
  pointwise
  rw [e, rsqrt_msq]

include hH in
theorem at_11 (r : Fin 9216) (z : Fin 1) :
    (val_main_v11 (F := Ideal) x2 : Vec Ideal S9216x1 .f32) (ix2 r z) = ((-(1 / 2) * (scale (H r.val) * (1 / msq (H r.val))) : ℝ) : EReal) := by
  have e := at_7 x2 H hH r z
  have e8 := at_8 x2 H hH r z
  unfold val_main_v11 val_main_v10 val_main_cst_2 val_main_v9
  generalize val_main_v7 (F := Ideal) x2 = y at *
  generalize val_main_v8 (F := Ideal) x2 = w at *
  pointwise
  rw [e, e8, word_half, Ideal.div_coe (ne_of_gt (msq_pos _)), ← EReal.coe_mul, ← EReal.coe_mul]

include hH in
theorem at_13 (r : Fin 9216) (b : Fin 1024) : (val_main_v13 (F := Ideal) x2 : Vec Ideal S9216x1024 .f32) (ix2 r b) = ((H r.val b.val * scale (H r.val) : ℝ) : EReal) := by
  have e := at_8 x2 H hH r 0
  unfold val_main_v13 val_main_v12
  generalize val_main_v8 (F := Ideal) x2 = y at *
  pointwise
  rw [hH, e, EReal.coe_mul]

include hU hW in
theorem at_18 (r : Fin 9216) (b : Fin 1024) : (val_main_v18 (F := Ideal) x0 x1 : Vec Ideal S9216x1024 .f32) (ix2 r b) = ((dn U W r.val b.val : ℝ) : EReal) := by
  have e : ∑ k : Fin 5632, (x0 : Vec Ideal S9216x5632 .bf16) (ix2 r k) * (x1 : Vec Ideal S1024x5632 .bf16) (ix2 b k) = ((dn U W r.val b.val : ℝ) : EReal) := by
    unfold dn
    rw [← Fin.sum_univ_eq_sum_range (fun k => U r.val k * W b.val k), ← coe_sum]
    exact Finset.sum_congr rfl fun k _ => by rw [hU, hW, EReal.coe_mul]
  unfold val_main_v18 val_main_v17 val_main_v0
  pointwise
  exact e

include hU hW hG in
theorem at_23 (r : Fin 9216) (b : Fin 1024) : (val_main_v23 (F := Ideal) x0 x1 x4 : Vec Ideal S9216x1024 .f32) (ix2 r b) = ((dn U W r.val b.val * G b.val : ℝ) : EReal) := by
  have e := at_18 x0 x1 U W hU hW r b
  unfold val_main_v23 val_main_v22
  generalize val_main_v18 (F := Ideal) x0 x1 = y at *
  pointwise
  rw [e, hG, EReal.coe_mul]

/-- The row's sum that the norm's gradient subtracts. -/
def rowSum (r : ℕ) : ℝ := ∑ k : Fin 1024, H r k * (dn U W r k * G k)

include hU hW hH hG in
theorem at_26 (r : Fin 9216) (z : Fin 1) : (val_main_v26 (F := Ideal) x0 x1 x2 x4 : Vec Ideal S9216x1 .f32) (ix2 r z) = ((rowSum U W H G r.val : ℝ) : EReal) := by
  have e := at_23 x0 x1 x4 U W G hU hW hG r
  unfold val_main_v26 val_main_v25 val_main_cst_4 val_main_v24
  generalize val_main_v23 (F := Ideal) x0 x1 x4 = y at *
  have es : ∑ k : Fin 1024, (x2 : Vec Ideal S9216x1024 .f32) (ix2 r k) * (y : Vec Ideal S9216x1024 .f32) (ix2 r k) = ((rowSum U W H G r.val : ℝ) : EReal) := by
    unfold rowSum
    rw [← coe_sum]
    exact Finset.sum_congr rfl fun k _ => by rw [hH, e, ← EReal.coe_mul]
  pointwise
  exact es

include hU hW hH hG in
theorem at_33 (r : Fin 9216) (b : Fin 1024) : (val_main_v33 (F := Ideal) x0 x1 x2 x4 : Vec Ideal S9216x1024 .f32) (ix2 r b)
    = ((rowSum U W H G r.val * (-(1 / 2) * (scale (H r.val) * (1 / msq (H r.val)))) * (1 / 1024) : ℝ) : EReal) := by
  have e := at_26 x0 x1 x2 x4 U W H G hU hW hH hG r 0
  have e11 := at_11 x2 H hH r 0
  unfold val_main_v33 val_main_v32 val_main_cst_6 val_main_v31 val_main_v30 val_main_cst_5 val_main_v29
  generalize val_main_v26 (F := Ideal) x0 x1 x2 x4 = y at *
  generalize val_main_v11 (F := Ideal) x2 = w at *
  pointwise
  rw [Fin.sum_univ_one, e, e11, word_1024, Ideal.div_coe (by norm_num), ← EReal.coe_mul, ← EReal.coe_mul]

include hU hW hH hG in
/-- The gradient at the input. -/
theorem at_38 (r : Fin 9216) (b : Fin 1024) : (val_main_v38 (F := Ideal) x0 x1 x2 x3 x4 : Vec Ideal S9216x1024 .f32) (ix2 r b)
    = ((dnorm (dn U W r.val) G (H r.val) b.val : ℝ) : EReal) + (x3 : Vec Ideal S9216x1024 .f32) (ix2 r b) := by
  have e8 := at_8 x2 H hH r 0
  have e23 := at_23 x0 x1 x4 U W G hU hW hG r b
  have e33 := at_33 x0 x1 x2 x4 U W H G hU hW hH hG r b
  unfold val_main_v38 val_main_v37 val_main_v36 val_main_v35 val_main_v34 val_main_v28 val_main_v27
  generalize val_main_v8 (F := Ideal) x2 = y at *
  generalize val_main_v23 (F := Ideal) x0 x1 x4 = w at *
  generalize val_main_v33 (F := Ideal) x0 x1 x2 x4 = z at *
  pointwise
  rw [e8, e23, e33, hH, ← dnorm_eq]
  congr 1

include hU hW hH in
/-- The weight's gradient. -/
theorem at_21 (a : Fin 1) (b : Fin 1024) : (val_main_v21 (F := Ideal) x0 x1 x2 : Vec Ideal S1x1024 .f32) (ix2 a b) = ((sums (dn U W) H 0 9216 b.val : ℝ) : EReal) := by
  have e := fun r => at_13 x2 H hH r b
  have e18 := fun r => at_18 x0 x1 U W hU hW r b
  unfold val_main_v21 val_main_v20 val_main_cst_3 val_main_v19
  generalize val_main_v13 (F := Ideal) x2 = y at *
  generalize val_main_v18 (F := Ideal) x0 x1 = w at *
  have es : ∑ k : Fin 9216, (y : Vec Ideal S9216x1024 .f32) (ix2 k b) * (w : Vec Ideal S9216x1024 .f32) (ix2 k b) = ((sums (dn U W) H 0 9216 b.val : ℝ) : EReal) := by
    unfold sums
    rw [← Fin.sum_univ_eq_sum_range (fun k => dn U W (0 + k) b.val * (H (0 + k) b.val * scale (H (0 + k)))), ← coe_sum]
    refine Finset.sum_congr rfl fun k _ => ?_
    rw [e, e18, ← EReal.coe_mul, zero_add, mul_comm]
  pointwise
  exact es

end Cert.NormGrad.Ref

end
-- ==== Proof.NormClaim.lean ====
/- The norm's gradient: the kernel's three results and the reference's agree. -/
module

public import proofs.«01_k».proof.Proof.ConvClaim
public import proofs.«01_k».proof.Proof.Gen.Pre_finite2
public import proofs.«01_k».proof.Proof.NormRef

@[expose] public section

set_option maxRecDepth 16384

noncomputable section

namespace Cert.NormGrad

open Idealize.ShloMosaic Idealize.ShloMosaic.TcCoe Idealize.SL.Sem Idealize.ShloMosaic.StableHlo Cert.Product Cert.ConvGlu

section Pre
open Cert.Pre_finite2

variable (x0 : FVec Ideal S9216x5632 .bf16) (x1 : FVec Ideal S1024x5632 .bf16) (x2 x3 : FVec Ideal S9216x1024 .f32) (x4 : FVec Ideal S1x1024 .f32)

/-- An array whose absolute values compare below one bound at every index holds real numbers. -/
theorem real_of_below {s : Shape} (x : FVec Ideal s .f32) (b : FVec Ideal s .f32) (h : cmpf .olt (Host.absf x) b = fun _ => 1#1) (i : s.Idx) :
    x i = (((x i).toReal : ℝ) : EReal) :=
  real_of_abs_lt (congrFun h i)

theorem reals (h : (fn (F := Ideal) x0 x1 x2 x3 x4).1 = (fun _ => 1#1) ∧ (fn (F := Ideal) x0 x1 x2 x3 x4).2.1 = (fun _ => 1#1)
      ∧ (fn (F := Ideal) x0 x1 x2 x3 x4).2.2.1 = (fun _ => 1#1) ∧ (fn (F := Ideal) x0 x1 x2 x3 x4).2.2.2 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x4 i = (((x4 i).toReal : ℝ) : EReal)) := by
  obtain ⟨h0, h1, h2, h4⟩ := h
  exact ⟨real_of_below (extf .f32 x0 Facts.bitsLt_bf16_f32) _ h0, real_of_below (extf .f32 x1 Facts.bitsLt_bf16_f32) _ h1, real_of_below x2 _ h2, real_of_below x4 _ h4⟩

end Pre

theorem num_real {p q : ℕ} (x : (⟨2, ![p, q]⟩ : Shape).Idx → EReal) (hx : ∀ i, x i = (((x i).toReal : ℝ) : EReal)) (a b : ℕ) (ha : a < p) (hb : b < q) :
    num x a b = ((fun2 x a b : ℝ) : EReal) := by
  refine Eq.trans ?_ (fun2_at x hx ⟨a, ha⟩ ⟨b, hb⟩)
  exact (num_at x (ix2 ⟨a, ha⟩ ⟨b, hb⟩) a b rfl rfl).symm

theorem reference_run (m : (ℓ : Loc Cert.Reference2Ideal.nD Cert.Reference2Ideal.τ Cert.Reference2Ideal.sig) → Buf (Elt Ideal) ℓ) (ρ : Dev Cert.Reference2Ideal.nD → PrngReg) :
    θ_run Cert.Reference2Ideal.defs (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2, Idealize.ShloMosaic.sem_eq_zero_of_no_sems (by decide) r.2⟩)
    (Cert.Reference2Ideal.Value.run m ρ)

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  have hr := fun c : Dev Cert.Kernel2Ideal.nD => reals (argU m c) (argW m c) (argH m c) (argE m c) (argG m c) (hpre c)
  have hU := fun c : Dev Cert.Kernel2Ideal.nD => num_real (argU m c) (hr c).1
  have hW := fun c : Dev Cert.Kernel2Ideal.nD => num_real (argW m c) (hr c).2.1
  have hH := fun c : Dev Cert.Kernel2Ideal.nD => num_real (argH m c) (hr c).2.2.1
  have hG := fun c : Dev Cert.Kernel2Ideal.nD => fun b => num_real (argG m c) (hr c).2.2.2 0 b (by decide)
  refine ⟨fun c => wholeH m c (fun2 (argU m c)) (fun2 (argW m c)) (fun2 (argH m c)) (fun2 (argG m c) 0),
    fun c => wholeH m c (fun2 (argU m c)) (fun2 (argW m c)) (fun2 (argH m c)) (fun2 (argG m c) 0),
    fun c => wholeG (fun2 (argU m c)) (fun2 (argW m c)) (fun2 (argH m c)), ?_, ?_⟩
  · refine (θ_run Cert.Kernel2Ideal.defs _ _).mono (fun r h c => ?_) (Cert.Kernel2Ideal.Value.run_blocks m g)
    obtain ⟨h0, h1, h2, h3⟩ := h c
    exact ⟨h0.trans (final_5 m c _ _ _ _ (hU c) (hW c) (hH c) (hG c)), h1.trans (final_6 m c _ _ _ _ (hU c) (hW c) (hH c) (hG c)),
      h2.trans (final_7 m c _ _ _ _ (hU c) (hW c) (hH c) (hG c)), h3⟩
  · refine (θ_run Cert.Reference2Ideal.defs _ _).mono (fun r h c => ?_) (Cert.Reference2Ideal.Value.run m' g')
    obtain ⟨h0, h1, h2, h3⟩ := h c
    obtain ⟨a0, a1, a2, a3, a4⟩ := hagree c
    have rU := fun (a : Fin 9216) (b : Fin 5632) => (congrFun a0 (ix2 a b)).trans (fun2_at (argU m c) (hr c).1 a b)
    have rW := fun (a : Fin 1024) (b : Fin 5632) => (congrFun a1 (ix2 a b)).trans (fun2_at (argW m c) (hr c).2.1 a b)
    have rH := fun (a : Fin 9216) (b : Fin 1024) => (congrFun a2 (ix2 a b)).trans (fun2_at (argH m c) (hr c).2.2.1 a b)
    have rG := fun (b : Fin 1024) => (congrFun a4 (ix2 0 b)).trans (fun2_at (argG m c) (hr c).2.2.2 0 b)
    have eH : Cert.Reference2Ideal.Read.val_main_v38 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = wholeH m c (fun2 (argU m c)) (fun2 (argW m c)) (fun2 (argH m c)) (fun2 (argG m c) 0) := by
      funext i
      obtain ⟨a, b, rfl⟩ : ∃ (a : Fin 9216) (b : Fin 1024), i = ix2 a b := ⟨i 0, i 1, by funext d; fin_cases d <;> rfl⟩
      exact (Ref.at_38 _ _ _ _ _ _ _ _ _ rU rW rH rG a b).trans (congrArg (_ + ·) (congrFun a3 (ix2 a b)))
    refine ⟨(h0.trans (Cert.Reference2Ideal.Read.val_main_v38_eq _ _)).trans eH, (h1.trans (Cert.Reference2Ideal.Read.val_main_v39_eq _ _)).trans eH, (h2.trans (Cert.Reference2Ideal.Read.val_main_v21_eq _ _ _)).trans ?_, h3⟩
    funext i
    obtain ⟨a, b, rfl⟩ : ∃ (a : Fin 1) (b : Fin 1024), i = ix2 a b := ⟨i 0, i 1, by funext d; fin_cases d <;> rfl⟩
    exact Ref.at_21 _ _ _ _ _ _ rU rW rH a b

end Cert.NormGrad

end
-- ==== Proof.UpWeight.lean ====
/- The gradient of the up projection's weights: the kernel's result and the reference's are one sum of products over the rows. -/
module

public import proofs.«01_k».proof.Defs
public import proofs.«01_k».proof.Proof.Product
public import proofs.«01_k».proof.Proof.Gen.Kernel3Ideal.Value
public import proofs.«01_k».proof.Proof.Gen.Reference3Ideal.Read

@[expose] public section

set_option maxRecDepth 16384

noncomputable section

namespace Cert.UpWeight

open Cert.Kernel3Ideal Cert.Kernel3Ideal.Gen Idealize.ShloMosaic Idealize.ShloMosaic.TcCoe Idealize.SL.Sem Cert.Product

section Case
variable (c : Dev nD) (i : grid0.Coords) (arg3 : Memref sig .tc .vmem S2304x1024 .bf16) (harg3 : arg3.IsWhole) (arg4 : Memref sig .tc .vmem S2304x1408 .bf16) (harg4 : arg4.IsWhole)
  (arg5 : Memref sig .tc .vmem S1024x1408 .bf16) (harg5 : arg5.IsWhole) (arg6 : Memref sig .tc .vmem S1024x1408 .f32) (harg6 : arg6.IsWhole)
  (x0 : Vec Ideal S2304x1024 .bf16) (x1 : Vec Ideal S2304x1408 .bf16) (xs : Vec Ideal S1024x1408 .f32)

theorem block_product (a : Fin 1024) (b : Fin 1408) :
    k0_pay1 (F := Ideal) x0 x1 (ix2 a b) = ∑ k : Fin 2304, x0 (ix2 k a) * x1 (ix2 k b) := by
  pointwise [k0_pay1]

/-- A run's first point sets the accumulator to its block's product. -/
theorem sout_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_cons_unit_zero hz]
  unfold k0_pay2
  simp only [View.readAt_eq_ld, harg3.read_unread, harg4.read_unread, View.ld_unit_zero (S := S2304x1024) hz, View.ld_unit_zero (S := S2304x1408) hz, View.ld_unit_zero (S := S1024x1408) hz, shapeCast_self]

/-- The points between add theirs. -/
theorem sout_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  rw [View.canon_cons_unit_zero hz]
  unfold k0_pay3
  simp only [View.readAt_eq_ld, harg6.read_unread, harg3.read_unread, harg4.read_unread, View.ld_unit_zero (S := S2304x1024) hz, View.ld_unit_zero (S := S2304x1408) hz, View.ld_unit_zero (S := S1024x1408) hz, shapeCast_self]

/-- So does the last point. -/
theorem sout_C (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  unfold sout0_C_0
  rw [View.read_writes_eq_canon _ _ _ (scover0_C_0 (F := Ideal) c i arg3 harg3 arg4 harg4 arg5 harg5 arg6 harg6 hc0 hc1 hc2 x0 x1 xs)]
  unfold kernelRun0_C
  dsimp only
  sl_unfold_words
  rw [View.canon_cons_unit_zero hz]
  unfold k0_pay3
  simp only [View.readAt_eq_ld, harg6.read_unread, harg3.read_unread, harg4.read_unread, View.ld_unit_zero (S := S2304x1024) hz, View.ld_unit_zero (S := S2304x1408) hz, View.ld_unit_zero (S := S1024x1408) hz, shapeCast_self]

/-- The last point writes the accumulator out. -/
theorem out_C (hc0 : ¬cond0_0 i) (hc1 : cond0_1 i) (hc2 : cond0_2 i) (y : S1024x1408.Idx) :
    out0_C_2 (F := Ideal) c i arg3 harg3 arg4 harg4 arg5 harg5 arg6 harg6 hc0 hc1 hc2 x0 x1 xs y = addf xs (k0_pay1 x0 x1) y := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  rw [View.canon_cons_unit_zero hz, View.readCov_unit_zero _ hz]
  unfold k0_pay4 k0_pay3
  simp only [View.readAt_eq_ld, harg6.read_unread, harg3.read_unread, harg4.read_unread, View.ld_unit_zero (S := S2304x1024) hz, View.ld_unit_zero (S := S2304x1408) hz, View.ld_unit_zero (S := S1024x1408) hz, shapeCast_self]
  rfl

end Case

theorem index_l : ∀ t : Fin grid0.N, win0_0.index t 0 = t.val % 4 ∧ win0_0.index t 1 = 0 := by decide +kernel
theorem index_r : ∀ t : Fin grid0.N, win0_1.index t 0 = t.val % 4 ∧ win0_1.index t 1 = t.val / 4 := by decide +kernel

variable (m : (ℓ : Loc nD τ sig) → Buf (Elt Ideal) ℓ) (c : Dev nD)

abbrev lhs : Vec Ideal S9216x1024 .bf16 := m ((c : Thread nD τ).loc main_arg0)
abbrev rhs : Vec Ideal S9216x5632 .bf16 := m ((c : Thread nD τ).loc main_arg1)

theorem block_l (t : Fin cfg0.N) (k : Fin 2304) (a : Fin 1024) :
    (iblk m c 0 t : Vec Ideal S2304x1024 .bf16) (ix2 k a) = num (lhs m c) (2304 * (t.val % 4) + k.val) ((fun _ => 0) (t.val / 4) + a.val) := by
  have hi := index_l t
  unfold iblk
  rw [View.read_apply]
  refine num_at (lhs m c) _ _ _ ?_ ?_
  · show win0_0.index t 0 * 2304 + 1 * k.val = _; rw [hi.1]; omega
  · show win0_0.index t 1 * 1024 + 1 * a.val = _; rw [hi.2]; dsimp only; omega

theorem block_r (t : Fin cfg0.N) (k : Fin 2304) (b : Fin 1408) :
    (iblk m c 1 t : Vec Ideal S2304x1408 .bf16) (ix2 k b) = num (rhs m c) (2304 * (t.val % 4) + k.val) ((fun j => 1408 * j) (t.val / 4) + b.val) := by
  have hi := index_r t
  unfold iblk
  rw [View.read_apply]
  refine num_at (rhs m c) _ _ _ ?_ ?_
  · show win0_1.index t 0 * 2304 + 1 * k.val = _; rw [hi.1]; omega
  · show win0_1.index t 1 * 1408 + 1 * b.val = _; rw [hi.2]; dsimp only; omega

theorem next (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h2 : t.val % 4 = 3
  · rw [outsAt0_C m c t h (by omega) h2]
    dsimp only
    rw [sout_C]
  · rw [outsAt0_B m c t h (by omega) h2]
    dsimp only
    rw [sout_B]

/-- The accumulator after a point. -/
theorem held : ∀ (n : ℕ) (h : n < cfg0.N) (a : Fin 1024) (b : Fin 1408),
    (outsAt0 m c n h).2 (ix2 a b) = upto (colTerm (lhs m c) (rhs m c) ((fun _ => 0) (n / 4) + a.val) ((fun j => 1408 * j) (n / 4) + b.val)) (2304 * (n % 4 + 1)) :=
  col_blocks 4 cfg0.N (by decide) (lhs m c) (rhs m c) (fun _ => 0) (fun j => 1408 * j) (fun n h => iblk m c 0 ⟨n, h⟩) (fun n h => iblk m c 1 ⟨n, h⟩)
    (fun n h => (outsAt0 m c n h).2) (fun n h => block_l m c ⟨n, h⟩) (fun n h => block_r m c ⟨n, h⟩)
    (fun n h h0 a b => by
      rw [outsAt0_A m c ⟨n, h⟩ h0 (by dsimp only; omega) (by dsimp only; omega)]
      dsimp only
      rw [sout_A]
      exact block_product (iblk m c 0 ⟨n, h⟩) (iblk m c 1 ⟨n, h⟩) a b)
    (fun n h h0 a b => by
      rw [next m c ⟨n, h⟩ h0]
      exact congrArg (_ + ·) (block_product (iblk m c 0 ⟨n, h⟩) (iblk m c 1 ⟨n, h⟩) a b))

/-- A block's last point writes what its accumulator holds. -/
theorem written (t : Fin cfg0.N) (h : t.val % 4 = 3) (y : S1024x1408.Idx) :
    (outsAt0 m c t.val t.isLt).1 y = (outsAt0 m c t.val t.isLt).2 y := by
  rw [outsAt0_C m c t (by omega) (by omega) h]
  dsimp only
  rw [out_C, sout_C]

/-- The kernel's array: the products of the normed rows' columns with the incoming gradient's. -/
theorem final : (dats m 0 c).arrAt 2 cfg0.N = cols (lhs m c) (rhs m c) := by
  rw [Value.final2]
  funext i
  have h0 : (i 0).val < 1024 := (i 0).isLt
  have h1 : (i 1).val < 5632 := (i 1).isLt
  have hN : Value.pt2Of i < cfg0.N := lt_of_lt_of_eq (by show 4 * (4 * ((i 0).val / 1024 - 0) + 1 * ((i 1).val / 1408 - 0)) + 3 < 16; omega) N_0.symm
  have hd : Value.pt2Of i / 4 = (i 1).val / 1408 := by show (4 * (4 * ((i 0).val / 1024 - 0) + 1 * ((i 1).val / 1408 - 0)) + 3) / 4 = _; omega
  have hm : Value.pt2Of i % 4 = 3 := by show (4 * (4 * ((i 0).val / 1024 - 0) + 1 * ((i 1).val / 1408 - 0)) + 3) % 4 = _; omega
  unfold Value.G2
  rw [dif_pos hN, ← Value.outsAt0_sweep m c _ hN]
  refine (written m c ⟨_, hN⟩ hm _).trans ?_
  obtain ⟨a, b, e⟩ : ∃ (a : Fin 1024) (b : Fin 1408), Value.loc2Of i = ix2 a b := ⟨Value.loc2Of i 0, Value.loc2Of i 1, by funext d; fin_cases d <;> rfl⟩
  have ea : a.val = (i 0).val % 1024 := congrArg Fin.val (congrFun e 0).symm
  have eb : b.val = (i 1).val % 1408 := congrArg Fin.val (congrFun e 1).symm
  rw [e]
  refine (held m c _ hN a b).trans ?_
  dsimp only
  rw [hm, hd, ea, eb, Nat.zero_add, show (i 0).val % 1024 = (i 0).val by omega, show 1408 * ((i 1).val / 1408) + (i 1).val % 1408 = (i 1).val by omega]
  rfl

theorem reference (x0 : (⟨Cert.Reference3Ideal.S9216x1024, .bf16⟩ : BufTy).Contents (Elt Ideal)) (x1 : (⟨Cert.Reference3Ideal.S9216x5632, .bf16⟩ : BufTy).Contents (Elt Ideal)) :
    Cert.Reference3Ideal.Read.val_main_v6 (F := Ideal) x0 x1 = cols (p := 9216) (q := 1024) (r := 5632) x0 x1 := by
  funext i
  rw [Cert.Reference3Ideal.Read.val_main_v6_apply, Cert.Reference3Ideal.Read.val_main_v5_apply, Cert.Reference3Ideal.Read.val_main_v4_apply]
  refine (Finset.sum_congr rfl fun k _ => ?_).trans (upto_fin (colTerm (p := 9216) (q := 1024) (r := 5632) x0 x1 (i 0).val (i 1).val) 9216).symm
  refine (mul_comm _ _).trans (congrArg₂ (· * ·) (num_at (x0 : Vec Ideal S9216x1024 .bf16) _ _ _ ?_ ?_) (num_at (x1 : Vec Ideal S9216x5632 .bf16) _ _ _ ?_ ?_)) <;> rfl

theorem reference_run (m : (ℓ : Loc Cert.Reference3Ideal.nD Cert.Reference3Ideal.τ Cert.Reference3Ideal.sig) → Buf (Elt Ideal) ℓ) (ρ : Dev Cert.Reference3Ideal.nD → PrngReg) :
    θ_run Cert.Reference3Ideal.defs (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run m ρ)

theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => cols (lhs m c) (rhs m c), ?_, ?_⟩
  · refine (θ_run Cert.Kernel3Ideal.defs _ _).mono (fun r h c => ?_) (Value.run_blocks m g)
    obtain ⟨h0, h1⟩ := h c
    exact ⟨h0.trans (final m c), h1⟩
  · refine (θ_run Cert.Reference3Ideal.defs _ _).mono (fun r h c => ?_) (Cert.Reference3Ideal.Value.run m' g')
    obtain ⟨h0, h1⟩ := h c
    obtain ⟨a0, a1⟩ := hagree c
    exact ⟨((h0.trans (Cert.Reference3Ideal.Read.val_main_v6_eq _ _)).trans (reference _ _)).trans (congrArg₂ (cols (p := 9216) (q := 1024) (r := 5632)) a0 a1), h1⟩

end Cert.UpWeight

end
-- ==== Proof.InWeight.lean ====
/- The gradient of the mixer's input projection: sums of products over the rows. -/
module

public import proofs.«01_k».proof.Defs
public import proofs.«01_k».proof.Proof.Product
public import proofs.«01_k».proof.Proof.Gen.Kernel4Ideal.Value
public import proofs.«01_k».proof.Proof.Gen.Reference4Ideal.Read

@[expose] public section

set_option maxRecDepth 16384

noncomputable section

namespace Cert.InWeight

open Cert.Kernel4Ideal Cert.Kernel4Ideal.Gen Idealize.ShloMosaic Idealize.ShloMosaic.TcCoe Idealize.SL.Sem Cert.Product

section Case
variable (c : Dev nD) (i : grid0.Coords) (arg3 : Memref sig .tc .vmem S2304x1024 .bf16) (harg3 : arg3.IsWhole) (arg4 : Memref sig .tc .vmem S2304x1792 .bf16) (harg4 : arg4.IsWhole)
  (arg5 : Memref sig .tc .vmem S1024x1792 .bf16) (harg5 : arg5.IsWhole) (arg6 : Memref sig .tc .vmem S1024x1792 .f32) (harg6 : arg6.IsWhole)
  (x0 : Vec Ideal S2304x1024 .bf16) (x1 : Vec Ideal S2304x1792 .bf16) (xs : Vec Ideal S1024x1792 .f32)

theorem block_product (a : Fin 1024) (b : Fin 1792) :
    k0_pay1 (F := Ideal) x0 x1 (ix2 a b) = ∑ k : Fin 2304, x0 (ix2 k a) * x1 (ix2 k b) := by
  pointwise [k0_pay1]

/-- A run's first point sets the accumulator to its block's product. -/
theorem sout_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_cons_unit_zero hz]
  unfold k0_pay2
  simp only [View.readAt_eq_ld, harg3.read_unread, harg4.read_unread, View.ld_unit_zero (S := S2304x1024) hz, View.ld_unit_zero (S := S2304x1792) hz, View.ld_unit_zero (S := S1024x1792) hz, shapeCast_self]

/-- The points between add theirs. -/
theorem sout_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  rw [View.canon_cons_unit_zero hz]
  unfold k0_pay3
  simp only [View.readAt_eq_ld, harg6.read_unread, harg3.read_unread, harg4.read_unread, View.ld_unit_zero (S := S2304x1024) hz, View.ld_unit_zero (S := S2304x1792) hz, View.ld_unit_zero (S := S1024x1792) hz, shapeCast_self]

/-- So does the last point. -/
theorem sout_C (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  unfold sout0_C_0
  rw [View.read_writes_eq_canon _ _ _ (scover0_C_0 (F := Ideal) c i arg3 harg3 arg4 harg4 arg5 harg5 arg6 harg6 hc0 hc1 hc2 x0 x1 xs)]
  unfold kernelRun0_C
  dsimp only
  sl_unfold_words
  rw [View.canon_cons_unit_zero hz]
  unfold k0_pay3
  simp only [View.readAt_eq_ld, harg6.read_unread, harg3.read_unread, harg4.read_unread, View.ld_unit_zero (S := S2304x1024) hz, View.ld_unit_zero (S := S2304x1792) hz, View.ld_unit_zero (S := S1024x1792) hz, shapeCast_self]

/-- The last point writes the accumulator out. -/
theorem out_C (hc0 : ¬cond0_0 i) (hc1 : cond0_1 i) (hc2 : cond0_2 i) (y : S1024x1792.Idx) :
    out0_C_2 (F := Ideal) c i arg3 harg3 arg4 harg4 arg5 harg5 arg6 harg6 hc0 hc1 hc2 x0 x1 xs y = addf xs (k0_pay1 x0 x1) y := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  rw [View.canon_cons_unit_zero hz, View.readCov_unit_zero _ hz]
  unfold k0_pay4 k0_pay3
  simp only [View.readAt_eq_ld, harg6.read_unread, harg3.read_unread, harg4.read_unread, View.ld_unit_zero (S := S2304x1024) hz, View.ld_unit_zero (S := S2304x1792) hz, View.ld_unit_zero (S := S1024x1792) hz, shapeCast_self]
  rfl

end Case

theorem index_l : ∀ t : Fin grid0.N, win0_0.index t 0 = t.val % 4 ∧ win0_0.index t 1 = 0 := by decide +kernel
theorem index_r : ∀ t : Fin grid0.N, win0_1.index t 0 = t.val % 4 ∧ win0_1.index t 1 = t.val / 4 := by decide +kernel

variable (m : (ℓ : Loc nD τ sig) → Buf (Elt Ideal) ℓ) (c : Dev nD)

abbrev lhs : Vec Ideal S9216x1024 .bf16 := m ((c : Thread nD τ).loc main_arg0)
abbrev rhs : Vec Ideal S9216x5376 .bf16 := m ((c : Thread nD τ).loc main_arg1)

theorem block_l (t : Fin cfg0.N) (k : Fin 2304) (a : Fin 1024) :
    (iblk m c 0 t : Vec Ideal S2304x1024 .bf16) (ix2 k a) = num (lhs m c) (2304 * (t.val % 4) + k.val) ((fun _ => 0) (t.val / 4) + a.val) := by
  have hi := index_l t
  unfold iblk
  rw [View.read_apply]
  refine num_at (lhs m c) _ _ _ ?_ ?_
  · show win0_0.index t 0 * 2304 + 1 * k.val = _; rw [hi.1]; omega
  · show win0_0.index t 1 * 1024 + 1 * a.val = _; rw [hi.2]; dsimp only; omega

theorem block_r (t : Fin cfg0.N) (k : Fin 2304) (b : Fin 1792) :
    (iblk m c 1 t : Vec Ideal S2304x1792 .bf16) (ix2 k b) = num (rhs m c) (2304 * (t.val % 4) + k.val) ((fun j => 1792 * j) (t.val / 4) + b.val) := by
  have hi := index_r t
  unfold iblk
  rw [View.read_apply]
  refine num_at (rhs m c) _ _ _ ?_ ?_
  · show win0_1.index t 0 * 2304 + 1 * k.val = _; rw [hi.1]; omega
  · show win0_1.index t 1 * 1792 + 1 * b.val = _; rw [hi.2]; dsimp only; omega

theorem next (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h2 : t.val % 4 = 3
  · rw [outsAt0_C m c t h (by omega) h2]
    dsimp only
    rw [sout_C]
  · rw [outsAt0_B m c t h (by omega) h2]
    dsimp only
    rw [sout_B]

/-- The accumulator after a point. -/
theorem held : ∀ (n : ℕ) (h : n < cfg0.N) (a : Fin 1024) (b : Fin 1792),
    (outsAt0 m c n h).2 (ix2 a b) = upto (colTerm (lhs m c) (rhs m c) ((fun _ => 0) (n / 4) + a.val) ((fun j => 1792 * j) (n / 4) + b.val)) (2304 * (n % 4 + 1)) :=
  col_blocks 4 cfg0.N (by decide) (lhs m c) (rhs m c) (fun _ => 0) (fun j => 1792 * j) (fun n h => iblk m c 0 ⟨n, h⟩) (fun n h => iblk m c 1 ⟨n, h⟩)
    (fun n h => (outsAt0 m c n h).2) (fun n h => block_l m c ⟨n, h⟩) (fun n h => block_r m c ⟨n, h⟩)
    (fun n h h0 a b => by
      rw [outsAt0_A m c ⟨n, h⟩ h0 (by dsimp only; omega) (by dsimp only; omega)]
      dsimp only
      rw [sout_A]
      exact block_product (iblk m c 0 ⟨n, h⟩) (iblk m c 1 ⟨n, h⟩) a b)
    (fun n h h0 a b => by
      rw [next m c ⟨n, h⟩ h0]
      exact congrArg (_ + ·) (block_product (iblk m c 0 ⟨n, h⟩) (iblk m c 1 ⟨n, h⟩) a b))

/-- A block's last point writes what its accumulator holds. -/
theorem written (t : Fin cfg0.N) (h : t.val % 4 = 3) (y : S1024x1792.Idx) :
    (outsAt0 m c t.val t.isLt).1 y = (outsAt0 m c t.val t.isLt).2 y := by
  rw [outsAt0_C m c t (by omega) (by omega) h]
  dsimp only
  rw [out_C, sout_C]

/-- The kernel's array: the products of the normed input's columns with the projection's gradient's. -/
theorem final : (dats m 0 c).arrAt 2 cfg0.N = cols (lhs m c) (rhs m c) := by
  rw [Value.final2]
  funext i
  have h0 : (i 0).val < 1024 := (i 0).isLt
  have h1 : (i 1).val < 5376 := (i 1).isLt
  have hN : Value.pt2Of i < cfg0.N := lt_of_lt_of_eq (by show 4 * (3 * ((i 0).val / 1024 - 0) + 1 * ((i 1).val / 1792 - 0)) + 3 < 12; omega) N_0.symm
  have hd : Value.pt2Of i / 4 = (i 1).val / 1792 := by show (4 * (3 * ((i 0).val / 1024 - 0) + 1 * ((i 1).val / 1792 - 0)) + 3) / 4 = _; omega
  have hm : Value.pt2Of i % 4 = 3 := by show (4 * (3 * ((i 0).val / 1024 - 0) + 1 * ((i 1).val / 1792 - 0)) + 3) % 4 = _; omega
  unfold Value.G2
  rw [dif_pos hN, ← Value.outsAt0_sweep m c _ hN]
  refine (written m c ⟨_, hN⟩ hm _).trans ?_
  obtain ⟨a, b, e⟩ : ∃ (a : Fin 1024) (b : Fin 1792), Value.loc2Of i = ix2 a b := ⟨Value.loc2Of i 0, Value.loc2Of i 1, by funext d; fin_cases d <;> rfl⟩
  have ea : a.val = (i 0).val % 1024 := congrArg Fin.val (congrFun e 0).symm
  have eb : b.val = (i 1).val % 1792 := congrArg Fin.val (congrFun e 1).symm
  rw [e]
  refine (held m c _ hN a b).trans ?_
  dsimp only
  rw [hm, hd, ea, eb, Nat.zero_add, show (i 0).val % 1024 = (i 0).val by omega, show 1792 * ((i 1).val / 1792) + (i 1).val % 1792 = (i 1).val by omega]
  rfl

theorem reference (x0 : (⟨Cert.Reference4Ideal.S9216x1024, .bf16⟩ : BufTy).Contents (Elt Ideal)) (x1 : (⟨Cert.Reference4Ideal.S9216x5376, .bf16⟩ : BufTy).Contents (Elt Ideal)) :
    Cert.Reference4Ideal.Read.val_main_v6 (F := Ideal) x0 x1 = cols (p := 9216) (q := 1024) (r := 5376) x0 x1 := by
  funext i
  rw [Cert.Reference4Ideal.Read.val_main_v6_apply, Cert.Reference4Ideal.Read.val_main_v5_apply, Cert.Reference4Ideal.Read.val_main_v4_apply]
  refine (Finset.sum_congr rfl fun k _ => ?_).trans (upto_fin (colTerm (p := 9216) (q := 1024) (r := 5376) x0 x1 (i 0).val (i 1).val) 9216).symm
  refine (mul_comm _ _).trans (congrArg₂ (· * ·) (num_at (x0 : Vec Ideal S9216x1024 .bf16) _ _ _ ?_ ?_) (num_at (x1 : Vec Ideal S9216x5376 .bf16) _ _ _ ?_ ?_)) <;> rfl

theorem reference_run (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run m ρ)

theorem algebraic : Cert.algebraic_Kernel4Ideal_Reference4Ideal (hKernel4Ideal := Cert.Kernel4Ideal.Gen.facts) (hReference4Ideal := Cert.Reference4Ideal.Gen.facts) := by
  intro m g m' g' _ hagree
  refine ⟨fun c => cols (lhs m c) (rhs m c), ?_, ?_⟩
  · refine (θ_run Cert.Kernel4Ideal.defs _ _).mono (fun r h c => ?_) (Value.run_blocks m g)
    obtain ⟨h0, h1⟩ := h c
    exact ⟨h0.trans (final m c), h1⟩
  · refine (θ_run Cert.Reference4Ideal.defs _ _).mono (fun r h c => ?_) (Cert.Reference4Ideal.Value.run m' g')
    obtain ⟨h0, h1⟩ := h c
    obtain ⟨a0, a1⟩ := hagree c
    exact ⟨((h0.trans (Cert.Reference4Ideal.Read.val_main_v6_eq _ _)).trans (reference _ _)).trans (congrArg₂ (cols (p := 9216) (q := 1024) (r := 5376)) a0 a1), h1⟩

end Cert.InWeight

end
-- ==== Proof.DownWeight.lean ====
/- The gradient of the down projection's weights: sums of products over the rows, with the result cut along its rows. -/
module

public import proofs.«01_k».proof.Defs
public import proofs.«01_k».proof.Proof.Product
public import proofs.«01_k».proof.Proof.Gen.Kernel5Ideal.Value
public import proofs.«01_k».proof.Proof.Gen.Reference5Ideal.Read

@[expose] public section

set_option maxRecDepth 16384

noncomputable section

namespace Cert.DownWeight

open Cert.Kernel5Ideal Cert.Kernel5Ideal.Gen Idealize.ShloMosaic Idealize.ShloMosaic.TcCoe Idealize.SL.Sem Cert.Product

section Case
variable (c : Dev nD) (i : grid0.Coords) (arg3 : Memref sig .tc .vmem S2304x1408 .bf16) (harg3 : arg3.IsWhole) (arg4 : Memref sig .tc .vmem S2304x1024 .bf16) (harg4 : arg4.IsWhole)
  (arg5 : Memref sig .tc .vmem S1408x1024 .bf16) (harg5 : arg5.IsWhole) (arg6 : Memref sig .tc .vmem S1408x1024 .f32) (harg6 : arg6.IsWhole)
  (x0 : Vec Ideal S2304x1408 .bf16) (x1 : Vec Ideal S2304x1024 .bf16) (xs : Vec Ideal S1408x1024 .f32)

theorem block_product (a : Fin 1408) (b : Fin 1024) :
    k0_pay1 (F := Ideal) x0 x1 (ix2 a b) = ∑ k : Fin 2304, x0 (ix2 k a) * x1 (ix2 k b) := by
  pointwise [k0_pay1]

/-- A run's first point sets the accumulator to its block's product. -/
theorem sout_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_cons_unit_zero hz]
  unfold k0_pay2
  simp only [View.readAt_eq_ld, harg3.read_unread, harg4.read_unread, View.ld_unit_zero (S := S2304x1408) hz, View.ld_unit_zero (S := S2304x1024) hz, View.ld_unit_zero (S := S1408x1024) hz, shapeCast_self]

/-- The points between add theirs. -/
theorem sout_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  rw [View.canon_cons_unit_zero hz]
  unfold k0_pay3
  simp only [View.readAt_eq_ld, harg6.read_unread, harg3.read_unread, harg4.read_unread, View.ld_unit_zero (S := S2304x1408) hz, View.ld_unit_zero (S := S2304x1024) hz, View.ld_unit_zero (S := S1408x1024) hz, shapeCast_self]

/-- So does the last point. -/
theorem sout_C (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  unfold sout0_C_0
  rw [View.read_writes_eq_canon _ _ _ (scover0_C_0 (F := Ideal) c i arg3 harg3 arg4 harg4 arg5 harg5 arg6 harg6 hc0 hc1 hc2 x0 x1 xs)]
  unfold kernelRun0_C
  dsimp only
  sl_unfold_words
  rw [View.canon_cons_unit_zero hz]
  unfold k0_pay3
  simp only [View.readAt_eq_ld, harg6.read_unread, harg3.read_unread, harg4.read_unread, View.ld_unit_zero (S := S2304x1408) hz, View.ld_unit_zero (S := S2304x1024) hz, View.ld_unit_zero (S := S1408x1024) hz, shapeCast_self]

/-- The last point writes the accumulator out. -/
theorem out_C (hc0 : ¬cond0_0 i) (hc1 : cond0_1 i) (hc2 : cond0_2 i) (y : S1408x1024.Idx) :
    out0_C_2 (F := Ideal) c i arg3 harg3 arg4 harg4 arg5 harg5 arg6 harg6 hc0 hc1 hc2 x0 x1 xs y = addf xs (k0_pay1 x0 x1) y := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  rw [View.canon_cons_unit_zero hz, View.readCov_unit_zero _ hz]
  unfold k0_pay4 k0_pay3
  simp only [View.readAt_eq_ld, harg6.read_unread, harg3.read_unread, harg4.read_unread, View.ld_unit_zero (S := S2304x1408) hz, View.ld_unit_zero (S := S2304x1024) hz, View.ld_unit_zero (S := S1408x1024) hz, shapeCast_self]
  rfl

end Case

theorem index_l : ∀ t : Fin grid0.N, win0_0.index t 0 = t.val % 4 ∧ win0_0.index t 1 = t.val / 4 := by decide +kernel
theorem index_r : ∀ t : Fin grid0.N, win0_1.index t 0 = t.val % 4 ∧ win0_1.index t 1 = 0 := by decide +kernel

variable (m : (ℓ : Loc nD τ sig) → Buf (Elt Ideal) ℓ) (c : Dev nD)

abbrev lhs : Vec Ideal S9216x2816 .bf16 := m ((c : Thread nD τ).loc main_arg0)
abbrev rhs : Vec Ideal S9216x1024 .bf16 := m ((c : Thread nD τ).loc main_arg1)

theorem block_l (t : Fin cfg0.N) (k : Fin 2304) (a : Fin 1408) :
    (iblk m c 0 t : Vec Ideal S2304x1408 .bf16) (ix2 k a) = num (lhs m c) (2304 * (t.val % 4) + k.val) ((fun j => 1408 * j) (t.val / 4) + a.val) := by
  have hi := index_l t
  unfold iblk
  rw [View.read_apply]
  refine num_at (lhs m c) _ _ _ ?_ ?_
  · show win0_0.index t 0 * 2304 + 1 * k.val = _; rw [hi.1]; omega
  · show win0_0.index t 1 * 1408 + 1 * a.val = _; rw [hi.2]; dsimp only; omega

theorem block_r (t : Fin cfg0.N) (k : Fin 2304) (b : Fin 1024) :
    (iblk m c 1 t : Vec Ideal S2304x1024 .bf16) (ix2 k b) = num (rhs m c) (2304 * (t.val % 4) + k.val) ((fun _ => 0) (t.val / 4) + b.val) := by
  have hi := index_r t
  unfold iblk
  rw [View.read_apply]
  refine num_at (rhs m c) _ _ _ ?_ ?_
  · show win0_1.index t 0 * 2304 + 1 * k.val = _; rw [hi.1]; omega
  · show win0_1.index t 1 * 1024 + 1 * b.val = _; rw [hi.2]; dsimp only; omega

theorem next (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h2 : t.val % 4 = 3
  · rw [outsAt0_C m c t h (by omega) h2]
    dsimp only
    rw [sout_C]
  · rw [outsAt0_B m c t h (by omega) h2]
    dsimp only
    rw [sout_B]

/-- The accumulator after a point. -/
theorem held : ∀ (n : ℕ) (h : n < cfg0.N) (a : Fin 1408) (b : Fin 1024),
    (outsAt0 m c n h).2 (ix2 a b) = upto (colTerm (lhs m c) (rhs m c) ((fun j => 1408 * j) (n / 4) + a.val) ((fun _ => 0) (n / 4) + b.val)) (2304 * (n % 4 + 1)) :=
  col_blocks 4 cfg0.N (by decide) (lhs m c) (rhs m c) (fun j => 1408 * j) (fun _ => 0) (fun n h => iblk m c 0 ⟨n, h⟩) (fun n h => iblk m c 1 ⟨n, h⟩)
    (fun n h => (outsAt0 m c n h).2) (fun n h => block_l m c ⟨n, h⟩) (fun n h => block_r m c ⟨n, h⟩)
    (fun n h h0 a b => by
      rw [outsAt0_A m c ⟨n, h⟩ h0 (by dsimp only; omega) (by dsimp only; omega)]
      dsimp only
      rw [sout_A]
      exact block_product (iblk m c 0 ⟨n, h⟩) (iblk m c 1 ⟨n, h⟩) a b)
    (fun n h h0 a b => by
      rw [next m c ⟨n, h⟩ h0]
      exact congrArg (_ + ·) (block_product (iblk m c 0 ⟨n, h⟩) (iblk m c 1 ⟨n, h⟩) a b))

/-- A block's last point writes what its accumulator holds. -/
theorem written (t : Fin cfg0.N) (h : t.val % 4 = 3) (y : S1408x1024.Idx) :
    (outsAt0 m c t.val t.isLt).1 y = (outsAt0 m c t.val t.isLt).2 y := by
  rw [outsAt0_C m c t (by omega) (by omega) h]
  dsimp only
  rw [out_C, sout_C]

/-- The kernel's array: the products of the activation's columns with the incoming gradient's. -/
theorem final : (dats m 0 c).arrAt 2 cfg0.N = cols (lhs m c) (rhs m c) := by
  rw [Value.final2]
  funext i
  have h0 : (i 0).val < 2816 := (i 0).isLt
  have h1 : (i 1).val < 1024 := (i 1).isLt
  have hN : Value.pt2Of i < cfg0.N := lt_of_lt_of_eq (by show 4 * (1 * ((i 0).val / 1408 - 0) + 1 * ((i 1).val / 1024 - 0)) + 3 < 8; omega) N_0.symm
  have hd : Value.pt2Of i / 4 = (i 0).val / 1408 := by show (4 * (1 * ((i 0).val / 1408 - 0) + 1 * ((i 1).val / 1024 - 0)) + 3) / 4 = _; omega
  have hm : Value.pt2Of i % 4 = 3 := by show (4 * (1 * ((i 0).val / 1408 - 0) + 1 * ((i 1).val / 1024 - 0)) + 3) % 4 = _; omega
  unfold Value.G2
  rw [dif_pos hN, ← Value.outsAt0_sweep m c _ hN]
  refine (written m c ⟨_, hN⟩ hm _).trans ?_
  obtain ⟨a, b, e⟩ : ∃ (a : Fin 1408) (b : Fin 1024), Value.loc2Of i = ix2 a b := ⟨Value.loc2Of i 0, Value.loc2Of i 1, by funext d; fin_cases d <;> rfl⟩
  have ea : a.val = (i 0).val % 1408 := congrArg Fin.val (congrFun e 0).symm
  have eb : b.val = (i 1).val % 1024 := congrArg Fin.val (congrFun e 1).symm
  rw [e]
  refine (held m c _ hN a b).trans ?_
  dsimp only
  rw [hm, hd, ea, eb, Nat.zero_add, show 1408 * ((i 0).val / 1408) + (i 0).val % 1408 = (i 0).val by omega, show (i 1).val % 1024 = (i 1).val by omega]
  rfl

theorem reference (x0 : (⟨Cert.Reference5Ideal.S9216x2816, .bf16⟩ : BufTy).Contents (Elt Ideal)) (x1 : (⟨Cert.Reference5Ideal.S9216x1024, .bf16⟩ : BufTy).Contents (Elt Ideal)) :
    Cert.Reference5Ideal.Read.val_main_v6 (F := Ideal) x0 x1 = cols (p := 9216) (q := 2816) (r := 1024) x0 x1 := by
  funext i
  rw [Cert.Reference5Ideal.Read.val_main_v6_apply, Cert.Reference5Ideal.Read.val_main_v5_apply, Cert.Reference5Ideal.Read.val_main_v4_apply]
  refine (Finset.sum_congr rfl fun k _ => ?_).trans (upto_fin (colTerm (p := 9216) (q := 2816) (r := 1024) x0 x1 (i 0).val (i 1).val) 9216).symm
  refine (mul_comm _ _).trans (congrArg₂ (· * ·) (num_at (x0 : Vec Ideal S9216x2816 .bf16) _ _ _ ?_ ?_) (num_at (x1 : Vec Ideal S9216x1024 .bf16) _ _ _ ?_ ?_)) <;> rfl

theorem reference_run (m : (ℓ : Loc Cert.Reference5Ideal.nD Cert.Reference5Ideal.τ Cert.Reference5Ideal.sig) → Buf (Elt Ideal) ℓ) (ρ : Dev Cert.Reference5Ideal.nD → PrngReg) :
    θ_run Cert.Reference5Ideal.defs (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, Idealize.ShloMosaic.sem_eq_zero_of_no_sems (by decide) r.2⟩)
    (Cert.Reference5Ideal.Value.run m ρ)

theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => cols (lhs m c) (rhs m c), ?_, ?_⟩
  · refine (θ_run Cert.Kernel5Ideal.defs _ _).mono (fun r h c => ?_) (Value.run_blocks m g)
    obtain ⟨h0, h1⟩ := h c
    exact ⟨h0.trans (final m c), h1⟩
  · refine (θ_run Cert.Reference5Ideal.defs _ _).mono (fun r h c => ?_) (Cert.Reference5Ideal.Value.run m' g')
    obtain ⟨h0, h1⟩ := h c
    obtain ⟨a0, a1⟩ := hagree c
    exact ⟨((h0.trans (Cert.Reference5Ideal.Read.val_main_v6_eq _ _)).trans (reference _ _)).trans (congrArg₂ (cols (p := 9216) (q := 2816) (r := 1024)) a0 a1), h1⟩

end Cert.DownWeight

end
-- ==== Proof.DownAct.lean ====
/- The gradient of the activation: products of the incoming gradient's rows with the down projection's. -/
module

public import proofs.«01_k».proof.Defs
public import proofs.«01_k».proof.Proof.Product
public import proofs.«01_k».proof.Proof.Gen.Kernel6Ideal.Value
public import proofs.«01_k».proof.Proof.Gen.Reference6Ideal.Read

@[expose] public section

set_option maxRecDepth 16384

noncomputable section

namespace Cert.DownAct

open Cert.Kernel6Ideal Cert.Kernel6Ideal.Gen Idealize.ShloMosaic Idealize.ShloMosaic.TcCoe Idealize.SL.Sem Cert.Product

theorem block_product (x0 : Vec Ideal S1152x1024 .bf16) (x1 : Vec Ideal S1408x1024 .bf16) (a : Fin 1152) (b : Fin 1408) :
    k0_pay1 (F := Ideal) x0 x1 (ix2 a b) = ∑ k : Fin 1024, x0 (ix2 a k) * x1 (ix2 b k) := by
  pointwise [k0_pay1]

/-- What a point stores: its blocks' product. -/
theorem stored (x0 : Vec Ideal S1152x1024 .bf16) (x1 : Vec Ideal S1408x1024 .bf16) (a : Fin 1152) (b : Fin 1408) :
    out0_2 (F := Ideal) x0 x1 (ix2 a b) = ∑ k : Fin 1024, x0 (ix2 a k) * x1 (ix2 b k) := by
  unfold out0_2
  rw [View.canon_cons_unit_zero hz, View.ld_unit_zero (S := S1152x1024) hz, View.ld_unit_zero (S := S1408x1024) hz, block_product]

theorem index_l : ∀ t : Fin grid0.N, win0_0.index t 0 = t.val / 2 ∧ win0_0.index t 1 = 0 := by decide +kernel
theorem index_r : ∀ t : Fin grid0.N, win0_1.index t 0 = t.val % 2 ∧ win0_1.index t 1 = 0 := by decide +kernel
theorem index_o : ∀ t : Fin grid0.N, win0_2.index t 0 = t.val / 2 ∧ win0_2.index t 1 = t.val % 2 ∧ win0_2.flush t = true := by decide +kernel

variable (m : (ℓ : Loc nD τ sig) → Buf (Elt Ideal) ℓ) (c : Dev nD)

abbrev lhs : Vec Ideal S9216x1024 .bf16 := m ((c : Thread nD τ).loc main_arg0)
abbrev rhs : Vec Ideal S2816x1024 .bf16 := m ((c : Thread nD τ).loc main_arg1)

theorem block_l (t : Fin cfg0.N) (a : Fin 1152) (k : Fin 1024) :
    (iblk m c 0 t : Vec Ideal S1152x1024 .bf16) (ix2 a k) = num (lhs m c) (1152 * (t.val / 2) + a.val) k.val := by
  have hi := index_l t
  unfold iblk
  rw [View.read_apply]
  refine num_at (lhs m c) _ _ _ ?_ ?_
  · show win0_0.index t 0 * 1152 + 1 * a.val = _; rw [hi.1]; omega
  · show win0_0.index t 1 * 1024 + 1 * k.val = _; rw [hi.2]; omega

theorem block_r (t : Fin cfg0.N) (b : Fin 1408) (k : Fin 1024) :
    (iblk m c 1 t : Vec Ideal S1408x1024 .bf16) (ix2 b k) = num (rhs m c) (1408 * (t.val % 2) + b.val) k.val := by
  have hi := index_r t
  unfold iblk
  rw [View.read_apply]
  refine num_at (rhs m c) _ _ _ ?_ ?_
  · show win0_1.index t 0 * 1408 + 1 * b.val = _; rw [hi.1]; omega
  · show win0_1.index t 1 * 1024 + 1 * k.val = _; rw [hi.2]; omega

/-- The kernel's array: every block is its point's, and the blocks cover the array. -/
theorem final : (dats m 0 c).arrAt 2 cfg0.N = rows (lhs m c) (rhs m c) := by
  funext i
  have h0 : (i 0).val < 9216 := (i 0).isLt
  have h1 : (i 1).val < 2816 := (i 1).isLt
  obtain ⟨t, ht⟩ : ∃ t : Fin cfg0.N, t.val = 2 * ((i 0).val / 1152) + (i 1).val / 1408 := ⟨⟨_, lt_of_lt_of_eq (by omega) N_0.symm⟩, rfl⟩
  have ho := index_o t
  have hb := congrFun (Value.blocks2 m c t ho.2.2) (ix2 ⟨(i 0).val % 1152, Nat.mod_lt _ (by decide)⟩ ⟨(i 1).val % 1408, Nat.mod_lt _ (by decide)⟩)
  rw [View.read_apply, Value.flushed2] at hb
  have he : ((cfg0.win 2).blk t).view.emb (ix2 ⟨(i 0).val % 1152, Nat.mod_lt _ (by decide)⟩ ⟨(i 1).val % 1408, Nat.mod_lt _ (by decide)⟩) = i := by
    funext d
    fin_cases d
    · exact Fin.ext (by show win0_2.index t 0 * 1152 + 1 * ((i 0).val % 1152) = (i 0).val; rw [ho.1]; omega)
    · exact Fin.ext (by show win0_2.index t 1 * 1408 + 1 * ((i 1).val % 1408) = (i 1).val; rw [ho.2.1]; omega)
  rw [he] at hb
  refine hb.trans ((stored (iblk m c 0 t) (iblk m c 1 t) ⟨(i 0).val % 1152, Nat.mod_lt _ (by decide)⟩ ⟨(i 1).val % 1408, Nat.mod_lt _ (by decide)⟩).trans ?_)
  refine (Finset.sum_congr rfl fun k _ => ?_).trans (upto_fin (rowTerm (lhs m c) (rhs m c) (i 0).val (i 1).val) 1024).symm
  rw [block_l, block_r]
  dsimp only
  rw [show 1152 * (t.val / 2) + (i 0).val % 1152 = (i 0).val by omega, show 1408 * (t.val % 2) + (i 1).val % 1408 = (i 1).val by omega]
  rfl

theorem reference (x0 : (⟨Cert.Reference6Ideal.S9216x1024, .bf16⟩ : BufTy).Contents (Elt Ideal)) (x1 : (⟨Cert.Reference6Ideal.S2816x1024, .bf16⟩ : BufTy).Contents (Elt Ideal)) :
    Cert.Reference6Ideal.Read.val_main_v4 (F := Ideal) x0 x1 = rows (p := 9216) (q := 1024) (r := 2816) x0 x1 := by
  funext i
  rw [Cert.Reference6Ideal.Read.val_main_v4_apply]
  refine (Finset.sum_congr rfl fun k _ => ?_).trans (upto_fin (rowTerm (p := 9216) (q := 1024) (r := 2816) x0 x1 (i 0).val (i 1).val) 1024).symm
  refine congrArg₂ (· * ·) (num_at (x0 : Vec Ideal S9216x1024 .bf16) _ _ _ ?_ ?_) (num_at (x1 : Vec Ideal S2816x1024 .bf16) _ _ _ ?_ ?_) <;> rfl

theorem reference_run (m : (ℓ : Loc Cert.Reference6Ideal.nD Cert.Reference6Ideal.τ Cert.Reference6Ideal.sig) → Buf (Elt Ideal) ℓ) (ρ : Dev Cert.Reference6Ideal.nD → PrngReg) :
    θ_run Cert.Reference6Ideal.defs (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2, Idealize.ShloMosaic.sem_eq_zero_of_no_sems (by decide) r.2⟩)
    (Cert.Reference6Ideal.Value.run m ρ)

theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => rows (lhs m c) (rhs m c), ?_, ?_⟩
  · refine (θ_run Cert.Kernel6Ideal.defs _ _).mono (fun r h c => ?_) (Value.run_blocks m g)
    obtain ⟨h0, h1⟩ := h c
    exact ⟨h0.trans (final m c), h1⟩
  · refine (θ_run Cert.Reference6Ideal.defs _ _).mono (fun r h c => ?_) (Cert.Reference6Ideal.Value.run m' g')
    obtain ⟨h0, h1⟩ := h c
    obtain ⟨a0, a1⟩ := hagree c
    exact ⟨((h0.trans (Cert.Reference6Ideal.Read.val_main_v4_eq _ _)).trans (reference _ _)).trans (congrArg₂ (rows (p := 9216) (q := 1024) (r := 2816)) a0 a1), h1⟩

end Cert.DownAct

end
-- ==== Proof.Gate.lean ====
/- The gradient of the gate that weighs a branch: the kernel's two results and the reference's. -/
module

public import proofs.«01_k».proof.Defs
public import proofs.«01_k».proof.Proof.Product
public import proofs.«01_k».proof.Proof.Gen.Kernel7Ideal.Value
public import proofs.«01_k».proof.Proof.Gen.Reference7Ideal.Read

@[expose] public section

set_option maxRecDepth 16384

noncomputable section

namespace Cert.Gate

open Cert.Kernel7Ideal Cert.Kernel7Ideal.Gen Idealize.ShloMosaic Idealize.ShloMosaic.TcCoe Idealize.SL.Sem Cert.Product

/-- The logistic function, as one over one plus an exponential. -/
def logistic (x : EReal) : EReal := Ideal.div (Ideal.ofBits .f32 0x3F800000#32) (Ideal.ofBits .f32 0x3F800000#32 + Ideal.exp (-x))

/-- The gate's derivative times the branch and the incoming gradient. -/
def slope (d p x : EReal) : EReal := p * d * (logistic x * (Ideal.ofBits .f32 0x3F800000#32 - logistic x))

theorem pay_logistic (x : Vec Ideal S576x1024 .f32) (i : S576x1024.Idx) : k0_pay1 (F := Ideal) x i = logistic (x i) := by
  obtain ⟨a, b, rfl⟩ : ∃ (a : Fin 576) (b : Fin 1024), i = ix2 a b := ⟨i 0, i 1, by funext d; fin_cases d <;> rfl⟩
  pointwise [k0_pay1]
  unfold logistic
  simp

theorem pay_branch (d x : Vec Ideal S576x1024 .f32) (i : S576x1024.Idx) : k0_pay2 (F := Ideal) d x i = d i * logistic (x i) :=
  congrArg (d i * ·) (pay_logistic x i)

theorem pay_gate (d x p : Vec Ideal S576x1024 .f32) (i : S576x1024.Idx) : k0_pay3 (F := Ideal) d x p i = slope (d i) (p i) (x i) := by
  show d i * p i * k0_pay1 (F := Ideal) x i * (Ideal.ofBits .f32 0x3F800000#32 - k0_pay1 (F := Ideal) x i) = _
  rw [pay_logistic]
  unfold slope
  rw [mul_comm (d i), mul_assoc]

section Case
variable (c : Dev nD) (i : grid0.Coords) (arg1 : Memref sig .tc .vmem S576x1024 .f32) (harg1 : arg1.IsWhole) (arg2 : Memref sig .tc .vmem S576x1024 .f32) (harg2 : arg2.IsWhole)
  (arg3 : Memref sig .tc .vmem S576x1024 .f32) (harg3 : arg3.IsWhole) (arg5 : Memref sig .tc .vmem S576x1024 .bf16) (harg5 : arg5.IsWhole) (arg6 : Memref sig .tc .vmem S576x1024 .bf16) (harg6 : arg6.IsWhole)
  (x0 x1 x2 : Vec Ideal S576x1024 .f32)

theorem out_3 : out0_A_3 (F := Ideal) c i arg1 harg1 arg2 harg2 arg3 harg3 arg5 harg5 arg6 harg6 x0 x1 x2 = k0_pay2 x0 x2 := by
  unfold out0_A_3
  rw [View.read_writes_eq_canon _ _ _ (cover0_A_3 (F := Ideal) c i arg1 harg1 arg2 harg2 arg3 harg3 arg5 harg5 arg6 harg6 x0 x1 x2)]
  unfold kernelRun0_A
  dsimp only
  sl_unfold_words
  rw [View.canon_cons_unit_zero hz]
  simp only [View.readAt_eq_ld, harg1.read_unread, harg3.read_unread, View.ld_unit_zero (S := S576x1024) hz]

theorem out_4 : out0_A_4 (F := Ideal) c i arg1 harg1 arg2 harg2 arg3 harg3 arg5 harg5 arg6 harg6 x0 x1 x2 = k0_pay3 x0 x2 x1 := by
  unfold out0_A_4
  rw [View.read_writes_eq_canon _ _ _ (cover0_A_4 (F := Ideal) c i arg1 harg1 arg2 harg2 arg3 harg3 arg5 harg5 arg6 harg6 x0 x1 x2)]
  unfold kernelRun0_A
  dsimp only
  sl_unfold_words
  rw [View.canon_cons_unit_zero hz]
  simp only [View.readAt_eq_ld, harg1.read_unread, harg2.read_unread, harg3.read_unread, View.ld_unit_zero (S := S576x1024) hz]

end Case

theorem index_01 : ∀ t : Fin grid0.N, win0_0.index t 0 = t.val ∧ win0_0.index t 1 = 0 ∧ win0_1.index t 0 = t.val ∧ win0_1.index t 1 = 0 := by decide +kernel
theorem index_2 : ∀ t : Fin grid0.N, win0_2.index t 0 = t.val ∧ win0_2.index t 1 = 4 := by decide +kernel
theorem index_3 : ∀ t : Fin grid0.N, win0_3.index t 0 = t.val ∧ win0_3.index t 1 = 0 ∧ win0_3.flush t = true := by decide +kernel
theorem index_4 : ∀ t : Fin grid0.N, win0_4.index t 0 = t.val ∧ win0_4.index t 1 = 4 ∧ win0_4.flush t = true := by decide +kernel
theorem size_4 : ∀ t : Fin cfg0.N, ∀ a, (cfg0.win 4).xsize (cfg0.grid.coords t) a = (cfg0.win 4).size a := by decide +kernel

variable (m : (ℓ : Loc nD τ sig) → Buf (Elt Ideal) ℓ) (c : Dev nD)

abbrev argD : Vec Ideal S9216x1024 .f32 := m ((c : Thread nD τ).loc main_arg0)
abbrev argP : Vec Ideal S9216x1024 .f32 := m ((c : Thread nD τ).loc main_arg1)
abbrev argX : Vec Ideal S9216x5376 .f32 := m ((c : Thread nD τ).loc main_arg2)
abbrev argE : Vec Ideal S9216x5376 .bf16 := m ((c : Thread nD τ).loc main_arg3)

theorem block_0 (t : Fin cfg0.N) (a : Fin 576) (b : Fin 1024) :
    (iblk m c 0 t : Vec Ideal S576x1024 .f32) (ix2 a b) = num (argD m c) (576 * t.val + a.val) b.val := by
  have hi := index_01 t
  unfold iblk
  rw [View.read_apply]
  show V m c main_arg0 _ = _
  rw [V_main_arg0]
  refine num_at (argD m c) _ _ _ ?_ ?_
  · show win0_0.index t 0 * 576 + 1 * a.val = _; rw [hi.1]; omega
  · show win0_0.index t 1 * 1024 + 1 * b.val = _; rw [hi.2.1]; omega

theorem block_1 (t : Fin cfg0.N) (a : Fin 576) (b : Fin 1024) :
    (iblk m c 1 t : Vec Ideal S576x1024 .f32) (ix2 a b) = num (argP m c) (576 * t.val + a.val) b.val := by
  have hi := index_01 t
  unfold iblk
  rw [View.read_apply]
  show V m c main_arg1 _ = _
  rw [V_main_arg1]
  refine num_at (argP m c) _ _ _ ?_ ?_
  · show win0_1.index t 0 * 576 + 1 * a.val = _; rw [hi.2.2.1]; omega
  · show win0_1.index t 1 * 1024 + 1 * b.val = _; rw [hi.2.2.2]; omega

theorem block_2 (t : Fin cfg0.N) (a : Fin 576) (b : Fin 1024) :
    (X0_2 m c t : Vec Ideal S576x1024 .f32) (ix2 a b) = num (argX m c) (576 * t.val + a.val) (4096 + b.val) := by
  have hi := index_2 t
  unfold X0_2 Pipeline.Window.fill
  rw [dif_pos (moved0_2 t _)]
  unfold iblk
  rw [View.read_apply]
  show V m c main_arg2 _ = _
  rw [V_main_arg2]
  refine num_at (argX m c) _ _ _ ?_ ?_
  · show win0_2.index t 0 * 576 + 1 * a.val = _; rw [hi.1]; omega
  · show win0_2.index t 1 * 1024 + 1 * b.val = _; rw [hi.2]; omega

/-- The branch's gradient. -/
def branch : Vec Ideal S9216x1024 .bf16 := fun i => argD m c i * logistic (num (argX m c) (i 0).val (4096 + (i 1).val))

/-- The projection's gradient: the gate's columns are the gate's gradient, the other columns stay as they were. -/
def whole : Vec Ideal S9216x5376 .bf16 := fun i =>
  if 4096 ≤ (i 1).val ∧ (i 1).val < 5120 then
    slope (num (argD m c) (i 0).val ((i 1).val - 4096)) (num (argP m c) (i 0).val ((i 1).val - 4096)) (argX m c i)
  else argE m c i

theorem V_out : V m c main_v0_1 = argE m c := by
  simp [V, hostOps0]
  rfl

theorem point_3 (t : Fin cfg0.N) (a : Fin 576) (b : Fin 1024) :
    (outsAt0 m c t).1 (ix2 a b) = num (argD m c) (576 * t.val + a.val) b.val * logistic (num (argX m c) (576 * t.val + a.val) (4096 + b.val)) := by
  unfold outsAt0
  dsimp only
  rw [out_3, pay_branch, block_0, block_2]

theorem point_4 (t : Fin cfg0.N) (a : Fin 576) (b : Fin 1024) :
    (outsAt0 m c t).2 (ix2 a b) = slope (num (argD m c) (576 * t.val + a.val) b.val) (num (argP m c) (576 * t.val + a.val) b.val)
      (num (argX m c) (576 * t.val + a.val) (4096 + b.val)) := by
  unfold outsAt0
  dsimp only
  rw [out_4, pay_gate, block_0, block_1, block_2]

theorem final_3 : (dats m 0 c).arrAt 3 cfg0.N = branch m c := by
  funext i
  have h0 : (i 0).val < 9216 := (i 0).isLt
  obtain ⟨t, ht⟩ : ∃ t : Fin cfg0.N, t.val = (i 0).val / 576 := ⟨⟨_, lt_of_lt_of_eq (by omega) N_0.symm⟩, rfl⟩
  have ho := index_3 t
  have hb := congrFun (Value.blocks3 m c t ho.2.2) (ix2 ⟨(i 0).val % 576, Nat.mod_lt _ (by decide)⟩ (i 1))
  rw [View.read_apply, Value.flushed3] at hb
  have he : ((cfg0.win 3).blk t).view.emb (ix2 ⟨(i 0).val % 576, Nat.mod_lt _ (by decide)⟩ (i 1)) = i := by
    funext d
    fin_cases d
    · exact Fin.ext (by show win0_3.index t 0 * 576 + 1 * ((i 0).val % 576) = (i 0).val; rw [ho.1]; omega)
    · exact Fin.ext (by show win0_3.index t 1 * 1024 + 1 * (i 1).val = (i 1).val; rw [ho.2.1]; omega)
  rw [he] at hb
  refine hb.trans ((point_3 m c t ⟨(i 0).val % 576, Nat.mod_lt _ (by decide)⟩ ⟨(i 1).val, (i 1).isLt⟩).trans ?_)
  dsimp only
  rw [show 576 * t.val + (i 0).val % 576 = (i 0).val by omega]
  exact congrArg (· * _) (num_at (argD m c) i _ _ rfl rfl).symm

theorem final_4 : (dats m 0 c).arrAt 4 cfg0.N = whole m c := by
  funext i
  have h0 : (i 0).val < 9216 := (i 0).isLt
  unfold whole
  split_ifs with h
  · obtain ⟨t, ht⟩ : ∃ t : Fin cfg0.N, t.val = (i 0).val / 576 := ⟨⟨_, lt_of_lt_of_eq (by omega) N_0.symm⟩, rfl⟩
    have ho := index_4 t
    have hv : ∀ a : Fin 2, (![(i 0).val % 576, (i 1).val - 4096] : Fin 2 → ℕ) a < (![576, 1024] : Fin 2 → ℕ) a := fun a => by
      fin_cases a
      · exact Nat.mod_lt _ (by decide)
      · show (i 1).val - 4096 < 1024; omega
    let y : ((cfg0.win 4).xblock (cfg0.grid.coords t)).Idx := fun a => ⟨(![(i 0).val % 576, (i 1).val - 4096] : Fin 2 → ℕ) a, lt_of_lt_of_eq (hv a) (size_4 t a).symm⟩
    have hb := congrFun (Value.blocks4 m c t ho.2.2) y
    rw [View.read_apply, Value.flushed4] at hb
    have he : ((cfg0.win 4).blk t).view.emb y = i := by
      funext d
      fin_cases d
      · exact Fin.ext (by show win0_4.index t 0 * 576 + 1 * ((i 0).val % 576) = (i 0).val; rw [ho.1]; omega)
      · exact Fin.ext (by show win0_4.index t 1 * 1024 + 1 * ((i 1).val - 4096) = (i 1).val; rw [ho.2.1]; omega)
    rw [he] at hb
    have hx : (cfg0.win 4).xinj (grid0.coords t) y = ix2 ⟨(i 0).val % 576, hv 0⟩ ⟨(i 1).val - 4096, hv 1⟩ := by
      funext d; fin_cases d <;> rfl
    refine hb.trans (Eq.trans (congrArg (outsAt0 m c t).2 hx) ((point_4 m c t ⟨(i 0).val % 576, hv 0⟩ ⟨(i 1).val - 4096, hv 1⟩).trans ?_))
    dsimp only
    rw [show 576 * t.val + (i 0).val % 576 = (i 0).val by omega, show 4096 + ((i 1).val - 4096) = (i 1).val by omega]
    exact congrArg (slope _ _) (num_at (argX m c) i _ _ rfl rfl).symm
  · rw [Value.entry4 m c i fun t _ hi => h ?_]
    · exact congrFun (V_out m c) i
    · have ho := index_4 t
      obtain ⟨y, rfl⟩ := View.exists_emb_of_mem_set _ hi
      have hy : (y 1).val < 1024 := lt_of_lt_of_eq (y 1).isLt (size_4 t 1)
      have e : (((cfg0.win 4).blk t).view.emb y 1).val = win0_4.index t 1 * 1024 + 1 * (y 1).val := rfl
      rw [e, ho.2.1]
      omega

section Reference
open Cert.Reference7Ideal.Read

variable (d p : Vec Ideal S9216x1024 .f32) (x : Vec Ideal S9216x5376 .f32) (e : Vec Ideal S9216x5376 .bf16)

theorem reference_logistic (a : Fin 9216) (b : Fin 1024) : val_main_v6 (F := Ideal) x (ix2 a b) = logistic (num x a.val (4096 + b.val)) := by
  have h : val_main_v0 (F := Ideal) x (ix2 a b) = num x a.val (4096 + b.val) := by
    rw [val_main_v0_apply]
    exact num_at x _ _ _ rfl rfl
  unfold logistic
  rw [← h, val_main_v6_apply, val_main_v5_apply, val_main_v4_apply, val_main_v3_apply, val_main_v2_apply, val_main_v1_apply]
  rfl

theorem reference_branch (a : Fin 9216) (b : Fin 1024) :
    val_main_v14 (F := Ideal) d x (ix2 a b) = d (ix2 a b) * logistic (num x a.val (4096 + b.val)) := by
  rw [← reference_logistic]
  rfl

theorem reference_gate (a : Fin 9216) (b : Fin 1024) :
    val_main_v16 (F := Ideal) d p x (ix2 a b) = slope (d (ix2 a b)) (p (ix2 a b)) (num x a.val (4096 + b.val)) := by
  unfold slope
  rw [← reference_logistic]
  rw [val_main_v16_apply, val_main_v13_apply, val_main_v9_apply, val_main_v8_apply, val_main_v7_apply]
  rfl

theorem reference_whole (a : Fin 9216) (b : Fin 5376) :
    val_main_v18 (F := Ideal) d p x e (ix2 a b) = if 4096 ≤ b.val ∧ b.val < 5120 then
      slope (num d a.val (b.val - 4096)) (num p a.val (b.val - 4096)) (num x a.val b.val) else e (ix2 a b) := by
  unfold val_main_v18
  generalize h16 : val_main_v16 (F := Ideal) d p x = y
  unfold val_main_v15 val_main_v17
  pointwise
  have hb := b.isLt
  split_ifs <;> try omega
  · rfl
  · rw [← h16, reference_gate]
    rw [num_at d _ _ _ rfl rfl, num_at p _ _ _ rfl rfl]
    dsimp only
    rw [show 4096 + (b.val - 4096) = b.val by omega]
    exact (if_pos (show 4096 ≤ b.val ∧ b.val < 5120 by omega)).symm
  · refine Eq.trans (congrArg e ?_) (if_neg (show ¬(4096 ≤ b.val ∧ b.val < 5120) by omega)).symm
    exact congrArg (ix2 a) (Fin.ext (show 5120 + (b.val - 4096 - 1024) = b.val by omega))

end Reference

theorem reference_run (m : (ℓ : Loc Cert.Reference7Ideal.nD Cert.Reference7Ideal.τ Cert.Reference7Ideal.sig) → Buf (Elt Ideal) ℓ) (ρ : Dev Cert.Reference7Ideal.nD → PrngReg) :
    θ_run Cert.Reference7Ideal.defs (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run Cert.Reference7Ideal.defs _ _).mono (fun r h => ⟨fun c => (h c).2.2, Idealize.ShloMosaic.sem_eq_zero_of_no_sems (by decide) r.2⟩)
    (Cert.Reference7Ideal.Value.run m ρ)

theorem algebraic : Cert.algebraic_Kernel7Ideal_Reference7Ideal (hKernel7Ideal := Cert.Kernel7Ideal.Gen.facts) (hReference7Ideal := Cert.Reference7Ideal.Gen.facts) := by
  intro m g m' g' _ hagree
  refine ⟨fun c => branch m c, fun c => whole m c, ?_, ?_⟩
  · refine (θ_run Cert.Kernel7Ideal.defs _ _).mono (fun r h c => ?_) (Value.run_blocks m g)
    obtain ⟨h0, h1, h2⟩ := h c
    exact ⟨h0.trans (final_3 m c), h1.trans (final_4 m c), h2⟩
  · refine (θ_run Cert.Reference7Ideal.defs _ _).mono (fun r h c => ?_) (Cert.Reference7Ideal.Value.run m' g')
    obtain ⟨h0, h1, h2⟩ := h c
    obtain ⟨a0, a1, a2, a3⟩ := hagree c
    refine ⟨(h0.trans (Cert.Reference7Ideal.Read.val_main_v14_eq _ _)).trans ?_, (h1.trans (Cert.Reference7Ideal.Read.val_main_v18_eq _ _ _ _)).trans ?_, h2⟩
    · funext i
      obtain ⟨a, b, rfl⟩ : ∃ (a : Fin 9216) (b : Fin 1024), i = ix2 a b := ⟨i 0, i 1, by funext d; fin_cases d <;> rfl⟩
      rw [a0, a2]
      exact reference_branch _ _ a b
    · funext i
      obtain ⟨a, b, rfl⟩ : ∃ (a : Fin 9216) (b : Fin 5376), i = ix2 a b := ⟨i 0, i 1, by funext d; fin_cases d <;> rfl⟩
      rw [a0, a1, a2, a3]
      refine (reference_whole _ _ _ _ a b).trans ?_
      exact if_congr Iff.rfl (congrArg (slope _ _) (num_at (argX m c) (ix2 a b) _ _ rfl rfl).symm) rfl

end Cert.Gate

end
-- ==== Proof.UpProduct.lean ====
/- The up projection: products of the normed rows with the weights' columns. -/
module

public import proofs.«01_k».proof.Defs
public import proofs.«01_k».proof.Proof.Product
public import proofs.«01_k».proof.Proof.Gen.Kernel8Ideal.Value
public import proofs.«01_k».proof.Proof.Gen.Reference8Ideal.Read

@[expose] public section

set_option maxRecDepth 16384

noncomputable section

namespace Cert.UpProduct

open Cert.Kernel8Ideal Cert.Kernel8Ideal.Gen Idealize.ShloMosaic Idealize.ShloMosaic.TcCoe Idealize.SL.Sem Cert.Product

theorem block_product (x0 : Vec Ideal S1152x1024 .bf16) (x1 : Vec Ideal S1024x1408 .bf16) (a : Fin 1152) (b : Fin 1408) :
    k0_pay1 (F := Ideal) x0 x1 (ix2 a b) = ∑ k : Fin 1024, x0 (ix2 a k) * x1 (ix2 k b) := by
  pointwise [k0_pay1]

/-- What a point stores: its blocks' product. -/
theorem stored (x0 : Vec Ideal S1152x1024 .bf16) (x1 : Vec Ideal S1024x1408 .bf16) (a : Fin 1152) (b : Fin 1408) :
    out0_2 (F := Ideal) x0 x1 (ix2 a b) = ∑ k : Fin 1024, x0 (ix2 a k) * x1 (ix2 k b) := by
  unfold out0_2
  rw [View.canon_cons_unit_zero hz, View.ld_unit_zero (S := S1152x1024) hz, View.ld_unit_zero (S := S1024x1408) hz, block_product]

theorem index_l : ∀ t : Fin grid0.N, win0_0.index t 0 = t.val / 4 ∧ win0_0.index t 1 = 0 := by decide +kernel
theorem index_r : ∀ t : Fin grid0.N, win0_1.index t 0 = 0 ∧ win0_1.index t 1 = t.val % 4 := by decide +kernel
theorem index_o : ∀ t : Fin grid0.N, win0_2.index t 0 = t.val / 4 ∧ win0_2.index t 1 = t.val % 4 ∧ win0_2.flush t = true := by decide +kernel

variable (m : (ℓ : Loc nD τ sig) → Buf (Elt Ideal) ℓ) (c : Dev nD)

abbrev lhs : Vec Ideal S9216x1024 .bf16 := m ((c : Thread nD τ).loc main_arg0)
abbrev rhs : Vec Ideal S1024x5632 .bf16 := m ((c : Thread nD τ).loc main_arg1)

theorem block_l (t : Fin cfg0.N) (a : Fin 1152) (k : Fin 1024) :
    (iblk m c 0 t : Vec Ideal S1152x1024 .bf16) (ix2 a k) = num (lhs m c) (1152 * (t.val / 4) + a.val) k.val := by
  have hi := index_l t
  unfold iblk
  rw [View.read_apply]
  refine num_at (lhs m c) _ _ _ ?_ ?_
  · show win0_0.index t 0 * 1152 + 1 * a.val = _; rw [hi.1]; omega
  · show win0_0.index t 1 * 1024 + 1 * k.val = _; rw [hi.2]; omega

theorem block_r (t : Fin cfg0.N) (k : Fin 1024) (b : Fin 1408) :
    (iblk m c 1 t : Vec Ideal S1024x1408 .bf16) (ix2 k b) = num (rhs m c) k.val (1408 * (t.val % 4) + b.val) := by
  have hi := index_r t
  unfold iblk
  rw [View.read_apply]
  refine num_at (rhs m c) _ _ _ ?_ ?_
  · show win0_1.index t 0 * 1024 + 1 * k.val = _; rw [hi.1]; omega
  · show win0_1.index t 1 * 1408 + 1 * b.val = _; rw [hi.2]; omega

/-- The kernel's array: every block is its point's, and the blocks cover the array. -/
theorem final : (dats m 0 c).arrAt 2 cfg0.N = prods (lhs m c) (rhs m c) := by
  funext i
  have h0 : (i 0).val < 9216 := (i 0).isLt
  have h1 : (i 1).val < 5632 := (i 1).isLt
  obtain ⟨t, ht⟩ : ∃ t : Fin cfg0.N, t.val = 4 * ((i 0).val / 1152) + (i 1).val / 1408 := ⟨⟨_, lt_of_lt_of_eq (by omega) N_0.symm⟩, rfl⟩
  have ho := index_o t
  have hb := congrFun (Value.blocks2 m c t ho.2.2) (ix2 ⟨(i 0).val % 1152, Nat.mod_lt _ (by decide)⟩ ⟨(i 1).val % 1408, Nat.mod_lt _ (by decide)⟩)
  rw [View.read_apply, Value.flushed2] at hb
  have he : ((cfg0.win 2).blk t).view.emb (ix2 ⟨(i 0).val % 1152, Nat.mod_lt _ (by decide)⟩ ⟨(i 1).val % 1408, Nat.mod_lt _ (by decide)⟩) = i := by
    funext d
    fin_cases d
    · exact Fin.ext (by show win0_2.index t 0 * 1152 + 1 * ((i 0).val % 1152) = (i 0).val; rw [ho.1]; omega)
    · exact Fin.ext (by show win0_2.index t 1 * 1408 + 1 * ((i 1).val % 1408) = (i 1).val; rw [ho.2.1]; omega)
  rw [he] at hb
  refine hb.trans ((stored (iblk m c 0 t) (iblk m c 1 t) ⟨(i 0).val % 1152, Nat.mod_lt _ (by decide)⟩ ⟨(i 1).val % 1408, Nat.mod_lt _ (by decide)⟩).trans ?_)
  refine (Finset.sum_congr rfl fun k _ => ?_).trans (upto_fin (prodTerm (lhs m c) (rhs m c) (i 0).val (i 1).val) 1024).symm
  rw [block_l, block_r]
  dsimp only
  rw [show 1152 * (t.val / 4) + (i 0).val % 1152 = (i 0).val by omega, show 1408 * (t.val % 4) + (i 1).val % 1408 = (i 1).val by omega]
  rfl

theorem reference (x0 : (⟨Cert.Reference8Ideal.S9216x1024, .bf16⟩ : BufTy).Contents (Elt Ideal)) (x1 : (⟨Cert.Reference8Ideal.S1024x5632, .bf16⟩ : BufTy).Contents (Elt Ideal)) :
    Cert.Reference8Ideal.Read.val_main_v2 (F := Ideal) x0 x1 = prods (p := 9216) (q := 1024) (r := 5632) x0 x1 := by
  funext i
  rw [Cert.Reference8Ideal.Read.val_main_v2_apply]
  refine (Finset.sum_congr rfl fun k _ => ?_).trans (upto_fin (prodTerm (p := 9216) (q := 1024) (r := 5632) x0 x1 (i 0).val (i 1).val) 1024).symm
  refine congrArg₂ (· * ·) (num_at (x0 : Vec Ideal S9216x1024 .bf16) _ _ _ ?_ ?_) (num_at (x1 : Vec Ideal S1024x5632 .bf16) _ _ _ ?_ ?_) <;> rfl

theorem reference_run (m : (ℓ : Loc Cert.Reference8Ideal.nD Cert.Reference8Ideal.τ Cert.Reference8Ideal.sig) → Buf (Elt Ideal) ℓ) (ρ : Dev Cert.Reference8Ideal.nD → PrngReg) :
    θ_run Cert.Reference8Ideal.defs (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2, Idealize.ShloMosaic.sem_eq_zero_of_no_sems (by decide) r.2⟩)
    (Cert.Reference8Ideal.Value.run m ρ)

theorem algebraic : Cert.algebraic_Kernel8Ideal_Reference8Ideal (hKernel8Ideal := Cert.Kernel8Ideal.Gen.facts) (hReference8Ideal := Cert.Reference8Ideal.Gen.facts) := by
  intro m g m' g' _ hagree
  refine ⟨fun c => prods (lhs m c) (rhs m c), ?_, ?_⟩
  · refine (θ_run Cert.Kernel8Ideal.defs _ _).mono (fun r h c => ?_) (Value.run_blocks m g)
    obtain ⟨h0, h1⟩ := h c
    exact ⟨h0.trans (final m c), h1⟩
  · refine (θ_run Cert.Reference8Ideal.defs _ _).mono (fun r h c => ?_) (Cert.Reference8Ideal.Value.run m' g')
    obtain ⟨h0, h1⟩ := h c
    obtain ⟨a0, a1⟩ := hagree c
    exact ⟨((h0.trans (Cert.Reference8Ideal.Read.val_main_v2_eq _ _)).trans (reference _ _)).trans (congrArg₂ (prods (p := 9216) (q := 1024) (r := 5632)) a0 a1), h1⟩

end Cert.UpProduct

end
-- ==== Proof.InProduct.lean ====
/- The input projection: products of the normed rows with the weights' columns. -/
module

public import proofs.«01_k».proof.Defs
public import proofs.«01_k».proof.Proof.Product
public import proofs.«01_k».proof.Proof.Gen.Kernel9Ideal.Value
public import proofs.«01_k».proof.Proof.Gen.Reference9Ideal.Read

@[expose] public section

set_option maxRecDepth 16384

noncomputable section

namespace Cert.InProduct

open Cert.Kernel9Ideal Cert.Kernel9Ideal.Gen Idealize.ShloMosaic Idealize.ShloMosaic.TcCoe Idealize.SL.Sem Cert.Product

theorem block_product (x0 : Vec Ideal S1152x1024 .bf16) (x1 : Vec Ideal S1024x1792 .bf16) (a : Fin 1152) (b : Fin 1792) :
    k0_pay1 (F := Ideal) x0 x1 (ix2 a b) = ∑ k : Fin 1024, x0 (ix2 a k) * x1 (ix2 k b) := by
  pointwise [k0_pay1]

section Case
variable (c : Dev nD) (i : grid0.Coords) (arg3 : Memref sig .tc .vmem S1152x1024 .bf16) (harg3 : arg3.IsWhole) (arg4 : Memref sig .tc .vmem S1024x1792 .bf16) (harg4 : arg4.IsWhole)
  (arg6 : Memref sig .tc .vmem S1152x1792 .f32) (harg6 : arg6.IsWhole) (x0 : Vec Ideal S1152x1024 .bf16) (x1 : Vec Ideal S1024x1792 .bf16)

theorem out_2 : out0_A_2 (F := Ideal) c i arg3 harg3 arg4 harg4 arg6 harg6 x0 x1 = k0_pay1 x0 x1 := by
  unfold out0_A_2
  rw [View.read_writes_eq_canon _ _ _ (cover0_A_2 (F := Ideal) c i arg3 harg3 arg4 harg4 arg6 harg6 x0 x1)]
  unfold kernelRun0_A
  dsimp only
  sl_unfold_words
  rw [View.canon_cons_unit_zero hz]
  simp only [View.readAt_eq_ld, harg3.read_unread, harg4.read_unread, View.ld_unit_zero (S := S1152x1024) hz, View.ld_unit_zero (S := S1024x1792) hz]

end Case

theorem index_l : ∀ t : Fin grid0.N, win0_0.index t 0 = t.val / 3 ∧ win0_0.index t 1 = 0 := by decide +kernel
theorem index_r : ∀ t : Fin grid0.N, win0_1.index t 0 = 0 ∧ win0_1.index t 1 = t.val % 3 := by decide +kernel
theorem index_o : ∀ t : Fin grid0.N, win0_2.index t 0 = t.val / 3 ∧ win0_2.index t 1 = t.val % 3 ∧ win0_2.flush t = true := by decide +kernel

variable (m : (ℓ : Loc nD τ sig) → Buf (Elt Ideal) ℓ) (c : Dev nD)

abbrev lhs : Vec Ideal S9216x1024 .bf16 := m ((c : Thread nD τ).loc main_arg0)
abbrev rhs : Vec Ideal S1024x5376 .bf16 := m ((c : Thread nD τ).loc main_arg1)

theorem block_l (t : Fin cfg0.N) (a : Fin 1152) (k : Fin 1024) :
    (iblk m c 0 t : Vec Ideal S1152x1024 .bf16) (ix2 a k) = num (lhs m c) (1152 * (t.val / 3) + a.val) k.val := by
  have hi := index_l t
  unfold iblk
  rw [View.read_apply]
  refine num_at (lhs m c) _ _ _ ?_ ?_
  · show win0_0.index t 0 * 1152 + 1 * a.val = _; rw [hi.1]; omega
  · show win0_0.index t 1 * 1024 + 1 * k.val = _; rw [hi.2]; omega

theorem block_r (t : Fin cfg0.N) (k : Fin 1024) (b : Fin 1792) :
    (iblk m c 1 t : Vec Ideal S1024x1792 .bf16) (ix2 k b) = num (rhs m c) k.val (1792 * (t.val % 3) + b.val) := by
  have hi := index_r t
  unfold iblk
  rw [View.read_apply]
  refine num_at (rhs m c) _ _ _ ?_ ?_
  · show win0_1.index t 0 * 1024 + 1 * k.val = _; rw [hi.1]; omega
  · show win0_1.index t 1 * 1792 + 1 * b.val = _; rw [hi.2]; omega

/-- What a point stores: its blocks' product. -/
theorem stored (t : Fin cfg0.N) (a : Fin 1152) (b : Fin 1792) :
    outsAt0 m c t (ix2 a b) = ∑ k : Fin 1024, num (lhs m c) (1152 * (t.val / 3) + a.val) k.val * num (rhs m c) k.val (1792 * (t.val % 3) + b.val) := by
  unfold outsAt0
  rw [out_2, block_product]
  exact Finset.sum_congr rfl fun k _ => congrArg₂ (· * ·) (block_l m c t a k) (block_r m c t k b)

/-- The kernel's array: every block is its point's, and the blocks cover the array. -/
theorem final : (dats m 0 c).arrAt 2 cfg0.N = prods (lhs m c) (rhs m c) := by
  funext i
  have h0 : (i 0).val < 9216 := (i 0).isLt
  have h1 : (i 1).val < 5376 := (i 1).isLt
  obtain ⟨t, ht⟩ : ∃ t : Fin cfg0.N, t.val = 3 * ((i 0).val / 1152) + (i 1).val / 1792 := ⟨⟨_, lt_of_lt_of_eq (by omega) N_0.symm⟩, rfl⟩
  have ho := index_o t
  have hb := congrFun (Value.blocks2 m c t ho.2.2) (ix2 ⟨(i 0).val % 1152, Nat.mod_lt _ (by decide)⟩ ⟨(i 1).val % 1792, Nat.mod_lt _ (by decide)⟩)
  rw [View.read_apply, Value.flushed2] at hb
  have he : ((cfg0.win 2).blk t).view.emb (ix2 ⟨(i 0).val % 1152, Nat.mod_lt _ (by decide)⟩ ⟨(i 1).val % 1792, Nat.mod_lt _ (by decide)⟩) = i := by
    funext d
    fin_cases d
    · exact Fin.ext (by show win0_2.index t 0 * 1152 + 1 * ((i 0).val % 1152) = (i 0).val; rw [ho.1]; omega)
    · exact Fin.ext (by show win0_2.index t 1 * 1792 + 1 * ((i 1).val % 1792) = (i 1).val; rw [ho.2.1]; omega)
  rw [he] at hb
  refine hb.trans ((stored m c t ⟨(i 0).val % 1152, Nat.mod_lt _ (by decide)⟩ ⟨(i 1).val % 1792, Nat.mod_lt _ (by decide)⟩).trans ?_)
  refine (Finset.sum_congr rfl fun k _ => ?_).trans (upto_fin (prodTerm (lhs m c) (rhs m c) (i 0).val (i 1).val) 1024).symm
  dsimp only
  rw [show 1152 * (t.val / 3) + (i 0).val % 1152 = (i 0).val by omega, show 1792 * (t.val % 3) + (i 1).val % 1792 = (i 1).val by omega]
  rfl

theorem reference (x0 : (⟨Cert.Reference9Ideal.S9216x1024, .bf16⟩ : BufTy).Contents (Elt Ideal)) (x1 : (⟨Cert.Reference9Ideal.S1024x5376, .bf16⟩ : BufTy).Contents (Elt Ideal)) :
    Cert.Reference9Ideal.Read.val_main_v2 (F := Ideal) x0 x1 = prods (p := 9216) (q := 1024) (r := 5376) x0 x1 := by
  funext i
  rw [Cert.Reference9Ideal.Read.val_main_v2_apply]
  refine (Finset.sum_congr rfl fun k _ => ?_).trans (upto_fin (prodTerm (p := 9216) (q := 1024) (r := 5376) x0 x1 (i 0).val (i 1).val) 1024).symm
  refine congrArg₂ (· * ·) (num_at (x0 : Vec Ideal S9216x1024 .bf16) _ _ _ ?_ ?_) (num_at (x1 : Vec Ideal S1024x5376 .bf16) _ _ _ ?_ ?_) <;> rfl

theorem reference_run (m : (ℓ : Loc Cert.Reference9Ideal.nD Cert.Reference9Ideal.τ Cert.Reference9Ideal.sig) → Buf (Elt Ideal) ℓ) (ρ : Dev Cert.Reference9Ideal.nD → PrngReg) :
    θ_run Cert.Reference9Ideal.defs (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run Cert.Reference9Ideal.defs _ _).mono (fun r h => ⟨fun c => (h c).2, Idealize.ShloMosaic.sem_eq_zero_of_no_sems (by decide) r.2⟩)
    (Cert.Reference9Ideal.Value.run m ρ)

theorem algebraic : Cert.algebraic_Kernel9Ideal_Reference9Ideal (hKernel9Ideal := Cert.Kernel9Ideal.Gen.facts) (hReference9Ideal := Cert.Reference9Ideal.Gen.facts) := by
  intro m g m' g' _ hagree
  refine ⟨fun c => prods (lhs m c) (rhs m c), ?_, ?_⟩
  · refine (θ_run Cert.Kernel9Ideal.defs _ _).mono (fun r h c => ?_) (Value.run_blocks m g)
    obtain ⟨h0, h1⟩ := h c
    exact ⟨h0.trans (final m c), h1⟩
  · refine (θ_run Cert.Reference9Ideal.defs _ _).mono (fun r h c => ?_) (Cert.Reference9Ideal.Value.run m' g')
    obtain ⟨h0, h1⟩ := h c
    obtain ⟨a0, a1, _⟩ := hagree c
    exact ⟨((h0.trans (Cert.Reference9Ideal.Read.val_main_v2_eq _ _)).trans (reference _ _)).trans (congrArg₂ (prods (p := 9216) (q := 1024) (r := 5376)) a0 a1), h1⟩

end Cert.InProduct

end
-- ==== Proof.OutWeight.lean ====
/- The gradient of the output projection's weights: the kernel's result and the reference's are one sum of products over the rows. -/
module

public import proofs.«01_k».proof.Defs
public import proofs.«01_k».proof.Proof.Product
public import proofs.«01_k».proof.Proof.Gen.Kernel10Ideal.Value
public import proofs.«01_k».proof.Proof.Gen.Reference10Ideal.Read

@[expose] public section

set_option maxRecDepth 16384

noncomputable section

namespace Cert.OutWeight

open Cert.Kernel10Ideal Cert.Kernel10Ideal.Gen Idealize.ShloMosaic Idealize.ShloMosaic.TcCoe Idealize.SL.Sem Cert.Product

section Case
variable (c : Dev nD) (i : grid0.Coords) (arg3 : Memref sig .tc .vmem S2304x1024 .bf16) (harg3 : arg3.IsWhole) (arg4 : Memref sig .tc .vmem S2304x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S2304x1024 .bf16) (x1 : Vec Ideal S2304x1024 .bf16) (xs : Vec Ideal S1024x1024 .f32)

theorem block_product (a : Fin 1024) (b : Fin 1024) :
    k0_pay1 (F := Ideal) x0 x1 (ix2 a b) = ∑ k : Fin 2304, x0 (ix2 k a) * x1 (ix2 k b) := by
  pointwise [k0_pay1]

/-- A run's first point sets the accumulator to its block's product. -/
theorem sout_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_cons_unit_zero hz]
  unfold k0_pay2
  simp only [View.readAt_eq_ld, harg3.read_unread, harg4.read_unread, View.ld_unit_zero (S := S2304x1024) hz, View.ld_unit_zero (S := S2304x1024) hz, View.ld_unit_zero (S := S1024x1024) hz, shapeCast_self]

/-- The points between add theirs. -/
theorem sout_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  rw [View.canon_cons_unit_zero hz]
  unfold k0_pay3
  simp only [View.readAt_eq_ld, harg6.read_unread, harg3.read_unread, harg4.read_unread, View.ld_unit_zero (S := S2304x1024) hz, View.ld_unit_zero (S := S2304x1024) hz, View.ld_unit_zero (S := S1024x1024) hz, shapeCast_self]

/-- So does the last point. -/
theorem sout_C (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  unfold sout0_C_0
  rw [View.read_writes_eq_canon _ _ _ (scover0_C_0 (F := Ideal) c i arg3 harg3 arg4 harg4 arg5 harg5 arg6 harg6 hc0 hc1 hc2 x0 x1 xs)]
  unfold kernelRun0_C
  dsimp only
  sl_unfold_words
  rw [View.canon_cons_unit_zero hz]
  unfold k0_pay3
  simp only [View.readAt_eq_ld, harg6.read_unread, harg3.read_unread, harg4.read_unread, View.ld_unit_zero (S := S2304x1024) hz, View.ld_unit_zero (S := S2304x1024) hz, View.ld_unit_zero (S := S1024x1024) hz, shapeCast_self]

/-- The last point writes the accumulator out. -/
theorem out_C (hc0 : ¬cond0_0 i) (hc1 : cond0_1 i) (hc2 : cond0_2 i) (y : S1024x1024.Idx) :
    out0_C_2 (F := Ideal) c i arg3 harg3 arg4 harg4 arg5 harg5 arg6 harg6 hc0 hc1 hc2 x0 x1 xs y = addf xs (k0_pay1 x0 x1) y := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  rw [View.canon_cons_unit_zero hz, View.readCov_unit_zero _ hz]
  unfold k0_pay4 k0_pay3
  simp only [View.readAt_eq_ld, harg6.read_unread, harg3.read_unread, harg4.read_unread, View.ld_unit_zero (S := S2304x1024) hz, View.ld_unit_zero (S := S2304x1024) hz, View.ld_unit_zero (S := S1024x1024) hz, shapeCast_self]
  rfl

end Case

theorem index_l : ∀ t : Fin grid0.N, win0_0.index t 0 = t.val % 4 ∧ win0_0.index t 1 = 0 := by decide +kernel
theorem index_r : ∀ t : Fin grid0.N, win0_1.index t 0 = t.val % 4 ∧ win0_1.index t 1 = t.val / 4 := by decide +kernel

variable (m : (ℓ : Loc nD τ sig) → Buf (Elt Ideal) ℓ) (c : Dev nD)

abbrev lhs : Vec Ideal S9216x1024 .bf16 := m ((c : Thread nD τ).loc main_arg0)
abbrev rhs : Vec Ideal S9216x1024 .bf16 := m ((c : Thread nD τ).loc main_arg1)

theorem block_l (t : Fin cfg0.N) (k : Fin 2304) (a : Fin 1024) :
    (iblk m c 0 t : Vec Ideal S2304x1024 .bf16) (ix2 k a) = num (lhs m c) (2304 * (t.val % 4) + k.val) ((fun _ => 0) (t.val / 4) + a.val) := by
  have hi := index_l t
  unfold iblk
  rw [View.read_apply]
  refine num_at (lhs m c) _ _ _ ?_ ?_
  · show win0_0.index t 0 * 2304 + 1 * k.val = _; rw [hi.1]; omega
  · show win0_0.index t 1 * 1024 + 1 * a.val = _; rw [hi.2]; dsimp only; omega

theorem block_r (t : Fin cfg0.N) (k : Fin 2304) (b : Fin 1024) :
    (iblk m c 1 t : Vec Ideal S2304x1024 .bf16) (ix2 k b) = num (rhs m c) (2304 * (t.val % 4) + k.val) ((fun j => 1024 * j) (t.val / 4) + b.val) := by
  have hi := index_r t
  unfold iblk
  rw [View.read_apply]
  refine num_at (rhs m c) _ _ _ ?_ ?_
  · show win0_1.index t 0 * 2304 + 1 * k.val = _; rw [hi.1]; omega
  · show win0_1.index t 1 * 1024 + 1 * b.val = _; rw [hi.2]; dsimp only; omega

theorem next (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h2 : t.val % 4 = 3
  · rw [outsAt0_C m c t h (by omega) h2]
    dsimp only
    rw [sout_C]
  · rw [outsAt0_B m c t h (by omega) h2]
    dsimp only
    rw [sout_B]

/-- The accumulator after a point. -/
theorem held : ∀ (n : ℕ) (h : n < cfg0.N) (a : Fin 1024) (b : Fin 1024),
    (outsAt0 m c n h).2 (ix2 a b) = upto (colTerm (lhs m c) (rhs m c) ((fun _ => 0) (n / 4) + a.val) ((fun j => 1024 * j) (n / 4) + b.val)) (2304 * (n % 4 + 1)) :=
  col_blocks 4 cfg0.N (by decide) (lhs m c) (rhs m c) (fun _ => 0) (fun j => 1024 * j) (fun n h => iblk m c 0 ⟨n, h⟩) (fun n h => iblk m c 1 ⟨n, h⟩)
    (fun n h => (outsAt0 m c n h).2) (fun n h => block_l m c ⟨n, h⟩) (fun n h => block_r m c ⟨n, h⟩)
    (fun n h h0 a b => by
      have hn := lt_of_lt_of_eq h N_0
      rw [outsAt0_A m c ⟨n, h⟩ h0 (by dsimp only; omega) (by dsimp only; omega)]
      dsimp only
      rw [sout_A]
      exact block_product (iblk m c 0 ⟨n, h⟩) (iblk m c 1 ⟨n, h⟩) a b)
    (fun n h h0 a b => by
      rw [next m c ⟨n, h⟩ h0]
      exact congrArg (_ + ·) (block_product (iblk m c 0 ⟨n, h⟩) (iblk m c 1 ⟨n, h⟩) a b))

/-- A block's last point writes what its accumulator holds. -/
theorem written (t : Fin cfg0.N) (h : t.val % 4 = 3) (y : S1024x1024.Idx) :
    (outsAt0 m c t.val t.isLt).1 y = (outsAt0 m c t.val t.isLt).2 y := by
  rw [outsAt0_C m c t (by omega) (by omega) h]
  dsimp only
  rw [out_C, sout_C]

/-- The kernel's array: the products of the merged rows' columns with the incoming gradient's. -/
theorem final : (dats m 0 c).arrAt 2 cfg0.N = cols (lhs m c) (rhs m c) := by
  rw [Value.final2]
  funext i
  have h0 : (i 0).val < 1024 := (i 0).isLt
  have h1 : (i 1).val < 1024 := (i 1).isLt
  have hN : Value.pt2Of i < cfg0.N := lt_of_lt_of_eq (by show 4 * (1 * ((i 0).val / 1024 - 0) + 1 * ((i 1).val / 1024 - 0)) + 3 < 4; omega) N_0.symm
  have hd : Value.pt2Of i / 4 = (i 1).val / 1024 := by show (4 * (1 * ((i 0).val / 1024 - 0) + 1 * ((i 1).val / 1024 - 0)) + 3) / 4 = _; omega
  have hm : Value.pt2Of i % 4 = 3 := by show (4 * (1 * ((i 0).val / 1024 - 0) + 1 * ((i 1).val / 1024 - 0)) + 3) % 4 = _; omega
  unfold Value.G2
  rw [dif_pos hN, ← Value.outsAt0_sweep m c _ hN]
  refine (written m c ⟨_, hN⟩ hm _).trans ?_
  obtain ⟨a, b, e⟩ : ∃ (a : Fin 1024) (b : Fin 1024), Value.loc2Of i = ix2 a b := ⟨Value.loc2Of i 0, Value.loc2Of i 1, by funext d; fin_cases d <;> rfl⟩
  have ea : a.val = (i 0).val % 1024 := congrArg Fin.val (congrFun e 0).symm
  have eb : b.val = (i 1).val % 1024 := congrArg Fin.val (congrFun e 1).symm
  rw [e]
  refine (held m c _ hN a b).trans ?_
  dsimp only
  rw [hm, hd, ea, eb, Nat.zero_add, show (i 0).val % 1024 = (i 0).val by omega, show 1024 * ((i 1).val / 1024) + (i 1).val % 1024 = (i 1).val by omega]
  rfl

theorem reference (x0 : (⟨Cert.Reference10Ideal.S9216x1024, .bf16⟩ : BufTy).Contents (Elt Ideal)) (x1 : (⟨Cert.Reference10Ideal.S9216x1024, .bf16⟩ : BufTy).Contents (Elt Ideal)) :
    Cert.Reference10Ideal.Read.val_main_v6 (F := Ideal) x0 x1 = cols (p := 9216) (q := 1024) (r := 1024) x0 x1 := by
  funext i
  rw [Cert.Reference10Ideal.Read.val_main_v6_apply, Cert.Reference10Ideal.Read.val_main_v5_apply, Cert.Reference10Ideal.Read.val_main_v4_apply]
  refine (Finset.sum_congr rfl fun k _ => ?_).trans (upto_fin (colTerm (p := 9216) (q := 1024) (r := 1024) x0 x1 (i 0).val (i 1).val) 9216).symm
  refine (mul_comm _ _).trans (congrArg₂ (· * ·) (num_at (x0 : Vec Ideal S9216x1024 .bf16) _ _ _ ?_ ?_) (num_at (x1 : Vec Ideal S9216x1024 .bf16) _ _ _ ?_ ?_)) <;> rfl

theorem reference_run (m : (ℓ : Loc Cert.Reference10Ideal.nD Cert.Reference10Ideal.τ Cert.Reference10Ideal.sig) → Buf (Elt Ideal) ℓ) (ρ : Dev Cert.Reference10Ideal.nD → PrngReg) :
    θ_run Cert.Reference10Ideal.defs (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono (fun r h => ⟨fun c => (h c).2, Idealize.ShloMosaic.sem_eq_zero_of_no_sems (by decide) r.2⟩)
    (Cert.Reference10Ideal.Value.run m ρ)

theorem algebraic : Cert.algebraic_Kernel10Ideal_Reference10Ideal (hKernel10Ideal := Cert.Kernel10Ideal.Gen.facts) (hReference10Ideal := Cert.Reference10Ideal.Gen.facts) := by
  intro m g m' g' _ hagree
  refine ⟨fun c => cols (lhs m c) (rhs m c), ?_, ?_⟩
  · refine (θ_run Cert.Kernel10Ideal.defs _ _).mono (fun r h c => ?_) (Value.run_blocks m g)
    obtain ⟨h0, h1⟩ := h c
    exact ⟨h0.trans (final m c), h1⟩
  · refine (θ_run Cert.Reference10Ideal.defs _ _).mono (fun r h c => ?_) (Cert.Reference10Ideal.Value.run m' g')
    obtain ⟨h0, h1⟩ := h c
    obtain ⟨a0, a1⟩ := hagree c
    exact ⟨((h0.trans (Cert.Reference10Ideal.Read.val_main_v6_eq _ _)).trans (reference _ _)).trans (congrArg₂ (cols (p := 9216) (q := 1024) (r := 1024)) a0 a1), h1⟩

end Cert.OutWeight

end
-- ==== Proof.OutMerged.lean ====
/- The gradient of the merged branches: products of the incoming gradient's rows with the weights' rows. -/
module

public import proofs.«01_k».proof.Defs
public import proofs.«01_k».proof.Proof.Product
public import proofs.«01_k».proof.Proof.Gen.Kernel11Ideal.Value
public import proofs.«01_k».proof.Proof.Gen.Reference11Ideal.Read

@[expose] public section

set_option maxRecDepth 16384

noncomputable section

namespace Cert.OutMerged

open Cert.Kernel11Ideal Cert.Kernel11Ideal.Gen Idealize.ShloMosaic Idealize.ShloMosaic.TcCoe Idealize.SL.Sem Cert.Product

theorem block_product (x0 : Vec Ideal S1152x1024 .bf16) (x1 : Vec Ideal S1024x1024 .bf16) (a : Fin 1152) (b : Fin 1024) :
    k0_pay1 (F := Ideal) x0 x1 (ix2 a b) = ∑ k : Fin 1024, x0 (ix2 a k) * x1 (ix2 b k) := by
  pointwise [k0_pay1]

/-- What a point stores: its blocks' product. -/
theorem stored (x0 : Vec Ideal S1152x1024 .bf16) (x1 : Vec Ideal S1024x1024 .bf16) (a : Fin 1152) (b : Fin 1024) :
    out0_2 (F := Ideal) x0 x1 (ix2 a b) = ∑ k : Fin 1024, x0 (ix2 a k) * x1 (ix2 b k) := by
  unfold out0_2
  rw [View.canon_cons_unit_zero hz, View.ld_unit_zero (S := S1152x1024) hz, View.ld_unit_zero (S := S1024x1024) hz, block_product]

theorem index_l : ∀ t : Fin grid0.N, win0_0.index t 0 = t.val ∧ win0_0.index t 1 = 0 := by decide +kernel
theorem index_r : ∀ t : Fin grid0.N, win0_1.index t 0 = 0 ∧ win0_1.index t 1 = 0 := by decide +kernel
theorem index_o : ∀ t : Fin grid0.N, win0_2.index t 0 = t.val ∧ win0_2.index t 1 = 0 ∧ win0_2.flush t = true := by decide +kernel

variable (m : (ℓ : Loc nD τ sig) → Buf (Elt Ideal) ℓ) (c : Dev nD)

abbrev lhs : Vec Ideal S9216x1024 .bf16 := m ((c : Thread nD τ).loc main_arg0)
abbrev rhs : Vec Ideal S1024x1024 .bf16 := m ((c : Thread nD τ).loc main_arg1)

theorem block_l (t : Fin cfg0.N) (a : Fin 1152) (k : Fin 1024) :
    (iblk m c 0 t : Vec Ideal S1152x1024 .bf16) (ix2 a k) = num (lhs m c) (1152 * t.val + a.val) k.val := by
  have hi := index_l t
  unfold iblk
  rw [View.read_apply]
  refine num_at (lhs m c) _ _ _ ?_ ?_
  · show win0_0.index t 0 * 1152 + 1 * a.val = _; rw [hi.1]; omega
  · show win0_0.index t 1 * 1024 + 1 * k.val = _; rw [hi.2]; omega

theorem block_r (t : Fin cfg0.N) (b : Fin 1024) (k : Fin 1024) :
    (iblk m c 1 t : Vec Ideal S1024x1024 .bf16) (ix2 b k) = num (rhs m c) (0 + b.val) k.val := by
  have hi := index_r t
  unfold iblk
  rw [View.read_apply]
  refine num_at (rhs m c) _ _ _ ?_ ?_
  · show win0_1.index t 0 * 1024 + 1 * b.val = _; rw [hi.1]; omega
  · show win0_1.index t 1 * 1024 + 1 * k.val = _; rw [hi.2]; omega

/-- The kernel's array: every block is its point's, and the blocks cover the array. -/
theorem final : (dats m 0 c).arrAt 2 cfg0.N = rows (lhs m c) (rhs m c) := by
  funext i
  have h0 : (i 0).val < 9216 := (i 0).isLt
  have h1 : (i 1).val < 1024 := (i 1).isLt
  obtain ⟨t, ht⟩ : ∃ t : Fin cfg0.N, t.val = (i 0).val / 1152 := ⟨⟨_, lt_of_lt_of_eq (by omega) N_0.symm⟩, rfl⟩
  have ho := index_o t
  have hb := congrFun (Value.blocks2 m c t ho.2.2) (ix2 ⟨(i 0).val % 1152, Nat.mod_lt _ (by decide)⟩ ⟨(i 1).val % 1024, Nat.mod_lt _ (by decide)⟩)
  rw [View.read_apply, Value.flushed2] at hb
  have he : ((cfg0.win 2).blk t).view.emb (ix2 ⟨(i 0).val % 1152, Nat.mod_lt _ (by decide)⟩ ⟨(i 1).val % 1024, Nat.mod_lt _ (by decide)⟩) = i := by
    funext d
    fin_cases d
    · exact Fin.ext (by show win0_2.index t 0 * 1152 + 1 * ((i 0).val % 1152) = (i 0).val; rw [ho.1]; omega)
    · exact Fin.ext (by show win0_2.index t 1 * 1024 + 1 * ((i 1).val % 1024) = (i 1).val; rw [ho.2.1]; omega)
  rw [he] at hb
  refine hb.trans ((stored (iblk m c 0 t) (iblk m c 1 t) ⟨(i 0).val % 1152, Nat.mod_lt _ (by decide)⟩ ⟨(i 1).val % 1024, Nat.mod_lt _ (by decide)⟩).trans ?_)
  refine (Finset.sum_congr rfl fun k _ => ?_).trans (upto_fin (rowTerm (lhs m c) (rhs m c) (i 0).val (i 1).val) 1024).symm
  rw [block_l, block_r]
  dsimp only
  rw [show 1152 * t.val + (i 0).val % 1152 = (i 0).val by omega, show 0 + (i 1).val % 1024 = (i 1).val by omega]
  rfl

theorem reference (x0 : (⟨Cert.Reference11Ideal.S9216x1024, .bf16⟩ : BufTy).Contents (Elt Ideal)) (x1 : (⟨Cert.Reference11Ideal.S1024x1024, .bf16⟩ : BufTy).Contents (Elt Ideal)) :
    Cert.Reference11Ideal.Read.val_main_v4 (F := Ideal) x0 x1 = rows (p := 9216) (q := 1024) (r := 1024) x0 x1 := by
  funext i
  rw [Cert.Reference11Ideal.Read.val_main_v4_apply]
  refine (Finset.sum_congr rfl fun k _ => ?_).trans (upto_fin (rowTerm (p := 9216) (q := 1024) (r := 1024) x0 x1 (i 0).val (i 1).val) 1024).symm
  refine congrArg₂ (· * ·) (num_at (x0 : Vec Ideal S9216x1024 .bf16) _ _ _ ?_ ?_) (num_at (x1 : Vec Ideal S1024x1024 .bf16) _ _ _ ?_ ?_) <;> rfl

theorem reference_run (m : (ℓ : Loc Cert.Reference11Ideal.nD Cert.Reference11Ideal.τ Cert.Reference11Ideal.sig) → Buf (Elt Ideal) ℓ) (ρ : Dev Cert.Reference11Ideal.nD → PrngReg) :
    θ_run Cert.Reference11Ideal.defs (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => (h c).2, Idealize.ShloMosaic.sem_eq_zero_of_no_sems (by decide) r.2⟩)
    (Cert.Reference11Ideal.Value.run m ρ)

theorem algebraic : Cert.algebraic_Kernel11Ideal_Reference11Ideal (hKernel11Ideal := Cert.Kernel11Ideal.Gen.facts) (hReference11Ideal := Cert.Reference11Ideal.Gen.facts) := by
  intro m g m' g' _ hagree
  refine ⟨fun c => rows (lhs m c) (rhs m c), ?_, ?_⟩
  · refine (θ_run Cert.Kernel11Ideal.defs _ _).mono (fun r h c => ?_) (Value.run_blocks m g)
    obtain ⟨h0, h1⟩ := h c
    exact ⟨h0.trans (final m c), h1⟩
  · refine (θ_run Cert.Reference11Ideal.defs _ _).mono (fun r h c => ?_) (Cert.Reference11Ideal.Value.run m' g')
    obtain ⟨h0, h1⟩ := h c
    obtain ⟨a0, a1⟩ := hagree c
    exact ⟨((h0.trans (Cert.Reference11Ideal.Read.val_main_v4_eq _ _)).trans (reference _ _)).trans (congrArg₂ (rows (p := 9216) (q := 1024) (r := 1024)) a0 a1), h1⟩

end Cert.OutMerged

end
-- ==== Proof.BranchWeight.lean ====
/- The gradient of a branch's weights: the kernel's result and the reference's are one sum of products over the rows. -/
module

public import proofs.«01_k».proof.Defs
public import proofs.«01_k».proof.Proof.Product
public import proofs.«01_k».proof.Proof.Gen.Kernel12Ideal.Value
public import proofs.«01_k».proof.Proof.Gen.Reference12Ideal.Read

@[expose] public section

set_option maxRecDepth 16384

noncomputable section

namespace Cert.BranchWeight

open Cert.Kernel12Ideal Cert.Kernel12Ideal.Gen Idealize.ShloMosaic Idealize.ShloMosaic.TcCoe Idealize.SL.Sem Cert.Product

section Case
variable (c : Dev nD) (i : grid0.Coords) (arg3 : Memref sig .tc .vmem S2304x512 .bf16) (harg3 : arg3.IsWhole) (arg4 : Memref sig .tc .vmem S2304x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec Ideal S2304x512 .bf16) (x1 : Vec Ideal S2304x1024 .bf16) (xs : Vec Ideal S512x1024 .f32)

theorem block_product (a : Fin 512) (b : Fin 1024) :
    k0_pay1 (F := Ideal) x0 x1 (ix2 a b) = ∑ k : Fin 2304, x0 (ix2 k a) * x1 (ix2 k b) := by
  pointwise [k0_pay1]

/-- A run's first point sets the accumulator to its block's product. -/
theorem sout_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 (F := Ideal) c i arg3 harg3 arg4 harg4 arg5 harg5 arg6 harg6 hc0 hc1 hc2 x0 x1)]
  unfold kernelRun0_A
  dsimp only
  sl_unfold_words
  rw [View.canon_cons_unit_zero hz]
  unfold k0_pay2
  simp only [View.readAt_eq_ld, harg3.read_unread, harg4.read_unread, View.ld_unit_zero (S := S2304x512) hz, View.ld_unit_zero (S := S2304x1024) hz, View.ld_unit_zero (S := S512x1024) hz, shapeCast_self]

/-- The points between add theirs. -/
theorem sout_B (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  unfold sout0_B_0
  rw [View.read_writes_eq_canon _ _ _ (scover0_B_0 (F := Ideal) c i arg3 harg3 arg4 harg4 arg5 harg5 arg6 harg6 hc0 hc1 hc2 x0 x1 xs)]
  unfold kernelRun0_B
  dsimp only
  sl_unfold_words
  rw [View.canon_cons_unit_zero hz]
  unfold k0_pay3
  simp only [View.readAt_eq_ld, harg6.read_unread, harg3.read_unread, harg4.read_unread, View.ld_unit_zero (S := S2304x512) hz, View.ld_unit_zero (S := S2304x1024) hz, View.ld_unit_zero (S := S512x1024) hz, shapeCast_self]

/-- So does the last point. -/
theorem sout_C (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  unfold sout0_C_0
  rw [View.read_writes_eq_canon _ _ _ (scover0_C_0 (F := Ideal) c i arg3 harg3 arg4 harg4 arg5 harg5 arg6 harg6 hc0 hc1 hc2 x0 x1 xs)]
  unfold kernelRun0_C
  dsimp only
  sl_unfold_words
  rw [View.canon_cons_unit_zero hz]
  unfold k0_pay3
  simp only [View.readAt_eq_ld, harg6.read_unread, harg3.read_unread, harg4.read_unread, View.ld_unit_zero (S := S2304x512) hz, View.ld_unit_zero (S := S2304x1024) hz, View.ld_unit_zero (S := S512x1024) hz, shapeCast_self]

/-- The last point writes the accumulator out. -/
theorem out_C (hc0 : ¬cond0_0 i) (hc1 : cond0_1 i) (hc2 : cond0_2 i) (y : S512x1024.Idx) :
    out0_C_2 (F := Ideal) c i arg3 harg3 arg4 harg4 arg5 harg5 arg6 harg6 hc0 hc1 hc2 x0 x1 xs y = addf xs (k0_pay1 x0 x1) y := by
  unfold out0_C_2
  rw [View.read_writes_eq_canon _ _ _ (cover0_C_2 (F := Ideal) c i arg3 harg3 arg4 harg4 arg5 harg5 arg6 harg6 hc0 hc1 hc2 x0 x1 xs)]
  unfold kernelRun0_C
  dsimp only
  sl_unfold_words
  rw [View.canon_cons_unit_zero hz, View.readCov_unit_zero _ hz]
  unfold k0_pay4 k0_pay3
  simp only [View.readAt_eq_ld, harg6.read_unread, harg3.read_unread, harg4.read_unread, View.ld_unit_zero (S := S2304x512) hz, View.ld_unit_zero (S := S2304x1024) hz, View.ld_unit_zero (S := S512x1024) hz, shapeCast_self]
  rfl

end Case

theorem index_l : ∀ t : Fin grid0.N, win0_0.index t 0 = t.val % 4 ∧ win0_0.index t 1 = 0 := by decide +kernel
theorem index_r : ∀ t : Fin grid0.N, win0_1.index t 0 = t.val % 4 ∧ win0_1.index t 1 = t.val / 4 := by decide +kernel

variable (m : (ℓ : Loc nD τ sig) → Buf (Elt Ideal) ℓ) (c : Dev nD)

abbrev lhs : Vec Ideal S9216x512 .bf16 := m ((c : Thread nD τ).loc main_arg0)
abbrev rhs : Vec Ideal S9216x1024 .bf16 := m ((c : Thread nD τ).loc main_arg1)

theorem block_l (t : Fin cfg0.N) (k : Fin 2304) (a : Fin 512) :
    (iblk m c 0 t : Vec Ideal S2304x512 .bf16) (ix2 k a) = num (lhs m c) (2304 * (t.val % 4) + k.val) ((fun _ => 0) (t.val / 4) + a.val) := by
  have hi := index_l t
  unfold iblk
  rw [View.read_apply]
  refine num_at (lhs m c) _ _ _ ?_ ?_
  · show win0_0.index t 0 * 2304 + 1 * k.val = _; rw [hi.1]; omega
  · show win0_0.index t 1 * 512 + 1 * a.val = _; rw [hi.2]; dsimp only; omega

theorem block_r (t : Fin cfg0.N) (k : Fin 2304) (b : Fin 1024) :
    (iblk m c 1 t : Vec Ideal S2304x1024 .bf16) (ix2 k b) = num (rhs m c) (2304 * (t.val % 4) + k.val) ((fun j => 1024 * j) (t.val / 4) + b.val) := by
  have hi := index_r t
  unfold iblk
  rw [View.read_apply]
  refine num_at (rhs m c) _ _ _ ?_ ?_
  · show win0_1.index t 0 * 2304 + 1 * k.val = _; rw [hi.1]; omega
  · show win0_1.index t 1 * 1024 + 1 * b.val = _; rw [hi.2]; dsimp only; omega

theorem next (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h2 : t.val % 4 = 3
  · rw [outsAt0_C m c t h (by omega) h2]
    dsimp only
    rw [sout_C]
  · rw [outsAt0_B m c t h (by omega) h2]
    dsimp only
    rw [sout_B]

/-- The accumulator after a point. -/
theorem held : ∀ (n : ℕ) (h : n < cfg0.N) (a : Fin 512) (b : Fin 1024),
    (outsAt0 m c n h).2 (ix2 a b) = upto (colTerm (lhs m c) (rhs m c) ((fun _ => 0) (n / 4) + a.val) ((fun j => 1024 * j) (n / 4) + b.val)) (2304 * (n % 4 + 1)) :=
  col_blocks 4 cfg0.N (by decide) (lhs m c) (rhs m c) (fun _ => 0) (fun j => 1024 * j) (fun n h => iblk m c 0 ⟨n, h⟩) (fun n h => iblk m c 1 ⟨n, h⟩)
    (fun n h => (outsAt0 m c n h).2) (fun n h => block_l m c ⟨n, h⟩) (fun n h => block_r m c ⟨n, h⟩)
    (fun n h h0 a b => by
      have hn := lt_of_lt_of_eq h N_0
      rw [outsAt0_A m c ⟨n, h⟩ h0 (by dsimp only; omega) (by dsimp only; omega)]
      dsimp only
      rw [sout_A]
      exact block_product (iblk m c 0 ⟨n, h⟩) (iblk m c 1 ⟨n, h⟩) a b)
    (fun n h h0 a b => by
      rw [next m c ⟨n, h⟩ h0]
      exact congrArg (_ + ·) (block_product (iblk m c 0 ⟨n, h⟩) (iblk m c 1 ⟨n, h⟩) a b))

/-- A block's last point writes what its accumulator holds. -/
theorem written (t : Fin cfg0.N) (h : t.val % 4 = 3) (y : S512x1024.Idx) :
    (outsAt0 m c t.val t.isLt).1 y = (outsAt0 m c t.val t.isLt).2 y := by
  rw [outsAt0_C m c t (by omega) (by omega) h]
  dsimp only
  rw [out_C, sout_C]

/-- The kernel's array: the products of the attention's columns with the incoming gradient's. -/
theorem final : (dats m 0 c).arrAt 2 cfg0.N = cols (lhs m c) (rhs m c) := by
  rw [Value.final2]
  funext i
  have h0 : (i 0).val < 512 := (i 0).isLt
  have h1 : (i 1).val < 1024 := (i 1).isLt
  have hN : Value.pt2Of i < cfg0.N := lt_of_lt_of_eq (by show 4 * (1 * ((i 0).val / 512 - 0) + 1 * ((i 1).val / 1024 - 0)) + 3 < 4; omega) N_0.symm
  have hd : Value.pt2Of i / 4 = (i 1).val / 1024 := by show (4 * (1 * ((i 0).val / 512 - 0) + 1 * ((i 1).val / 1024 - 0)) + 3) / 4 = _; omega
  have hm : Value.pt2Of i % 4 = 3 := by show (4 * (1 * ((i 0).val / 512 - 0) + 1 * ((i 1).val / 1024 - 0)) + 3) % 4 = _; omega
  unfold Value.G2
  rw [dif_pos hN, ← Value.outsAt0_sweep m c _ hN]
  refine (written m c ⟨_, hN⟩ hm _).trans ?_
  obtain ⟨a, b, e⟩ : ∃ (a : Fin 512) (b : Fin 1024), Value.loc2Of i = ix2 a b := ⟨Value.loc2Of i 0, Value.loc2Of i 1, by funext d; fin_cases d <;> rfl⟩
  have ea : a.val = (i 0).val % 512 := congrArg Fin.val (congrFun e 0).symm
  have eb : b.val = (i 1).val % 1024 := congrArg Fin.val (congrFun e 1).symm
  rw [e]
  refine (held m c _ hN a b).trans ?_
  dsimp only
  rw [hm, hd, ea, eb, Nat.zero_add, show (i 0).val % 512 = (i 0).val by omega, show 1024 * ((i 1).val / 1024) + (i 1).val % 1024 = (i 1).val by omega]
  rfl

theorem reference (x0 : (⟨Cert.Reference12Ideal.S9216x512, .bf16⟩ : BufTy).Contents (Elt Ideal)) (x1 : (⟨Cert.Reference12Ideal.S9216x1024, .bf16⟩ : BufTy).Contents (Elt Ideal)) :
    Cert.Reference12Ideal.Read.val_main_v6 (F := Ideal) x0 x1 = cols (p := 9216) (q := 512) (r := 1024) x0 x1 := by
  funext i
  rw [Cert.Reference12Ideal.Read.val_main_v6_apply, Cert.Reference12Ideal.Read.val_main_v5_apply, Cert.Reference12Ideal.Read.val_main_v4_apply]
  refine (Finset.sum_congr rfl fun k _ => ?_).trans (upto_fin (colTerm (p := 9216) (q := 512) (r := 1024) x0 x1 (i 0).val (i 1).val) 9216).symm
  refine (mul_comm _ _).trans (congrArg₂ (· * ·) (num_at (x0 : Vec Ideal S9216x512 .bf16) _ _ _ ?_ ?_) (num_at (x1 : Vec Ideal S9216x1024 .bf16) _ _ _ ?_ ?_)) <;> rfl

theorem reference_run (m : (ℓ : Loc Cert.Reference12Ideal.nD Cert.Reference12Ideal.τ Cert.Reference12Ideal.sig) → Buf (Elt Ideal) ℓ) (ρ : Dev Cert.Reference12Ideal.nD → PrngReg) :
    θ_run Cert.Reference12Ideal.defs (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono (fun r h => ⟨fun c => (h c).2, Idealize.ShloMosaic.sem_eq_zero_of_no_sems (by decide) r.2⟩)
    (Cert.Reference12Ideal.Value.run m ρ)

theorem algebraic : Cert.algebraic_Kernel12Ideal_Reference12Ideal (hKernel12Ideal := Cert.Kernel12Ideal.Gen.facts) (hReference12Ideal := Cert.Reference12Ideal.Gen.facts) := by
  intro m g m' g' _ hagree
  refine ⟨fun c => cols (lhs m c) (rhs m c), ?_, ?_⟩
  · refine (θ_run Cert.Kernel12Ideal.defs _ _).mono (fun r h c => ?_) (Value.run_blocks m g)
    obtain ⟨h0, h1⟩ := h c
    exact ⟨h0.trans (final m c), h1⟩
  · refine (θ_run Cert.Reference12Ideal.defs _ _).mono (fun r h c => ?_) (Cert.Reference12Ideal.Value.run m' g')
    obtain ⟨h0, h1⟩ := h c
    obtain ⟨a0, a1⟩ := hagree c
    exact ⟨((h0.trans (Cert.Reference12Ideal.Read.val_main_v6_eq _ _)).trans (reference _ _)).trans (congrArg₂ (cols (p := 9216) (q := 512) (r := 1024)) a0 a1), h1⟩

end Cert.BranchWeight

end
-- ==== Proof.BranchAct.lean ====
/- The gradient of a branch's attention: products of the incoming gradient's rows with the weights' rows. -/
module

public import proofs.«01_k».proof.Defs
public import proofs.«01_k».proof.Proof.Product
public import proofs.«01_k».proof.Proof.Gen.Kernel13Ideal.Value
public import proofs.«01_k».proof.Proof.Gen.Reference13Ideal.Read

@[expose] public section

set_option maxRecDepth 16384

noncomputable section

namespace Cert.BranchAct

open Cert.Kernel13Ideal Cert.Kernel13Ideal.Gen Idealize.ShloMosaic Idealize.ShloMosaic.TcCoe Idealize.SL.Sem Cert.Product

theorem block_product (x0 : Vec Ideal S1152x1024 .bf16) (x1 : Vec Ideal S512x1024 .bf16) (a : Fin 1152) (b : Fin 512) :
    k0_pay1 (F := Ideal) x0 x1 (ix2 a b) = ∑ k : Fin 1024, x0 (ix2 a k) * x1 (ix2 b k) := by
  pointwise [k0_pay1]

/-- What a point stores: its blocks' product. -/
theorem stored (x0 : Vec Ideal S1152x1024 .bf16) (x1 : Vec Ideal S512x1024 .bf16) (a : Fin 1152) (b : Fin 512) :
    out0_2 (F := Ideal) x0 x1 (ix2 a b) = ∑ k : Fin 1024, x0 (ix2 a k) * x1 (ix2 b k) := by
  unfold out0_2
  rw [View.canon_cons_unit_zero hz, View.ld_unit_zero (S := S1152x1024) hz, View.ld_unit_zero (S := S512x1024) hz, block_product]

theorem index_l : ∀ t : Fin grid0.N, win0_0.index t 0 = t.val ∧ win0_0.index t 1 = 0 := by decide +kernel
theorem index_r : ∀ t : Fin grid0.N, win0_1.index t 0 = 0 ∧ win0_1.index t 1 = 0 := by decide +kernel
theorem index_o : ∀ t : Fin grid0.N, win0_2.index t 0 = t.val ∧ win0_2.index t 1 = 0 ∧ win0_2.flush t = true := by decide +kernel

variable (m : (ℓ : Loc nD τ sig) → Buf (Elt Ideal) ℓ) (c : Dev nD)

abbrev lhs : Vec Ideal S9216x1024 .bf16 := m ((c : Thread nD τ).loc main_arg0)
abbrev rhs : Vec Ideal S512x1024 .bf16 := m ((c : Thread nD τ).loc main_arg1)

theorem block_l (t : Fin cfg0.N) (a : Fin 1152) (k : Fin 1024) :
    (iblk m c 0 t : Vec Ideal S1152x1024 .bf16) (ix2 a k) = num (lhs m c) (1152 * t.val + a.val) k.val := by
  have hi := index_l t
  unfold iblk
  rw [View.read_apply]
  refine num_at (lhs m c) _ _ _ ?_ ?_
  · show win0_0.index t 0 * 1152 + 1 * a.val = _; rw [hi.1]; omega
  · show win0_0.index t 1 * 1024 + 1 * k.val = _; rw [hi.2]; omega

theorem block_r (t : Fin cfg0.N) (b : Fin 512) (k : Fin 1024) :
    (iblk m c 1 t : Vec Ideal S512x1024 .bf16) (ix2 b k) = num (rhs m c) (0 + b.val) k.val := by
  have hi := index_r t
  unfold iblk
  rw [View.read_apply]
  refine num_at (rhs m c) _ _ _ ?_ ?_
  · show win0_1.index t 0 * 512 + 1 * b.val = _; rw [hi.1]; omega
  · show win0_1.index t 1 * 1024 + 1 * k.val = _; rw [hi.2]; omega

/-- The kernel's array: every block is its point's, and the blocks cover the array. -/
theorem final : (dats m 0 c).arrAt 2 cfg0.N = rows (lhs m c) (rhs m c) := by
  funext i
  have h0 : (i 0).val < 9216 := (i 0).isLt
  have h1 : (i 1).val < 512 := (i 1).isLt
  obtain ⟨t, ht⟩ : ∃ t : Fin cfg0.N, t.val = (i 0).val / 1152 := ⟨⟨_, lt_of_lt_of_eq (by omega) N_0.symm⟩, rfl⟩
  have ho := index_o t
  have hb := congrFun (Value.blocks2 m c t ho.2.2) (ix2 ⟨(i 0).val % 1152, Nat.mod_lt _ (by decide)⟩ ⟨(i 1).val % 512, Nat.mod_lt _ (by decide)⟩)
  rw [View.read_apply, Value.flushed2] at hb
  have he : ((cfg0.win 2).blk t).view.emb (ix2 ⟨(i 0).val % 1152, Nat.mod_lt _ (by decide)⟩ ⟨(i 1).val % 512, Nat.mod_lt _ (by decide)⟩) = i := by
    funext d
    fin_cases d
    · exact Fin.ext (by show win0_2.index t 0 * 1152 + 1 * ((i 0).val % 1152) = (i 0).val; rw [ho.1]; omega)
    · exact Fin.ext (by show win0_2.index t 1 * 512 + 1 * ((i 1).val % 512) = (i 1).val; rw [ho.2.1]; omega)
  rw [he] at hb
  refine hb.trans ((stored (iblk m c 0 t) (iblk m c 1 t) ⟨(i 0).val % 1152, Nat.mod_lt _ (by decide)⟩ ⟨(i 1).val % 512, Nat.mod_lt _ (by decide)⟩).trans ?_)
  refine (Finset.sum_congr rfl fun k _ => ?_).trans (upto_fin (rowTerm (lhs m c) (rhs m c) (i 0).val (i 1).val) 1024).symm
  rw [block_l, block_r]
  dsimp only
  rw [show 1152 * t.val + (i 0).val % 1152 = (i 0).val by omega, show 0 + (i 1).val % 512 = (i 1).val by omega]
  rfl

theorem reference (x0 : (⟨Cert.Reference13Ideal.S9216x1024, .bf16⟩ : BufTy).Contents (Elt Ideal)) (x1 : (⟨Cert.Reference13Ideal.S512x1024, .bf16⟩ : BufTy).Contents (Elt Ideal)) :
    Cert.Reference13Ideal.Read.val_main_v5 (F := Ideal) x0 x1 = rows (p := 9216) (q := 1024) (r := 512) x0 x1 := by
  funext i
  rw [Cert.Reference13Ideal.Read.val_main_v5_apply, Cert.Reference13Ideal.Read.val_main_v4_apply]
  refine (Finset.sum_congr rfl fun k _ => ?_).trans (upto_fin (rowTerm (p := 9216) (q := 1024) (r := 512) x0 x1 (i 0).val (i 1).val) 1024).symm
  refine congrArg₂ (· * ·) (num_at (x0 : Vec Ideal S9216x1024 .bf16) _ _ _ ?_ ?_) (num_at (x1 : Vec Ideal S512x1024 .bf16) _ _ _ ?_ ?_) <;> rfl

theorem reference_run (m : (ℓ : Loc Cert.Reference13Ideal.nD Cert.Reference13Ideal.τ Cert.Reference13Ideal.sig) → Buf (Elt Ideal) ℓ) (ρ : Dev Cert.Reference13Ideal.nD → PrngReg) :
    θ_run Cert.Reference13Ideal.defs (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run Cert.Reference13Ideal.defs _ _).mono (fun r h => ⟨fun c => (h c).2, Idealize.ShloMosaic.sem_eq_zero_of_no_sems (by decide) r.2⟩)
    (Cert.Reference13Ideal.Value.run m ρ)

theorem algebraic : Cert.algebraic_Kernel13Ideal_Reference13Ideal (hKernel13Ideal := Cert.Kernel13Ideal.Gen.facts) (hReference13Ideal := Cert.Reference13Ideal.Gen.facts) := by
  intro m g m' g' _ hagree
  refine ⟨fun c => rows (lhs m c) (rhs m c), ?_, ?_⟩
  · refine (θ_run Cert.Kernel13Ideal.defs _ _).mono (fun r h c => ?_) (Value.run_blocks m g)
    obtain ⟨h0, h1⟩ := h c
    exact ⟨h0.trans (final m c), h1⟩
  · refine (θ_run Cert.Reference13Ideal.defs _ _).mono (fun r h c => ?_) (Cert.Reference13Ideal.Value.run m' g')
    obtain ⟨h0, h1⟩ := h c
    obtain ⟨a0, a1⟩ := hagree c
    exact ⟨((h0.trans (Cert.Reference13Ideal.Read.val_main_v5_eq _ _)).trans (reference _ _)).trans (congrArg₂ (rows (p := 9216) (q := 1024) (r := 512)) a0 a1), h1⟩

end Cert.BranchAct

end
-- ==== Proof.BranchProduct.lean ====
/- A branch's projection: products of the attention's rows with the weights' columns. -/
module

public import proofs.«01_k».proof.Defs
public import proofs.«01_k».proof.Proof.Product
public import proofs.«01_k».proof.Proof.Gen.Kernel14Ideal.Value
public import proofs.«01_k».proof.Proof.Gen.Reference14Ideal.Read

@[expose] public section

set_option maxRecDepth 16384

noncomputable section

namespace Cert.BranchProduct

open Cert.Kernel14Ideal Cert.Kernel14Ideal.Gen Idealize.ShloMosaic Idealize.ShloMosaic.TcCoe Idealize.SL.Sem Cert.Product

theorem block_product (x0 : Vec Ideal S1152x512 .bf16) (x1 : Vec Ideal S512x1024 .bf16) (a : Fin 1152) (b : Fin 1024) :
    k0_pay1 (F := Ideal) x0 x1 (ix2 a b) = ∑ k : Fin 512, x0 (ix2 a k) * x1 (ix2 k b) := by
  pointwise [k0_pay1]

/-- What a point stores: its blocks' product. -/
theorem stored (x0 : Vec Ideal S1152x512 .bf16) (x1 : Vec Ideal S512x1024 .bf16) (a : Fin 1152) (b : Fin 1024) :
    out0_2 (F := Ideal) x0 x1 (ix2 a b) = ∑ k : Fin 512, x0 (ix2 a k) * x1 (ix2 k b) := by
  unfold out0_2
  rw [View.canon_cons_unit_zero hz, View.ld_unit_zero (S := S1152x512) hz, View.ld_unit_zero (S := S512x1024) hz, block_product]

theorem index_l : ∀ t : Fin grid0.N, win0_0.index t 0 = t.val ∧ win0_0.index t 1 = 0 := by decide +kernel
theorem index_r : ∀ t : Fin grid0.N, win0_1.index t 0 = 0 ∧ win0_1.index t 1 = 0 := by decide +kernel
theorem index_o : ∀ t : Fin grid0.N, win0_2.index t 0 = t.val ∧ win0_2.index t 1 = 0 ∧ win0_2.flush t = true := by decide +kernel

variable (m : (ℓ : Loc nD τ sig) → Buf (Elt Ideal) ℓ) (c : Dev nD)

abbrev lhs : Vec Ideal S9216x512 .bf16 := m ((c : Thread nD τ).loc main_arg0)
abbrev rhs : Vec Ideal S512x1024 .bf16 := m ((c : Thread nD τ).loc main_arg1)

theorem block_l (t : Fin cfg0.N) (a : Fin 1152) (k : Fin 512) :
    (iblk m c 0 t : Vec Ideal S1152x512 .bf16) (ix2 a k) = num (lhs m c) (1152 * t.val + a.val) k.val := by
  have hi := index_l t
  unfold iblk
  rw [View.read_apply]
  refine num_at (lhs m c) _ _ _ ?_ ?_
  · show win0_0.index t 0 * 1152 + 1 * a.val = _; rw [hi.1]; omega
  · show win0_0.index t 1 * 512 + 1 * k.val = _; rw [hi.2]; omega

theorem block_r (t : Fin cfg0.N) (k : Fin 512) (b : Fin 1024) :
    (iblk m c 1 t : Vec Ideal S512x1024 .bf16) (ix2 k b) = num (rhs m c) k.val (0 + b.val) := by
  have hi := index_r t
  unfold iblk
  rw [View.read_apply]
  refine num_at (rhs m c) _ _ _ ?_ ?_
  · show win0_1.index t 0 * 512 + 1 * k.val = _; rw [hi.1]; omega
  · show win0_1.index t 1 * 1024 + 1 * b.val = _; rw [hi.2]; omega

/-- The kernel's array: every block is its point's, and the blocks cover the array. -/
theorem final : (dats m 0 c).arrAt 2 cfg0.N = prods (lhs m c) (rhs m c) := by
  funext i
  have h0 : (i 0).val < 9216 := (i 0).isLt
  have h1 : (i 1).val < 1024 := (i 1).isLt
  obtain ⟨t, ht⟩ : ∃ t : Fin cfg0.N, t.val = (i 0).val / 1152 := ⟨⟨_, lt_of_lt_of_eq (by omega) N_0.symm⟩, rfl⟩
  have ho := index_o t
  have hb := congrFun (Value.blocks2 m c t ho.2.2) (ix2 ⟨(i 0).val % 1152, Nat.mod_lt _ (by decide)⟩ ⟨(i 1).val % 1024, Nat.mod_lt _ (by decide)⟩)
  rw [View.read_apply, Value.flushed2] at hb
  have he : ((cfg0.win 2).blk t).view.emb (ix2 ⟨(i 0).val % 1152, Nat.mod_lt _ (by decide)⟩ ⟨(i 1).val % 1024, Nat.mod_lt _ (by decide)⟩) = i := by
    funext d
    fin_cases d
    · exact Fin.ext (by show win0_2.index t 0 * 1152 + 1 * ((i 0).val % 1152) = (i 0).val; rw [ho.1]; omega)
    · exact Fin.ext (by show win0_2.index t 1 * 1024 + 1 * ((i 1).val % 1024) = (i 1).val; rw [ho.2.1]; omega)
  rw [he] at hb
  refine hb.trans ((stored (iblk m c 0 t) (iblk m c 1 t) ⟨(i 0).val % 1152, Nat.mod_lt _ (by decide)⟩ ⟨(i 1).val % 1024, Nat.mod_lt _ (by decide)⟩).trans ?_)
  refine (Finset.sum_congr rfl fun k _ => ?_).trans (upto_fin (prodTerm (lhs m c) (rhs m c) (i 0).val (i 1).val) 512).symm
  rw [block_l, block_r]
  dsimp only
  rw [show 1152 * t.val + (i 0).val % 1152 = (i 0).val by omega, show 0 + (i 1).val % 1024 = (i 1).val by omega]
  rfl

theorem reference (x0 : (⟨Cert.Reference14Ideal.S9216x512, .bf16⟩ : BufTy).Contents (Elt Ideal)) (x1 : (⟨Cert.Reference14Ideal.S512x1024, .bf16⟩ : BufTy).Contents (Elt Ideal)) :
    Cert.Reference14Ideal.Read.val_main_v2 (F := Ideal) x0 x1 = prods (p := 9216) (q := 512) (r := 1024) x0 x1 := by
  funext i
  rw [Cert.Reference14Ideal.Read.val_main_v2_apply]
  refine (Finset.sum_congr rfl fun k _ => ?_).trans (upto_fin (prodTerm (p := 9216) (q := 512) (r := 1024) x0 x1 (i 0).val (i 1).val) 512).symm
  refine congrArg₂ (· * ·) (num_at (x0 : Vec Ideal S9216x512 .bf16) _ _ _ ?_ ?_) (num_at (x1 : Vec Ideal S512x1024 .bf16) _ _ _ ?_ ?_) <;> rfl

theorem reference_run (m : (ℓ : Loc Cert.Reference14Ideal.nD Cert.Reference14Ideal.τ Cert.Reference14Ideal.sig) → Buf (Elt Ideal) ℓ) (ρ : Dev Cert.Reference14Ideal.nD → PrngReg) :
    θ_run Cert.Reference14Ideal.defs (onTc (τ := Cert.Reference14Ideal.τ) (Cert.Reference14Ideal.main (F := Ideal))) ⟨m, fun _ => 0, ρ⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run Cert.Reference14Ideal.defs _ _).mono (fun r h => ⟨fun c => (h c).2, Idealize.ShloMosaic.sem_eq_zero_of_no_sems (by decide) r.2⟩)
    (Cert.Reference14Ideal.Value.run m ρ)

theorem algebraic : Cert.algebraic_Kernel14Ideal_Reference14Ideal (hKernel14Ideal := Cert.Kernel14Ideal.Gen.facts) (hReference14Ideal := Cert.Reference14Ideal.Gen.facts) := by
  intro m g m' g' _ hagree
  refine ⟨fun c => prods (lhs m c) (rhs m c), ?_, ?_⟩
  · refine (θ_run Cert.Kernel14Ideal.defs _ _).mono (fun r h c => ?_) (Value.run_blocks m g)
    obtain ⟨h0, h1⟩ := h c
    exact ⟨h0.trans (final m c), h1⟩
  · refine (θ_run Cert.Reference14Ideal.defs _ _).mono (fun r h c => ?_) (Cert.Reference14Ideal.Value.run m' g')
    obtain ⟨h0, h1⟩ := h c
    obtain ⟨a0, a1⟩ := hagree c
    exact ⟨((h0.trans (Cert.Reference14Ideal.Read.val_main_v2_eq _ _)).trans (reference _ _)).trans (congrArg₂ (prods (p := 9216) (q := 512) (r := 1024)) a0 a1), h1⟩

end Cert.BranchProduct

end
-- ==== Proof.OutNorm.lean ====
/- The output projection with the second norm: the residual's new rows, and the rows scaled by their root mean square. -/
module

public import proofs.«01_k».proof.Defs
public import proofs.«01_k».proof.Proof.Product
public import proofs.«01_k».proof.Proof.Gen.Kernel15Ideal.Value
public import proofs.«01_k».proof.Proof.Gen.Reference15Ideal.Read

@[expose] public section

set_option maxRecDepth 16384

noncomputable section

namespace Cert.OutNorm

open Cert.Kernel15Ideal Cert.Kernel15Ideal.Gen Idealize.ShloMosaic Idealize.ShloMosaic.TcCoe Idealize.SL.Sem Cert.Product

/-- What a row is scaled by: one over the root of its mean square, with the small constant added. -/
def scale (f : ℕ → EReal) : EReal :=
  Ideal.rsqrt (Ideal.div (∑ k : Fin 1024, f k.val * f k.val) (Ideal.ofBits .f32 1149239296#32) + Ideal.ofBits .f32 897988541#32)

theorem block_product (x0 : Vec Ideal S576x1024 .bf16) (x1 : Vec Ideal S1024x1024 .bf16) (a : Fin 576) (b : Fin 1024) :
    k0_pay1 (F := Ideal) x0 x1 (ix2 a b) = ∑ k : Fin 1024, x0 (ix2 a k) * x1 (ix2 k b) := by
  pointwise [k0_pay1]

section Chunk

variable (v12 : Vec Ideal S1x1024 .f32) (v17 v19 : Vec Ideal S288x1024 .f32) (s : ℕ → ℕ → EReal) (g : ℕ → EReal)
  (hs : ∀ (a : Fin 288) (b : Fin 1024), v19 (ix2 a b) + v17 (ix2 a b) = s a.val b.val)
  (hg : ∀ (a : Fin 1) (b : Fin 1024), v12 (ix2 a b) = g b.val)

include hs in
theorem pay4_apply (a : Fin 288) (b : Fin 1024) : k0_pay4 (F := Ideal) v17 v19 (ix2 a b) = s a.val b.val := by
  rw [← hs]
  pointwise [k0_pay4]

include hs hg in
theorem pay5_apply (a : Fin 288) (b : Fin 1024) : k0_pay5 (F := Ideal) v12 v17 v19 (ix2 a b) = s a.val b.val * scale (s a.val) * g b.val := by
  have e := pay4_apply v17 v19 s hs
  unfold k0_pay5 scale
  generalize k0_pay4 v17 v19 = y at *
  pointwise
  simp only [e, hg]

end Chunk

theorem trips_eq : k0_t1_loop.trips = 2 := by decide +kernel
theorem off1_eq : ∀ k : Fin k0_t1_loop.trips, k0_off1 k = ![288 * k.val, 0] := by decide +kernel
theorem inb : ∀ (k : Fin k0_t1_loop.trips), ∀ a, (k0_off1 k) a + S288x1024.size a ≤ S576x1024.size a := by decide +kernel

/-- The sum's entry. -/
def entry (s : ℕ → ℕ → EReal) (y : S576x1024.Idx) : EReal := s (y 0).val (y 1).val

/-- The scaled row's entry. -/
def normed (s : ℕ → ℕ → EReal) (g : ℕ → EReal) (y : S576x1024.Idx) : EReal := s (y 0).val (y 1).val * scale (s (y 0).val) * g (y 1).val

section Trip

variable (𝒱 : Variants) (c : Dev nD) (bd : Option 𝒱.V) (i : grid0.Coords)
  (arg2 : Memref sig .tc .vmem S576x1024 .bf16) (harg2 : arg2.IsWhole) (arg3 : Memref sig .tc .vmem S1024x1024 .bf16) (harg3 : arg3.IsWhole)
  (arg4 : Memref sig .tc .vmem S576x1024 .f32) (harg4 : arg4.IsWhole) (arg5 : Memref sig .tc .vmem S1x1024 .f32) (harg5 : arg5.IsWhole)
  (arg6 : Memref sig .tc .vmem S576x1024 .f32) (harg6 : arg6.IsWhole) (arg7 : Memref sig .tc .vmem S576x1024 .bf16) (harg7 : arg7.IsWhole)
  (arg8 : Memref sig .tc .vmem S576x1024 .f32) (harg8 : arg8.IsWhole)

/-- The rows of a trip, of one of the two blocks it loads. -/
abbrev chunk (v : Memref sig .tc .vmem S576x1024 .f32) (X : BufTy.Contents (Elt Ideal) v.view.ty) (k : Fin k0_t1_loop.trips) : Vec Ideal S288x1024 .f32 :=
  View.readAt (Elt Ideal) v.view (Rect.unit (s := S576x1024) (k0_off1 k) S288x1024.size (inb k)).toLoadRect X

section Loop

variable (h3 : k0_cond3 i = 1#1) (v12 : Vec Ideal S1x1024 .f32)
  (X4 : BufTy.Contents (Elt Ideal) arg4.view.ty) (X8 : BufTy.Contents (Elt Ideal) arg8.view.ty)

theorem tripL_eq (k : Fin k0_t1_loop.trips) :
    tripL_k0_t1 (F := Ideal) 𝒱 c bd i arg2 harg2 arg3 harg3 arg4 harg4 arg5 harg5 arg6 harg6 arg7 harg7 arg8 harg8 h3 v12 X4 X8 k
      = ([⟨Rect.unit (s := S576x1024) (k0_off1 k) S288x1024.size (inb k), k0_pay4 (chunk arg8 X8 k) (chunk arg4 X4 k)⟩],
         [⟨Rect.unit (s := S576x1024) (k0_off1 k) S288x1024.size (inb k), k0_pay5 v12 (chunk arg8 X8 k) (chunk arg4 X4 k)⟩]) := by
  unfold tripL_k0_t1 trip_k0_t1
  dsimp only

variable (s : ℕ → ℕ → EReal) (g : ℕ → EReal)
  (hs : ∀ (a : Fin 576) (b : Fin 1024), arg4.view.read (Elt Ideal) X4 (ix2 a b) + arg8.view.read (Elt Ideal) X8 (ix2 a b) = s a.val b.val)
  (hg : ∀ (a : Fin 1) (b : Fin 1024), v12 (ix2 a b) = g b.val)

include hs hg in
theorem trip_pieces (k : Fin k0_t1_loop.trips) :
    (∀ p ∈ (tripL_k0_t1 (F := Ideal) 𝒱 c bd i arg2 harg2 arg3 harg3 arg4 harg4 arg5 harg5 arg6 harg6 arg7 harg7 arg8 harg8 h3 v12 X4 X8 k).1, ∀ y, p.2 y = entry s (p.1.emb y)) ∧
    (∀ p ∈ (tripL_k0_t1 (F := Ideal) 𝒱 c bd i arg2 harg2 arg3 harg3 arg4 harg4 arg5 harg5 arg6 harg6 arg7 harg7 arg8 harg8 h3 v12 X4 X8 k).2, ∀ y, p.2 y = normed s g (p.1.emb y)) := by
  rw [tripL_eq]
  have hk : k.val < 2 := trips_eq ▸ k.isLt
  have hr : ∀ (a : Fin 288) (b : Fin 1024), chunk arg4 X4 k (ix2 a b) + chunk arg8 X8 k (ix2 a b) = s (288 * k.val + a.val) b.val := fun a b => by
    rw [← hs ⟨288 * k.val + a.val, by omega⟩ b]
    exact congrArg₂ (· + ·) (readAt_rows arg4 X4 (k0_off1 k) (inb k) _ (off1_eq k) a b (by omega)) (readAt_rows arg8 X8 (k0_off1 k) (inb k) _ (off1_eq k) a b (by omega))
  have he : ∀ (a : Fin 288) (b : Fin 1024), (Rect.unit (s := S576x1024) (k0_off1 k) S288x1024.size (inb k)).emb (ix2 a b) = ix2 ⟨288 * k.val + a.val, by omega⟩ b := fun a b => by
    funext x
    fin_cases x
    · exact Fin.ext (by show k0_off1 k 0 + 1 * a.val = _; rw [off1_eq]; show 288 * k.val + 1 * a.val = 288 * k.val + a.val; omega)
    · exact Fin.ext (by show k0_off1 k 1 + 1 * b.val = _; rw [off1_eq]; show 0 + 1 * b.val = b.val; omega)
  refine ⟨fun p hp y => ?_, fun p hp y => ?_⟩ <;>
  · obtain rfl := List.mem_singleton.mp hp
    obtain ⟨a, b, rfl⟩ : ∃ (a : Fin 288) (b : Fin 1024), y = ix2 a b := ⟨y 0, y 1, by funext d; fin_cases d <;> rfl⟩
    dsimp only
    rw [he]
    first
      | exact pay4_apply _ _ (fun a => s (288 * k.val + a)) hr a b
      | exact pay5_apply _ _ _ (fun a => s (288 * k.val + a)) g hr hg a b

include hs hg in
/-- The pieces stored before trip `k`. -/
theorem state (k : ℕ) (hk : k ≤ 2) :
    (∀ p ∈ (pb_k0_t1 (F := Ideal) 𝒱 c bd i arg2 harg2 arg3 harg3 arg4 harg4 arg5 harg5 arg6 harg6 arg7 harg7 arg8 harg8 h3 v12 X4 X8 k).1, ∀ y, p.2 y = entry s (p.1.emb y)) ∧
    (∀ p ∈ (pb_k0_t1 (F := Ideal) 𝒱 c bd i arg2 harg2 arg3 harg3 arg4 harg4 arg5 harg5 arg6 harg6 arg7 harg7 arg8 harg8 h3 v12 X4 X8 k).2, ∀ y, p.2 y = normed s g (p.1.emb y)) := by
  induction k with
  | zero => exact ⟨fun p hp => by simp [pb_k0_t1] at hp, fun p hp => by simp [pb_k0_t1] at hp⟩
  | succ k ih =>
    have ih := ih (by omega)
    have e := pb_k0_t1_succ (F := Ideal) 𝒱 c bd i arg2 harg2 arg3 harg3 arg4 harg4 arg5 harg5 arg6 harg6 arg7 harg7 arg8 harg8 h3 v12 X4 X8 ⟨k, trips_eq ▸ (by omega)⟩
    dsimp only at e
    rw [e]
    have hp := trip_pieces 𝒱 c bd i arg2 harg2 arg3 harg3 arg4 harg4 arg5 harg5 arg6 harg6 arg7 harg7 arg8 harg8 h3 v12 X4 X8 s g hs hg ⟨k, trips_eq ▸ (by omega)⟩
    exact ⟨fun p h => (List.mem_append.mp h).elim (hp.1 p) (ih.1 p), fun p h => (List.mem_append.mp h).elim (hp.2 p) (ih.2 p)⟩

end Loop

variable (x0 : Vec Ideal S576x1024 .bf16) (x1 : Vec Ideal S1024x1024 .bf16) (x2 : Vec Ideal S576x1024 .f32) (x3 : Vec Ideal S1x1024 .f32)

/-- The accumulator's contents when the loop starts. -/
abbrev total : BufTy.Contents (Elt Ideal) arg8.view.ty :=
  arg8.view.writes (Elt Ideal) arg8.view.junk
    [⟨Rect.unit (s := S576x1024) ![0, 0] S576x1024.size inb_S576x1024_S576x1024_0_0,
      k0_pay2 (View.readAt (Elt Ideal) arg2.view (Rect.unit (s := S576x1024) ![0, 0] S576x1024.size inb_S576x1024_S576x1024_0_0).toLoadRect (harg2.unread x0))
        (View.readAt (Elt Ideal) arg3.view (Rect.unit (s := S1024x1024) ![0, 0] S1024x1024.size inb_S1024x1024_S1024x1024_0_0).toLoadRect (harg3.unread x1))⟩]

theorem total_apply : arg8.view.read (Elt Ideal) (total arg2 harg2 arg3 harg3 arg8 x0 x1) = k0_pay1 x0 x1 := by
  unfold total
  rw [View.read_writes_eq_canon _ _ _ (fun y => ⟨_, List.mem_singleton.mpr rfl, by rw [Rect.mem_set_unit]; intro d; fin_cases d; exacts [⟨Nat.zero_le _, by simpa using (y 0).isLt⟩, ⟨Nat.zero_le _, by simpa using (y 1).isLt⟩]⟩)]
  rw [View.canon_cons_unit_zero hz]
  unfold k0_pay2
  simp only [View.readAt_eq_ld, harg2.read_unread, harg3.read_unread, View.ld_unit_zero (S := S576x1024) hz, View.ld_unit_zero (S := S1024x1024) hz, shapeCast_self]

variable (s : ℕ → ℕ → EReal) (g : ℕ → EReal)
  (hs : ∀ (a : Fin 576) (b : Fin 1024), x2 (ix2 a b) + k0_pay1 (F := Ideal) x0 x1 (ix2 a b) = s a.val b.val)
  (hg : ∀ (a : Fin 1) (b : Fin 1024), x3 (ix2 a b) = g b.val)

/-- All the pieces the loop stores. -/
abbrev finish (hc2 : cond0_2 i) :=
  pb_k0_t1 (F := Ideal) Variants.none c none i arg2 harg2 arg3 harg3 arg4 harg4 arg5 harg5 arg6 harg6 arg7 harg7 arg8 harg8 hc2
    (View.readAt (Elt Ideal) arg5.view (Rect.unit (s := S1x1024) ![0, 0] ![1, 1024] inb_S1x1024_S1x1024_0_0).toLoadRect (harg5.unread x3))
    (harg4.unread x2) (total arg2 harg2 arg3 harg3 arg8 x0 x1) (Scf.trips 0#32 (Scalar.addi 0#32 2#32) 1#32)

include hs hg in
theorem finish_apply (hc2 : cond0_2 i) :
    (∀ p ∈ (finish c i arg2 harg2 arg3 harg3 arg4 harg4 arg5 harg5 arg6 harg6 arg7 harg7 arg8 harg8 x0 x1 x2 x3 hc2).1, ∀ y, p.2 y = entry s (p.1.emb y)) ∧
    (∀ p ∈ (finish c i arg2 harg2 arg3 harg3 arg4 harg4 arg5 harg5 arg6 harg6 arg7 harg7 arg8 harg8 x0 x1 x2 x3 hc2).2, ∀ y, p.2 y = normed s g (p.1.emb y)) :=
  state Variants.none c none i arg2 harg2 arg3 harg3 arg4 harg4 arg5 harg5 arg6 harg6 arg7 harg7 arg8 harg8 hc2 _ _ _ s g
    (fun a b => by rw [harg4.read_unread, total_apply]; exact hs a b)
    (fun a b => by
      refine (readAt_rows arg5 (harg5.unread x3) ![0, 0] inb_S1x1024_S1x1024_0_0 0 rfl a b (by omega)).trans ?_
      rw [harg5.read_unread]; exact hg _ _) 2 (le_refl 2)

include hs hg in
theorem out_4 (hc0 : cond0_0 i) (hc1 : ¬cond0_1 i) (hc2 : cond0_2 i) (y : S576x1024.Idx) :
    out0_A_4 (F := Ideal) c i arg2 harg2 arg3 harg3 arg4 harg4 arg5 harg5 arg6 harg6 arg7 harg7 arg8 harg8 hc0 hc1 hc2 x0 x1 x2 x3 y = entry s y := by
  unfold out0_A_4
  have hcov := cover0_A_4 (F := Ideal) c i arg2 harg2 arg3 harg3 arg4 harg4 arg5 harg5 arg6 harg6 arg7 harg7 arg8 harg8 hc0 hc1 hc2 x0 x1 x2 x3
  rw [View.read_writes_eq_canon _ _ _ hcov]
  refine View.canon_apply_of_pieces (entry s) _ ?_ y (hcov y)
  unfold kernelRun0_A
  dsimp only
  sl_unfold_words
  exact (finish_apply c i arg2 harg2 arg3 harg3 arg4 harg4 arg5 harg5 arg6 harg6 arg7 harg7 arg8 harg8 x0 x1 x2 x3 s g hs hg hc2).1

include hs hg in
theorem out_5 (hc0 : cond0_0 i) (hc1 : ¬cond0_1 i) (hc2 : cond0_2 i) (y : S576x1024.Idx) :
    out0_A_5 (F := Ideal) c i arg2 harg2 arg3 harg3 arg4 harg4 arg5 harg5 arg6 harg6 arg7 harg7 arg8 harg8 hc0 hc1 hc2 x0 x1 x2 x3 y = normed s g y := by
  unfold out0_A_5
  have hcov := cover0_A_5 (F := Ideal) c i arg2 harg2 arg3 harg3 arg4 harg4 arg5 harg5 arg6 harg6 arg7 harg7 arg8 harg8 hc0 hc1 hc2 x0 x1 x2 x3
  rw [View.read_writes_eq_canon _ _ _ hcov]
  refine View.canon_apply_of_pieces (normed s g) _ ?_ y (hcov y)
  unfold kernelRun0_A
  dsimp only
  sl_unfold_words
  exact (finish_apply c i arg2 harg2 arg3 harg3 arg4 harg4 arg5 harg5 arg6 harg6 arg7 harg7 arg8 harg8 x0 x1 x2 x3 s g hs hg hc2).2

end Trip

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 ∧ win0_4.flush t = true := by decide +kernel
theorem index_5 : ∀ t : Fin grid0.N, win0_5.index t 0 = t.val ∧ win0_5.index t 1 = 0 ∧ win0_5.flush t = true := by decide +kernel

/-- The residual's new entry: the old one and the product of the merged rows with the weight. -/
def sum (x : (⟨2, ![9216, 1024]⟩ : Shape).Idx → EReal) (w : (⟨2, ![1024, 1024]⟩ : Shape).Idx → EReal) (h : (⟨2, ![9216, 1024]⟩ : Shape).Idx → EReal) (r b : ℕ) : EReal :=
  num h r b + upto (prodTerm x w r b) 1024

/-- The residual's new rows. -/
def whole (x : (⟨2, ![9216, 1024]⟩ : Shape).Idx → EReal) (w : (⟨2, ![1024, 1024]⟩ : Shape).Idx → EReal) (h : (⟨2, ![9216, 1024]⟩ : Shape).Idx → EReal) :
    (⟨2, ![9216, 1024]⟩ : Shape).Idx → EReal := fun i => sum x w h (i 0).val (i 1).val

/-- The scaled rows. -/
def wholeN (x : (⟨2, ![9216, 1024]⟩ : Shape).Idx → EReal) (w : (⟨2, ![1024, 1024]⟩ : Shape).Idx → EReal) (h : (⟨2, ![9216, 1024]⟩ : Shape).Idx → EReal)
    (g : (⟨2, ![1, 1024]⟩ : Shape).Idx → EReal) : (⟨2, ![9216, 1024]⟩ : Shape).Idx → EReal :=
  fun i => sum x w h (i 0).val (i 1).val * scale (sum x w h (i 0).val) * num g 0 (i 1).val

section Array

variable (m : (ℓ : Loc nD τ sig) → Buf (Elt Ideal) ℓ) (c : Dev nD)

abbrev argX : Vec Ideal S9216x1024 .bf16 := m ((c : Thread nD τ).loc main_arg0)
abbrev argW : Vec Ideal S1024x1024 .bf16 := m ((c : Thread nD τ).loc main_arg1)
abbrev argH : Vec Ideal S9216x1024 .f32 := m ((c : Thread nD τ).loc main_arg2)
abbrev argG : Vec Ideal S1x1024 .f32 := m ((c : Thread nD τ).loc main_arg3)

theorem block_x (t : Fin cfg0.N) (a : Fin 576) (k : Fin 1024) :
    (iblk m c 0 t : Vec Ideal S576x1024 .bf16) (ix2 a k) = num (argX m c) (576 * t.val + a.val) k.val := by
  have hi := index_0 t
  unfold iblk
  rw [View.read_apply]
  refine num_at (argX m c) _ _ _ ?_ ?_
  · show win0_0.index t 0 * 576 + 1 * a.val = _; rw [hi.1]; omega
  · show win0_0.index t 1 * 1024 + 1 * k.val = _; rw [hi.2]; omega

theorem block_w (t : Fin cfg0.N) (k : Fin 1024) (b : Fin 1024) :
    (iblk m c 1 t : Vec Ideal S1024x1024 .bf16) (ix2 k b) = num (argW m c) k.val b.val := by
  have hi := index_1 t
  unfold iblk
  rw [View.read_apply]
  refine num_at (argW m c) _ _ _ ?_ ?_
  · show win0_1.index t 0 * 1024 + 1 * k.val = _; rw [hi.1]; omega
  · show win0_1.index t 1 * 1024 + 1 * b.val = _; rw [hi.2]; omega

theorem block_h (t : Fin cfg0.N) (a : Fin 576) (b : Fin 1024) :
    (iblk m c 2 t : Vec Ideal S576x1024 .f32) (ix2 a b) = num (argH m c) (576 * t.val + a.val) b.val := by
  have hi := index_2 t
  unfold iblk
  rw [View.read_apply]
  refine num_at (argH m c) _ _ _ ?_ ?_
  · show win0_2.index t 0 * 576 + 1 * a.val = _; rw [hi.1]; omega
  · show win0_2.index t 1 * 1024 + 1 * b.val = _; rw [hi.2]; omega

theorem block_g (t : Fin cfg0.N) (a : Fin 1) (b : Fin 1024) :
    (iblk m c 3 t : Vec Ideal S1x1024 .f32) (ix2 a b) = num (argG m c) 0 b.val := by
  have hi := index_3 t
  unfold iblk
  rw [View.read_apply]
  refine num_at (argG m c) _ _ _ ?_ ?_
  · show win0_3.index t 0 * 1 + 1 * a.val = _; rw [hi.1]; omega
  · show win0_3.index t 1 * 1024 + 1 * b.val = _; rw [hi.2]; omega

theorem block_sum (t : Fin cfg0.N) (a : Fin 576) (b : Fin 1024) :
    HAdd.hAdd (α := EReal) (β := EReal) (γ := EReal) ((iblk m c 2 t : Vec Ideal S576x1024 .f32) (ix2 a b)) (k0_pay1 (F := Ideal) (iblk m c 0 t) (iblk m c 1 t) (ix2 a b))
      = sum (argX m c) (argW m c) (argH m c) (576 * t.val + a.val) b.val := by
  rw [block_h, block_product]
  unfold sum
  rw [upto_fin]
  exact congrArg (_ + ·) (Finset.sum_congr rfl fun k _ => by rw [block_x, block_w]; rfl)

theorem final_4 : (dats m 0 c).arrAt 4 cfg0.N = whole (argX m c) (argW m c) (argH m c) := by
  funext i
  have h0 : (i 0).val < 9216 := (i 0).isLt
  have h1 : (i 1).val < 1024 := (i 1).isLt
  obtain ⟨t, ht⟩ : ∃ t : Fin cfg0.N, t.val = (i 0).val / 576 := ⟨⟨_, lt_of_lt_of_eq (by omega) N_0.symm⟩, rfl⟩
  have ho := index_4 t
  have hb := congrFun (Value.blocks4 m c t ho.2.2) (ix2 ⟨(i 0).val % 576, Nat.mod_lt _ (by decide)⟩ ⟨(i 1).val % 1024, Nat.mod_lt _ (by decide)⟩)
  rw [View.read_apply, Value.flushed4_A] at hb
  have he : ((cfg0.win 4).blk t).view.emb (ix2 ⟨(i 0).val % 576, Nat.mod_lt _ (by decide)⟩ ⟨(i 1).val % 1024, Nat.mod_lt _ (by decide)⟩) = i := by
    funext d
    fin_cases d
    · exact Fin.ext (by show win0_4.index t 0 * 576 + 1 * ((i 0).val % 576) = (i 0).val; rw [ho.1]; omega)
    · exact Fin.ext (by show win0_4.index t 1 * 1024 + 1 * ((i 1).val % 1024) = (i 1).val; rw [ho.2.1]; omega)
  rw [he] at hb
  refine hb.trans ((out_4 c _ _ _ _ _ _ _ _ _ _ _ _ _ _ _ _ _ _ _ (fun a b => sum (argX m c) (argW m c) (argH m c) (576 * t.val + a) b) (num (argG m c) 0)
    (block_sum m c t) (block_g m c t) _ _ _ (ix2 ⟨(i 0).val % 576, Nat.mod_lt _ (by decide)⟩ ⟨(i 1).val % 1024, Nat.mod_lt _ (by decide)⟩)).trans ?_)
  show sum _ _ _ (576 * t.val + (i 0).val % 576) ((i 1).val % 1024) = sum _ _ _ _ _
  rw [show 576 * t.val + (i 0).val % 576 = (i 0).val by omega, Nat.mod_eq_of_lt h1]

theorem final_5 : (dats m 0 c).arrAt 5 cfg0.N = wholeN (argX m c) (argW m c) (argH m c) (argG m c) := by
  funext i
  have h0 : (i 0).val < 9216 := (i 0).isLt
  have h1 : (i 1).val < 1024 := (i 1).isLt
  obtain ⟨t, ht⟩ : ∃ t : Fin cfg0.N, t.val = (i 0).val / 576 := ⟨⟨_, lt_of_lt_of_eq (by omega) N_0.symm⟩, rfl⟩
  have ho := index_5 t
  have hb := congrFun (Value.blocks5 m c t ho.2.2) (ix2 ⟨(i 0).val % 576, Nat.mod_lt _ (by decide)⟩ ⟨(i 1).val % 1024, Nat.mod_lt _ (by decide)⟩)
  rw [View.read_apply, Value.flushed5_A] at hb
  have he : ((cfg0.win 5).blk t).view.emb (ix2 ⟨(i 0).val % 576, Nat.mod_lt _ (by decide)⟩ ⟨(i 1).val % 1024, Nat.mod_lt _ (by decide)⟩) = i := by
    funext d
    fin_cases d
    · exact Fin.ext (by show win0_5.index t 0 * 576 + 1 * ((i 0).val % 576) = (i 0).val; rw [ho.1]; omega)
    · exact Fin.ext (by show win0_5.index t 1 * 1024 + 1 * ((i 1).val % 1024) = (i 1).val; rw [ho.2.1]; omega)
  rw [he] at hb
  refine hb.trans ((out_5 c _ _ _ _ _ _ _ _ _ _ _ _ _ _ _ _ _ _ _ (fun a b => sum (argX m c) (argW m c) (argH m c) (576 * t.val + a) b) (num (argG m c) 0)
    (block_sum m c t) (block_g m c t) _ _ _ (ix2 ⟨(i 0).val % 576, Nat.mod_lt _ (by decide)⟩ ⟨(i 1).val % 1024, Nat.mod_lt _ (by decide)⟩)).trans ?_)
  show sum _ _ _ (576 * t.val + (i 0).val % 576) ((i 1).val % 1024) * scale (sum _ _ _ (576 * t.val + (i 0).val % 576)) * num _ 0 ((i 1).val % 1024) = _
  rw [show 576 * t.val + (i 0).val % 576 = (i 0).val by omega, Nat.mod_eq_of_lt h1]
  rfl

end Array

section Ref

open Cert.Reference15Ideal.Read

variable (x0 : (⟨Cert.Reference15Ideal.S9216x1024, .bf16⟩ : BufTy).Contents (Elt Ideal)) (x1 : (⟨Cert.Reference15Ideal.S1024x1024, .bf16⟩ : BufTy).Contents (Elt Ideal))
  (x2 : (⟨Cert.Reference15Ideal.S9216x1024, .f32⟩ : BufTy).Contents (Elt Ideal)) (x3 : (⟨Cert.Reference15Ideal.S1x1024, .f32⟩ : BufTy).Contents (Elt Ideal))

theorem at_3 (r : Fin 9216) (b : Fin 1024) :
    (val_main_v3 (F := Ideal) x0 x1 x2 : Vec Ideal Cert.Reference15Ideal.S9216x1024 .f32) (ix2 r b) = sum x0 x1 x2 r.val b.val := by
  unfold val_main_v3 val_main_v2 val_main_v1 val_main_v0 sum
  pointwise
  rw [upto_fin]
  refine congrArg₂ (· + ·) (num_at (x2 : Vec Ideal S9216x1024 .f32) _ _ _ rfl rfl) (Finset.sum_congr rfl fun k _ => ?_)
  exact congrArg₂ (· * ·) (num_at (x0 : Vec Ideal S9216x1024 .bf16) _ _ _ rfl rfl) (num_at (x1 : Vec Ideal S1024x1024 .bf16) _ _ _ rfl rfl)

theorem at_11 (r : Fin 9216) (z : Fin 1) :
    (val_main_v11 (F := Ideal) x0 x1 x2 : Vec Ideal Cert.Reference15Ideal.S9216x1 .f32) (ix2 r z) = scale (sum x0 x1 x2 r.val) := by
  have e := at_3 x0 x1 x2
  unfold val_main_v11 val_main_v10 val_main_v9 val_main_cst_1 val_main_v8 val_main_v7 val_main_cst_0 val_main_v6 val_main_v5 val_main_cst val_main_v4 scale
  generalize val_main_v3 (F := Ideal) x0 x1 x2 = y at *
  pointwise
  simp only [e]

theorem reference_4 : val_main_v3 (F := Ideal) x0 x1 x2 = whole x0 x1 x2 := by
  funext i
  obtain ⟨a, b, rfl⟩ : ∃ (a : Fin 9216) (b : Fin 1024), i = ix2 a b := ⟨i 0, i 1, by funext d; fin_cases d <;> rfl⟩
  exact at_3 x0 x1 x2 a b

theorem reference_5 : val_main_v16 (F := Ideal) x0 x1 x2 x3 = wholeN x0 x1 x2 x3 := by
  funext i
  obtain ⟨a, b, rfl⟩ : ∃ (a : Fin 9216) (b : Fin 1024), i = ix2 a b := ⟨i 0, i 1, by funext d; fin_cases d <;> rfl⟩
  have e := at_3 x0 x1 x2 a b
  have es := at_11 x0 x1 x2 a 0
  show _ = sum x0 x1 x2 a.val b.val * scale (sum x0 x1 x2 a.val) * num (x3 : Vec Ideal S1x1024 .f32) 0 b.val
  rw [← num_at (x3 : Vec Ideal S1x1024 .f32) (ix2 0 b) 0 b.val rfl rfl]
  unfold val_main_v16 val_main_v15 val_main_v14 val_main_v13 val_main_v12
  generalize val_main_v3 (F := Ideal) x0 x1 x2 = y at *
  generalize val_main_v11 (F := Ideal) x0 x1 x2 = w at *
  pointwise
  rw [e, es]

end Ref

theorem reference_run (m : (ℓ : Loc Cert.Reference15Ideal.nD Cert.Reference15Ideal.τ Cert.Reference15Ideal.sig) → Buf (Elt Ideal) ℓ) (ρ : Dev Cert.Reference15Ideal.nD → PrngReg) :
    θ_run Cert.Reference15Ideal.defs (onTc (τ := Cert.Reference15Ideal.τ) (Cert.Reference15Ideal.main (F := Ideal))) ⟨m, fun _ => 0, ρ⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0) :=
  (θ_run Cert.Reference15Ideal.defs _ _).mono (fun r h => ⟨fun c => (h c).2.2, Idealize.ShloMosaic.sem_eq_zero_of_no_sems (by decide) r.2⟩)
    (Cert.Reference15Ideal.Value.run m ρ)

theorem algebraic : Cert.algebraic_Kernel15Ideal_Reference15Ideal (hKernel15Ideal := Cert.Kernel15Ideal.Gen.facts) (hReference15Ideal := Cert.Reference15Ideal.Gen.facts) := by
  intro m g m' g' _ hagree
  refine ⟨fun c => whole (argX m c) (argW m c) (argH m c), fun c => wholeN (argX m c) (argW m c) (argH m c) (argG m c), ?_, ?_⟩
  · refine (θ_run Cert.Kernel15Ideal.defs _ _).mono (fun r h c => ?_) (Value.run_blocks m g)
    obtain ⟨h0, h1, h2⟩ := h c
    exact ⟨h0.trans (final_4 m c), h1.trans (final_5 m c), h2⟩
  · refine (θ_run Cert.Reference15Ideal.defs _ _).mono (fun r h c => ?_) (Cert.Reference15Ideal.Value.run m' g')
    obtain ⟨h0, h1, h2⟩ := h c
    obtain ⟨a0, a1, a2, a3⟩ := hagree c
    refine ⟨((h0.trans (Cert.Reference15Ideal.Read.val_main_v3_eq _ _ _)).trans (reference_4 _ _ _)).trans ?_,
      ((h1.trans (Cert.Reference15Ideal.Read.val_main_v16_eq _ _ _ _)).trans (reference_5 _ _ _ _)).trans ?_, h2⟩
    · rw [a0, a1, a2]
    · rw [a0, a1, a2, a3]

end Cert.OutNorm

end
-- ==== Proof.BranchMerge.lean ====
/- The forgetting branch's projection and the merge of the two branches under their gates. -/
module

public import proofs.«01_k».proof.Defs
public import proofs.«01_k».proof.Proof.Product
public import proofs.«01_k».proof.Proof.Gate
public import proofs.«01_k».proof.Proof.Gen.Kernel16Ideal.Value
public import proofs.«01_k».proof.Proof.Gen.Reference16Ideal.Read

@[expose] public section

set_option maxRecDepth 16384

noncomputable section

namespace Cert.BranchMerge

open Cert.Kernel16Ideal Cert.Kernel16Ideal.Gen Idealize.ShloMosaic Idealize.ShloMosaic.TcCoe Idealize.SL.Sem Cert.Product
open Cert.Gate (logistic)

/-- Two branches, each under its gate. -/
def mix (p u s v : EReal) : EReal := logistic u * p + logistic v * s

theorem block_product (x0 : Vec Ideal S576x512 .bf16) (x1 : Vec Ideal S512x1024 .bf16) (a : Fin 576) (b : Fin 1024) :
    k0_pay1 (F := Ideal) x0 x1 (ix2 a b) = ∑ k : Fin 512, x0 (ix2 a k) * x1 (ix2 k b) := by
  pointwise [k0_pay1]

theorem pay4_apply (v16 v18 v20 v22 : Vec Ideal S288x1024 .f32) (a : Fin 288) (b : Fin 1024) :
    k0_pay4 (F := Ideal) v16 v18 v20 v22 (ix2 a b) = mix (v18 (ix2 a b)) (v20 (ix2 a b)) (v16 (ix2 a b)) (v22 (ix2 a b)) := by
  pointwise [k0_pay4]
  unfold mix Cert.Gate.logistic
  simp

theorem trips_eq : k0_t1_loop.trips = 2 := by decide +kernel
theorem off1_eq : ∀ k : Fin k0_t1_loop.trips, k0_off1 k = ![288 * k.val, 0] := by decide +kernel
theorem inb : ∀ (k : Fin k0_t1_loop.trips), ∀ a, (k0_off1 k) a + S288x1024.size a ≤ S576x1024.size a := by decide +kernel

section Trip

variable (𝒱 : Variants) (c : Dev nD) (bd : Option 𝒱.V) (i : grid0.Coords)
  (arg2 : Memref sig .tc .vmem S576x512 .bf16) (harg2 : arg2.IsWhole) (arg3 : Memref sig .tc .vmem S512x1024 .bf16) (harg3 : arg3.IsWhole)
  (arg4 : Memref sig .tc .vmem S576x1024 .f32) (harg4 : arg4.IsWhole) (arg5 : Memref sig .tc .vmem S576x1024 .f32) (harg5 : arg5.IsWhole)
  (arg6 : Memref sig .tc .vmem S576x1024 .f32) (harg6 : arg6.IsWhole) (arg7 : Memref sig .tc .vmem S576x1024 .f32) (harg7 : arg7.IsWhole)
  (arg8 : Memref sig .tc .vmem S576x1024 .bf16) (harg8 : arg8.IsWhole) (arg9 : Memref sig .tc .vmem S576x1024 .f32) (harg9 : arg9.IsWhole)

/-- The rows of a trip, of one of the four blocks it loads. -/
abbrev chunk (v : Memref sig .tc .vmem S576x1024 .f32) (X : BufTy.Contents (Elt Ideal) v.view.ty) (k : Fin k0_t1_loop.trips) : Vec Ideal S288x1024 .f32 :=
  View.readAt (Elt Ideal) v.view (Rect.unit (s := S576x1024) (k0_off1 k) S288x1024.size (inb k)).toLoadRect X

theorem chunk_apply (v : Memref sig .tc .vmem S576x1024 .f32) (X : BufTy.Contents (Elt Ideal) v.view.ty) (k : Fin k0_t1_loop.trips) (y : S288x1024.Idx) :
    chunk v X k y = v.view.read (Elt Ideal) X ((Rect.unit (s := S576x1024) (k0_off1 k) S288x1024.size (inb k)).emb y) :=
  View.readAt_apply ..

/-- The merged branches' entry. -/
def merged (p u s v : Vec Ideal S576x1024 .f32) (y : S576x1024.Idx) : EReal := mix (p y) (u y) (s y) (v y)

section Loop

variable (h3 : k0_cond3 i = 1#1)
  (X4 : BufTy.Contents (Elt Ideal) arg4.view.ty) (X5 : BufTy.Contents (Elt Ideal) arg5.view.ty)
  (X6 : BufTy.Contents (Elt Ideal) arg6.view.ty) (X9 : BufTy.Contents (Elt Ideal) arg9.view.ty)

theorem tripL_eq (k : Fin k0_t1_loop.trips) :
    tripL_k0_t1 (F := Ideal) 𝒱 c bd i arg2 harg2 arg3 harg3 arg4 harg4 arg5 harg5 arg6 harg6 arg7 harg7 arg8 harg8 arg9 harg9 h3 X4 X5 X6 X9 k
      = ([⟨Rect.unit (s := S576x1024) (k0_off1 k) S288x1024.size (inb k), chunk arg9 X9 k⟩],
         [⟨Rect.unit (s := S576x1024) (k0_off1 k) S288x1024.size (inb k), k0_pay4 (chunk arg9 X9 k) (chunk arg4 X4 k) (chunk arg5 X5 k) (chunk arg6 X6 k)⟩]) := by
  unfold tripL_k0_t1 trip_k0_t1
  dsimp only

variable (p u s v : Vec Ideal S576x1024 .f32) (hp : arg4.view.read (Elt Ideal) X4 = p) (hu : arg5.view.read (Elt Ideal) X5 = u)
  (hv : arg6.view.read (Elt Ideal) X6 = v) (hs : arg9.view.read (Elt Ideal) X9 = s)

include hp hu hv hs in
theorem trip_pieces (k : Fin k0_t1_loop.trips) :
    (∀ q ∈ (tripL_k0_t1 (F := Ideal) 𝒱 c bd i arg2 harg2 arg3 harg3 arg4 harg4 arg5 harg5 arg6 harg6 arg7 harg7 arg8 harg8 arg9 harg9 h3 X4 X5 X6 X9 k).1, ∀ y, q.2 y = s (q.1.emb y)) ∧
    (∀ q ∈ (tripL_k0_t1 (F := Ideal) 𝒱 c bd i arg2 harg2 arg3 harg3 arg4 harg4 arg5 harg5 arg6 harg6 arg7 harg7 arg8 harg8 arg9 harg9 h3 X4 X5 X6 X9 k).2, ∀ y, q.2 y = merged p u s v (q.1.emb y)) := by
  rw [tripL_eq]
  refine ⟨fun q hq y => ?_, fun q hq y => ?_⟩
  · obtain rfl := List.mem_singleton.mp hq
    subst hs
    exact chunk_apply arg9 X9 k y
  · obtain rfl := List.mem_singleton.mp hq
    obtain ⟨a, b, rfl⟩ : ∃ (a : Fin 288) (b : Fin 1024), y = ix2 a b := ⟨y 0, y 1, by funext d; fin_cases d <;> rfl⟩
    subst hs hp hu hv
    refine (pay4_apply _ _ _ _ a b).trans ?_
    rw [chunk_apply, chunk_apply, chunk_apply, chunk_apply]
    rfl

include hp hu hv hs in
/-- The pieces stored before trip `k`. -/
theorem state (k : ℕ) (hk : k ≤ 2) :
    (∀ q ∈ (pb_k0_t1 (F := Ideal) 𝒱 c bd i arg2 harg2 arg3 harg3 arg4 harg4 arg5 harg5 arg6 harg6 arg7 harg7 arg8 harg8 arg9 harg9 h3 X4 X5 X6 X9 k).1, ∀ y, q.2 y = s (q.1.emb y)) ∧
    (∀ q ∈ (pb_k0_t1 (F := Ideal) 𝒱 c bd i arg2 harg2 arg3 harg3 arg4 harg4 arg5 harg5 arg6 harg6 arg7 harg7 arg8 harg8 arg9 harg9 h3 X4 X5 X6 X9 k).2, ∀ y, q.2 y = merged p u s v (q.1.emb y)) := by
  induction k with
  | zero => exact ⟨fun q hq => by simp [pb_k0_t1] at hq, fun q hq => by simp [pb_k0_t1] at hq⟩
  | succ k ih =>
    have ih := ih (by omega)
    have e := pb_k0_t1_succ (F := Ideal) 𝒱 c bd i arg2 harg2 arg3 harg3 arg4 harg4 arg5 harg5 arg6 harg6 arg7 harg7 arg8 harg8 arg9 harg9 h3 X4 X5 X6 X9 ⟨k, trips_eq ▸ (by omega)⟩
    dsimp only at e
    rw [e]
    have ht := trip_pieces 𝒱 c bd i arg2 harg2 arg3 harg3 arg4 harg4 arg5 harg5 arg6 harg6 arg7 harg7 arg8 harg8 arg9 harg9 h3 X4 X5 X6 X9 p u s v hp hu hv hs ⟨k, trips_eq ▸ (by omega)⟩
    exact ⟨fun q h => (List.mem_append.mp h).elim (ht.1 q) (ih.1 q), fun q h => (List.mem_append.mp h).elim (ht.2 q) (ih.2 q)⟩

end Loop

variable (x0 : Vec Ideal S576x512 .bf16) (x1 : Vec Ideal S512x1024 .bf16) (x2 x3 x4 : Vec Ideal S576x1024 .f32)

/-- The accumulator's contents when the loop starts. -/
abbrev total : BufTy.Contents (Elt Ideal) arg9.view.ty :=
  arg9.view.writes (Elt Ideal) arg9.view.junk
    [⟨Rect.unit (s := S576x1024) ![0, 0] S576x1024.size inb_S576x1024_S576x1024_0_0,
      k0_pay2 (View.readAt (Elt Ideal) arg2.view (Rect.unit (s := S576x512) ![0, 0] S576x512.size inb_S576x512_S576x512_0_0).toLoadRect (harg2.unread x0))
        (View.readAt (Elt Ideal) arg3.view (Rect.unit (s := S512x1024) ![0, 0] S512x1024.size inb_S512x1024_S512x1024_0_0).toLoadRect (harg3.unread x1))⟩]

theorem total_apply : arg9.view.read (Elt Ideal) (total arg2 harg2 arg3 harg3 arg9 x0 x1) = k0_pay1 x0 x1 := by
  unfold total
  rw [View.read_writes_eq_canon _ _ _ (fun y => ⟨_, List.mem_singleton.mpr rfl, by rw [Rect.mem_set_unit]; intro d; fin_cases d; exacts [⟨Nat.zero_le _, by simpa using (y 0).isLt⟩, ⟨Nat.zero_le _, by simpa using (y 1).isLt⟩]⟩)]
  rw [View.canon_cons_unit_zero hz]
  unfold k0_pay2
  simp only [View.readAt_eq_ld, harg2.read_unread, harg3.read_unread, View.ld_unit_zero (S := S576x512) hz, View.ld_unit_zero (S := S512x1024) hz, shapeCast_self]

/-- All the pieces the loop stores. -/
abbrev finish (hc2 : cond0_2 i) :=
  pb_k0_t1 (F := Ideal) Variants.none c none i arg2 harg2 arg3 harg3 arg4 harg4 arg5 harg5 arg6 harg6 arg7 harg7 arg8 harg8 arg9 harg9 hc2
    (harg4.unread x2) (harg5.unread x3) (harg6.unread x4) (total arg2 harg2 arg3 harg3 arg9 x0 x1) (Scf.trips 0#32 (Scalar.addi 0#32 2#32) 1#32)

theorem finish_apply (hc2 : cond0_2 i) :
    (∀ q ∈ (finish c i arg2 harg2 arg3 harg3 arg4 harg4 arg5 harg5 arg6 harg6 arg7 harg7 arg8 harg8 arg9 harg9 x0 x1 x2 x3 x4 hc2).1, ∀ y, q.2 y = k0_pay1 (F := Ideal) x0 x1 (q.1.emb y)) ∧
    (∀ q ∈ (finish c i arg2 harg2 arg3 harg3 arg4 harg4 arg5 harg5 arg6 harg6 arg7 harg7 arg8 harg8 arg9 harg9 x0 x1 x2 x3 x4 hc2).2, ∀ y, q.2 y = merged x2 x3 (k0_pay1 (F := Ideal) x0 x1) x4 (q.1.emb y)) :=
  state Variants.none c none i arg2 harg2 arg3 harg3 arg4 harg4 arg5 harg5 arg6 harg6 arg7 harg7 arg8 harg8 arg9 harg9 hc2 _ _ _ _ x2 x3 (k0_pay1 (F := Ideal) x0 x1) x4
    (harg4.read_unread _) (harg5.read_unread _) (harg6.read_unread _) (total_apply ..) 2 (le_refl 2)

theorem out_5 (hc0 : cond0_0 i) (hc1 : ¬cond0_1 i) (hc2 : cond0_2 i) (y : S576x1024.Idx) :
    out0_A_5 (F := Ideal) c i arg2 harg2 arg3 harg3 arg4 harg4 arg5 harg5 arg6 harg6 arg7 harg7 arg8 harg8 arg9 harg9 hc0 hc1 hc2 x0 x1 x2 x3 x4 y = k0_pay1 (F := Ideal) x0 x1 y := by
  unfold out0_A_5
  have hcov := cover0_A_5 (F := Ideal) c i arg2 harg2 arg3 harg3 arg4 harg4 arg5 harg5 arg6 harg6 arg7 harg7 arg8 harg8 arg9 harg9 hc0 hc1 hc2 x0 x1 x2 x3 x4
  rw [View.read_writes_eq_canon _ _ _ hcov]
  refine View.canon_apply_of_pieces (k0_pay1 (F := Ideal) x0 x1) _ ?_ y (hcov y)
  unfold kernelRun0_A
  dsimp only
  sl_unfold_words
  exact (finish_apply c i arg2 harg2 arg3 harg3 arg4 harg4 arg5 harg5 arg6 harg6 arg7 harg7 arg8 harg8 arg9 harg9 x0 x1 x2 x3 x4 hc2).1

theorem out_6 (hc0 : cond0_0 i) (hc1 : ¬cond0_1 i) (hc2 : cond0_2 i) (y : S576x1024.Idx) :
    out0_A_6 (F := Ideal) c i arg2 harg2 arg3 harg3 arg4 harg4 arg5 harg5 arg6 harg6 arg7 harg7 arg8 harg8 arg9 harg9 hc0 hc1 hc2 x0 x1 x2 x3 x4 y = merged x2 x3 (k0_pay1 (F := Ideal) x0 x1) x4 y := by
  unfold out0_A_6
  have hcov := cover0_A_6 (F := Ideal) c i arg2 harg2 arg3 harg3 arg4 harg4 arg5 harg5 arg6 harg6 arg7 harg7 arg8 harg8 arg9 harg9 hc0 hc1 hc2 x0 x1 x2 x3 x4
  rw [View.read_writes_eq_canon _ _ _ hcov]
  refine View.canon_apply_of_pieces (merged x2 x3 (k0_pay1 (F := Ideal) x0 x1) x4) _ ?_ y (hcov y)
  unfold kernelRun0_A
  dsimp only
  sl_unfold_words
  exact (finish_apply c i arg2 harg2 arg3 harg3 arg4 harg4 arg5 harg5 arg6 harg6 arg7 harg7 arg8 harg8 arg9 harg9 x0 x1 x2 x3 x4 hc2).2

end Trip

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 3 := by decide +kernel
theorem index_4 : ∀ t : Fin grid0.N, win0_4.index t 0 = t.val ∧ win0_4.index t 1 = 4 := by decide +kernel
theorem index_5 : ∀ t : Fin grid0.N, win0_5.index t 0 = t.val ∧ win0_5.index t 1 = 0 ∧ win0_5.flush t = true := by decide +kernel
theorem index_6 : ∀ t : Fin grid0.N, win0_6.index t 0 = t.val ∧ win0_6.index t 1 = 0 ∧ win0_6.flush t = true := by decide +kernel

/-- The merged rows: the first branch under the gate of columns 3072 on, the second under the gate of columns 4096 on. -/
def whole (o : (⟨2, ![9216, 512]⟩ : Shape).Idx → EReal) (w : (⟨2, ![512, 1024]⟩ : Shape).Idx → EReal) (p : (⟨2, ![9216, 1024]⟩ : Shape).Idx → EReal)
    (x : (⟨2, ![9216, 5376]⟩ : Shape).Idx → EReal) : (⟨2, ![9216, 1024]⟩ : Shape).Idx → EReal :=
  fun i => mix (num p (i 0).val (i 1).val) (num x (i 0).val (3072 + (i 1).val)) (upto (prodTerm o w (i 0).val (i 1).val) 512) (num x (i 0).val (4096 + (i 1).val))

section Array

variable (m : (ℓ : Loc nD τ sig) → Buf (Elt Ideal) ℓ) (c : Dev nD)

abbrev argO : Vec Ideal S9216x512 .bf16 := m ((c : Thread nD τ).loc main_arg0)
abbrev argW : Vec Ideal S512x1024 .bf16 := m ((c : Thread nD τ).loc main_arg1)
abbrev argP : Vec Ideal S9216x1024 .f32 := m ((c : Thread nD τ).loc main_arg2)
abbrev argX : Vec Ideal S9216x5376 .f32 := m ((c : Thread nD τ).loc main_arg3)

theorem block_0 (t : Fin cfg0.N) (a : Fin 576) (k : Fin 512) :
    (iblk m c 0 t : Vec Ideal S576x512 .bf16) (ix2 a k) = num (argO m c) (576 * t.val + a.val) k.val := by
  have hi := index_0 t
  unfold iblk
  rw [View.read_apply]
  show V m c main_arg0 _ = _
  rw [V_main_arg0]
  refine num_at (argO m c) _ _ _ ?_ ?_
  · show win0_0.index t 0 * 576 + 1 * a.val = _; rw [hi.1]; omega
  · show win0_0.index t 1 * 512 + 1 * k.val = _; rw [hi.2]; omega

theorem block_1 (t : Fin cfg0.N) (k : Fin 512) (b : Fin 1024) :
    (iblk m c 1 t : Vec Ideal S512x1024 .bf16) (ix2 k b) = num (argW m c) k.val b.val := by
  have hi := index_1 t
  unfold iblk
  rw [View.read_apply]
  show V m c main_arg1 _ = _
  rw [V_main_arg1]
  refine num_at (argW m c) _ _ _ ?_ ?_
  · show win0_1.index t 0 * 512 + 1 * k.val = _; rw [hi.1]; omega
  · show win0_1.index t 1 * 1024 + 1 * b.val = _; rw [hi.2]; omega

theorem block_2 (t : Fin cfg0.N) (a : Fin 576) (b : Fin 1024) :
    (iblk m c 2 t : Vec Ideal S576x1024 .f32) (ix2 a b) = num (argP m c) (576 * t.val + a.val) b.val := by
  have hi := index_2 t
  unfold iblk
  rw [View.read_apply]
  show V m c main_arg2 _ = _
  rw [V_main_arg2]
  refine num_at (argP m c) _ _ _ ?_ ?_
  · show win0_2.index t 0 * 576 + 1 * a.val = _; rw [hi.1]; omega
  · show win0_2.index t 1 * 1024 + 1 * b.val = _; rw [hi.2]; omega

theorem block_3 (t : Fin cfg0.N) (a : Fin 576) (b : Fin 1024) :
    (X0_3 m c t : Vec Ideal S576x1024 .f32) (ix2 a b) = num (argX m c) (576 * t.val + a.val) (3072 + b.val) := by
  have hi := index_3 t
  unfold X0_3 Pipeline.Window.fill
  rw [dif_pos (moved0_3 t _)]
  unfold iblk
  rw [View.read_apply]
  show V m c main_arg3 _ = _
  rw [V_main_arg3]
  refine num_at (argX m c) _ _ _ ?_ ?_
  · show win0_3.index t 0 * 576 + 1 * a.val = _; rw [hi.1]; omega
  · show win0_3.index t 1 * 1024 + 1 * b.val = _; rw [hi.2]; omega

theorem block_4 (t : Fin cfg0.N) (a : Fin 576) (b : Fin 1024) :
    (X0_4 m c t : Vec Ideal S576x1024 .f32) (ix2 a b) = num (argX m c) (576 * t.val + a.val) (4096 + b.val) := by
  have hi := index_4 t
  unfold X0_4 Pipeline.Window.fill
  rw [dif_pos (moved0_4 t _)]
  unfold iblk
  rw [View.read_apply]
  show V m c main_arg3 _ = _
  rw [V_main_arg3]
  refine num_at (argX m c) _ _ _ ?_ ?_
  · show win0_4.index t 0 * 576 + 1 * a.val = _; rw [hi.1]; omega
  · show win0_4.index t 1 * 1024 + 1 * b.val = _; rw [hi.2]; omega

theorem block_branch (t : Fin cfg0.N) (a : Fin 576) (b : Fin 1024) :
    k0_pay1 (F := Ideal) (iblk m c 0 t) (iblk m c 1 t) (ix2 a b) = upto (prodTerm (argO m c) (argW m c) (576 * t.val + a.val) b.val) 512 := by
  rw [block_product, upto_fin]
  exact Finset.sum_congr rfl fun k _ => by rw [block_0, block_1]; rfl

theorem final_5 : (dats m 0 c).arrAt 5 cfg0.N = prods (argO m c) (argW m c) := by
  funext i
  have h0 : (i 0).val < 9216 := (i 0).isLt
  have h1 : (i 1).val < 1024 := (i 1).isLt
  obtain ⟨t, ht⟩ : ∃ t : Fin cfg0.N, t.val = (i 0).val / 576 := ⟨⟨_, lt_of_lt_of_eq (by omega) N_0.symm⟩, rfl⟩
  have ho := index_5 t
  have hb := congrFun (Value.blocks5 m c t ho.2.2) (ix2 ⟨(i 0).val % 576, Nat.mod_lt _ (by decide)⟩ ⟨(i 1).val % 1024, Nat.mod_lt _ (by decide)⟩)
  rw [View.read_apply, Value.flushed5_A] at hb
  have he : ((cfg0.win 5).blk t).view.emb (ix2 ⟨(i 0).val % 576, Nat.mod_lt _ (by decide)⟩ ⟨(i 1).val % 1024, Nat.mod_lt _ (by decide)⟩) = i := by
    funext d
    fin_cases d
    · exact Fin.ext (by show win0_5.index t 0 * 576 + 1 * ((i 0).val % 576) = (i 0).val; rw [ho.1]; omega)
    · exact Fin.ext (by show win0_5.index t 1 * 1024 + 1 * ((i 1).val % 1024) = (i 1).val; rw [ho.2.1]; omega)
  rw [he] at hb
  refine hb.trans ((out_5 c _ _ _ _ _ _ _ _ _ _ _ _ _ _ _ _ _ _ _ _ _ _ _ _ _ (ix2 ⟨(i 0).val % 576, Nat.mod_lt _ (by decide)⟩ ⟨(i 1).val % 1024, Nat.mod_lt _ (by decide)⟩)).trans ?_)
  refine (block_branch m c t _ _).trans ?_
  dsimp only
  rw [show 576 * t.val + (i 0).val % 576 = (i 0).val by omega, Nat.mod_eq_of_lt h1]
  rfl

theorem final_6 : (dats m 0 c).arrAt 6 cfg0.N = whole (argO m c) (argW m c) (argP m c) (argX m c) := by
  funext i
  have h0 : (i 0).val < 9216 := (i 0).isLt
  have h1 : (i 1).val < 1024 := (i 1).isLt
  obtain ⟨t, ht⟩ : ∃ t : Fin cfg0.N, t.val = (i 0).val / 576 := ⟨⟨_, lt_of_lt_of_eq (by omega) N_0.symm⟩, rfl⟩
  have ho := index_6 t
  have hb := congrFun (Value.blocks6 m c t ho.2.2) (ix2 ⟨(i 0).val % 576, Nat.mod_lt _ (by decide)⟩ ⟨(i 1).val % 1024, Nat.mod_lt _ (by decide)⟩)
  rw [View.read_apply, Value.flushed6_A] at hb
  have he : ((cfg0.win 6).blk t).view.emb (ix2 ⟨(i 0).val % 576, Nat.mod_lt _ (by decide)⟩ ⟨(i 1).val % 1024, Nat.mod_lt _ (by decide)⟩) = i := by
    funext d
    fin_cases d
    · exact Fin.ext (by show win0_6.index t 0 * 576 + 1 * ((i 0).val % 576) = (i 0).val; rw [ho.1]; omega)
    · exact Fin.ext (by show win0_6.index t 1 * 1024 + 1 * ((i 1).val % 1024) = (i 1).val; rw [ho.2.1]; omega)
  rw [he] at hb
  refine hb.trans ((out_6 c _ _ _ _ _ _ _ _ _ _ _ _ _ _ _ _ _ _ _ _ _ _ _ _ _ (ix2 ⟨(i 0).val % 576, Nat.mod_lt _ (by decide)⟩ ⟨(i 1).val % 1024, Nat.mod_lt _ (by decide)⟩)).trans ?_)
  unfold merged
  rw [block_branch, block_2, block_3, block_4]
  dsimp only
  rw [show 576 * t.val + (i 0).val % 576 = (i 0).val by omega, Nat.mod_eq_of_lt h1]
  rfl

end Array

section Ref

open Cert.Reference16Ideal.Read

variable (x0 : (⟨Cert.Reference16Ideal.S9216x512, .bf16⟩ : BufTy).Contents (Elt Ideal)) (x1 : (⟨Cert.Reference16Ideal.S512x1024, .bf16⟩ : BufTy).Contents (Elt Ideal))
  (x2 : (⟨Cert.Reference16Ideal.S9216x1024, .f32⟩ : BufTy).Contents (Elt Ideal)) (x3 : (⟨Cert.Reference16Ideal.S9216x5376, .f32⟩ : BufTy).Contents (Elt Ideal))

theorem reference_product : val_main_v2 (F := Ideal) x0 x1 = prods (p := 9216) (q := 512) (r := 1024) x0 x1 := by
  funext i
  rw [val_main_v2_apply]
  refine (Finset.sum_congr rfl fun k _ => ?_).trans (upto_fin (prodTerm (p := 9216) (q := 512) (r := 1024) x0 x1 (i 0).val (i 1).val) 512).symm
  refine congrArg₂ (· * ·) (num_at (x0 : Vec Ideal S9216x512 .bf16) _ _ _ ?_ ?_) (num_at (x1 : Vec Ideal S512x1024 .bf16) _ _ _ ?_ ?_) <;> rfl

theorem gate_first (a : Fin 9216) (b : Fin 1024) : val_main_v9 (F := Ideal) x3 (ix2 a b) = logistic (num (x3 : Vec Ideal S9216x5376 .f32) a.val (3072 + b.val)) := by
  have h : val_main_v3 (F := Ideal) x3 (ix2 a b) = num (x3 : Vec Ideal S9216x5376 .f32) a.val (3072 + b.val) := by
    rw [val_main_v3_apply]
    exact num_at (x3 : Vec Ideal S9216x5376 .f32) _ _ _ rfl rfl
  unfold Cert.Gate.logistic
  rw [← h, val_main_v9_apply, val_main_v8_apply, val_main_v7_apply, val_main_v6_apply, val_main_v5_apply, val_main_v4_apply]
  rfl

theorem gate_second (a : Fin 9216) (b : Fin 1024) : val_main_v17 (F := Ideal) x3 (ix2 a b) = logistic (num (x3 : Vec Ideal S9216x5376 .f32) a.val (4096 + b.val)) := by
  have h : val_main_v11 (F := Ideal) x3 (ix2 a b) = num (x3 : Vec Ideal S9216x5376 .f32) a.val (4096 + b.val) := by
    rw [val_main_v11_apply]
    exact num_at (x3 : Vec Ideal S9216x5376 .f32) _ _ _ rfl rfl
  unfold Cert.Gate.logistic
  rw [← h, val_main_v17_apply, val_main_v16_apply, val_main_v15_apply, val_main_v14_apply, val_main_v13_apply, val_main_v12_apply]
  rfl

theorem reference_merge : val_main_v20 (F := Ideal) x0 x1 x2 x3 = whole x0 x1 x2 x3 := by
  funext i
  obtain ⟨a, b, rfl⟩ : ∃ (a : Fin 9216) (b : Fin 1024), i = ix2 a b := ⟨i 0, i 1, by funext d; fin_cases d <;> rfl⟩
  rw [val_main_v20_apply, val_main_v19_apply, val_main_v10_apply, val_main_v18_apply, gate_first, gate_second, reference_product]
  show logistic _ * _ + logistic _ * _ = logistic _ * _ + logistic _ * _
  rw [num_at (x2 : Vec Ideal S9216x1024 .f32) (ix2 a b) a.val b.val rfl rfl]
  rfl

end Ref

theorem reference_run (m : (ℓ : Loc Cert.Reference16Ideal.nD Cert.Reference16Ideal.τ Cert.Reference16Ideal.sig) → Buf (Elt Ideal) ℓ) (ρ : Dev Cert.Reference16Ideal.nD → PrngReg) :
    θ_run Cert.Reference16Ideal.defs (onTc (τ := Cert.Reference16Ideal.τ) (Cert.Reference16Ideal.main (F := Ideal))) ⟨m, fun _ => 0, ρ⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0) :=
  (θ_run Cert.Reference16Ideal.defs _ _).mono (fun r h => ⟨fun c => (h c).2.2, Idealize.ShloMosaic.sem_eq_zero_of_no_sems (by decide) r.2⟩)
    (Cert.Reference16Ideal.Value.run m ρ)

theorem algebraic : Cert.algebraic_Kernel16Ideal_Reference16Ideal (hKernel16Ideal := Cert.Kernel16Ideal.Gen.facts) (hReference16Ideal := Cert.Reference16Ideal.Gen.facts) := by
  intro m g m' g' _ hagree
  refine ⟨fun c => prods (argO m c) (argW m c), fun c => whole (argO m c) (argW m c) (argP m c) (argX m c), ?_, ?_⟩
  · refine (θ_run Cert.Kernel16Ideal.defs _ _).mono (fun r h c => ?_) (Value.run_blocks m g)
    obtain ⟨h0, h1, h2⟩ := h c
    exact ⟨h0.trans (final_5 m c), h1.trans (final_6 m c), h2⟩
  · refine (θ_run Cert.Reference16Ideal.defs _ _).mono (fun r h c => ?_) (Cert.Reference16Ideal.Value.run m' g')
    obtain ⟨h0, h1, h2⟩ := h c
    obtain ⟨a0, a1, a2, a3⟩ := hagree c
    refine ⟨((h0.trans (Cert.Reference16Ideal.Read.val_main_v2_eq _ _)).trans (reference_product _ _)).trans ?_,
      ((h1.trans (Cert.Reference16Ideal.Read.val_main_v20_eq _ _ _ _)).trans (reference_merge _ _ _ _)).trans ?_, h2⟩
    · rw [a0, a1]
    · rw [a0, a1, a2, a3]

end Cert.BranchMerge

end
-- ==== Proof.ForgetTrip.lean ====
/- One block of rows of the forget gate's gradient, over the real numbers. -/
module

public import proofs.«01_k».proof.Proof.NormMath
public import proofs.«01_k».proof.Proof.Product
public import proofs.«01_k».proof.Proof.Gen.Kernel17Ideal.Value

@[expose] public section

set_option maxRecDepth 16384

noncomputable section

namespace Cert.Forget

open Cert.Kernel17Ideal Cert.Kernel17Ideal.Gen Idealize.ShloMosaic Idealize.ShloMosaic.TcCoe Idealize.SL.Sem Cert.Product Cert.NormGrad

/-- The sum of a column from row `p` to the end of its sequence. -/
def tail (C : ℕ → ℕ → ℝ) (p b : ℕ) : ℝ := ∑ x ∈ Finset.Ico p 2304, C x b

/-- The derivative of the logarithm of the logistic function. -/
def slope (z : EReal) : ℝ := (Ideal.div 1 (1 + Ideal.exp z)).toReal

/-- The gradient at a row of the gate's columns. -/
def grad (C : ℕ → ℕ → ℝ) (F : ℕ → ℕ → EReal) (B : ℕ → EReal) (p b : ℕ) : ℝ := tail C p b * slope (F p b + B b)

theorem word_0 : Ideal.ofBits .f32 0#32 = ((0 : ℝ) : EReal) := by
  simp [Ideal.ofBits, Ideal.ieee]
theorem word_1 : Ideal.ofBits .f32 1065353216#32 = ((1 : ℝ) : EReal) := by
  simp [Ideal.ofBits, Ideal.ieee, -EReal.coe_mul]; norm_num

theorem one_add_exp_ne (z : ℝ) : 1 + Real.exp z ≠ 0 := by have := Real.exp_pos z; positivity

/-- A block's rows from `a` on, picked by a triangle of ones. -/
theorem pick (C : ℕ → ℕ → ℝ) (r a b : ℕ) :
    ∑ x : Fin 128, (if a ≤ x.val then (1 : ℝ) else 0) * C (r + x.val) b = ∑ x ∈ Finset.Ico (r + a) (r + 128), C x b := by
  rw [Fin.sum_univ_eq_sum_range (fun x => (if a ≤ x then (1 : ℝ) else 0) * C (r + x) b) 128]
  have e : ∀ x, (if a ≤ x then (1 : ℝ) else 0) * C (r + x) b = if a ≤ x then C (r + x) b else 0 := fun x => by split_ifs <;> simp
  simp only [e]
  rw [← Finset.sum_filter, show (Finset.range 128).filter (fun x => a ≤ x) = Finset.Ico a 128 by ext x; simp; omega, Finset.sum_Ico_add (fun x => C x b) a 128 r,
    add_comm a r, add_comm 128 r]

theorem tail_split (C : ℕ → ℕ → ℝ) (p q b : ℕ) (h : p ≤ q) (hq : q ≤ 2304) : (∑ x ∈ Finset.Ico p q, C x b) + tail C q b = tail C p b :=
  Finset.sum_Ico_consecutive _ h hq

theorem sign_bits : ∀ a x : Fin 128, (BitVec.setWidth 32 (IntOp.cmpi .sge (BitVec.ofNat 32 x.val) (BitVec.ofNat 32 a.val))).toInt = if a.val ≤ x.val then 1 else 0 := by
  decide +kernel

theorem triangle (a x : Fin 128) : k0_pay1 (F := Ideal) (ix2 a x) = (((if a.val ≤ x.val then (1 : ℝ) else 0) : ℝ) : EReal) := by
  pointwise [k0_pay1]
  show (((BitVec.setWidth 32 (IntOp.cmpi .sge (BitVec.ofNat 32 x.val) (BitVec.ofNat 32 a.val))).toInt : ℝ) : EReal) = _
  rw [sign_bits]
  split_ifs <;> simp

theorem slope_real (x : ℝ) : slope (x : EReal) = 1 / (1 + Real.exp x) := by
  unfold slope
  rw [Ideal.exp_coe, ← EReal.coe_one, ← EReal.coe_add, Ideal.div_coe (one_add_exp_ne _), ← EReal.coe_mul, one_mul, EReal.toReal_coe]
theorem div_one_one : Ideal.div 1 (1 + 0) = ((1 : ℝ) : EReal) := by
  rw [add_zero, ← EReal.coe_one, Ideal.div_coe one_ne_zero, ← EReal.coe_mul]
  norm_num
theorem div_one_top : Ideal.div 1 (1 + ⊤) = ((0 : ℝ) : EReal) := by
  rw [EReal.add_top_of_ne_bot (by decide), Ideal.div, if_neg EReal.top_ne_zero, EReal.inv_top, mul_zero, EReal.coe_zero]
theorem slope_bot : slope ⊥ = 1 := by unfold slope; rw [Ideal.exp_bot, div_one_one, EReal.toReal_coe]
theorem slope_top : slope ⊤ = 0 := by unfold slope; rw [Ideal.exp_top, div_one_top, EReal.toReal_coe]

theorem slope_read (z : EReal) : Ideal.div 1 (1 + Ideal.exp (0 - (0 - z))) = ((slope z : ℝ) : EReal) := by
  rw [zero_sub, zero_sub, neg_neg]
  induction z using EReal.rec with
  | bot => rw [slope_bot, Ideal.exp_bot, div_one_one]
  | top => rw [slope_top, Ideal.exp_top, div_one_top]
  | coe x =>
    rw [slope_real, Ideal.exp_coe, ← EReal.coe_one, ← EReal.coe_add, Ideal.div_coe (one_add_exp_ne _), ← EReal.coe_mul, one_mul]

section Chunk

variable (v6 arg8 : Vec Ideal S1x128 .f32) (v21 v37 : Vec Ideal S128x128 .f32) (C : ℕ → ℕ → ℝ) (F : ℕ → ℕ → EReal) (B : ℕ → EReal) (r : ℕ) (hr : r + 128 ≤ 2304)
  (hB : ∀ (a : Fin 1) (b : Fin 128), v6 (ix2 a b) = B b.val)
  (hT : ∀ (a : Fin 1) (b : Fin 128), arg8 (ix2 a b) = ((tail C (r + 128) b.val : ℝ) : EReal))
  (hC : ∀ (a : Fin 128) (b : Fin 128), v21 (ix2 a b) = ((C (r + a.val) b.val : ℝ) : EReal))
  (hF : ∀ (a : Fin 128) (b : Fin 128), v37 (ix2 a b) = F (r + a.val) b.val)

include hr hB hT hC hF in
theorem pay6_apply (a b : Fin 128) : k0_pay6 (F := Ideal) k0_pay1 v6 arg8 v21 v37 (ix2 a b) = ((grad C F B (r + a.val) b.val : ℝ) : EReal) := by
  have ht := triangle
  unfold k0_pay6
  generalize k0_pay1 (F := Ideal) = tri at *
  have e0 : ∀ x : Fin 128, v21 (ix2 x b) - v21 (ix2 x b) = 0 := fun x => by rw [hC, ← EReal.coe_sub, sub_self, EReal.coe_zero]
  have e1 : ∑ x : Fin 128, tri (ix2 a x) * v21 (ix2 x b) = ((∑ x ∈ Finset.Ico (r + a.val) (r + 128), C x b.val : ℝ) : EReal) := by
    rw [← pick, ← coe_sum]
    exact Finset.sum_congr rfl fun x _ => by rw [ht, hC, EReal.coe_mul]
  have e2 : ∑ x : Fin 128, tri (ix2 a x) * (v21 (ix2 x b) - v21 (ix2 x b)) = 0 :=
    Finset.sum_eq_zero fun x _ => by rw [e0, mul_zero]
  have e3 : ∑ x : Fin 128, tri (ix2 a x) * (v21 (ix2 x b) - v21 (ix2 x b) - (v21 (ix2 x b) - v21 (ix2 x b))) = 0 :=
    Finset.sum_eq_zero fun x _ => by rw [e0, sub_zero, mul_zero]
  pointwise
  rw [e1, e2, e3, hT, hF, hB, slope_read, add_zero, add_zero, ← EReal.coe_add, tail_split C _ _ _ (by omega) hr, ← EReal.coe_mul]
  rfl

include hr hB hT hC hF in
theorem pay7_apply (a : Fin 128) (b : Fin 256) :
    k0_pay7 (F := Ideal) k0_pay1 v6 arg8 v21 v37 (ix2 a b) = ((if b.val < 128 then grad C F B (r + a.val) b.val else 0 : ℝ) : EReal) := by
  have e6 := pay6_apply v6 arg8 v21 v37 C F B r hr hB hT hC hF
  unfold k0_pay7
  generalize k0_pay6 (F := Ideal) k0_pay1 v6 arg8 v21 v37 = y at *
  pointwise
  split_ifs with h
  · exact e6 a ⟨b.val, h⟩
  · simp

include hr hT hC in
theorem pay8_apply (a : Fin 1) (b : Fin 128) : k0_pay8 (F := Ideal) arg8 v21 (ix2 a b) = ((tail C r b.val : ℝ) : EReal) := by
  have e : ∑ x : Fin 128, v21 (ix2 x b) = ((∑ x ∈ Finset.Ico r (r + 128), C x b.val : ℝ) : EReal) := by
    rw [Finset.sum_Ico_eq_sum_range, show r + 128 - r = 128 by omega, ← Fin.sum_univ_eq_sum_range (fun x => C (r + x) b.val), ← coe_sum]
    exact Finset.sum_congr rfl fun x _ => by rw [hC]
  pointwise [k0_pay8]
  rw [e, hT, ← EReal.coe_add, add_comm, tail_split C _ _ _ (by omega) hr]

include hr hB hT hC hF in
theorem pay9_apply (a : Fin 1) (b : Fin 128) :
    k0_pay9 (F := Ideal) k0_pay1 v6 arg8 v21 v37 (ix2 a b) = ((∑ x ∈ Finset.Ico r (r + 128), grad C F B x b.val : ℝ) : EReal) := by
  have e6 := pay6_apply v6 arg8 v21 v37 C F B r hr hB hT hC hF
  unfold k0_pay9
  generalize k0_pay6 (F := Ideal) k0_pay1 v6 arg8 v21 v37 = y at *
  have e : ∑ x : Fin 128, y (ix2 x b) = ((∑ x ∈ Finset.Ico r (r + 128), grad C F B x b.val : ℝ) : EReal) := by
    rw [Finset.sum_Ico_eq_sum_range, show r + 128 - r = 128 by omega, ← Fin.sum_univ_eq_sum_range (fun x => grad C F B (r + x) b.val), ← coe_sum]
    exact Finset.sum_congr rfl fun x _ => by rw [e6]
  pointwise
  rw [e]

end Chunk

theorem trips_eq : k0_t1_loop.trips = 18 := by decide +kernel
theorem off1_eq : ∀ k : Fin k0_t1_loop.trips, k0_off1 k = ![128 * (17 - k.val), 0] := by decide +kernel
theorem off2_eq : ∀ k : Fin k0_t1_loop.trips, k0_off2 k = ![128 * (17 - k.val), 0] := by decide +kernel

end Cert.Forget

end
-- ==== Proof.ForgetLoop.lean ====
/- The loop over a sequence's blocks of rows, last block first: what its trips carry and store. -/
module

public import proofs.«01_k».proof.Proof.ForgetTrip

@[expose] public section

set_option maxRecDepth 16384

noncomputable section

namespace Cert.Forget

open Cert.Kernel17Ideal Cert.Kernel17Ideal.Gen Idealize.ShloMosaic Idealize.ShloMosaic.TcCoe Idealize.SL.Sem Cert.Product

theorem inb1 : ∀ (k : Fin k0_t1_loop.trips), ∀ a, (k0_off1 k) a + S128x128.size a ≤ S2304x128.size a := by decide +kernel
theorem inb2 : ∀ (k : Fin k0_t1_loop.trips), ∀ a, (k0_off2 k) a + S128x256.size a ≤ S2304x256.size a := by decide +kernel

section Trip

variable (𝒱 : Variants) (c : Dev nD) (bd : Option 𝒱.V) (i : grid0.Coords)
  (arg1 : Memref sig .tc .vmem S2304x128 .f32) (harg1 : arg1.IsWhole) (arg2 : Memref sig .tc .vmem S1x128 .f32) (harg2 : arg2.IsWhole)
  (arg3 : Memref sig .tc .vmem S2304x128 .f32) (harg3 : arg3.IsWhole) (arg4 : Memref sig .tc .hbm S9216x5376 .bf16) (harg4 : arg4.IsWhole)
  (arg5 : Memref sig .tc .vmem S2304x256 .bf16) (harg5 : arg5.IsWhole) (arg6 : Memref sig .tc .vmem S1x128 .f32) (harg6 : arg6.IsWhole)
  (v6 : Vec Ideal S1x128 .f32) (X1 : BufTy.Contents (Elt Ideal) arg1.view.ty) (X3 : BufTy.Contents (Elt Ideal) arg3.view.ty)

/-- The rows of a trip, of one of the two blocks it loads. -/
abbrev rows (v : Memref sig .tc .vmem S2304x128 .f32) (X : BufTy.Contents (Elt Ideal) v.view.ty) (k : Fin k0_t1_loop.trips) : Vec Ideal S128x128 .f32 :=
  View.readAt (Elt Ideal) v.view (Rect.unit (s := S2304x128) (k0_off1 k) S128x128.size (inb1 k)).toLoadRect X

theorem tripR_eq (k : Fin k0_t1_loop.trips) (acc : FVec Ideal S1x128 .f32 × FVec Ideal S1x128 .f32) :
    tripR_k0_t1 (F := Ideal) 𝒱 c bd i arg1 harg1 arg2 harg2 arg3 harg3 arg4 harg4 arg5 harg5 arg6 harg6 v6 X1 X3 k acc
      = (k0_pay8 acc.1 (rows arg3 X3 k), k0_pay3 acc.2 (k0_pay9 k0_pay1 v6 acc.1 (rows arg3 X3 k) (rows arg1 X1 k))) := by
  unfold tripR_k0_t1 trip_k0_t1
  dsimp only
  rfl

theorem tripL_eq (k : Fin k0_t1_loop.trips) (acc : FVec Ideal S1x128 .f32 × FVec Ideal S1x128 .f32) :
    tripL_k0_t1 (F := Ideal) 𝒱 c bd i arg1 harg1 arg2 harg2 arg3 harg3 arg4 harg4 arg5 harg5 arg6 harg6 v6 X1 X3 k acc
      = [⟨Rect.unit (s := S2304x256) (k0_off2 k) S128x256.size (inb2 k), k0_pay7 k0_pay1 v6 acc.1 (rows arg3 X3 k) (rows arg1 X1 k)⟩] := by
  unfold tripL_k0_t1 trip_k0_t1
  dsimp only

variable (C : ℕ → ℕ → ℝ) (F : ℕ → ℕ → EReal) (B : ℕ → EReal)
  (hB : ∀ (a : Fin 1) (b : Fin 128), v6 (ix2 a b) = B b.val)
  (hC : ∀ (a : Fin 2304) (b : Fin 128), arg3.view.read (Elt Ideal) X3 (ix2 a b) = ((C a.val b.val : ℝ) : EReal))
  (hF : ∀ (a : Fin 2304) (b : Fin 128), arg1.view.read (Elt Ideal) X1 (ix2 a b) = F a.val b.val)

theorem rows_apply (v : Memref sig .tc .vmem S2304x128 .f32) (X : BufTy.Contents (Elt Ideal) v.view.ty) (f : ℕ → ℕ → EReal)
    (hf : ∀ (a : Fin 2304) (b : Fin 128), v.view.read (Elt Ideal) X (ix2 a b) = f a.val b.val) (k : Fin k0_t1_loop.trips) (a : Fin 128) (b : Fin 128) :
    rows v X k (ix2 a b) = f (128 * (17 - k.val) + a.val) b.val := by
  have hk : k.val < 18 := trips_eq ▸ k.isLt
  exact (readAt_rows v X (k0_off1 k) (inb1 k) _ (off1_eq k) a b (by omega)).trans (hf _ _)

/-- An entry of the block of results: the gate's gradient, and the columns of zeros beside it. -/
def entry (C : ℕ → ℕ → ℝ) (F : ℕ → ℕ → EReal) (B : ℕ → EReal) (y : S2304x256.Idx) : EReal := ((if (y 1).val < 128 then grad C F B (y 0).val (y 1).val else 0 : ℝ) : EReal)

include hB hC hF in
theorem trip_pieces (k : Fin k0_t1_loop.trips) (acc : FVec Ideal S1x128 .f32 × FVec Ideal S1x128 .f32)
    (ha : ∀ (a : Fin 1) (b : Fin 128), acc.1 (ix2 a b) = ((tail C (128 * (17 - k.val) + 128) b.val : ℝ) : EReal)) :
    ∀ p ∈ tripL_k0_t1 (F := Ideal) 𝒱 c bd i arg1 harg1 arg2 harg2 arg3 harg3 arg4 harg4 arg5 harg5 arg6 harg6 v6 X1 X3 k acc, ∀ y, p.2 y = entry C F B (p.1.emb y) := by
  rw [tripL_eq]
  have hk : k.val < 18 := trips_eq ▸ k.isLt
  intro p hp
  obtain rfl := List.mem_singleton.mp hp
  intro y
  obtain ⟨a, b, rfl⟩ : ∃ (a : Fin 128) (b : Fin 256), y = ix2 a b := ⟨y 0, y 1, by funext d; fin_cases d <;> rfl⟩
  refine (pay7_apply v6 acc.1 _ _ C F B (128 * (17 - k.val)) (by omega) hB ha (rows_apply arg3 X3 (fun a b => ((C a b : ℝ) : EReal)) hC k) (rows_apply arg1 X1 F hF k) a b).trans ?_
  have e : (Rect.unit (s := S2304x256) (k0_off2 k) S128x256.size (inb2 k)).emb (ix2 a b) = ix2 ⟨128 * (17 - k.val) + a.val, by omega⟩ b := by
    funext x
    fin_cases x
    · exact Fin.ext (by show k0_off2 k 0 + 1 * a.val = _; rw [off2_eq]; show 128 * (17 - k.val) + 1 * a.val = 128 * (17 - k.val) + a.val; omega)
    · exact Fin.ext (by show k0_off2 k 1 + 1 * b.val = _; rw [off2_eq]; show 0 + 1 * b.val = b.val; omega)
  dsimp only
  rw [e]
  rfl

include hB hC hF in
theorem trip_carried (k : Fin k0_t1_loop.trips) (acc : FVec Ideal S1x128 .f32 × FVec Ideal S1x128 .f32)
    (ha : ∀ (a : Fin 1) (b : Fin 128), acc.1 (ix2 a b) = ((tail C (128 * (17 - k.val) + 128) b.val : ℝ) : EReal))
    (hb : ∀ (a : Fin 1) (b : Fin 128), acc.2 (ix2 a b) = ((tail (grad C F B) (128 * (17 - k.val) + 128) b.val : ℝ) : EReal)) (a : Fin 1) (b : Fin 128) :
    (tripR_k0_t1 (F := Ideal) 𝒱 c bd i arg1 harg1 arg2 harg2 arg3 harg3 arg4 harg4 arg5 harg5 arg6 harg6 v6 X1 X3 k acc).1 (ix2 a b) = ((tail C (128 * (17 - k.val)) b.val : ℝ) : EReal)
      ∧ (tripR_k0_t1 (F := Ideal) 𝒱 c bd i arg1 harg1 arg2 harg2 arg3 harg3 arg4 harg4 arg5 harg5 arg6 harg6 v6 X1 X3 k acc).2 (ix2 a b) = ((tail (grad C F B) (128 * (17 - k.val)) b.val : ℝ) : EReal) := by
  rw [tripR_eq]
  have hk : k.val < 18 := trips_eq ▸ k.isLt
  refine ⟨pay8_apply acc.1 _ C (128 * (17 - k.val)) (by omega) ha (rows_apply arg3 X3 (fun a b => ((C a b : ℝ) : EReal)) hC k) a b, ?_⟩
  have e := pay9_apply v6 acc.1 _ _ C F B (128 * (17 - k.val)) (by omega) hB ha (rows_apply arg3 X3 (fun a b => ((C a b : ℝ) : EReal)) hC k) (rows_apply arg1 X1 F hF k) a b
  show acc.2 (ix2 a b) + k0_pay9 (F := Ideal) k0_pay1 v6 acc.1 (rows arg3 X3 k) (rows arg1 X1 k) (ix2 a b) = _
  rw [hb, e, ← EReal.coe_add, add_comm, tail_split _ _ _ _ (by omega) (by omega)]

include hB hC hF in
/-- The loop's state before trip `k`. -/
theorem state (init : FVec Ideal S1x128 .f32 × FVec Ideal S1x128 .f32) (h1 : ∀ (a : Fin 1) (b : Fin 128), init.1 (ix2 a b) = 0) (h2 : ∀ (a : Fin 1) (b : Fin 128), init.2 (ix2 a b) = 0)
    (k : ℕ) (hk : k ≤ 18) :
    (∀ (a : Fin 1) (b : Fin 128), (st_k0_t1 (F := Ideal) 𝒱 c bd i arg1 harg1 arg2 harg2 arg3 harg3 arg4 harg4 arg5 harg5 arg6 harg6 v6 X1 X3 init k).1.1 (ix2 a b) = ((tail C (128 * (18 - k)) b.val : ℝ) : EReal)) ∧
    (∀ (a : Fin 1) (b : Fin 128), (st_k0_t1 (F := Ideal) 𝒱 c bd i arg1 harg1 arg2 harg2 arg3 harg3 arg4 harg4 arg5 harg5 arg6 harg6 v6 X1 X3 init k).1.2 (ix2 a b) = ((tail (grad C F B) (128 * (18 - k)) b.val : ℝ) : EReal)) ∧
    (∀ p ∈ (st_k0_t1 (F := Ideal) 𝒱 c bd i arg1 harg1 arg2 harg2 arg3 harg3 arg4 harg4 arg5 harg5 arg6 harg6 v6 X1 X3 init k).2, ∀ y, p.2 y = entry C F B (p.1.emb y)) := by
  induction k with
  | zero =>
    refine ⟨fun a b => (h1 a b).trans ?_, fun a b => (h2 a b).trans ?_, fun p hp => by simp [st_k0_t1] at hp⟩ <;> simp [tail]
  | succ k ih =>
    obtain ⟨i1, i2, i3⟩ := ih (by omega)
    rw [show 128 * (18 - k) = 128 * (17 - k) + 128 by omega] at i1 i2
    rw [show 18 - (k + 1) = 17 - k by omega]
    have hs := st_k0_t1_succ (F := Ideal) 𝒱 c bd i arg1 harg1 arg2 harg2 arg3 harg3 arg4 harg4 arg5 harg5 arg6 harg6 v6 X1 X3 init ⟨k, trips_eq ▸ (by omega)⟩
    dsimp only at hs
    rw [hs]
    have hc := trip_carried 𝒱 c bd i arg1 harg1 arg2 harg2 arg3 harg3 arg4 harg4 arg5 harg5 arg6 harg6 v6 X1 X3 C F B hB hC hF ⟨k, trips_eq ▸ (by omega)⟩ _ i1 i2
    have hp := trip_pieces 𝒱 c bd i arg1 harg1 arg2 harg2 arg3 harg3 arg4 harg4 arg5 harg5 arg6 harg6 v6 X1 X3 C F B hB hC hF ⟨k, trips_eq ▸ (by omega)⟩ _ i1
    refine ⟨fun a b => (hc a b).1, fun a b => (hc a b).2, fun p hp' => ?_⟩
    rcases List.mem_append.mp hp' with hp' | hp'
    · exact hp p hp'
    · exact i3 p hp'

end Trip

end Cert.Forget

end
-- ==== Proof.ForgetCase.lean ====
/- What one sequence leaves in the two output blocks. -/
module

public import proofs.«01_k».proof.Proof.ForgetLoop

@[expose] public section

set_option maxRecDepth 16384

noncomputable section

namespace Cert.Forget

open Cert.Kernel17Ideal Cert.Kernel17Ideal.Gen Idealize.ShloMosaic Idealize.ShloMosaic.TcCoe Idealize.SL.Sem Cert.Product

section Case

variable (c : Dev nD) (i : grid0.Coords)
  (arg1 : Memref sig .tc .vmem S2304x128 .f32) (harg1 : arg1.IsWhole) (arg2 : Memref sig .tc .vmem S1x128 .f32) (harg2 : arg2.IsWhole)
  (arg3 : Memref sig .tc .vmem S2304x128 .f32) (harg3 : arg3.IsWhole)
  (arg5 : Memref sig .tc .vmem S2304x256 .bf16) (harg5 : arg5.IsWhole) (arg6 : Memref sig .tc .vmem S1x128 .f32) (harg6 : arg6.IsWhole)
  (x0 : Vec Ideal S2304x128 .f32) (x1 : Vec Ideal S1x128 .f32) (x2 : Vec Ideal S2304x128 .f32)
  (C : ℕ → ℕ → ℝ) (F : ℕ → ℕ → EReal) (B : ℕ → EReal)
  (hB : ∀ (a : Fin 1) (b : Fin 128), x1 (ix2 a b) = B b.val)
  (hC : ∀ (a : Fin 2304) (b : Fin 128), x2 (ix2 a b) = ((C a.val b.val : ℝ) : EReal))
  (hF : ∀ (a : Fin 2304) (b : Fin 128), x0 (ix2 a b) = F a.val b.val)

/-- The loop's state at its end. -/
abbrev finish :=
  st_k0_t1 (F := Ideal) Variants.none c none i arg1 harg1 arg2 harg2 arg3 harg3 (Memref.whole main_arg3) (Memref.isWhole_whole _) arg5 harg5 arg6 harg6
    (View.readAt (Elt Ideal) arg2.view (Rect.unit (s := S1x128) ![0, 0] ![1, 128] inb_S1x128_S1x128_0_0).toLoadRect (harg2.unread x1))
    (harg1.unread x0) (harg3.unread x2) (k0_pay2, k0_pay2) (Scf.trips 0#32 (Scalar.addi 0#32 18#32) 1#32)

include hB hC hF in
theorem finish_apply :
    (∀ (a : Fin 1) (b : Fin 128), (finish c i arg1 harg1 arg2 harg2 arg3 harg3 arg5 harg5 arg6 harg6 x0 x1 x2).1.2 (ix2 a b) = ((tail (grad C F B) 0 b.val : ℝ) : EReal)) ∧
    (∀ p ∈ (finish c i arg1 harg1 arg2 harg2 arg3 harg3 arg5 harg5 arg6 harg6 x0 x1 x2).2, ∀ y, p.2 y = entry C F B (p.1.emb y)) := by
  exact (state Variants.none c none i arg1 harg1 arg2 harg2 arg3 harg3 (Memref.whole main_arg3) (Memref.isWhole_whole _) arg5 harg5 arg6 harg6
    (View.readAt (Elt Ideal) arg2.view (Rect.unit (s := S1x128) ![0, 0] ![1, 128] inb_S1x128_S1x128_0_0).toLoadRect (harg2.unread x1))
    (harg1.unread x0) (harg3.unread x2) C F B
    (fun a b => by
      refine (readAt_rows arg2 (harg2.unread x1) ![0, 0] inb_S1x128_S1x128_0_0 0 rfl a b (by omega)).trans ?_
      rw [harg2.read_unread]; exact hB _ _)
    (fun a b => by rw [harg3.read_unread]; exact hC a b) (fun a b => by rw [harg1.read_unread]; exact hF a b)
    (k0_pay2, k0_pay2) (fun a b => by pointwise [k0_pay2]) (fun a b => by pointwise [k0_pay2]) 18 (le_refl 18)).2

include hB hC hF in
theorem out_A_3 (hc0 : cond0_0 i) (y : S2304x256.Idx) :
    out0_A_3 (F := Ideal) c i arg1 harg1 arg2 harg2 arg3 harg3 arg5 harg5 arg6 harg6 hc0 x0 x1 x2 y = entry C F B y := by
  unfold out0_A_3
  have hcov := cover0_A_3 (F := Ideal) c i arg1 harg1 arg2 harg2 arg3 harg3 arg5 harg5 arg6 harg6 hc0 x0 x1 x2
  rw [View.read_writes_eq_canon _ _ _ hcov]
  refine View.canon_apply_of_pieces (entry C F B) _ ?_ y (hcov y)
  unfold kernelRun0_A
  dsimp only
  sl_unfold_words
  exact (finish_apply c i arg1 harg1 arg2 harg2 arg3 harg3 arg5 harg5 arg6 harg6 x0 x1 x2 C F B hB hC hF).2

include hB hC hF in
theorem out_B_3 (hc0 : ¬cond0_0 i) (xo : Vec Ideal S1x128 .f32) (y : S2304x256.Idx) :
    out0_B_3 (F := Ideal) c i arg1 harg1 arg2 harg2 arg3 harg3 arg5 harg5 arg6 harg6 hc0 x0 x1 x2 xo y = entry C F B y := by
  unfold out0_B_3
  have hcov := cover0_B_3 (F := Ideal) c i arg1 harg1 arg2 harg2 arg3 harg3 arg5 harg5 arg6 harg6 hc0 x0 x1 x2 xo
  rw [View.read_writes_eq_canon _ _ _ hcov]
  refine View.canon_apply_of_pieces (entry C F B) _ ?_ y (hcov y)
  unfold kernelRun0_B
  dsimp only
  sl_unfold_words
  exact (finish_apply c i arg1 harg1 arg2 harg2 arg3 harg3 arg5 harg5 arg6 harg6 x0 x1 x2 C F B hB hC hF).2

include hB hC hF in
theorem out_A_4 (hc0 : cond0_0 i) (b : Fin 128) :
    out0_A_4 (F := Ideal) c i arg1 harg1 arg2 harg2 arg3 harg3 arg5 harg5 arg6 harg6 hc0 x0 x1 x2 (ix2 0 b) = ((tail (grad C F B) 0 b.val : ℝ) : EReal) := by
  unfold out0_A_4
  have hcov := cover0_A_4 (F := Ideal) c i arg1 harg1 arg2 harg2 arg3 harg3 arg5 harg5 arg6 harg6 hc0 x0 x1 x2
  rw [View.read_writes_eq_canon _ _ _ hcov]
  unfold kernelRun0_A
  dsimp only
  sl_unfold_words
  refine (congrFun (View.canon_cons_unit_zero hz _ _ _) (ix2 0 b)).trans ?_
  have hl := (finish_apply c i arg1 harg1 arg2 harg2 arg3 harg3 arg5 harg5 arg6 harg6 x0 x1 x2 C F B hB hC hF).1 0 b
  rw [View.readCov_unit_zero _ hz]
  generalize (finish c i arg1 harg1 arg2 harg2 arg3 harg3 arg5 harg5 arg6 harg6 x0 x1 x2).1.2 = z at *
  pointwise [k0_pay5, k0_pay4]
  rw [hl]

include hB hC hF in
theorem out_B_4 (hc0 : ¬cond0_0 i) (xo : Vec Ideal S1x128 .f32) (b : Fin 128) (o : ℝ) (ho : xo (ix2 0 b) = (o : EReal)) :
    out0_B_4 (F := Ideal) c i arg1 harg1 arg2 harg2 arg3 harg3 arg5 harg5 arg6 harg6 hc0 x0 x1 x2 xo (ix2 0 b) = ((o + tail (grad C F B) 0 b.val : ℝ) : EReal) := by
  unfold out0_B_4
  have hcov := cover0_B_4 (F := Ideal) c i arg1 harg1 arg2 harg2 arg3 harg3 arg5 harg5 arg6 harg6 hc0 x0 x1 x2 xo
  rw [View.read_writes_eq_canon _ _ _ hcov]
  unfold kernelRun0_B
  dsimp only
  sl_unfold_words
  refine (congrFun (View.canon_cons_unit_zero hz _ _ _) (ix2 0 b)).trans ?_
  have hl := (finish_apply c i arg1 harg1 arg2 harg2 arg3 harg3 arg5 harg5 arg6 harg6 x0 x1 x2 C F B hB hC hF).1 0 b
  have hr : View.readAt (Elt Ideal) arg6.view (Rect.unit (s := S1x128) ![0, 0] ![1, 128] inb_S1x128_S1x128_0_0).toLoadRect (harg6.unread xo) (ix2 0 b) = (o : EReal) := by
    refine (readAt_rows arg6 (harg6.unread xo) ![0, 0] inb_S1x128_S1x128_0_0 0 rfl 0 b (by omega)).trans ?_
    rw [harg6.read_unread]; exact ho
  generalize (finish c i arg1 harg1 arg2 harg2 arg3 harg3 arg5 harg5 arg6 harg6 x0 x1 x2).1.2 = z at *
  generalize View.readAt (Elt Ideal) arg6.view (Rect.unit (s := S1x128) ![0, 0] ![1, 128] inb_S1x128_S1x128_0_0).toLoadRect (harg6.unread xo) = w at *
  pointwise [k0_pay5]
  rw [hl, hr, EReal.coe_add]

end Case

end Cert.Forget

end
-- ==== Proof.ForgetArray.lean ====
/- The two result arrays of the forget gate's gradient, entry by entry. -/
module

public import proofs.«01_k».proof.Proof.ForgetCase

@[expose] public section

set_option maxRecDepth 16384

noncomputable section

namespace Cert.Forget

open Cert.Kernel17Ideal Cert.Kernel17Ideal.Gen Idealize.ShloMosaic Idealize.ShloMosaic.TcCoe Idealize.SL.Sem Cert.Product

/-! The grid: a point is a sequence. -/

theorem index_0 : ∀ t : Fin grid0.N, win0_0.index t 0 = t.val ∧ win0_0.index t 1 = 40 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 20 ∧ win0_3.flush t = true := by decide +kernel
theorem index_4 : ∀ t : Fin grid0.N, win0_4.index t 0 = 0 ∧ win0_4.index t 1 = 0 ∧ (win0_4.flush t = true ↔ t.val = 3) := by decide +kernel
theorem size_3 : ∀ t : Fin cfg0.N, ∀ a, (cfg0.win 3).xsize (cfg0.grid.coords t) a = (cfg0.win 3).size a := by decide +kernel

variable (m : (ℓ : Loc nD τ sig) → Buf (Elt Ideal) ℓ) (c : Dev nD)

abbrev argF : Vec Ideal S9216x5376 .f32 := m ((c : Thread nD τ).loc main_arg0)
abbrev argB : Vec Ideal S1x128 .f32 := m ((c : Thread nD τ).loc main_arg1)
abbrev argC : Vec Ideal S9216x128 .f32 := m ((c : Thread nD τ).loc main_arg2)
abbrev argE : Vec Ideal S9216x5376 .bf16 := m ((c : Thread nD τ).loc main_arg3)

theorem block_0 (t : Fin cfg0.N) (a : Fin 2304) (b : Fin 128) :
    (iblk m c 0 t : Vec Ideal S2304x128 .f32) (ix2 a b) = num (argF m c) (2304 * t.val + a.val) (5120 + b.val) := by
  have hi := index_0 t
  unfold iblk
  rw [View.read_apply]
  show V m c main_arg0 _ = _
  rw [V_main_arg0]
  refine num_at (argF m c) _ _ _ ?_ ?_
  · show win0_0.index t 0 * 2304 + 1 * a.val = _; rw [hi.1]; omega
  · show win0_0.index t 1 * 128 + 1 * b.val = _; rw [hi.2]; omega

theorem block_1 (t : Fin cfg0.N) (a : Fin 1) (b : Fin 128) :
    (iblk m c 1 t : Vec Ideal S1x128 .f32) (ix2 a b) = num (argB m c) 0 b.val := by
  have hi := index_1 t
  unfold iblk
  rw [View.read_apply]
  show V m c main_arg1 _ = _
  rw [V_main_arg1]
  refine num_at (argB m c) _ _ _ ?_ ?_
  · show win0_1.index t 0 * 1 + 1 * a.val = _; rw [hi.1]; omega
  · show win0_1.index t 1 * 128 + 1 * b.val = _; rw [hi.2]; omega

theorem block_2 (t : Fin cfg0.N) (a : Fin 2304) (b : Fin 128) :
    (iblk m c 2 t : Vec Ideal S2304x128 .f32) (ix2 a b) = num (argC m c) (2304 * t.val + a.val) b.val := by
  have hi := index_2 t
  unfold iblk
  rw [View.read_apply]
  show V m c main_arg2 _ = _
  rw [V_main_arg2]
  refine num_at (argC m c) _ _ _ ?_ ?_
  · show win0_2.index t 0 * 2304 + 1 * a.val = _; rw [hi.1]; omega
  · show win0_2.index t 1 * 128 + 1 * b.val = _; rw [hi.2]; omega

theorem V_out : V m c main_v0_0 = argE m c := by
  simp [V, hostOps0]
  rfl

variable (C : ℕ → ℕ → ℝ) (F : ℕ → ℕ → EReal) (B : ℕ → EReal)
  (hF : ∀ a b : ℕ, a < 9216 → b < 128 → num (argF m c) a (5120 + b) = F a b)
  (hB : ∀ b : ℕ, b < 128 → num (argB m c) 0 b = B b)
  (hC : ∀ a b : ℕ, a < 9216 → b < 128 → num (argC m c) a b = ((C a b : ℝ) : EReal))

/-- A sequence's rows of an array. -/
abbrev of_ {α : Type} (f : ℕ → ℕ → α) (s a b : ℕ) : α := f (2304 * s + a) b

/-- The gradient at one of a sequence's rows. -/
abbrev gradOf (s a b : ℕ) : ℝ := grad (of_ C s) (of_ F s) B a b

/-- The projection's gradient: the forget gate's columns and the empty columns after them; the other columns stay as they were. -/
def whole : Vec Ideal S9216x5376 .bf16 := fun i =>
  if (i 1).val < 5120 then argE m c i
  else ((if (i 1).val < 5248 then gradOf C F B ((i 0).val / 2304) ((i 0).val % 2304) ((i 1).val - 5120) else 0 : ℝ) : EReal)

/-- The bias's gradient over the first sequences. -/
def sums (n b : ℕ) : ℝ := ∑ s ∈ Finset.range n, tail (gradOf C F B s) 0 b

def wholeB : Vec Ideal S1x128 .f32 := fun i => ((sums C F B 4 (i 1).val : ℝ) : EReal)

include hF in
theorem hF_at (t : Fin cfg0.N) (a : Fin 2304) (b : Fin 128) : (iblk m c 0 t : Vec Ideal S2304x128 .f32) (ix2 a b) = of_ F t.val a.val b.val := by
  have ht : t.val < 4 := lt_of_lt_of_eq t.isLt N_0
  rw [block_0]; exact hF _ _ (by omega) b.isLt

include hB in
theorem hB_at (t : Fin cfg0.N) (a : Fin 1) (b : Fin 128) : (iblk m c 1 t : Vec Ideal S1x128 .f32) (ix2 a b) = B b.val := by
  rw [block_1]; exact hB _ b.isLt

include hC in
theorem hC_at (t : Fin cfg0.N) (a : Fin 2304) (b : Fin 128) : (iblk m c 2 t : Vec Ideal S2304x128 .f32) (ix2 a b) = ((of_ C t.val a.val b.val : ℝ) : EReal) := by
  have ht : t.val < 4 := lt_of_lt_of_eq t.isLt N_0
  rw [block_2]; exact hC _ _ (by omega) b.isLt

include hF hB hC in
theorem point_3 (t : Fin cfg0.N) (y : S2304x256.Idx) : (outsAt0 m c t.val t.isLt).1 y = entry (of_ C t.val) (of_ F t.val) B y := by
  have f := hF_at m c F hF t
  have g := hB_at m c B hB t
  have d := hC_at m c C hC t
  by_cases h : t.val % 4 = 0
  · rw [outsAt0_A m c t h]
    exact out_A_3 _ _ _ _ _ _ _ _ _ _ _ _ _ _ _ _ _ _ g d f _ y
  · rw [outsAt0_B m c t h]
    exact out_B_3 _ _ _ _ _ _ _ _ _ _ _ _ _ _ _ _ _ _ g d f _ _ y

include hF hB hC in
theorem point_4 (n : ℕ) (hn : n < cfg0.N) (b : Fin 128) : (outsAt0 m c n hn).2 (ix2 0 b) = ((sums C F B (n + 1) b.val : ℝ) : EReal) := by
  have h4 : n < 4 := lt_of_lt_of_eq hn N_0
  have f := hF_at m c F hF ⟨n, hn⟩
  have g := hB_at m c B hB ⟨n, hn⟩
  have d := hC_at m c C hC ⟨n, hn⟩
  unfold sums
  induction n with
  | zero =>
    rw [outsAt0_A m c ⟨0, hn⟩ rfl, Finset.sum_range_one]
    exact out_A_4 _ _ _ _ _ _ _ _ _ _ _ _ _ _ _ _ _ _ g d f ((hcond0_0 ⟨0, hn⟩).mpr rfl) b
  | succ n ih =>
    rw [outsAt0_B m c ⟨n + 1, hn⟩ (by dsimp only; omega), Finset.sum_range_succ]
    exact out_B_4 _ _ _ _ _ _ _ _ _ _ _ _ _ _ _ _ _ _ g d f (fun h => absurd ((hcond0_0 ⟨n + 1, hn⟩).mp h) (by dsimp only; omega)) _ b _
      (ih (Nat.lt_of_succ_lt hn) (by omega) (hF_at m c F hF ⟨n, _⟩) (hB_at m c B hB ⟨n, _⟩) (hC_at m c C hC ⟨n, _⟩))

include hF hB hC in
theorem final_3 : (dats m 0 c).arrAt 3 cfg0.N = whole m c C F B := by
  funext i
  have h0 : (i 0).val < 9216 := (i 0).isLt
  have h1 : (i 1).val < 5376 := (i 1).isLt
  unfold whole
  by_cases h : (i 1).val < 5120
  · rw [if_pos h, Value.entry3 m c i fun t _ hi => ?_]
    · exact congrFun (V_out m c) i
    · have ho := index_3 t
      obtain ⟨y, rfl⟩ := View.exists_emb_of_mem_set _ hi
      have e : (((cfg0.win 3).blk t).view.emb y 1).val = win0_3.index t 1 * 256 + 1 * (y 1).val := rfl
      rw [e, ho.2.1] at h
      omega
  · rw [if_neg h]
    obtain ⟨t, ht⟩ : ∃ t : Fin cfg0.N, t.val = (i 0).val / 2304 := ⟨⟨_, lt_of_lt_of_eq (by omega) N_0.symm⟩, rfl⟩
    have ho := index_3 t
    have hv : ∀ a : Fin 2, (![(i 0).val % 2304, (i 1).val - 5120] : Fin 2 → ℕ) a < (![2304, 256] : Fin 2 → ℕ) a := fun a => by
      fin_cases a
      · exact Nat.mod_lt _ (by decide)
      · show (i 1).val - 5120 < 256; omega
    let y : ((cfg0.win 3).xblock (cfg0.grid.coords t)).Idx := fun a => ⟨(![(i 0).val % 2304, (i 1).val - 5120] : Fin 2 → ℕ) a, lt_of_lt_of_eq (hv a) (size_3 t a).symm⟩
    have hb := congrFun (Value.blocks3 m c t ho.2.2) y
    rw [View.read_apply, Value.flushed3] at hb
    have he : ((cfg0.win 3).blk t).view.emb y = i := by
      funext d
      fin_cases d
      · exact Fin.ext (by show win0_3.index t 0 * 2304 + 1 * ((i 0).val % 2304) = (i 0).val; rw [ho.1]; omega)
      · exact Fin.ext (by show win0_3.index t 1 * 256 + 1 * ((i 1).val - 5120) = (i 1).val; rw [ho.2.1]; omega)
    rw [he] at hb
    refine hb.trans ((point_3 m c C F B hF hB hC t ((cfg0.win 3).xinj (grid0.coords t) y)).trans ?_)
    show (((if (i 1).val - 5120 < 128 then grad (of_ C t.val) (of_ F t.val) B ((i 0).val % 2304) ((i 1).val - 5120) else 0 : ℝ)) : EReal) = _
    rw [ht]
    exact congrArg _ (if_congr (by omega) rfl rfl)

theorem disjoint4 : ∀ t t' : Fin cfg0.N, (cfg0.win 4).flush t = true → (cfg0.win 4).flush t' = true → t ≠ t' →
    Disjoint ((cfg0.win 4).blk t).view.set ((cfg0.win 4).blk t').view.set :=
  fun t t' h h' hne => absurd (Fin.ext (((index_4 t).2.2.mp h).trans ((index_4 t').2.2.mp h').symm)) hne

include hF hB hC in
theorem final_4 : (dats m 0 c).arrAt 4 cfg0.N = wholeB C F B := by
  funext i
  obtain ⟨a, b, rfl⟩ : ∃ (a : Fin 1) (b : Fin 128), i = ix2 a b := ⟨i 0, i 1, by funext d; fin_cases d <;> rfl⟩
  obtain rfl : a = 0 := Subsingleton.elim _ _
  obtain ⟨t, ht⟩ : ∃ t : Fin cfg0.N, t.val = 3 := ⟨⟨3, lt_of_lt_of_eq (by decide) N_0.symm⟩, rfl⟩
  have ho := index_4 t
  have hb := congrFun ((dats m 0 c).read_blk_arrAt_eq_flushed 4 disjoint4 cfg0.N t t.isLt (ho.2.2.mpr ht)) (ix2 0 b)
  rw [View.read_apply, Value.flushed4] at hb
  have he : ((cfg0.win 4).blk t).view.emb (ix2 0 b) = ix2 0 b := by
    funext d
    fin_cases d
    · exact Fin.ext (by show win0_4.index t 0 * 1 + 1 * 0 = 0; rw [ho.1])
    · exact Fin.ext (by show win0_4.index t 1 * 128 + 1 * b.val = b.val; rw [ho.2.1]; omega)
  rw [he] at hb
  refine hb.trans ((point_4 m c C F B hF hB hC t.val t.isLt b).trans ?_)
  rw [ht]
  rfl

end Cert.Forget

end
-- ==== Proof.ForgetRef.lean ====
/- The reference's two results, entry by entry. -/
module

public import proofs.«01_k».proof.Proof.ForgetTrip
public import proofs.«01_k».proof.Proof.ConvRef
public import proofs.«01_k».proof.Proof.Gen.Reference17Ideal.Read

@[expose] public section

set_option maxRecDepth 16384

noncomputable section

namespace Cert.Forget.Ref

open Cert.Reference17Ideal Cert.Reference17Ideal.Gen Cert.Reference17Ideal.Read Idealize.ShloMosaic Idealize.ShloMosaic.TcCoe Idealize.SL.Sem Cert.Product

/-! The logistic function by way of softplus. -/

theorem softplus (x : ℝ) : Real.exp (x - (max x 0 + Real.log (1 + Real.exp (-|x|)))) = 1 / (1 + Real.exp (-x)) := by
  have hp := Real.exp_pos (-|x|)
  rw [Real.exp_sub, Real.exp_add, Real.exp_log (by positivity)]
  have h1 := Real.exp_pos x
  have e : Real.exp x * Real.exp (-x) = 1 := by rw [← Real.exp_add, add_neg_cancel, Real.exp_zero]
  rcases le_total 0 x with h | h
  · rw [max_eq_left h, abs_of_nonneg h]
    have h2 := Real.exp_pos (-x)
    field_simp
  · rw [max_eq_right h, abs_of_nonpos h, neg_neg, Real.exp_zero, one_mul]
    have h2 := Real.exp_pos (-x)
    rw [div_eq_div_iff (by positivity) (by positivity)]
    linear_combination e

theorem word_top : Ideal.ofBits .f32 0x7F800000#32 = ⊤ := by
  simp [Ideal.ofBits, Ideal.ieee]

theorem select_false {α : Type} (a b : α) : Scalar.select 0#1 a b = b := rfl

theorem pick_top (x a b : EReal) : Scalar.select (FloatOps.cmpf (F := Ideal) (φ := .f32) .oeq x (Ideal.ofBits .f32 0x7F800000#32)) a b = if x = ⊤ then a else b := by
  show Scalar.select (BitVec.ofBool (decide (x = Ideal.ofBits .f32 0x7F800000#32))) a b = _
  rw [word_top]
  by_cases h : x = ⊤
  · rw [if_pos h, decide_eq_true h]; rfl
  · rw [if_neg h, decide_eq_false h]; rfl

variable (x0 : Vec Ideal S9216x5376 .f32) (x1 : Vec Ideal S1x128 .f32) (x2 : Vec Ideal S9216x128 .f32)

/-- The stages up to softplus: the larger of zero and `x`, and the logarithm of one plus an exponential. -/
theorem softplus_stage (i : S4x2304x128.Idx) (x : EReal) (h : val_main_call0_v0 (F := Ideal) x0 x1 i = x) :
    val_main_call0_v1_0 (F := Ideal) x0 x1 i = max x 0 + Ideal.log (1 + Ideal.exp (-(max x (-x)))) := by
  have h0 : Ideal.ofBits .f32 0x00000000#32 = (0 : EReal) := word_0
  have e3 : val_main_call0_call0_v3 (F := Ideal) x0 x1 i = x := by
    rw [val_main_call0_call0_v3_apply, h, val_main_call0_call0_v2_apply]
    show x - Ideal.ofBits .f32 0x00000000#32 = _
    rw [h0, sub_zero]
  have e4 : val_main_call0_call0_v4 (F := Ideal) x0 x1 i = 0#1 := by
    rw [val_main_call0_call0_v4_apply]
    show BitVec.ofBool (decide (val_main_call0_call0_v3 (F := Ideal) x0 x1 i ≠ val_main_call0_call0_v3 (F := Ideal) x0 x1 i)) = 0#1
    simp
  have e1 : val_main_call0_call0_v1 (F := Ideal) x0 x1 i = max x 0 := by
    rw [val_main_call0_call0_v1_apply, h, val_main_call0_call0_v0_apply]
    show max x (Ideal.ofBits .f32 0x00000000#32) = _
    rw [h0]
  have e10 : val_main_call0_call0_v10 (F := Ideal) x0 x1 i = Ideal.log (1 + Ideal.exp (-(max x (-x)))) := by
    rw [val_main_call0_call0_v10_apply, val_main_call0_call0_v9_apply, val_main_call0_call0_v8_apply, val_main_call0_call0_v7_apply, e3]
    rfl
  rw [val_main_call0_v1_0_apply, e4, select_false, val_main_call0_call0_v11_apply, e1, e10]
  rfl

/-- The stages after softplus, where an infinity counts as zero. -/
theorem last_stage (i : S4x2304x128.Idx) (x s : EReal) (h : val_main_call0_v0 (F := Ideal) x0 x1 i = x) (hs : val_main_call0_v1_0 (F := Ideal) x0 x1 i = s) :
    val_main_v5_1 (F := Ideal) x0 x1 i = Ideal.exp ((if x = ⊤ then 0 else x) - (if s = ⊤ then 0 else s)) := by
  have h0 : Ideal.ofBits .f32 0x00000000#32 = (0 : EReal) := word_0
  have e16 : val_main_call0_call0_v16 (F := Ideal) x0 x1 i = if x = ⊤ then 0 else x := by
    rw [val_main_call0_call0_v16_apply, val_main_call0_call0_v14_apply, h, val_main_call0_call0_v13_apply, val_main_call0_call0_v15_apply]
    exact (pick_top _ _ _).trans (by rw [show val_main_call0_call0_cst_1 (F := Ideal) (idx_main_call0_call0_v15 i) = (0 : EReal) from h0])
  have e20 : val_main_call0_call0_v20 (F := Ideal) x0 x1 i = if s = ⊤ then 0 else s := by
    rw [val_main_call0_call0_v20_apply, val_main_call0_call0_v18_apply, hs, val_main_call0_call0_v17_apply, val_main_call0_call0_v19_apply]
    exact (pick_top _ _ _).trans (by rw [show val_main_call0_call0_cst_3 (F := Ideal) (idx_main_call0_call0_v19 i) = (0 : EReal) from h0])
  rw [val_main_v5_1_apply, val_main_call0_call0_v21_apply, e16, e20]
  rfl

theorem of_real (i : S4x2304x128.Idx) (x : ℝ) (h : val_main_call0_v0 (F := Ideal) x0 x1 i = ((x : ℝ) : EReal)) :
    val_main_v5_1 (F := Ideal) x0 x1 i = ((1 / (1 + Real.exp (-x)) : ℝ) : EReal) := by
  have hs : max ((x : ℝ) : EReal) 0 + Ideal.log (1 + Ideal.exp (-(max ((x : ℝ) : EReal) (-((x : ℝ) : EReal))))) = ((max x 0 + Real.log (1 + Real.exp (-|x|)) : ℝ) : EReal) := by
    rw [← EReal.coe_neg, ← EReal.coe_strictMono.monotone.map_max, ← EReal.coe_neg, Ideal.exp_coe, ← EReal.coe_one, ← EReal.coe_add, Ideal.log_coe,
      if_neg (by have := Real.exp_pos (-(max x (-x))); linarith), ← EReal.coe_zero, ← EReal.coe_strictMono.monotone.map_max, ← EReal.coe_add]
    rfl
  rw [last_stage x0 x1 i _ _ h ((softplus_stage x0 x1 i _ h).trans hs), if_neg (EReal.coe_ne_top _), if_neg (EReal.coe_ne_top _), ← EReal.coe_sub, Ideal.exp_coe, softplus]

theorem log_one : Ideal.log (1 + 0) = 0 := by
  rw [add_zero, ← EReal.coe_one, Ideal.log_coe, if_neg (by norm_num), Real.log_one, EReal.coe_zero]

theorem of_top (i : S4x2304x128.Idx) (h : val_main_call0_v0 (F := Ideal) x0 x1 i = ⊤) : val_main_v5_1 (F := Ideal) x0 x1 i = ((1 : ℝ) : EReal) := by
  have hs : max (⊤ : EReal) 0 + Ideal.log (1 + Ideal.exp (-(max (⊤ : EReal) (-⊤)))) = ⊤ := by
    rw [max_eq_left le_top, max_eq_left le_top, EReal.neg_top, Ideal.exp_bot, log_one, add_zero]
  rw [last_stage x0 x1 i _ _ h ((softplus_stage x0 x1 i _ h).trans hs), if_pos rfl, sub_zero, ← EReal.coe_zero, Ideal.exp_coe, Real.exp_zero]

theorem of_bot (i : S4x2304x128.Idx) (h : val_main_call0_v0 (F := Ideal) x0 x1 i = ⊥) : val_main_v5_1 (F := Ideal) x0 x1 i = ((0 : ℝ) : EReal) := by
  have hs : max (⊥ : EReal) 0 + Ideal.log (1 + Ideal.exp (-(max (⊥ : EReal) (-⊥)))) = 0 := by
    rw [max_eq_right bot_le, max_eq_right bot_le, EReal.neg_bot, EReal.neg_top, Ideal.exp_bot, log_one, add_zero]
  rw [last_stage x0 x1 i _ _ h ((softplus_stage x0 x1 i _ h).trans hs), if_neg (by decide), if_neg EReal.zero_ne_top, sub_zero, Ideal.exp_bot, EReal.coe_zero]

theorem slope_at (i : S4x2304x128.Idx) (z : EReal) (h : val_main_v4 (F := Ideal) x0 x1 i = z) :
    val_main_v5_1 (F := Ideal) x0 x1 i = ((slope z : ℝ) : EReal) := by
  induction z using EReal.rec with
  | bot =>
    have hx : val_main_call0_v0 (F := Ideal) x0 x1 i = ⊤ := by
      rw [val_main_call0_v0_apply, h]
      exact EReal.neg_bot
    rw [of_top x0 x1 i hx, slope_bot]
  | top =>
    have hx : val_main_call0_v0 (F := Ideal) x0 x1 i = ⊥ := by
      rw [val_main_call0_v0_apply, h]
      exact EReal.neg_top
    rw [of_bot x0 x1 i hx, slope_top]
  | coe x =>
    have hx : val_main_call0_v0 (F := Ideal) x0 x1 i = ((-x : ℝ) : EReal) := by
      rw [val_main_call0_v0_apply, h]
      exact (EReal.coe_neg x).symm
    rw [of_real x0 x1 i (-x) hx, neg_neg, slope_real]

/-! The reversed running sum. -/

theorem fold_sum {n : ℕ} (g : Fin n → EReal) : (List.finRange n).foldl (fun r k => r + g k) 0 = ∑ k, g k := by
  rw [Fin.sum_univ_def, List.sum_eq_foldl, List.foldl_map]

/-- The window's positions are the second axis's. -/
def along : Fin 2304 ≃ (⟨3, ![1, 2304, 1]⟩ : Shape).Idx where
  toFun k := ix3 0 k 0
  invFun w := w 1
  left_inv _ := rfl
  right_inv w := by
    funext d
    match d with
    | ⟨0, _⟩ => exact Subsingleton.elim (α := Fin 1) _ _
    | ⟨1, _⟩ => rfl
    | ⟨2, _⟩ => exact Subsingleton.elim (α := Fin 1) _ _

theorem later (X : ℕ → ℕ → ℝ) (a b : ℕ) (ha : a < 2304) : ∑ k ∈ Finset.range 2304, (if a + k < 2304 then X (a + k) b else 0) = tail X a b := by
  unfold tail
  rw [Finset.sum_Ico_eq_sum_range, ← Finset.sum_filter]
  refine Finset.sum_congr ?_ fun _ _ => rfl
  ext k
  simp only [Finset.mem_filter, Finset.mem_range]
  omega

theorem running (y : FVec Ideal S4x2304x128 .f32) (init : FVec Ideal S_ .f32) (hi : init (Shape.Idx.first h_S_) = (0 : EReal)) (X : ℕ → ℕ → ℕ → ℝ)
    (hy : ∀ (s : Fin 4) (a : Fin 2304) (b : Fin 128), y (ix3 s a b) = ((X s.val a.val b.val : ℝ) : EReal)) (s : Fin 4) (a : Fin 2304) (b : Fin 128) :
    Host.reduceWindowAdd (F := Ideal) ![1, 2304, 1] ![1, 1, 1] ![0, 0, 0] ![0, 2303, 0] y init reduceWindows_S4x2304x128_S4x2304x128_w1s1p0_0_w2304s1p0_2303_w1s1p0_0 h_S_ (ix3 s a b)
      = ((tail (X s.val) a.val b.val : ℝ) : EReal) := by
  show Ideal.hostReduceWindowAdd ![1, 2304, 1] ![1, 1, 1] ![0, 0, 0] ![0, 2303, 0] reduceWindows_S4x2304x128_S4x2304x128_w1s1p0_0_w2304s1p0_2303_w1s1p0_0 y (init (Shape.Idx.first h_S_)) (ix3 s a b) = _
  rw [hi]
  unfold Ideal.hostReduceWindowAdd Host.reduceWindow
  dsimp only
  refine (fold_sum _).trans ?_
  refine (Fintype.sum_equiv ((Shape.rowMajor ⟨3, ![1, 2304, 1]⟩).symm.trans along.symm) _
    (fun k : Fin 2304 => ((if a.val + k.val < 2304 then X s.val (a.val + k.val) b.val else 0 : ℝ) : EReal)) fun n => ?_).trans ?_
  · rw [Equiv.trans_apply]
    obtain ⟨k, hk⟩ := along.surjective ((Shape.rowMajor ⟨3, ![1, 2304, 1]⟩).symm n)
    rw [show along.symm ((Shape.rowMajor ⟨3, ![1, 2304, 1]⟩).symm n) = k by rw [← hk, along.symm_apply_apply]]
    have w0 : ((Shape.rowMajor ⟨3, ![1, 2304, 1]⟩).symm n 0).val = 0 := by rw [← hk]; rfl
    have w1 : ((Shape.rowMajor ⟨3, ![1, 2304, 1]⟩).symm n 1).val = k.val := by rw [← hk]; rfl
    have w2 : ((Shape.rowMajor ⟨3, ![1, 2304, 1]⟩).symm n 2).val = 0 := by rw [← hk]; rfl
    split
    · next hin =>
      have h1 := hin 1
      change 0 ≤ a.val * 1 + ((Shape.rowMajor ⟨3, ![1, 2304, 1]⟩).symm n 1).val ∧ a.val * 1 + ((Shape.rowMajor ⟨3, ![1, 2304, 1]⟩).symm n 1).val - 0 < 2304 at h1
      rw [if_pos (by omega)]
      refine (congrArg y (funext fun d => Fin.ext ?_)).trans (hy s ⟨a.val + k.val, by omega⟩ b)
      match d with
      | ⟨0, _⟩ => show s.val * 1 + ((Shape.rowMajor ⟨3, ![1, 2304, 1]⟩).symm n 0).val - 0 = s.val; omega
      | ⟨1, _⟩ => show a.val * 1 + ((Shape.rowMajor ⟨3, ![1, 2304, 1]⟩).symm n 1).val - 0 = a.val + k.val; omega
      | ⟨2, _⟩ => show b.val * 1 + ((Shape.rowMajor ⟨3, ![1, 2304, 1]⟩).symm n 2).val - 0 = b.val; omega
    · next hin =>
      rw [if_neg fun hle => hin fun d => by
        match d with
        | ⟨0, _⟩ => show 0 ≤ s.val * 1 + ((Shape.rowMajor ⟨3, ![1, 2304, 1]⟩).symm n 0).val ∧ s.val * 1 + ((Shape.rowMajor ⟨3, ![1, 2304, 1]⟩).symm n 0).val - 0 < 4; omega
        | ⟨1, _⟩ => show 0 ≤ a.val * 1 + ((Shape.rowMajor ⟨3, ![1, 2304, 1]⟩).symm n 1).val ∧ a.val * 1 + ((Shape.rowMajor ⟨3, ![1, 2304, 1]⟩).symm n 1).val - 0 < 2304; omega
        | ⟨2, _⟩ => show 0 ≤ b.val * 1 + ((Shape.rowMajor ⟨3, ![1, 2304, 1]⟩).symm n 2).val ∧ b.val * 1 + ((Shape.rowMajor ⟨3, ![1, 2304, 1]⟩).symm n 2).val - 0 < 128; omega]
      rfl
  · rw [Cert.NormGrad.coe_sum, Fin.sum_univ_eq_sum_range (fun k => if a.val + k < 2304 then X s.val (a.val + k) b.val else 0), later _ _ _ a.isLt]

variable (C : ℕ → ℕ → ℝ) (F : ℕ → ℕ → EReal) (B : ℕ → EReal)
  (hF : ∀ (a : Fin 9216) (b : Fin 128) (h : 5120 + b.val < 5376), x0 (ix2 a ⟨5120 + b.val, h⟩) = F a.val b.val)
  (hB : ∀ b : Fin 128, x1 (ix2 0 b) = B b.val)
  (hC : ∀ (a : Fin 9216) (b : Fin 128), x2 (ix2 a b) = ((C a.val b.val : ℝ) : EReal))

/-- The gradient at one of a sequence's rows. -/
abbrev gradAt (s a b : ℕ) : ℝ := grad (fun a b => C (2304 * s + a) b) (fun a b => F (2304 * s + a) b) B a b

include hF hB in
theorem sum_at (s : Fin 4) (a : Fin 2304) (b : Fin 128) : val_main_v4 (F := Ideal) x0 x1 (ix3 s a b) = F (2304 * s.val + a.val) b.val + B b.val := by
  have e0 : val_main_v1 (F := Ideal) x0 (ix3 s a b) = F (2304 * s.val + a.val) b.val := by
    rw [val_main_v1_apply, val_main_v0_apply]
    refine Eq.trans (congrArg x0 ?_) (hF ⟨2304 * s.val + a.val, by omega⟩ b (by omega))
    funext d
    match d with
    | ⟨0, _⟩ => exact Fin.ext (by show ((s.val * 2304 + a.val) * 128 + b.val) / 128 = 2304 * s.val + a.val; omega)
    | ⟨1, _⟩ => exact Fin.ext (by show 5120 + ((s.val * 2304 + a.val) * 128 + b.val) % 128 = 5120 + b.val; omega)
  have e1 : val_main_v3 (F := Ideal) x1 (ix3 s a b) = B b.val := by
    rw [val_main_v3_apply, val_main_v2_apply]
    refine Eq.trans (congrArg x1 ?_) (hB b)
    funext d
    match d with
    | ⟨0, _⟩ => rfl
    | ⟨1, _⟩ => rfl
  rw [val_main_v4_apply, e0, e1]
  rfl

include hC in
theorem running_at (s : Fin 4) (a : Fin 2304) (b : Fin 128) : val_main_v8 (F := Ideal) x2 (ix3 s a b) = ((tail (fun a b => C (2304 * s.val + a) b) a.val b.val : ℝ) : EReal) := by
  unfold val_main_v8
  refine running _ _ ?_ (fun s a b => C (2304 * s + a) b) (fun s a b => ?_) s a b
  · rw [val_main_call2_call0_v0_apply]
    exact word_0
  · rw [val_main_v7_apply]
    refine Eq.trans (congrArg x2 ?_) (hC ⟨2304 * s.val + a.val, by omega⟩ b)
    funext d
    match d with
    | ⟨0, _⟩ => exact Fin.ext (by show ((s.val * 2304 + a.val) * 128 + b.val) / 128 = 2304 * s.val + a.val; omega)
    | ⟨1, _⟩ => exact Fin.ext (by show ((s.val * 2304 + a.val) * 128 + b.val) % 128 = b.val; omega)

include hF hB hC in
theorem grad_at (s : Fin 4) (a : Fin 2304) (b : Fin 128) : val_main_v9 (F := Ideal) x0 x1 x2 (ix3 s a b) = ((gradAt C F B s.val a.val b.val : ℝ) : EReal) := by
  rw [val_main_v9_apply, val_main_call3_v1_apply, val_main_call3_v0_apply, running_at x2 C hC, slope_at x0 x1 _ _ (sum_at x0 x1 F B hF hB s a b)]
  show -(-((tail (fun a b => C (2304 * s.val + a) b) a.val b.val : ℝ) : EReal) * ((slope (F (2304 * s.val + a.val) b.val + B b.val) : ℝ) : EReal)) = _
  rw [← EReal.coe_neg, ← EReal.coe_mul, ← EReal.coe_neg, neg_mul, neg_neg]
  rfl

/-- The host's two sums over the sequences and their rows. -/
theorem sum_rows (y : FVec Ideal S4x2304x128 .f32) (q : Fin 128) :
    (Host.reduceAdd (F := Ideal) (shapeCast S1x1x128 (Host.reduceAdd (F := Ideal) y (constant S_ .f32 0x00000000#32) reducesTo_S4x2304x128_S128_d0_1 h_S_) shapeCasts_S128_S1x1x128)
      (constant S_ .f32 0x00000000#32) reducesTo_S1x1x128_S128_d0_1 h_S_ : FVec Ideal S128 .f32) (ix1 q)
      = ∑ s : Fin 4, ∑ t : Fin 2304, y (ix3 s t q) := by
  refine (Cert.ConvGlu.Ref.sum_two reducesTo_S1x1x128_S128_d0_1 _ _ q).trans ?_
  have e : ∀ z : FVec Ideal S128 .f32, ∀ a b : Fin 1, (shapeCast S1x1x128 z shapeCasts_S128_S1x1x128 : FVec Ideal S1x1x128 .f32) (ix3 a b q) = z (ix1 q) := by
    intro z a b
    pointwise
  simp only [e, Finset.univ_unique, Finset.sum_singleton]
  rw [show ∀ z : EReal, ((constant S_ .f32 0x00000000#32 : FVec Ideal S_ .f32) (Shape.Idx.first h_S_)) + z = z by intro z; pointwise]
  refine (Cert.ConvGlu.Ref.sum_two reducesTo_S4x2304x128_S128_d0_1 _ _ q).trans ?_
  pointwise

include hF hB hC in
theorem at_13 (b : Fin 128) : val_main_v13 (F := Ideal) x0 x1 x2 (ix2 0 b) = ((∑ s ∈ Finset.range 4, tail (gradAt C F B s) 0 b.val : ℝ) : EReal) := by
  rw [val_main_v13_apply]
  unfold val_main_v12 val_main_v11 val_main_v10 val_main_cst val_main_cst_0
  have hj : idx_main_v13 (ix2 0 b) = ix1 b := by
    funext d
    match d with
    | ⟨0, _⟩ => rfl
  rw [hj]
  refine (sum_rows _ b).trans ?_
  rw [Finset.sum_range, Cert.ConvGlu.coe_sum]
  refine Finset.sum_congr rfl fun s _ => ?_
  unfold tail
  rw [← Finset.range_eq_Ico, Finset.sum_range, Cert.ConvGlu.coe_sum]
  exact Finset.sum_congr rfl fun t _ => grad_at x0 x1 x2 C F B hF hB hC s t b

include hF hB hC in
theorem at_18 (x3 : Vec Ideal S9216x5376 .bf16) (a : Fin 9216) (b : Fin 5376) :
    val_main_v18 (F := Ideal) x0 x1 x2 x3 (ix2 a b) = if b.val < 5120 then x3 (ix2 a b)
      else ((if b.val < 5248 then gradAt C F B (a.val / 2304) (a.val % 2304) (b.val - 5120) else 0 : ℝ) : EReal) := by
  unfold val_main_v18
  generalize h16 : val_main_v16 (F := Ideal) x0 x1 x2 = y
  have e : ∀ q : Fin 128, y (ix2 a q) = ((gradAt C F B (a.val / 2304) (a.val % 2304) q.val : ℝ) : EReal) := by
    intro q
    rw [← h16, val_main_v16_apply, val_main_v15_apply]
    refine Eq.trans (congrArg (val_main_v9 (F := Ideal) x0 x1 x2) ?_) (grad_at x0 x1 x2 C F B hF hB hC ⟨a.val / 2304, by omega⟩ ⟨a.val % 2304, Nat.mod_lt _ (by decide)⟩ q)
    funext d
    match d with
    | ⟨0, _⟩ => exact Fin.ext (by show (a.val * 128 + q.val) / 294912 = a.val / 2304; omega)
    | ⟨1, _⟩ => exact Fin.ext (by show (a.val * 128 + q.val) / 128 % 2304 = a.val % 2304; omega)
    | ⟨2, _⟩ => exact Fin.ext (by show (a.val * 128 + q.val) % 128 = q.val; omega)
  clear h16
  unfold val_main_v14 val_main_v17 val_main_cst_1
  pointwise
  have hb := b.isLt
  by_cases h : b.val < 5120
  · rw [if_pos h]
    split_ifs <;> first | omega | rfl
  · rw [if_neg h]
    split_ifs <;> first | omega | rfl | exact (e _).trans (congrArg _ (if_pos (by omega)).symm)

end Cert.Forget.Ref

end
-- ==== Proof.ForgetClaim.lean ====
/- The forget gate's gradient: the kernel's two results and the reference's agree. -/
module

public import proofs.«01_k».proof.Proof.NormClaim
public import proofs.«01_k».proof.Proof.Gen.Pre_finite17
public import proofs.«01_k».proof.Proof.ForgetArray
public import proofs.«01_k».proof.Proof.ForgetRef

@[expose] public section

set_option maxRecDepth 16384

noncomputable section

namespace Cert.Forget

open Idealize.ShloMosaic Idealize.ShloMosaic.TcCoe Idealize.SL.Sem Idealize.ShloMosaic.StableHlo Cert.Product Cert.ConvGlu Cert.NormGrad

section Pre
open Cert.Pre_finite17

variable (x0 : FVec Ideal S9216x5376 .f32) (x1 : FVec Ideal S1x128 .f32) (x2 : FVec Ideal S9216x128 .f32) (x3 : FVec Ideal S9216x5376 .bf16)

theorem reals (h : fn (F := Ideal) x0 x1 x2 x3 = fun _ => 1#1) : ∀ i, x2 i = (((x2 i).toReal : ℝ) : EReal) :=
  real_of_below x2 _ h

end Pre

theorem reference_run (m : (ℓ : Loc Cert.Reference17Ideal.nD Cert.Reference17Ideal.τ Cert.Reference17Ideal.sig) → Buf (Elt Ideal) ℓ) (ρ : Dev Cert.Reference17Ideal.nD → PrngReg) :
    θ_run Cert.Reference17Ideal.defs (onTc (τ := Cert.Reference17Ideal.τ) (Cert.Reference17Ideal.main (F := Ideal))) ⟨m, fun _ => 0, ρ⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0) :=
  (θ_run Cert.Reference17Ideal.defs _ _).mono (fun r h => ⟨fun c => (h c).2.2, Idealize.ShloMosaic.sem_eq_zero_of_no_sems (by decide) r.2⟩)
    (Cert.Reference17Ideal.Value.run m ρ)

theorem algebraic : Cert.algebraic_Kernel17Ideal_Reference17Ideal_pre_finite17 (hKernel17Ideal := Cert.Kernel17Ideal.Gen.facts)
    (hReference17Ideal := Cert.Reference17Ideal.Gen.facts) (hPre_finite17 := Cert.Pre_finite17.Gen.facts) := by
  intro m g m' g' hpre hagree
  have hr := fun c : Dev Cert.Kernel17Ideal.nD => reals (argF m c) (argB m c) (argC m c) (argE m c) (hpre c)
  have hC := fun c : Dev Cert.Kernel17Ideal.nD => num_real (argC m c) (hr c)
  refine ⟨fun c => whole m c (fun2 (argC m c)) (fun a b => num (argF m c) a (5120 + b)) (fun b => num (argB m c) 0 b),
    fun c => wholeB (fun2 (argC m c)) (fun a b => num (argF m c) a (5120 + b)) (fun b => num (argB m c) 0 b), ?_, ?_⟩
  · refine (θ_run Cert.Kernel17Ideal.defs _ _).mono (fun r h c => ?_) (Cert.Kernel17Ideal.Value.run_blocks m g)
    obtain ⟨h0, h1, h2⟩ := h c
    exact ⟨h0.trans (final_3 m c _ _ _ (fun _ _ _ _ => rfl) (fun _ _ => rfl) (hC c)), h1.trans (final_4 m c _ _ _ (fun _ _ _ _ => rfl) (fun _ _ => rfl) (hC c)), h2⟩
  · refine (θ_run Cert.Reference17Ideal.defs _ _).mono (fun r h c => ?_) (Cert.Reference17Ideal.Value.run m' g')
    obtain ⟨h0, h1, h2⟩ := h c
    obtain ⟨a0, a1, a2, a3⟩ := hagree c
    have rF := fun (a : Fin 9216) (b : Fin 128) (h : 5120 + b.val < 5376) =>
      (congrFun a0 (ix2 a ⟨5120 + b.val, h⟩)).trans (num_at (argF m c) (ix2 a ⟨5120 + b.val, h⟩) a.val (5120 + b.val) rfl rfl)
    have rB := fun (b : Fin 128) => (congrFun a1 (ix2 0 b)).trans (num_at (argB m c) (ix2 0 b) 0 b.val rfl rfl)
    have rC := fun (a : Fin 9216) (b : Fin 128) => (congrFun a2 (ix2 a b)).trans (fun2_at (argC m c) (hr c) a b)
    refine ⟨(h0.trans (Cert.Reference17Ideal.Read.val_main_v18_eq _ _)).trans ?_, (h1.trans (Cert.Reference17Ideal.Read.val_main_v13_eq _ _)).trans ?_, h2⟩
    · funext i
      obtain ⟨a, b, rfl⟩ : ∃ (a : Fin 9216) (b : Fin 5376), i = ix2 a b := ⟨i 0, i 1, by funext d; fin_cases d <;> rfl⟩
      exact (Ref.at_18 _ _ _ _ (fun a b => num (argF m c) a (5120 + b)) (fun b => num (argB m c) 0 b) rF rB rC _ a b).trans (if_congr Iff.rfl (congrFun a3 (ix2 a b)) rfl)
    · funext i
      obtain ⟨a, b, rfl⟩ : ∃ (a : Fin 1) (b : Fin 128), i = ix2 a b := ⟨i 0, i 1, by funext d; fin_cases d <;> rfl⟩
      obtain rfl : a = 0 := Subsingleton.elim _ _
      exact Ref.at_13 _ _ _ _ (fun a b => num (argF m c) a (5120 + b)) (fun b => num (argB m c) 0 b) rF rB rC b

end Cert.Forget

end
-- ==== Proof.FirstNorm.lean ====
/- The norm before the attentions: the rows scaled by their root mean square. -/
module

public import proofs.«01_k».proof.Proof.OutNorm
public import proofs.«01_k».proof.Proof.Gen.Kernel18Ideal.Value
public import proofs.«01_k».proof.Proof.Gen.Reference18Ideal.Read

@[expose] public section

set_option maxRecDepth 16384

noncomputable section

namespace Cert.FirstNorm

open Cert.Kernel18Ideal Cert.Kernel18Ideal.Gen Idealize.ShloMosaic Idealize.ShloMosaic.TcCoe Idealize.SL.Sem Cert.Product

/-- The scaled rows. -/
def whole (h : (⟨2, ![9216, 1024]⟩ : Shape).Idx → EReal) (g : (⟨2, ![1, 1024]⟩ : Shape).Idx → EReal) : (⟨2, ![9216, 1024]⟩ : Shape).Idx → EReal :=
  fun i => num h (i 0).val (i 1).val * OutNorm.scale (num h (i 0).val) * num g 0 (i 1).val

theorem out_apply (x0 : Vec Ideal S576x1024 .f32) (x1 : Vec Ideal S1x1024 .f32) (h : ℕ → ℕ → EReal) (g : ℕ → EReal)
    (hh : ∀ (a : Fin 576) (b : Fin 1024), x0 (ix2 a b) = h a.val b.val) (hg : ∀ (a : Fin 1) (b : Fin 1024), x1 (ix2 a b) = g b.val) (a : Fin 576) (b : Fin 1024) :
    out0_2 (F := Ideal) x0 x1 (ix2 a b) = h a.val b.val * OutNorm.scale (h a.val) * g b.val := by
  unfold out0_2
  rw [View.canon_cons_unit_zero hz, View.ld_unit_zero (S := S576x1024) hz, View.ld_unit_zero (S := S1x1024) hz]
  unfold k0_pay1 OutNorm.scale
  pointwise
  simp only [hh, hg]

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 ∧ win0_2.flush t = true := by decide +kernel

section Array

variable (m : (ℓ : Loc nD τ sig) → Buf (Elt Ideal) ℓ) (c : Dev nD)

abbrev argH : Vec Ideal S9216x1024 .f32 := m ((c : Thread nD τ).loc main_arg0)
abbrev argG : Vec Ideal S1x1024 .f32 := m ((c : Thread nD τ).loc main_arg1)

theorem block_h (t : Fin cfg0.N) (a : Fin 576) (b : Fin 1024) :
    (iblk m c 0 t : Vec Ideal S576x1024 .f32) (ix2 a b) = num (argH m c) (576 * t.val + a.val) b.val := by
  have hi := index_0 t
  unfold iblk
  rw [View.read_apply]
  refine num_at (argH m c) _ _ _ ?_ ?_
  · show win0_0.index t 0 * 576 + 1 * a.val = _; rw [hi.1]; omega
  · show win0_0.index t 1 * 1024 + 1 * b.val = _; rw [hi.2]; omega

theorem block_g (t : Fin cfg0.N) (a : Fin 1) (b : Fin 1024) :
    (iblk m c 1 t : Vec Ideal S1x1024 .f32) (ix2 a b) = num (argG m c) 0 b.val := by
  have hi := index_1 t
  unfold iblk
  rw [View.read_apply]
  refine num_at (argG m c) _ _ _ ?_ ?_
  · show win0_1.index t 0 * 1 + 1 * a.val = _; rw [hi.1]; omega
  · show win0_1.index t 1 * 1024 + 1 * b.val = _; rw [hi.2]; omega

theorem final_2 : (dats m 0 c).arrAt 2 cfg0.N = whole (argH m c) (argG m c) := by
  funext i
  have h0 : (i 0).val < 9216 := (i 0).isLt
  have h1 : (i 1).val < 1024 := (i 1).isLt
  obtain ⟨t, ht⟩ : ∃ t : Fin cfg0.N, t.val = (i 0).val / 576 := ⟨⟨_, lt_of_lt_of_eq (by omega) N_0.symm⟩, rfl⟩
  have ho := index_2 t
  have hb := congrFun (Value.blocks2 m c t ho.2.2) (ix2 ⟨(i 0).val % 576, Nat.mod_lt _ (by decide)⟩ ⟨(i 1).val % 1024, Nat.mod_lt _ (by decide)⟩)
  rw [View.read_apply, Value.flushed2] at hb
  have he : ((cfg0.win 2).blk t).view.emb (ix2 ⟨(i 0).val % 576, Nat.mod_lt _ (by decide)⟩ ⟨(i 1).val % 1024, Nat.mod_lt _ (by decide)⟩) = i := by
    funext d
    fin_cases d
    · exact Fin.ext (by show win0_2.index t 0 * 576 + 1 * ((i 0).val % 576) = (i 0).val; rw [ho.1]; omega)
    · exact Fin.ext (by show win0_2.index t 1 * 1024 + 1 * ((i 1).val % 1024) = (i 1).val; rw [ho.2.1]; omega)
  rw [he] at hb
  refine hb.trans ((out_apply _ _ (fun a b => num (argH m c) (576 * t.val + a) b) (num (argG m c) 0) (block_h m c t) (block_g m c t)
    ⟨(i 0).val % 576, Nat.mod_lt _ (by decide)⟩ ⟨(i 1).val % 1024, Nat.mod_lt _ (by decide)⟩).trans ?_)
  dsimp only
  rw [show 576 * t.val + (i 0).val % 576 = (i 0).val by omega, Nat.mod_eq_of_lt h1]
  rfl

end Array

section Ref

open Cert.Reference18Ideal.Read

variable (x0 : (⟨Cert.Reference18Ideal.S9216x1024, .f32⟩ : BufTy).Contents (Elt Ideal)) (x1 : (⟨Cert.Reference18Ideal.S1x1024, .f32⟩ : BufTy).Contents (Elt Ideal))

theorem at_7 (r : Fin 9216) (z : Fin 1) :
    (val_main_v7 (F := Ideal) x0 : Vec Ideal Cert.Reference18Ideal.S9216x1 .f32) (ix2 r z) = OutNorm.scale (num (x0 : Vec Ideal S9216x1024 .f32) r.val) := by
  have e : ∀ (a : Fin 9216) (b : Fin 1024), x0 (ix2 a b) = num (x0 : Vec Ideal S9216x1024 .f32) a.val b.val := fun a b => num_at (x0 : Vec Ideal S9216x1024 .f32) (ix2 a b) _ _ rfl rfl
  generalize num (x0 : Vec Ideal S9216x1024 .f32) = y at *
  unfold val_main_v7 val_main_v6 val_main_v5 val_main_cst_1 val_main_v4 val_main_v3 val_main_cst_0 val_main_v2 val_main_v1 val_main_cst val_main_v0 OutNorm.scale
  pointwise
  simp only [e]

theorem reference_2 : val_main_v12 (F := Ideal) x0 x1 = whole x0 x1 := by
  funext i
  obtain ⟨a, b, rfl⟩ : ∃ (a : Fin 9216) (b : Fin 1024), i = ix2 a b := ⟨i 0, i 1, by funext d; fin_cases d <;> rfl⟩
  have es := at_7 x0 a 0
  show _ = num (x0 : Vec Ideal S9216x1024 .f32) a.val b.val * OutNorm.scale (num (x0 : Vec Ideal S9216x1024 .f32) a.val) * num (x1 : Vec Ideal S1x1024 .f32) 0 b.val
  rw [← num_at (x1 : Vec Ideal S1x1024 .f32) (ix2 0 b) 0 b.val rfl rfl, ← num_at (x0 : Vec Ideal S9216x1024 .f32) (ix2 a b) a.val b.val rfl rfl, ← es]
  unfold val_main_v12 val_main_v11 val_main_v10 val_main_v9 val_main_v8
  generalize val_main_v7 (F := Ideal) x0 = w at *
  pointwise

end Ref

theorem reference_run (m : (ℓ : Loc Cert.Reference18Ideal.nD Cert.Reference18Ideal.τ Cert.Reference18Ideal.sig) → Buf (Elt Ideal) ℓ) (ρ : Dev Cert.Reference18Ideal.nD → PrngReg) :
    θ_run Cert.Reference18Ideal.defs (onTc (τ := Cert.Reference18Ideal.τ) (Cert.Reference18Ideal.main (F := Ideal))) ⟨m, fun _ => 0, ρ⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0) :=
  (θ_run Cert.Reference18Ideal.defs _ _).mono (fun r h => ⟨fun c => (h c).2, Idealize.ShloMosaic.sem_eq_zero_of_no_sems (by decide) r.2⟩)
    (Cert.Reference18Ideal.Value.run m ρ)

theorem algebraic : Cert.algebraic_Kernel18Ideal_Reference18Ideal (hKernel18Ideal := Cert.Kernel18Ideal.Gen.facts) (hReference18Ideal := Cert.Reference18Ideal.Gen.facts) := by
  intro m g m' g' _ hagree
  refine ⟨fun c => whole (argH m c) (argG m c), ?_, ?_⟩
  · refine (θ_run Cert.Kernel18Ideal.defs _ _).mono (fun r h c => ?_) (Value.run_blocks m g)
    obtain ⟨h0, h2⟩ := h c
    exact ⟨h0.trans (final_2 m c), h2⟩
  · refine (θ_run Cert.Reference18Ideal.defs _ _).mono (fun r h c => ?_) (Cert.Reference18Ideal.Value.run m' g')
    obtain ⟨h0, h2⟩ := h c
    obtain ⟨a0, a1⟩ := hagree c
    refine ⟨((h0.trans (Cert.Reference18Ideal.Read.val_main_v12_eq _ _)).trans (reference_2 _ _)).trans ?_, h2⟩
    rw [a0, a1]

end Cert.FirstNorm

end
-- ==== Proof.ForgetSum.lean ====
/- The forget gate's running sum: what a trip of the kernel's loop stores and carries, and the loop's results. -/
module

public import proofs.«01_k».proof.Proof.ForgetTrip
public import proofs.«01_k».proof.Proof.Gen.Kernel19Ideal.Value

@[expose] public section

set_option maxRecDepth 16384

noncomputable section

namespace Cert.ForgetSum

open Cert.Kernel19Ideal Cert.Kernel19Ideal.Gen Idealize.ShloMosaic Idealize.ShloMosaic.TcCoe Idealize.SL.Sem Cert.Product

/-- The logarithm of the logistic function. -/
def lsig (z : EReal) : EReal := min z 0 - Ideal.log (1 + Ideal.exp (0 - max z (-z)))

theorem log_one : Ideal.log (1 + 0) = 0 := by
  rw [add_zero, ← EReal.coe_one, Ideal.log_coe, if_neg (by norm_num), Real.log_one, EReal.coe_zero]

theorem lsig_bot : lsig ⊥ = ⊥ := by
  unfold lsig
  rw [min_eq_left bot_le, EReal.neg_bot, max_eq_right bot_le, zero_sub, EReal.neg_top, Ideal.exp_bot, log_one, sub_zero]

theorem lsig_top : lsig ⊤ = 0 := by
  unfold lsig
  rw [min_eq_right le_top, EReal.neg_top, max_eq_left bot_le, zero_sub ⊤, EReal.neg_top, Ideal.exp_bot, log_one, sub_zero]

theorem lsig_real (x : ℝ) : lsig (x : EReal) = ((min x 0 - Real.log (1 + Real.exp (-|x|)) : ℝ) : EReal) := by
  unfold lsig
  rw [zero_sub, ← EReal.coe_neg, ← EReal.coe_strictMono.monotone.map_max, ← EReal.coe_neg, Ideal.exp_coe, ← EReal.coe_one, ← EReal.coe_add, Ideal.log_coe,
    if_neg (by have := Real.exp_pos (-(max x (-x))); linarith), ← EReal.coe_zero, ← EReal.coe_strictMono.monotone.map_min, ← EReal.coe_sub]
  rfl

/-- The three parts that the kernel takes a logarithm apart into add up to it. -/
theorem parts (z : EReal) : lsig z + (lsig z - lsig z) + (lsig z - lsig z - (lsig z - lsig z)) = lsig z := by
  induction z using EReal.rec with
  | bot => rw [lsig_bot]; simp
  | top => rw [lsig_top]; simp
  | coe x =>
    rw [lsig_real, ← EReal.coe_sub, sub_self, ← EReal.coe_sub, sub_self, EReal.coe_zero, add_zero, add_zero]

/-- The sum of a column's rows before row `p`. -/
def head (C : ℕ → ℕ → EReal) (p b : ℕ) : EReal := ∑ x ∈ Finset.range p, C x b

theorem head_add (C : ℕ → ℕ → EReal) (p q b : ℕ) : head C p b + ∑ x ∈ Finset.range q, C (p + x) b = head C (p + q) b :=
  (Finset.sum_range_add (fun x => C x b) p q).symm

/-- A block's rows up to `a`, picked by a triangle of ones. -/
theorem pick (C : ℕ → EReal) (a : Fin 128) : ∑ x : Fin 128, (if x.val ≤ a.val then (1 : EReal) else 0) * C x.val = ∑ x ∈ Finset.range (a.val + 1), C x := by
  rw [Fin.sum_univ_eq_sum_range (fun x => (if x ≤ a.val then (1 : EReal) else 0) * C x) 128]
  have e : ∀ x, (if x ≤ a.val then (1 : EReal) else 0) * C x = if x ≤ a.val then C x else 0 := fun x => by split_ifs <;> simp
  simp only [e]
  rw [← Finset.sum_filter]
  refine Finset.sum_congr ?_ fun _ _ => rfl
  ext x
  simp only [Finset.mem_filter, Finset.mem_range]
  omega

theorem sign_bits : ∀ a x : Fin 128, (BitVec.setWidth 32 (IntOp.cmpi .sle (BitVec.ofNat 32 x.val) (BitVec.ofNat 32 a.val))).toInt = if x.val ≤ a.val then 1 else 0 := by
  decide +kernel

theorem triangle (a x : Fin 128) : (((BitVec.setWidth 32 (IntOp.cmpi .sle (BitVec.ofNat 32 x.val) (BitVec.ofNat 32 a.val))).toInt : ℝ) : EReal) = if x.val ≤ a.val then 1 else 0 := by
  rw [sign_bits]
  split_ifs <;> simp

section Chunk

variable (v6 arg5 : Vec Ideal S1x128 .f32) (v13 : Vec Ideal S128x128 .f32) (Z : ℕ → ℕ → EReal) (r : ℕ)
  (hZ : ∀ (a b : Fin 128), v13 (ix2 a b) + v6 (ix2 0 b) = Z (r + a.val) b.val)
  (hT : ∀ (a : Fin 1) (b : Fin 128), arg5 (ix2 a b) = head (fun a b => lsig (Z a b)) r b.val)

include hZ in
theorem pay2_apply (a b : Fin 128) : k0_pay2 (F := Ideal) v6 v13 (ix2 a b) = lsig (Z (r + a.val) b.val) := by
  rw [← hZ]
  unfold lsig
  pointwise [k0_pay2]
  rfl

include hZ hT in
theorem pay3_apply (a b : Fin 128) : k0_pay3 (F := Ideal) v6 arg5 v13 (ix2 a b) = head (fun a b => lsig (Z a b)) (r + a.val + 1) b.val := by
  have e2 := pay2_apply v6 v13 Z r hZ
  unfold k0_pay3
  generalize k0_pay2 (F := Ideal) v6 v13 = y at *
  pointwise
  have t : ∀ x : Fin 128, (FloatOps.sitofp (F := Ideal) FTy.f32 (BitVec.setWidth 32 (IntOp.cmpi .sle (BitVec.ofNat 32 x.val) (BitVec.ofNat 32 a.val))) : EReal) = if x.val ≤ a.val then 1 else 0 :=
    triangle a
  simp only [t, e2]
  rw [pick (fun x => lsig (Z (r + x) b.val)) a, pick (fun x => lsig (Z (r + x) b.val) - lsig (Z (r + x) b.val)) a,
    pick (fun x => lsig (Z (r + x) b.val) - lsig (Z (r + x) b.val) - (lsig (Z (r + x) b.val) - lsig (Z (r + x) b.val))) a,
    ← Finset.sum_add_distrib, ← Finset.sum_add_distrib]
  simp only [parts]
  rw [hT, add_comm, head_add (fun a b => lsig (Z a b)), add_assoc]

include hZ hT in
theorem pay4_apply (a : Fin 1) (b : Fin 128) : k0_pay4 (F := Ideal) v6 arg5 v13 (ix2 a b) = head (fun a b => lsig (Z a b)) (r + 128) b.val := by
  have e2 := pay2_apply v6 v13 Z r hZ
  unfold k0_pay4
  generalize k0_pay2 (F := Ideal) v6 v13 = y at *
  have e : ∑ x : Fin 128, y (ix2 x b) = ∑ x ∈ Finset.range 128, lsig (Z (r + x) b.val) := by
    rw [← Fin.sum_univ_eq_sum_range (fun x => lsig (Z (r + x) b.val))]
    exact Finset.sum_congr rfl fun x _ => e2 x b
  pointwise
  rw [e, hT, head_add (fun a b => lsig (Z a b))]

end Chunk

theorem trips_eq : k0_t1_loop.trips = 18 := by decide +kernel
theorem off1_eq : ∀ k : Fin k0_t1_loop.trips, k0_off1 k = ![128 * k.val, 0] := by decide +kernel
theorem inb1 : ∀ (k : Fin k0_t1_loop.trips), ∀ a, (k0_off1 k) a + S128x128.size a ≤ S2304x128.size a := by decide +kernel

section Trip

variable (𝒱 : Variants) (c : Dev nD) (bd : Option 𝒱.V) (i : grid0.Coords)
  (arg1 : Memref sig .tc .vmem S2304x128 .f32) (harg1 : arg1.IsWhole) (arg2 : Memref sig .tc .vmem S1x128 .f32) (harg2 : arg2.IsWhole)
  (arg3 : Memref sig .tc .vmem S2304x128 .f32) (harg3 : arg3.IsWhole)

section Loop

variable (v6 : Vec Ideal S1x128 .f32) (X1 : BufTy.Contents (Elt Ideal) arg1.view.ty)

/-- The rows that a trip loads. -/
abbrev rows (v : Memref sig .tc .vmem S2304x128 .f32) (X : BufTy.Contents (Elt Ideal) v.view.ty) (k : Fin k0_t1_loop.trips) : Vec Ideal S128x128 .f32 :=
  View.readAt (Elt Ideal) v.view (Rect.unit (s := S2304x128) (k0_off1 k) S128x128.size (inb1 k)).toLoadRect X

theorem tripR_eq (k : Fin k0_t1_loop.trips) (acc : FVec Ideal S1x128 .f32) :
    tripR_k0_t1 (F := Ideal) 𝒱 c bd i arg1 harg1 arg2 harg2 arg3 harg3 v6 X1 k acc = k0_pay4 v6 acc (rows arg1 X1 k) := by
  unfold tripR_k0_t1 trip_k0_t1
  dsimp only

theorem tripL_eq (k : Fin k0_t1_loop.trips) (acc : FVec Ideal S1x128 .f32) :
    tripL_k0_t1 (F := Ideal) 𝒱 c bd i arg1 harg1 arg2 harg2 arg3 harg3 v6 X1 k acc
      = [⟨Rect.unit (s := S2304x128) (k0_off1 k) S128x128.size (inb1 k), k0_pay3 v6 acc (rows arg1 X1 k)⟩] := by
  unfold tripL_k0_t1 trip_k0_t1
  dsimp only

variable (F : ℕ → ℕ → EReal) (B : ℕ → EReal)
  (hB : ∀ (a : Fin 1) (b : Fin 128), v6 (ix2 a b) = B b.val)
  (hF : ∀ (a : Fin 2304) (b : Fin 128), arg1.view.read (Elt Ideal) X1 (ix2 a b) = F a.val b.val)

/-- The running sum at a row. -/
abbrev running (F : ℕ → ℕ → EReal) (B : ℕ → EReal) (p b : ℕ) : EReal := head (fun a b => lsig (F a b + B b)) p b

/-- An entry of the block of results. -/
def entry (F : ℕ → ℕ → EReal) (B : ℕ → EReal) (y : S2304x128.Idx) : EReal := running F B ((y 0).val + 1) (y 1).val

include hB hF in
theorem rows_sum (k : Fin k0_t1_loop.trips) (a b : Fin 128) : rows arg1 X1 k (ix2 a b) + v6 (ix2 0 b) = (fun a b => F a b + B b) (128 * k.val + a.val) b.val := by
  have hk : k.val < 18 := trips_eq ▸ k.isLt
  rw [hB]
  exact congrArg (· + B b.val) ((readAt_rows arg1 X1 (k0_off1 k) (inb1 k) _ (off1_eq k) a b (by omega)).trans (hF _ _))

include hB hF in
theorem trip_pieces (k : Fin k0_t1_loop.trips) (acc : FVec Ideal S1x128 .f32) (ha : ∀ (a : Fin 1) (b : Fin 128), acc (ix2 a b) = running F B (128 * k.val) b.val) :
    ∀ p ∈ tripL_k0_t1 (F := Ideal) 𝒱 c bd i arg1 harg1 arg2 harg2 arg3 harg3 v6 X1 k acc, ∀ y, p.2 y = entry F B (p.1.emb y) := by
  rw [tripL_eq]
  have hk : k.val < 18 := trips_eq ▸ k.isLt
  intro p hp
  obtain rfl := List.mem_singleton.mp hp
  intro y
  obtain ⟨a, b, rfl⟩ : ∃ (a : Fin 128) (b : Fin 128), y = ix2 a b := ⟨y 0, y 1, by funext d; fin_cases d <;> rfl⟩
  refine (pay3_apply v6 acc _ (fun a b => F a b + B b) (128 * k.val) (rows_sum arg1 v6 X1 F B hB hF k) ha a b).trans ?_
  have e : (Rect.unit (s := S2304x128) (k0_off1 k) S128x128.size (inb1 k)).emb (ix2 a b) = ix2 ⟨128 * k.val + a.val, by omega⟩ b := by
    funext x
    fin_cases x
    · exact Fin.ext (by show k0_off1 k 0 + 1 * a.val = _; rw [off1_eq]; show 128 * k.val + 1 * a.val = 128 * k.val + a.val; omega)
    · exact Fin.ext (by show k0_off1 k 1 + 1 * b.val = _; rw [off1_eq]; show 0 + 1 * b.val = b.val; omega)
  dsimp only
  rw [e]
  rfl

include hB hF in
/-- The loop's state before trip `k`. -/
theorem state (init : FVec Ideal S1x128 .f32) (h1 : ∀ (a : Fin 1) (b : Fin 128), init (ix2 a b) = 0) (k : ℕ) (hk : k ≤ 18) :
    (∀ (a : Fin 1) (b : Fin 128), (st_k0_t1 (F := Ideal) 𝒱 c bd i arg1 harg1 arg2 harg2 arg3 harg3 v6 X1 init k).1 (ix2 a b) = running F B (128 * k) b.val) ∧
    (∀ p ∈ (st_k0_t1 (F := Ideal) 𝒱 c bd i arg1 harg1 arg2 harg2 arg3 harg3 v6 X1 init k).2, ∀ y, p.2 y = entry F B (p.1.emb y)) := by
  induction k with
  | zero =>
    refine ⟨fun a b => (h1 a b).trans ?_, fun p hp => by simp [st_k0_t1] at hp⟩
    simp [running, head]
  | succ k ih =>
    obtain ⟨i1, i2⟩ := ih (by omega)
    have hs := st_k0_t1_succ (F := Ideal) 𝒱 c bd i arg1 harg1 arg2 harg2 arg3 harg3 v6 X1 init ⟨k, trips_eq ▸ (by omega)⟩
    dsimp only at hs
    rw [hs]
    have hp := trip_pieces 𝒱 c bd i arg1 harg1 arg2 harg2 arg3 harg3 v6 X1 F B hB hF ⟨k, trips_eq ▸ (by omega)⟩ _ i1
    refine ⟨fun a b => ?_, fun p hp' => (List.mem_append.mp hp').elim (hp p) (i2 p)⟩
    dsimp only
    rw [tripR_eq, show 128 * (k + 1) = 128 * k + 128 by ring]
    exact pay4_apply v6 _ _ (fun a b => F a b + B b) (128 * k) (rows_sum arg1 v6 X1 F B hB hF ⟨k, trips_eq ▸ (by omega)⟩) i1 a b

end Loop

variable (x0 : Vec Ideal S2304x128 .f32) (x1 : Vec Ideal S1x128 .f32) (F : ℕ → ℕ → EReal) (B : ℕ → EReal)
  (hB : ∀ (a : Fin 1) (b : Fin 128), x1 (ix2 a b) = B b.val)
  (hF : ∀ (a : Fin 2304) (b : Fin 128), x0 (ix2 a b) = F a.val b.val)

include hB hF in
theorem out_2 (y : S2304x128.Idx) : out0_A_2 (F := Ideal) c i arg1 harg1 arg2 harg2 arg3 harg3 x0 x1 y = entry F B y := by
  unfold out0_A_2
  have hcov := cover0_A_2 (F := Ideal) c i arg1 harg1 arg2 harg2 arg3 harg3 x0 x1
  rw [View.read_writes_eq_canon _ _ _ hcov]
  refine View.canon_apply_of_pieces (entry F B) _ ?_ y (hcov y)
  unfold kernelRun0_A
  dsimp only
  sl_unfold_words
  exact (state Variants.none c none i arg1 harg1 arg2 harg2 arg3 harg3
    (View.readAt (Elt Ideal) arg2.view (Rect.unit (s := S1x128) ![0, 0] ![1, 128] inb_S1x128_S1x128_0_0).toLoadRect (harg2.unread x1)) (harg1.unread x0) F B
    (fun a b => by
      refine (readAt_rows arg2 (harg2.unread x1) ![0, 0] inb_S1x128_S1x128_0_0 0 rfl a b (by omega)).trans ?_
      rw [harg2.read_unread]; exact hB _ _)
    (fun a b => by rw [harg1.read_unread]; exact hF a b)
    k0_pay1 (fun a b => by pointwise [k0_pay1]) 18 (le_refl 18)).2

end Trip

end Cert.ForgetSum

end
-- ==== Proof.ForgetSumRef.lean ====
/- The reference of the forget gate's running sum, read entry by entry. -/
module

public import proofs.«01_k».proof.Proof.ForgetSum
public import proofs.«01_k».proof.Proof.ForgetRef
public import proofs.«01_k».proof.Proof.Gen.Reference19Ideal.Read

@[expose] public section

set_option maxRecDepth 16384

noncomputable section

namespace Cert.ForgetSum.Ref

open Cert.Reference19Ideal Cert.Reference19Ideal.Gen Cert.Reference19Ideal.Read Idealize.ShloMosaic Idealize.ShloMosaic.TcCoe Idealize.SL.Sem Cert.Product
open Cert.Forget Cert.Forget.Ref

variable (x0 : Vec Ideal S9216x5376 .f32) (x1 : Vec Ideal S1x128 .f32)

/-- Softplus of a number's negative is minus the logarithm of its logistic function. -/
theorem softplus_lsig (z : EReal) : -(max (-z) 0 + Ideal.log (1 + Ideal.exp (-(max (-z) (- -z))))) = lsig z := by
  induction z using EReal.rec with
  | bot => rw [lsig_bot, EReal.neg_bot, EReal.neg_top, max_eq_left bot_le, max_eq_left le_top, EReal.neg_top, Ideal.exp_bot, log_one, add_zero, EReal.neg_top]
  | top => rw [lsig_top, EReal.neg_top, EReal.neg_bot, max_eq_right bot_le, max_eq_right le_top, EReal.neg_top, Ideal.exp_bot, log_one, add_zero, neg_zero]
  | coe x =>
    unfold lsig
    rw [zero_sub, neg_neg, max_comm (-(x : EReal)) (x : EReal)]
    have e : -(max (-(x : EReal)) 0) = min (x : EReal) 0 := by
      rw [← EReal.coe_neg, ← EReal.coe_zero, ← EReal.coe_strictMono.monotone.map_max, ← EReal.coe_neg, ← EReal.coe_strictMono.monotone.map_min]
      congr 1
      rcases le_total x 0 with h | h
      · rw [max_eq_left (by linarith), min_eq_left h, neg_neg]
      · rw [max_eq_right (by linarith), min_eq_right h, neg_zero]
    rw [← e]
    have hm : ∃ y : ℝ, max (-(x : EReal)) 0 = (y : EReal) :=
      ⟨max (-x) 0, by rw [← EReal.coe_neg, ← EReal.coe_zero, ← EReal.coe_strictMono.monotone.map_max]⟩
    obtain ⟨y, hy⟩ := hm
    rw [hy, EReal.neg_add (Or.inl (EReal.coe_ne_bot y)) (Or.inl (EReal.coe_ne_top y))]

theorem stage (i : S4x2304x128.Idx) (z : EReal) (hz : val_main_v4 (F := Ideal) x0 x1 i = z) : val_main_v5 (F := Ideal) x0 x1 i = lsig z := by
  have h0 : Ideal.ofBits .f32 0x00000000#32 = (0 : EReal) := word_0
  have h : val_main_call0_v0 (F := Ideal) x0 x1 i = -z := by
    rw [val_main_call0_v0_apply, hz]
    rfl
  have e3 : val_main_call0_call0_v3 (F := Ideal) x0 x1 i = -z := by
    rw [val_main_call0_call0_v3_apply, h, val_main_call0_call0_v2_apply]
    show -z - Ideal.ofBits .f32 0x00000000#32 = _
    rw [h0, sub_zero]
  have e4 : val_main_call0_call0_v4 (F := Ideal) x0 x1 i = 0#1 := by
    rw [val_main_call0_call0_v4_apply]
    show BitVec.ofBool (decide (val_main_call0_call0_v3 (F := Ideal) x0 x1 i ≠ val_main_call0_call0_v3 (F := Ideal) x0 x1 i)) = 0#1
    simp
  have e1 : val_main_call0_call0_v1 (F := Ideal) x0 x1 i = max (-z) 0 := by
    rw [val_main_call0_call0_v1_apply, h, val_main_call0_call0_v0_apply]
    show max (-z) (Ideal.ofBits .f32 0x00000000#32) = _
    rw [h0]
  have e10 : val_main_call0_call0_v10 (F := Ideal) x0 x1 i = Ideal.log (1 + Ideal.exp (-(max (-z) (- -z)))) := by
    rw [val_main_call0_call0_v10_apply, val_main_call0_call0_v9_apply, val_main_call0_call0_v8_apply, val_main_call0_call0_v7_apply, e3]
    rfl
  rw [val_main_v5_apply, val_main_call0_v1_apply, e4, select_false, val_main_call0_call0_v11_apply, e1, e10]
  exact softplus_lsig z

/-- The window that ends at row `a` covers the rows up to it. -/
theorem earlier (X : ℕ → ℕ → EReal) (a b : ℕ) (ha : a < 2304) : ∑ k ∈ Finset.range 2304, (if 2303 ≤ a + k then X (a + k - 2303) b else 0) = head X (a + 1) b := by
  unfold head
  rw [show 2304 = (2303 - a) + (a + 1) by omega, Finset.sum_range_add, Finset.sum_eq_zero, zero_add]
  · refine Finset.sum_congr rfl fun x _ => ?_
    rw [if_pos (by omega), show a + (2303 - a + x) - 2303 = x by omega]
  · intro k hk
    have := Finset.mem_range.mp hk
    rw [if_neg (by omega)]

theorem running_sum (y : FVec Ideal S4x2304x128 .f32) (init : FVec Ideal S_ .f32) (hi : init (Shape.Idx.first h_S_) = (0 : EReal)) (X : ℕ → ℕ → ℕ → EReal)
    (hy : ∀ (s : Fin 4) (a : Fin 2304) (b : Fin 128), y (ix3 s a b) = X s.val a.val b.val) (s : Fin 4) (a : Fin 2304) (b : Fin 128) :
    Host.reduceWindowAdd (F := Ideal) ![1, 2304, 1] ![1, 1, 1] ![0, 2303, 0] ![0, 0, 0] y init reduceWindows_S4x2304x128_S4x2304x128_w1s1p0_0_w2304s1p2303_0_w1s1p0_0 h_S_ (ix3 s a b)
      = head (X s.val) (a.val + 1) b.val := by
  show Ideal.hostReduceWindowAdd ![1, 2304, 1] ![1, 1, 1] ![0, 2303, 0] ![0, 0, 0] reduceWindows_S4x2304x128_S4x2304x128_w1s1p0_0_w2304s1p2303_0_w1s1p0_0 y (init (Shape.Idx.first h_S_)) (ix3 s a b) = _
  rw [hi]
  unfold Ideal.hostReduceWindowAdd Host.reduceWindow
  dsimp only
  refine (fold_sum _).trans ?_
  refine (Fintype.sum_equiv ((Shape.rowMajor ⟨3, ![1, 2304, 1]⟩).symm.trans along.symm) _
    (fun k : Fin 2304 => if 2303 ≤ a.val + k.val then X s.val (a.val + k.val - 2303) b.val else 0) fun n => ?_).trans ?_
  · rw [Equiv.trans_apply]
    obtain ⟨k, hk⟩ := along.surjective ((Shape.rowMajor ⟨3, ![1, 2304, 1]⟩).symm n)
    rw [show along.symm ((Shape.rowMajor ⟨3, ![1, 2304, 1]⟩).symm n) = k by rw [← hk, along.symm_apply_apply]]
    have w0 : ((Shape.rowMajor ⟨3, ![1, 2304, 1]⟩).symm n 0).val = 0 := by rw [← hk]; rfl
    have w1 : ((Shape.rowMajor ⟨3, ![1, 2304, 1]⟩).symm n 1).val = k.val := by rw [← hk]; rfl
    have w2 : ((Shape.rowMajor ⟨3, ![1, 2304, 1]⟩).symm n 2).val = 0 := by rw [← hk]; rfl
    split
    · next hin =>
      have h1 := hin 1
      change 2303 ≤ a.val * 1 + ((Shape.rowMajor ⟨3, ![1, 2304, 1]⟩).symm n 1).val ∧ a.val * 1 + ((Shape.rowMajor ⟨3, ![1, 2304, 1]⟩).symm n 1).val - 2303 < 2304 at h1
      rw [if_pos (by omega)]
      refine (congrArg y (funext fun d => Fin.ext ?_)).trans (hy s ⟨a.val + k.val - 2303, by omega⟩ b)
      match d with
      | ⟨0, _⟩ => show s.val * 1 + ((Shape.rowMajor ⟨3, ![1, 2304, 1]⟩).symm n 0).val - 0 = s.val; omega
      | ⟨1, _⟩ => show a.val * 1 + ((Shape.rowMajor ⟨3, ![1, 2304, 1]⟩).symm n 1).val - 2303 = a.val + k.val - 2303; omega
      | ⟨2, _⟩ => show b.val * 1 + ((Shape.rowMajor ⟨3, ![1, 2304, 1]⟩).symm n 2).val - 0 = b.val; omega
    · next hin =>
      rw [if_neg fun hle => hin fun d => by
        match d with
        | ⟨0, _⟩ => show 0 ≤ s.val * 1 + ((Shape.rowMajor ⟨3, ![1, 2304, 1]⟩).symm n 0).val ∧ s.val * 1 + ((Shape.rowMajor ⟨3, ![1, 2304, 1]⟩).symm n 0).val - 0 < 4; omega
        | ⟨1, _⟩ => show 2303 ≤ a.val * 1 + ((Shape.rowMajor ⟨3, ![1, 2304, 1]⟩).symm n 1).val ∧ a.val * 1 + ((Shape.rowMajor ⟨3, ![1, 2304, 1]⟩).symm n 1).val - 2303 < 2304; omega
        | ⟨2, _⟩ => show 0 ≤ b.val * 1 + ((Shape.rowMajor ⟨3, ![1, 2304, 1]⟩).symm n 2).val ∧ b.val * 1 + ((Shape.rowMajor ⟨3, ![1, 2304, 1]⟩).symm n 2).val - 0 < 128; omega]
  · rw [Fin.sum_univ_eq_sum_range (fun k => if 2303 ≤ a.val + k then X s.val (a.val + k - 2303) b.val else 0), earlier _ _ _ a.isLt]

variable (F : ℕ → ℕ → EReal) (B : ℕ → EReal)
  (hF : ∀ (a : Fin 9216) (b : Fin 128) (h : 5120 + b.val < 5376), x0 (ix2 a ⟨5120 + b.val, h⟩) = F a.val b.val)
  (hB : ∀ b : Fin 128, x1 (ix2 0 b) = B b.val)

include hF hB in
theorem sum_at (s : Fin 4) (a : Fin 2304) (b : Fin 128) : val_main_v4 (F := Ideal) x0 x1 (ix3 s a b) = F (2304 * s.val + a.val) b.val + B b.val := by
  have e0 : val_main_v1 (F := Ideal) x0 (ix3 s a b) = F (2304 * s.val + a.val) b.val := by
    rw [val_main_v1_apply, val_main_v0_apply]
    refine Eq.trans (congrArg x0 ?_) (hF ⟨2304 * s.val + a.val, by omega⟩ b (by omega))
    funext d
    match d with
    | ⟨0, _⟩ => exact Fin.ext (by show ((s.val * 2304 + a.val) * 128 + b.val) / 128 = 2304 * s.val + a.val; omega)
    | ⟨1, _⟩ => exact Fin.ext (by show 5120 + ((s.val * 2304 + a.val) * 128 + b.val) % 128 = 5120 + b.val; omega)
  have e1 : val_main_v3 (F := Ideal) x1 (ix3 s a b) = B b.val := by
    rw [val_main_v3_apply, val_main_v2_apply]
    refine Eq.trans (congrArg x1 ?_) (hB b)
    funext d
    match d with
    | ⟨0, _⟩ => rfl
    | ⟨1, _⟩ => rfl
  rw [val_main_v4_apply, e0, e1]
  rfl

include hF hB in
theorem at_6 (s : Fin 4) (a : Fin 2304) (b : Fin 128) :
    val_main_v6 (F := Ideal) x0 x1 (ix3 s a b) = running (fun a b => F (2304 * s.val + a) b) B (a.val + 1) b.val := by
  unfold val_main_v6
  refine running_sum _ _ ?_ (fun s a b => lsig (F (2304 * s + a) b + B b)) (fun s a b => ?_) s a b
  · rw [val_main_call1_call0_v0_apply]
    exact word_0
  · exact stage x0 x1 _ _ (sum_at x0 x1 F B hF hB s a b)

include hF hB in
theorem at_7 (a : Fin 9216) (b : Fin 128) :
    val_main_v7 (F := Ideal) x0 x1 (ix2 a b) = running (fun x b => F (2304 * (a.val / 2304) + x) b) B (a.val % 2304 + 1) b.val := by
  rw [val_main_v7_apply]
  refine Eq.trans (congrArg _ ?_) (at_6 x0 x1 F B hF hB ⟨a.val / 2304, by omega⟩ ⟨a.val % 2304, by omega⟩ b)
  funext d
  match d with
  | ⟨0, _⟩ => exact Fin.ext (by show (a.val * 128 + b.val) / 294912 = a.val / 2304; omega)
  | ⟨1, _⟩ => exact Fin.ext (by show (a.val * 128 + b.val) / 128 % 2304 = a.val % 2304; omega)
  | ⟨2, _⟩ => exact Fin.ext (by show (a.val * 128 + b.val) % 128 = b.val; omega)

end Cert.ForgetSum.Ref

end
-- ==== Proof.ForgetSumClaim.lean ====
/- The forget gate's running sum: the kernel's result array and the reference's agree. -/
module

public import proofs.«01_k».proof.Defs
public import proofs.«01_k».proof.Proof.ForgetSumRef

@[expose] public section

set_option maxRecDepth 16384

noncomputable section

namespace Cert.ForgetSum

open Idealize.ShloMosaic Idealize.ShloMosaic.TcCoe Idealize.SL.Sem Idealize.ShloMosaic.StableHlo Cert.Product

section Array

open Cert.Kernel19Ideal Cert.Kernel19Ideal.Gen

/-! The grid: a point is a sequence. -/

theorem index_0 : ∀ t : Fin grid0.N, win0_0.index t 0 = t.val ∧ win0_0.index t 1 = 40 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 ∧ win0_2.flush t = true := by decide +kernel
theorem size_2 : ∀ t : Fin cfg0.N, ∀ a, (cfg0.win 2).xsize (cfg0.grid.coords t) a = (cfg0.win 2).size a := by decide +kernel

variable (m : (ℓ : Loc nD τ sig) → Buf (Elt Ideal) ℓ) (c : Dev nD)

abbrev argF : Vec Ideal S9216x5376 .f32 := m ((c : Thread nD τ).loc main_arg0)
abbrev argB : Vec Ideal S1x128 .f32 := m ((c : Thread nD τ).loc main_arg1)

theorem block_0 (t : Fin cfg0.N) (a : Fin 2304) (b : Fin 128) :
    (iblk m c 0 t : Vec Ideal S2304x128 .f32) (ix2 a b) = num (argF m c) (2304 * t.val + a.val) (5120 + b.val) := by
  have hi := index_0 t
  unfold iblk
  rw [View.read_apply]
  show V m c main_arg0 _ = _
  rw [V_main_arg0]
  refine num_at (argF m c) _ _ _ ?_ ?_
  · show win0_0.index t 0 * 2304 + 1 * a.val = _; rw [hi.1]; omega
  · show win0_0.index t 1 * 128 + 1 * b.val = _; rw [hi.2]; omega

theorem block_1 (t : Fin cfg0.N) (a : Fin 1) (b : Fin 128) :
    (iblk m c 1 t : Vec Ideal S1x128 .f32) (ix2 a b) = num (argB m c) 0 b.val := by
  have hi := index_1 t
  unfold iblk
  rw [View.read_apply]
  show V m c main_arg1 _ = _
  rw [V_main_arg1]
  refine num_at (argB m c) _ _ _ ?_ ?_
  · show win0_1.index t 0 * 1 + 1 * a.val = _; rw [hi.1]; omega
  · show win0_1.index t 1 * 128 + 1 * b.val = _; rw [hi.2]; omega

/-- The running sums over each sequence's rows. -/
def whole (F B : ℕ → ℕ → EReal) : Vec Ideal S9216x128 .f32 := fun i =>
  running (fun x b => F (2304 * ((i 0).val / 2304) + x) (5120 + b)) (B 0) ((i 0).val % 2304 + 1) (i 1).val

theorem final_2 : (dats m 0 c).arrAt 2 cfg0.N = whole (num (argF m c)) (num (argB m c)) := by
  funext i
  have h0 : (i 0).val < 9216 := (i 0).isLt
  have h1 : (i 1).val < 128 := (i 1).isLt
  obtain ⟨t, ht⟩ : ∃ t : Fin cfg0.N, t.val = (i 0).val / 2304 := ⟨⟨_, lt_of_lt_of_eq (by omega) N_0.symm⟩, rfl⟩
  have ho := index_2 t
  have hv : ∀ a : Fin 2, (![(i 0).val % 2304, (i 1).val] : Fin 2 → ℕ) a < (![2304, 128] : Fin 2 → ℕ) a := fun a => by
    fin_cases a
    · exact Nat.mod_lt _ (by decide)
    · exact h1
  let y : ((cfg0.win 2).xblock (cfg0.grid.coords t)).Idx := fun a => ⟨(![(i 0).val % 2304, (i 1).val] : Fin 2 → ℕ) a, lt_of_lt_of_eq (hv a) (size_2 t a).symm⟩
  have hb := congrFun (Value.blocks2 m c t ho.2.2) y
  rw [View.read_apply, Value.flushed2_A] at hb
  have he : ((cfg0.win 2).blk t).view.emb y = i := by
    funext d
    fin_cases d
    · exact Fin.ext (by show win0_2.index t 0 * 2304 + 1 * ((i 0).val % 2304) = (i 0).val; rw [ho.1]; omega)
    · exact Fin.ext (by show win0_2.index t 1 * 128 + 1 * (i 1).val = (i 1).val; rw [ho.2.1]; omega)
  rw [he] at hb
  refine hb.trans ((out_2 c (grid0.coords t) (ms0_0 t) (hs0_0 t) (ms0_1 t) (hs0_1 t) (ms0_2 t) (hs0_2 t) (iblk m c 0 t) (iblk m c 1 t)
    (fun x b => num (argF m c) (2304 * t.val + x) (5120 + b)) (num (argB m c) 0) (block_1 m c t) (block_0 m c t) ((cfg0.win 2).xinj (grid0.coords t) y)).trans ?_)
  show running (fun x b => num (argF m c) (2304 * t.val + x) (5120 + b)) (num (argB m c) 0) ((i 0).val % 2304 + 1) (i 1).val = _
  rw [ht]
  rfl

end Array

theorem reference_run (m : (ℓ : Loc Cert.Reference19Ideal.nD Cert.Reference19Ideal.τ Cert.Reference19Ideal.sig) → Buf (Elt Ideal) ℓ) (ρ : Dev Cert.Reference19Ideal.nD → PrngReg) :
    θ_run Cert.Reference19Ideal.defs (onTc (τ := Cert.Reference19Ideal.τ) (Cert.Reference19Ideal.main (F := Ideal))) ⟨m, fun _ => 0, ρ⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0) :=
  (θ_run Cert.Reference19Ideal.defs _ _).mono (fun r h => ⟨fun c => (h c).2, Idealize.ShloMosaic.sem_eq_zero_of_no_sems (by decide) r.2⟩)
    (Cert.Reference19Ideal.Value.run m ρ)

theorem algebraic : Cert.algebraic_Kernel19Ideal_Reference19Ideal (hKernel19Ideal := Cert.Kernel19Ideal.Gen.facts) (hReference19Ideal := Cert.Reference19Ideal.Gen.facts) := by
  intro m g m' g' _ hagree
  refine ⟨fun c => whole (num (argF m c)) (num (argB m c)), ?_, ?_⟩
  · refine (θ_run Cert.Kernel19Ideal.defs _ _).mono (fun r h c => ?_) (Cert.Kernel19Ideal.Value.run_blocks m g)
    obtain ⟨h0, h2⟩ := h c
    exact ⟨h0.trans (final_2 m c), h2⟩
  · refine (θ_run Cert.Reference19Ideal.defs _ _).mono (fun r h c => ?_) (Cert.Reference19Ideal.Value.run m' g')
    obtain ⟨h0, h2⟩ := h c
    obtain ⟨a0, a1⟩ := hagree c
    refine ⟨(h0.trans (Cert.Reference19Ideal.Read.val_main_v7_eq _ _)).trans ?_, h2⟩
    funext i
    obtain ⟨a, b, rfl⟩ : ∃ (a : Fin 9216) (b : Fin 128), i = ix2 a b := ⟨i 0, i 1, by funext d; fin_cases d <;> rfl⟩
    exact Ref.at_7 _ _ (fun a b => num (argF m c) a (5120 + b)) (num (argB m c) 0)
      (fun a b h => (congrFun a0 (ix2 a ⟨5120 + b.val, h⟩)).trans (num_at (argF m c) (ix2 a ⟨5120 + b.val, h⟩) a.val (5120 + b.val) rfl rfl))
      (fun b => (congrFun a1 (ix2 0 b)).trans (num_at (argB m c) (ix2 0 b) 0 b.val rfl rfl)) a b

end Cert.ForgetSum

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Pre_finite2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Pre_finite17
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Read
public import proofs.«01_k».proof.Proof.ConvClaim
public import proofs.«01_k».proof.Proof.NormClaim
public import proofs.«01_k».proof.Proof.UpWeight
public import proofs.«01_k».proof.Proof.InWeight
public import proofs.«01_k».proof.Proof.DownWeight
public import proofs.«01_k».proof.Proof.DownAct
public import proofs.«01_k».proof.Proof.Gate
public import proofs.«01_k».proof.Proof.UpProduct
public import proofs.«01_k».proof.Proof.InProduct
public import proofs.«01_k».proof.Proof.OutWeight
public import proofs.«01_k».proof.Proof.OutMerged
public import proofs.«01_k».proof.Proof.BranchWeight
public import proofs.«01_k».proof.Proof.BranchAct
public import proofs.«01_k».proof.Proof.BranchProduct
public import proofs.«01_k».proof.Proof.OutNorm
public import proofs.«01_k».proof.Proof.BranchMerge
public import proofs.«01_k».proof.Proof.ForgetClaim
public import proofs.«01_k».proof.Proof.FirstNorm
public import proofs.«01_k».proof.Proof.ForgetSumClaim

@[expose] public section

noncomputable section

namespace Cert.Proof

open Idealize.ShloMosaic Idealize.SL.Sem

/-- Frames, meaning over the reals and values of the gradients of the gated convolution, of the norm before the MLP, of the weights of five projections, of the activations that three of them take, of one gate and of the forget gate, of three projections, of the output projection with its norm, of the merge of the two branches, of the norm before the attentions and of the forget gate's running sum. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite.Gen.facts, Cert.Pre_finite2.Gen.facts, Cert.Pre_finite17.Gen.facts,
  fun m ρ _ => Cert.Kernel.Gen.frame m ρ,
  fun m ρ _ => Cert.KernelIdeal.Gen.frame m ρ,
  fun m ρ _ => Cert.KernelIdeal.Gen.frame m ρ,
  fun m ρ _ => Cert.ConvGlu.reference_run m ρ,
  fun m ρ _ => Cert.ConvGlu.reference_run m ρ,
  fun m ρ _ => Cert.Kernel2.Gen.frame m ρ,
  fun m ρ _ => Cert.Kernel2Ideal.Gen.frame m ρ,
  fun m ρ _ => Cert.Kernel2Ideal.Gen.frame m ρ,
  fun m ρ _ => Cert.NormGrad.reference_run m ρ,
  fun m ρ _ => Cert.NormGrad.reference_run m ρ,
  fun m ρ _ => Cert.Kernel3.Gen.frame m ρ,
  fun m ρ _ => Cert.Kernel3Ideal.Gen.frame m ρ,
  fun m ρ _ => Cert.UpWeight.reference_run m ρ,
  fun m ρ _ => Cert.Kernel4.Gen.frame m ρ,
  fun m ρ _ => Cert.Kernel4Ideal.Gen.frame m ρ,
  fun m ρ _ => Cert.InWeight.reference_run m ρ,
  fun m ρ _ => Cert.Kernel5.Gen.frame m ρ,
  fun m ρ _ => Cert.Kernel5Ideal.Gen.frame m ρ,
  fun m ρ _ => Cert.DownWeight.reference_run m ρ,
  fun m ρ _ => Cert.Kernel6.Gen.frame m ρ,
  fun m ρ _ => Cert.Kernel6Ideal.Gen.frame m ρ,
  fun m ρ _ => Cert.DownAct.reference_run m ρ,
  fun m ρ _ => Cert.Kernel7.Gen.frame m ρ,
  fun m ρ _ => Cert.Kernel7Ideal.Gen.frame m ρ,
  fun m ρ _ => Cert.Gate.reference_run m ρ,
  fun m ρ _ => Cert.Kernel8.Gen.frame m ρ,
  fun m ρ _ => Cert.Kernel8Ideal.Gen.frame m ρ,
  fun m ρ _ => Cert.UpProduct.reference_run m ρ,
  fun m ρ _ => Cert.Kernel9.Gen.frame m ρ,
  fun m ρ _ => Cert.Kernel9Ideal.Gen.frame m ρ,
  fun m ρ _ => Cert.InProduct.reference_run m ρ,
  fun m ρ _ => Cert.Kernel10.Gen.frame m ρ,
  fun m ρ _ => Cert.Kernel10Ideal.Gen.frame m ρ,
  fun m ρ _ => Cert.OutWeight.reference_run m ρ,
  fun m ρ _ => Cert.Kernel11.Gen.frame m ρ,
  fun m ρ _ => Cert.Kernel11Ideal.Gen.frame m ρ,
  fun m ρ _ => Cert.OutMerged.reference_run m ρ,
  fun m ρ _ => Cert.Kernel12.Gen.frame m ρ,
  fun m ρ _ => Cert.Kernel12Ideal.Gen.frame m ρ,
  fun m ρ _ => Cert.BranchWeight.reference_run m ρ,
  fun m ρ _ => Cert.Kernel13.Gen.frame m ρ,
  fun m ρ _ => Cert.Kernel13Ideal.Gen.frame m ρ,
  fun m ρ _ => Cert.BranchAct.reference_run m ρ,
  fun m ρ _ => Cert.Kernel14.Gen.frame m ρ,
  fun m ρ _ => Cert.Kernel14Ideal.Gen.frame m ρ,
  fun m ρ _ => Cert.BranchProduct.reference_run m ρ,
  fun m ρ _ => Cert.Kernel15.Gen.frame m ρ,
  fun m ρ _ => Cert.Kernel15Ideal.Gen.frame m ρ,
  fun m ρ _ => Cert.OutNorm.reference_run m ρ,
  fun m ρ _ => Cert.Kernel16.Gen.frame m ρ,
  fun m ρ _ => Cert.Kernel16Ideal.Gen.frame m ρ,
  fun m ρ _ => Cert.BranchMerge.reference_run m ρ,
  fun m ρ _ => Cert.Kernel17.Gen.frame m ρ,
  fun m ρ _ => Cert.Kernel17Ideal.Gen.frame m ρ,
  fun m ρ _ => Cert.Kernel17Ideal.Gen.frame m ρ,
  fun m ρ _ => Cert.Forget.reference_run m ρ,
  fun m ρ _ => Cert.Forget.reference_run m ρ,
  fun m ρ _ => Cert.Kernel18.Gen.frame m ρ,
  fun m ρ _ => Cert.Kernel18Ideal.Gen.frame m ρ,
  fun m ρ _ => Cert.FirstNorm.reference_run m ρ,
  fun m ρ _ => Cert.Kernel19.Gen.frame m ρ,
  fun m ρ _ => Cert.Kernel19Ideal.Gen.frame m ρ,
  fun m ρ _ => Cert.ForgetSum.reference_run m ρ,
  trivial,
  Cert.ConvGlu.algebraic,
  trivial,
  Cert.NormGrad.algebraic,
  trivial,
  Cert.UpWeight.algebraic,
  trivial,
  Cert.InWeight.algebraic,
  trivial,
  Cert.DownWeight.algebraic,
  trivial,
  Cert.DownAct.algebraic,
  trivial,
  Cert.Gate.algebraic,
  trivial,
  Cert.UpProduct.algebraic,
  trivial,
  Cert.InProduct.algebraic,
  trivial,
  Cert.OutWeight.algebraic,
  trivial,
  Cert.OutMerged.algebraic,
  trivial,
  Cert.BranchWeight.algebraic,
  trivial,
  Cert.BranchAct.algebraic,
  trivial,
  Cert.BranchProduct.algebraic,
  trivial,
  Cert.OutNorm.algebraic,
  trivial,
  Cert.BranchMerge.algebraic,
  trivial,
  Cert.Forget.algebraic,
  trivial,
  Cert.FirstNorm.algebraic,
  trivial,
  Cert.ForgetSum.algebraic⟩

end Cert.Proof

end
